-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergedIdeal (m : (ℓ : Loc Cert.MergedIdeal.nD Cert.MergedIdeal.τ Cert.MergedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2)
      ∧ r.2.mem ((c.tc : Thread Cert.ProjectedIdeal.nD Cert.ProjectedIdeal.τ).loc Cert.ProjectedIdeal.main_arg3) = m ((c.tc : Thread Cert.ProjectedIdeal.nD Cert.ProjectedIdeal.τ).loc Cert.ProjectedIdeal.main_arg3)
      ∧ r.2.mem ((c.tc : Thread Cert.ProjectedIdeal.nD Cert.ProjectedIdeal.τ).loc Cert.ProjectedIdeal.main_arg4) = m ((c.tc : Thread Cert.ProjectedIdeal.nD Cert.ProjectedIdeal.τ).loc Cert.ProjectedIdeal.main_arg4)
      ∧ r.2.mem ((c.tc : Thread Cert.ProjectedIdeal.nD Cert.ProjectedIdeal.τ).loc Cert.ProjectedIdeal.main_arg5) = m ((c.tc : Thread Cert.ProjectedIdeal.nD Cert.ProjectedIdeal.τ).loc Cert.ProjectedIdeal.main_arg5)
      ∧ r.2.mem ((c.tc : Thread Cert.ProjectedIdeal.nD Cert.ProjectedIdeal.τ).loc Cert.ProjectedIdeal.main_arg6) = m ((c.tc : Thread Cert.ProjectedIdeal.nD Cert.ProjectedIdeal.τ).loc Cert.ProjectedIdeal.main_arg6)
      ∧ r.2.mem ((c.tc : Thread Cert.ProjectedIdeal.nD Cert.ProjectedIdeal.τ).loc Cert.ProjectedIdeal.main_arg7) = m ((c.tc : Thread Cert.ProjectedIdeal.nD Cert.ProjectedIdeal.τ).loc Cert.ProjectedIdeal.main_arg7)
      ∧ r.2.mem ((c.tc : Thread Cert.ProjectedIdeal.nD Cert.ProjectedIdeal.τ).loc Cert.ProjectedIdeal.main_arg8) = m ((c.tc : Thread Cert.ProjectedIdeal.nD Cert.ProjectedIdeal.τ).loc Cert.ProjectedIdeal.main_arg8)
      ∧ r.2.mem ((c.tc : Thread Cert.ProjectedIdeal.nD Cert.ProjectedIdeal.τ).loc Cert.ProjectedIdeal.main_arg9) = m ((c.tc : Thread Cert.ProjectedIdeal.nD Cert.ProjectedIdeal.τ).loc Cert.ProjectedIdeal.main_arg9)
      ∧ r.2.mem ((c.tc : Thread Cert.ProjectedIdeal.nD Cert.ProjectedIdeal.τ).loc Cert.ProjectedIdeal.main_arg10) = m ((c.tc : Thread Cert.ProjectedIdeal.nD Cert.ProjectedIdeal.τ).loc Cert.ProjectedIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
      ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
      ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5)
      ∧ r.2.mem ((c.tc : Thread Cert.MergedIdeal.nD Cert.MergedIdeal.τ).loc Cert.MergedIdeal.main_arg6) = m ((c.tc : Thread Cert.MergedIdeal.nD Cert.MergedIdeal.τ).loc Cert.MergedIdeal.main_arg6)
      ∧ r.2.mem ((c.tc : Thread Cert.MergedIdeal.nD Cert.MergedIdeal.τ).loc Cert.MergedIdeal.main_arg7) = m ((c.tc : Thread Cert.MergedIdeal.nD Cert.MergedIdeal.τ).loc Cert.MergedIdeal.main_arg7)
      ∧ r.2.mem ((c.tc : Thread Cert.MergedIdeal.nD Cert.MergedIdeal.τ).loc Cert.MergedIdeal.main_arg8) = m ((c.tc : Thread Cert.MergedIdeal.nD Cert.MergedIdeal.τ).loc Cert.MergedIdeal.main_arg8)
      ∧ r.2.mem ((c.tc : Thread Cert.MergedIdeal.nD Cert.MergedIdeal.τ).loc Cert.MergedIdeal.main_arg9) = m ((c.tc : Thread Cert.MergedIdeal.nD Cert.MergedIdeal.τ).loc Cert.MergedIdeal.main_arg9)
      ∧ r.2.mem ((c.tc : Thread Cert.MergedIdeal.nD Cert.MergedIdeal.τ).loc Cert.MergedIdeal.main_arg10) = m ((c.tc : Thread Cert.MergedIdeal.nD Cert.MergedIdeal.τ).loc Cert.MergedIdeal.main_arg10)
      ∧ r.2.mem ((c.tc : Thread Cert.MergedIdeal.nD Cert.MergedIdeal.τ).loc Cert.MergedIdeal.main_arg11) = m ((c.tc : Thread Cert.MergedIdeal.nD Cert.MergedIdeal.τ).loc Cert.MergedIdeal.main_arg11)
      ∧ r.2.mem ((c.tc : Thread Cert.MergedIdeal.nD Cert.MergedIdeal.τ).loc Cert.MergedIdeal.main_arg12) = m ((c.tc : Thread Cert.MergedIdeal.nD Cert.MergedIdeal.τ).loc Cert.MergedIdeal.main_arg12)
      ∧ r.2.mem ((c.tc : Thread Cert.MergedIdeal.nD Cert.MergedIdeal.τ).loc Cert.MergedIdeal.main_arg13) = m ((c.tc : Thread Cert.MergedIdeal.nD Cert.MergedIdeal.τ).loc Cert.MergedIdeal.main_arg13)
      ∧ r.2.mem ((c.tc : Thread Cert.MergedIdeal.nD Cert.MergedIdeal.τ).loc Cert.MergedIdeal.main_arg14) = m ((c.tc : Thread Cert.MergedIdeal.nD Cert.MergedIdeal.τ).loc Cert.MergedIdeal.main_arg14)
      ∧ r.2.mem ((c.tc : Thread Cert.MergedIdeal.nD Cert.MergedIdeal.τ).loc Cert.MergedIdeal.main_arg15) = m ((c.tc : Thread Cert.MergedIdeal.nD Cert.MergedIdeal.τ).loc Cert.MergedIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Project_ProjectIdeal : Prop :=
  True

def algebraic_ProjectIdeal_ProjectedIdeal [hProjectIdeal : Cert.ProjectIdeal.Facts] [hProjectedIdeal : Cert.ProjectedIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectIdeal m →
    (∀ c : Dev Cert.ProjectIdeal.nD,
      m' ((c.tc : Thread Cert.ProjectedIdeal.nD Cert.ProjectedIdeal.τ).loc Cert.ProjectedIdeal.main_arg0) = m ((c.tc : Thread Cert.ProjectIdeal.nD Cert.ProjectIdeal.τ).loc Cert.ProjectIdeal.main_arg0)
      ∧ m' ((c.tc : Thread Cert.ProjectedIdeal.nD Cert.ProjectedIdeal.τ).loc Cert.ProjectedIdeal.main_arg1) = m ((c.tc : Thread Cert.ProjectIdeal.nD Cert.ProjectIdeal.τ).loc Cert.ProjectIdeal.main_arg1)
      ∧ m' ((c.tc : Thread Cert.ProjectedIdeal.nD Cert.ProjectedIdeal.τ).loc Cert.ProjectedIdeal.main_arg2) = m ((c.tc : Thread Cert.ProjectIdeal.nD Cert.ProjectIdeal.τ).loc Cert.ProjectIdeal.main_arg2)
      ∧ m' ((c.tc : Thread Cert.ProjectedIdeal.nD Cert.ProjectedIdeal.τ).loc Cert.ProjectedIdeal.main_arg3) = m ((c.tc : Thread Cert.ProjectIdeal.nD Cert.ProjectIdeal.τ).loc Cert.ProjectIdeal.main_arg3)
      ∧ m' ((c.tc : Thread Cert.ProjectedIdeal.nD Cert.ProjectedIdeal.τ).loc Cert.ProjectedIdeal.main_arg4) = m ((c.tc : Thread Cert.ProjectIdeal.nD Cert.ProjectIdeal.τ).loc Cert.ProjectIdeal.main_arg4)
      ∧ m' ((c.tc : Thread Cert.ProjectedIdeal.nD Cert.ProjectedIdeal.τ).loc Cert.ProjectedIdeal.main_arg5) = m ((c.tc : Thread Cert.ProjectIdeal.nD Cert.ProjectIdeal.τ).loc Cert.ProjectIdeal.main_arg5)
      ∧ m' ((c.tc : Thread Cert.ProjectedIdeal.nD Cert.ProjectedIdeal.τ).loc Cert.ProjectedIdeal.main_arg6) = m ((c.tc : Thread Cert.ProjectIdeal.nD Cert.ProjectIdeal.τ).loc Cert.ProjectIdeal.main_arg6)
      ∧ m' ((c.tc : Thread Cert.ProjectedIdeal.nD Cert.ProjectedIdeal.τ).loc Cert.ProjectedIdeal.main_arg7) = m ((c.tc : Thread Cert.ProjectIdeal.nD Cert.ProjectIdeal.τ).loc Cert.ProjectIdeal.main_arg7)
      ∧ m' ((c.tc : Thread Cert.ProjectedIdeal.nD Cert.ProjectedIdeal.τ).loc Cert.ProjectedIdeal.main_arg8) = m ((c.tc : Thread Cert.ProjectIdeal.nD Cert.ProjectIdeal.τ).loc Cert.ProjectIdeal.main_arg8)
      ∧ m' ((c.tc : Thread Cert.ProjectedIdeal.nD Cert.ProjectedIdeal.τ).loc Cert.ProjectedIdeal.main_arg9) = m ((c.tc : Thread Cert.ProjectIdeal.nD Cert.ProjectIdeal.τ).loc Cert.ProjectIdeal.main_arg9)
      ∧ m' ((c.tc : Thread Cert.ProjectedIdeal.nD Cert.ProjectedIdeal.τ).loc Cert.ProjectedIdeal.main_arg10) = m ((c.tc : Thread Cert.ProjectIdeal.nD Cert.ProjectIdeal.τ).loc Cert.ProjectIdeal.main_arg10)) →
    ∃ (v0 : (c : Dev Cert.ProjectIdeal.nD) → Buf (Elt Ideal) ((c.tc : Thread Cert.ProjectIdeal.nD Cert.ProjectIdeal.τ).loc Cert.ProjectIdeal.main_v30_0)) (v1 : (c : Dev Cert.ProjectIdeal.nD) → Buf (Elt Ideal) ((c.tc : Thread Cert.ProjectIdeal.nD Cert.ProjectIdeal.τ).loc Cert.ProjectIdeal.main_v30_1)) (v2 : (c : Dev Cert.ProjectIdeal.nD) → Buf (Elt Ideal) ((c.tc : Thread Cert.ProjectIdeal.nD Cert.ProjectIdeal.τ).loc Cert.ProjectIdeal.main_v30_2)) (v3 : (c : Dev Cert.ProjectIdeal.nD) → Buf (Elt Ideal) ((c.tc : Thread Cert.ProjectIdeal.nD Cert.ProjectIdeal.τ).loc Cert.ProjectIdeal.main_v30_3)) (v4 : (c : Dev Cert.ProjectIdeal.nD) → Buf (Elt Ideal) ((c.tc : Thread Cert.ProjectIdeal.nD Cert.ProjectIdeal.τ).loc Cert.ProjectIdeal.main_v30_4)) (v5 : (c : Dev Cert.ProjectIdeal.nD) → Buf (Elt Ideal) ((c.tc : Thread Cert.ProjectIdeal.nD Cert.ProjectIdeal.τ).loc Cert.ProjectIdeal.main_v30_5)) (v6 : (c : Dev Cert.ProjectIdeal.nD) → Buf (Elt Ideal) ((c.tc : Thread Cert.ProjectIdeal.nD Cert.ProjectIdeal.τ).loc Cert.ProjectIdeal.main_v30_6)) (v7 : (c : Dev Cert.ProjectIdeal.nD) → Buf (Elt Ideal) ((c.tc : Thread Cert.ProjectIdeal.nD Cert.ProjectIdeal.τ).loc Cert.ProjectIdeal.main_v30_7)) (v8 : (c : Dev Cert.ProjectIdeal.nD) → Buf (Elt Ideal) ((c.tc : Thread Cert.ProjectIdeal.nD Cert.ProjectIdeal.τ).loc Cert.ProjectIdeal.main_v30_8)) (v9 : (c : Dev Cert.ProjectIdeal.nD) → Buf (Elt Ideal) ((c.tc : Thread Cert.ProjectIdeal.nD Cert.ProjectIdeal.τ).loc Cert.ProjectIdeal.main_v30_9)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v30_0) = v0 c
          ∧ r.2.mem ((c.tc : Thread Cert.ProjectIdeal.nD Cert.ProjectIdeal.τ).loc Cert.ProjectIdeal.main_v30_1) = v1 c
          ∧ r.2.mem ((c.tc : Thread Cert.ProjectIdeal.nD Cert.ProjectIdeal.τ).loc Cert.ProjectIdeal.main_v30_2) = v2 c
          ∧ r.2.mem ((c.tc : Thread Cert.ProjectIdeal.nD Cert.ProjectIdeal.τ).loc Cert.ProjectIdeal.main_v30_3) = v3 c
          ∧ r.2.mem ((c.tc : Thread Cert.ProjectIdeal.nD Cert.ProjectIdeal.τ).loc Cert.ProjectIdeal.main_v30_4) = v4 c
          ∧ r.2.mem ((c.tc : Thread Cert.ProjectIdeal.nD Cert.ProjectIdeal.τ).loc Cert.ProjectIdeal.main_v30_5) = v5 c
          ∧ r.2.mem ((c.tc : Thread Cert.ProjectIdeal.nD Cert.ProjectIdeal.τ).loc Cert.ProjectIdeal.main_v30_6) = v6 c
          ∧ r.2.mem ((c.tc : Thread Cert.ProjectIdeal.nD Cert.ProjectIdeal.τ).loc Cert.ProjectIdeal.main_v30_7) = v7 c
          ∧ r.2.mem ((c.tc : Thread Cert.ProjectIdeal.nD Cert.ProjectIdeal.τ).loc Cert.ProjectIdeal.main_v30_8) = v8 c
          ∧ r.2.mem ((c.tc : Thread Cert.ProjectIdeal.nD Cert.ProjectIdeal.τ).loc Cert.ProjectIdeal.main_v30_9) = v9 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v96) = v0 c
          ∧ r.2.mem ((c.tc : Thread Cert.ProjectedIdeal.nD Cert.ProjectedIdeal.τ).loc Cert.ProjectedIdeal.main_v98) = v1 c
          ∧ r.2.mem ((c.tc : Thread Cert.ProjectedIdeal.nD Cert.ProjectedIdeal.τ).loc Cert.ProjectedIdeal.main_v29) = v2 c
          ∧ r.2.mem ((c.tc : Thread Cert.ProjectedIdeal.nD Cert.ProjectedIdeal.τ).loc Cert.ProjectedIdeal.main_v31) = v3 c
          ∧ r.2.mem ((c.tc : Thread Cert.ProjectedIdeal.nD Cert.ProjectedIdeal.τ).loc Cert.ProjectedIdeal.main_v99) = v4 c
          ∧ r.2.mem ((c.tc : Thread Cert.ProjectedIdeal.nD Cert.ProjectedIdeal.τ).loc Cert.ProjectedIdeal.main_v49) = v5 c
          ∧ r.2.mem ((c.tc : Thread Cert.ProjectedIdeal.nD Cert.ProjectedIdeal.τ).loc Cert.ProjectedIdeal.main_v82) = v6 c
          ∧ r.2.mem ((c.tc : Thread Cert.ProjectedIdeal.nD Cert.ProjectedIdeal.τ).loc Cert.ProjectedIdeal.main_v102) = v7 c
          ∧ r.2.mem ((c.tc : Thread Cert.ProjectedIdeal.nD Cert.ProjectedIdeal.τ).loc Cert.ProjectedIdeal.main_v95) = v8 c
          ∧ r.2.mem ((c.tc : Thread Cert.ProjectedIdeal.nD Cert.ProjectedIdeal.τ).loc Cert.ProjectedIdeal.main_v109) = v9 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2)
          ∧ r.2.mem ((c.tc : Thread Cert.ProjectedIdeal.nD Cert.ProjectedIdeal.τ).loc Cert.ProjectedIdeal.main_arg3) = m' ((c.tc : Thread Cert.ProjectedIdeal.nD Cert.ProjectedIdeal.τ).loc Cert.ProjectedIdeal.main_arg3)
          ∧ r.2.mem ((c.tc : Thread Cert.ProjectedIdeal.nD Cert.ProjectedIdeal.τ).loc Cert.ProjectedIdeal.main_arg4) = m' ((c.tc : Thread Cert.ProjectedIdeal.nD Cert.ProjectedIdeal.τ).loc Cert.ProjectedIdeal.main_arg4)
          ∧ r.2.mem ((c.tc : Thread Cert.ProjectedIdeal.nD Cert.ProjectedIdeal.τ).loc Cert.ProjectedIdeal.main_arg5) = m' ((c.tc : Thread Cert.ProjectedIdeal.nD Cert.ProjectedIdeal.τ).loc Cert.ProjectedIdeal.main_arg5)
          ∧ r.2.mem ((c.tc : Thread Cert.ProjectedIdeal.nD Cert.ProjectedIdeal.τ).loc Cert.ProjectedIdeal.main_arg6) = m' ((c.tc : Thread Cert.ProjectedIdeal.nD Cert.ProjectedIdeal.τ).loc Cert.ProjectedIdeal.main_arg6)
          ∧ r.2.mem ((c.tc : Thread Cert.ProjectedIdeal.nD Cert.ProjectedIdeal.τ).loc Cert.ProjectedIdeal.main_arg7) = m' ((c.tc : Thread Cert.ProjectedIdeal.nD Cert.ProjectedIdeal.τ).loc Cert.ProjectedIdeal.main_arg7)
          ∧ r.2.mem ((c.tc : Thread Cert.ProjectedIdeal.nD Cert.ProjectedIdeal.τ).loc Cert.ProjectedIdeal.main_arg8) = m' ((c.tc : Thread Cert.ProjectedIdeal.nD Cert.ProjectedIdeal.τ).loc Cert.ProjectedIdeal.main_arg8)
          ∧ r.2.mem ((c.tc : Thread Cert.ProjectedIdeal.nD Cert.ProjectedIdeal.τ).loc Cert.ProjectedIdeal.main_arg9) = m' ((c.tc : Thread Cert.ProjectedIdeal.nD Cert.ProjectedIdeal.τ).loc Cert.ProjectedIdeal.main_arg9)
          ∧ r.2.mem ((c.tc : Thread Cert.ProjectedIdeal.nD Cert.ProjectedIdeal.τ).loc Cert.ProjectedIdeal.main_arg10) = m' ((c.tc : Thread Cert.ProjectedIdeal.nD Cert.ProjectedIdeal.τ).loc Cert.ProjectedIdeal.main_arg10))

def preserves_Merge_MergeIdeal : Prop :=
  True

def algebraic_MergeIdeal_MergedIdeal [hMergeIdeal : Cert.MergeIdeal.Facts] [hMergedIdeal : Cert.MergedIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergedIdeal.nD Cert.MergedIdeal.τ Cert.MergedIdeal.sig) → Buf (Elt Ideal) ℓ) (g' : Dev Cert.MergedIdeal.nD → PrngReg), Pre_MergeIdeal m →
    (∀ c : Dev Cert.MergeIdeal.nD,
      m' ((c.tc : Thread Cert.MergedIdeal.nD Cert.MergedIdeal.τ).loc Cert.MergedIdeal.main_arg0) = m ((c.tc : Thread Cert.MergeIdeal.nD Cert.MergeIdeal.τ).loc Cert.MergeIdeal.main_arg0)
      ∧ m' ((c.tc : Thread Cert.MergedIdeal.nD Cert.MergedIdeal.τ).loc Cert.MergedIdeal.main_arg1) = m ((c.tc : Thread Cert.MergeIdeal.nD Cert.MergeIdeal.τ).loc Cert.MergeIdeal.main_arg1)
      ∧ m' ((c.tc : Thread Cert.MergedIdeal.nD Cert.MergedIdeal.τ).loc Cert.MergedIdeal.main_arg2) = m ((c.tc : Thread Cert.MergeIdeal.nD Cert.MergeIdeal.τ).loc Cert.MergeIdeal.main_arg2)
      ∧ m' ((c.tc : Thread Cert.MergedIdeal.nD Cert.MergedIdeal.τ).loc Cert.MergedIdeal.main_arg3) = m ((c.tc : Thread Cert.MergeIdeal.nD Cert.MergeIdeal.τ).loc Cert.MergeIdeal.main_arg3)
      ∧ m' ((c.tc : Thread Cert.MergedIdeal.nD Cert.MergedIdeal.τ).loc Cert.MergedIdeal.main_arg4) = m ((c.tc : Thread Cert.MergeIdeal.nD Cert.MergeIdeal.τ).loc Cert.MergeIdeal.main_arg4)
      ∧ m' ((c.tc : Thread Cert.MergedIdeal.nD Cert.MergedIdeal.τ).loc Cert.MergedIdeal.main_arg5) = m ((c.tc : Thread Cert.MergeIdeal.nD Cert.MergeIdeal.τ).loc Cert.MergeIdeal.main_arg5)
      ∧ m' ((c.tc : Thread Cert.MergedIdeal.nD Cert.MergedIdeal.τ).loc Cert.MergedIdeal.main_arg6) = m ((c.tc : Thread Cert.MergeIdeal.nD Cert.MergeIdeal.τ).loc Cert.MergeIdeal.main_arg6)
      ∧ m' ((c.tc : Thread Cert.MergedIdeal.nD Cert.MergedIdeal.τ).loc Cert.MergedIdeal.main_arg7) = m ((c.tc : Thread Cert.MergeIdeal.nD Cert.MergeIdeal.τ).loc Cert.MergeIdeal.main_arg7)
      ∧ m' ((c.tc : Thread Cert.MergedIdeal.nD Cert.MergedIdeal.τ).loc Cert.MergedIdeal.main_arg8) = m ((c.tc : Thread Cert.MergeIdeal.nD Cert.MergeIdeal.τ).loc Cert.MergeIdeal.main_arg8)
      ∧ m' ((c.tc : Thread Cert.MergedIdeal.nD Cert.MergedIdeal.τ).loc Cert.MergedIdeal.main_arg9) = m ((c.tc : Thread Cert.MergeIdeal.nD Cert.MergeIdeal.τ).loc Cert.MergeIdeal.main_arg9)
      ∧ m' ((c.tc : Thread Cert.MergedIdeal.nD Cert.MergedIdeal.τ).loc Cert.MergedIdeal.main_arg10) = m ((c.tc : Thread Cert.MergeIdeal.nD Cert.MergeIdeal.τ).loc Cert.MergeIdeal.main_arg10)
      ∧ m' ((c.tc : Thread Cert.MergedIdeal.nD Cert.MergedIdeal.τ).loc Cert.MergedIdeal.main_arg11) = m ((c.tc : Thread Cert.MergeIdeal.nD Cert.MergeIdeal.τ).loc Cert.MergeIdeal.main_arg11)
      ∧ m' ((c.tc : Thread Cert.MergedIdeal.nD Cert.MergedIdeal.τ).loc Cert.MergedIdeal.main_arg12) = m ((c.tc : Thread Cert.MergeIdeal.nD Cert.MergeIdeal.τ).loc Cert.MergeIdeal.main_arg12)
      ∧ m' ((c.tc : Thread Cert.MergedIdeal.nD Cert.MergedIdeal.τ).loc Cert.MergedIdeal.main_arg13) = m ((c.tc : Thread Cert.MergeIdeal.nD Cert.MergeIdeal.τ).loc Cert.MergeIdeal.main_arg13)
      ∧ m' ((c.tc : Thread Cert.MergedIdeal.nD Cert.MergedIdeal.τ).loc Cert.MergedIdeal.main_arg14) = m ((c.tc : Thread Cert.MergeIdeal.nD Cert.MergeIdeal.τ).loc Cert.MergeIdeal.main_arg14)
      ∧ m' ((c.tc : Thread Cert.MergedIdeal.nD Cert.MergedIdeal.τ).loc Cert.MergedIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergedIdeal.defs (F := Ideal)) (onTc (τ := Cert.MergedIdeal.τ) (Cert.MergedIdeal.main (F := Ideal))) ⟨m', fun _ => 0, g'⟩ (fun r => ∀ c : Dev Cert.MergedIdeal.nD,
          r.2.mem ((c.tc : Thread Cert.MergedIdeal.nD Cert.MergedIdeal.τ).loc Cert.MergedIdeal.main_v75) = v0 c
          ∧ r.2.mem ((c.tc : Thread Cert.MergedIdeal.nD Cert.MergedIdeal.τ).loc Cert.MergedIdeal.main_arg0) = m' ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m' ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m' ((c.tc : Thread Cert.MergedIdeal.nD Cert.MergedIdeal.τ).loc Cert.MergedIdeal.main_arg2)
          ∧ r.2.mem ((c.tc : Thread Cert.MergedIdeal.nD Cert.MergedIdeal.τ).loc Cert.MergedIdeal.main_arg3) = m' ((c.tc : Thread Cert.MergedIdeal.nD Cert.MergedIdeal.τ).loc Cert.MergedIdeal.main_arg3)
          ∧ r.2.mem ((c.tc : Thread Cert.MergedIdeal.nD Cert.MergedIdeal.τ).loc Cert.MergedIdeal.main_arg4) = m' ((c.tc : Thread Cert.MergedIdeal.nD Cert.MergedIdeal.τ).loc Cert.MergedIdeal.main_arg4)
          ∧ r.2.mem ((c.tc : Thread Cert.MergedIdeal.nD Cert.MergedIdeal.τ).loc Cert.MergedIdeal.main_arg5) = m' ((c.tc : Thread Cert.MergedIdeal.nD Cert.MergedIdeal.τ).loc Cert.MergedIdeal.main_arg5)
          ∧ r.2.mem ((c.tc : Thread Cert.MergedIdeal.nD Cert.MergedIdeal.τ).loc Cert.MergedIdeal.main_arg6) = m' ((c.tc : Thread Cert.MergedIdeal.nD Cert.MergedIdeal.τ).loc Cert.MergedIdeal.main_arg6)
          ∧ r.2.mem ((c.tc : Thread Cert.MergedIdeal.nD Cert.MergedIdeal.τ).loc Cert.MergedIdeal.main_arg7) = m' ((c.tc : Thread Cert.MergedIdeal.nD Cert.MergedIdeal.τ).loc Cert.MergedIdeal.main_arg7)
          ∧ r.2.mem ((c.tc : Thread Cert.MergedIdeal.nD Cert.MergedIdeal.τ).loc Cert.MergedIdeal.main_arg8) = m' ((c.tc : Thread Cert.MergedIdeal.nD Cert.MergedIdeal.τ).loc Cert.MergedIdeal.main_arg8)
          ∧ r.2.mem ((c.tc : Thread Cert.MergedIdeal.nD Cert.MergedIdeal.τ).loc Cert.MergedIdeal.main_arg9) = m' ((c.tc : Thread Cert.MergedIdeal.nD Cert.MergedIdeal.τ).loc Cert.MergedIdeal.main_arg9)
          ∧ r.2.mem ((c.tc : Thread Cert.MergedIdeal.nD Cert.MergedIdeal.τ).loc Cert.MergedIdeal.main_arg10) = m' ((c.tc : Thread Cert.MergedIdeal.nD Cert.MergedIdeal.τ).loc Cert.MergedIdeal.main_arg10)
          ∧ r.2.mem ((c.tc : Thread Cert.MergedIdeal.nD Cert.MergedIdeal.τ).loc Cert.MergedIdeal.main_arg11) = m' ((c.tc : Thread Cert.MergedIdeal.nD Cert.MergedIdeal.τ).loc Cert.MergedIdeal.main_arg11)
          ∧ r.2.mem ((c.tc : Thread Cert.MergedIdeal.nD Cert.MergedIdeal.τ).loc Cert.MergedIdeal.main_arg12) = m' ((c.tc : Thread Cert.MergedIdeal.nD Cert.MergedIdeal.τ).loc Cert.MergedIdeal.main_arg12)
          ∧ r.2.mem ((c.tc : Thread Cert.MergedIdeal.nD Cert.MergedIdeal.τ).loc Cert.MergedIdeal.main_arg13) = m' ((c.tc : Thread Cert.MergedIdeal.nD Cert.MergedIdeal.τ).loc Cert.MergedIdeal.main_arg13)
          ∧ r.2.mem ((c.tc : Thread Cert.MergedIdeal.nD Cert.MergedIdeal.τ).loc Cert.MergedIdeal.main_arg14) = m' ((c.tc : Thread Cert.MergedIdeal.nD Cert.MergedIdeal.τ).loc Cert.MergedIdeal.main_arg14)
          ∧ r.2.mem ((c.tc : Thread Cert.MergedIdeal.nD Cert.MergedIdeal.τ).loc Cert.MergedIdeal.main_arg15) = m' ((c.tc : Thread Cert.MergedIdeal.nD Cert.MergedIdeal.τ).loc Cert.MergedIdeal.main_arg15))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectedIdeal : Cert.ProjectedIdeal.Facts) (hMerge : Cert.Merge.Facts) (hMergeIdeal : Cert.MergeIdeal.Facts) (hMergedIdeal : Cert.MergedIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectedIdeal (hProjectedIdeal := hProjectedIdeal)
    ∧ quiescent_Merge (hMerge := hMerge)
    ∧ quiescent_MergeIdeal (hMergeIdeal := hMergeIdeal)
    ∧ quiescent_MergedIdeal (hMergedIdeal := hMergedIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectedIdeal (hProjectIdeal := hProjectIdeal) (hProjectedIdeal := hProjectedIdeal)
    ∧ preserves_Merge_MergeIdeal
    ∧ algebraic_MergeIdeal_MergedIdeal (hMergeIdeal := hMergeIdeal) (hMergedIdeal := hMergedIdeal)
-- ==== Pre_finite.lean ====
abbrev S2x8192x512 : Shape := ⟨3, ![2, 8192, 512]⟩
abbrev S2x2x8192x512 : Shape := ⟨4, ![2, 2, 8192, 512]⟩
abbrev S2x8192x1280 : Shape := ⟨3, ![2, 8192, 1280]⟩
abbrev S64 : Shape := ⟨1, ![64]⟩
abbrev S8 : Shape := ⟨1, ![8]⟩
abbrev S_ : Shape := ⟨0, ![]⟩

class Facts : Prop where
  bcast_S_S2x8192x512 : S_.BroadcastsInDim S2x8192x512 (![] : Fin 0 → Fin S2x8192x512.rank)
  bcast_S_S2x2x8192x512 : S_.BroadcastsInDim S2x2x8192x512 (![] : Fin 0 → Fin S2x2x8192x512.rank)

variable [Facts]

def fn {F : FTy → Type} [FloatOps F] (main_arg0 : FVec F S2x8192x512 .f32) (main_arg1 : FVec F S2x8192x512 .f32) (main_arg2 : FVec F S2x8192x512 .f32) (main_arg3 : FVec F S2x2x8192x512 .f32) (main_arg4 : FVec F S2x2x8192x512 .f32) (main_arg5 : FVec F S2x2x8192x512 .f32) (main_arg6 : FVec F S2x8192x1280 .f32) (main_arg7 : FVec F S64 .f32) (main_arg8 : FVec F S64 .f32) (main_arg9 : FVec F S8 .f32) : IVec S2x8192x512 1 × IVec S2x8192x512 1 × IVec S2x8192x512 1 × IVec S2x2x8192x512 1 × IVec S2x2x8192x512 1 × IVec S2x2x8192x512 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x8192x512 .f32 := Host.absf main_arg1
  let main_cst_0 : FVec F S_ .f32 := constant S_ .f32 0x7F800000#32
  let main_v4 : FVec F S2x8192x512 .f32 := broadcastInDim S2x8192x512 ![] bcast_S_S2x8192x512 main_cst_0
  let main_v5 : IVec S2x8192x512 1 := cmpf .olt main_v3 main_v4
  let main_v6 : FVec F S2x8192x512 .f32 := Host.absf main_arg2
  let main_cst_1 : FVec F S_ .f32 := constant S_ .f32 0x7F800000#32
  let main_v7 : FVec F S2x8192x512 .f32 := broadcastInDim S2x8192x512 ![] bcast_S_S2x8192x512 main_cst_1
  let main_v8 : IVec S2x8192x512 1 := cmpf .olt main_v6 main_v7
  let main_v9 : FVec F S2x2x8192x512 .f32 := Host.absf main_arg3
  let main_cst_2 : FVec F S_ .f32 := constant S_ .f32 0x7F800000#32
  let main_v10 : FVec F S2x2x8192x512 .f32 := broadcastInDim S2x2x8192x512 ![] bcast_S_S2x2x8192x512 main_cst_2
  let main_v11 : IVec S2x2x8192x512 1 := cmpf .olt main_v9 main_v10
  let main_v12 : FVec F S2x2x8192x512 .f32 := Host.absf main_arg4
  let main_cst_3 : FVec F S_ .f32 := constant S_ .f32 0x7F800000#32
  let main_v13 : FVec F S2x2x8192x512 .f32 := broadcastInDim S2x2x8192x512 ![] bcast_S_S2x2x8192x512 main_cst_3
  let main_v14 : IVec S2x2x8192x512 1 := cmpf .olt main_v12 main_v13
  let main_v15 : FVec F S2x2x8192x512 .f32 := Host.absf main_arg5
  let main_cst_4 : FVec F S_ .f32 := constant S_ .f32 0x7F800000#32
  let main_v16 : FVec F S2x2x8192x512 .f32 := broadcastInDim S2x2x8192x512 ![] bcast_S_S2x2x8192x512 main_cst_4
  let main_v17 : IVec S2x2x8192x512 1 := cmpf .olt main_v15 main_v16
  (main_v2, main_v5, main_v8, main_v11, main_v14, main_v17)
-- ==== Kernel.lean ====
abbrev S2x8192x512 : Shape := ⟨3, ![2, 8192, 512]⟩
abbrev S2x2x8192x512 : Shape := ⟨4, ![2, 2, 8192, 512]⟩
abbrev S2x8192x1280 : Shape := ⟨3, ![2, 8192, 1280]⟩
abbrev S64 : Shape := ⟨1, ![64]⟩
abbrev S8 : Shape := ⟨1, ![8]⟩
abbrev S_ : Shape := ⟨0, ![]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S2x64x512 : Shape := ⟨3, ![2, 64, 512]⟩
abbrev S1x2x64x512 : Shape := ⟨4, ![1, 2, 64, 512]⟩
abbrev S1x128x1280 : Shape := ⟨3, ![1, 128, 1280]⟩
abbrev S1x128x256 : Shape := ⟨3, ![1, 128, 256]⟩
abbrev S1x128x512 : Shape := ⟨3, ![1, 128, 512]⟩
abbrev S2x2x4x128x128 : Shape := ⟨5, ![2, 2, 4, 128, 128]⟩
abbrev S4x256x384 : Shape := ⟨3, ![4, 256, 384]⟩
abbrev S256x384 : Shape := ⟨2, ![256, 384]⟩
abbrev S1 : Shape := ⟨1, ![1]⟩
abbrev S1x256x384 : Shape := ⟨3, ![1, 256, 384]⟩
abbrev S512x512 : Shape := ⟨2, ![512, 512]⟩
abbrev S128x128 : Shape := ⟨2, ![128, 128]⟩
abbrev S256x1 : Shape := ⟨2, ![256, 1]⟩
abbrev S128x512 : Shape := ⟨2, ![128, 512]⟩
abbrev S1x128x128 : Shape := ⟨3, ![1, 128, 128]⟩
abbrev S384x128 : Shape := ⟨2, ![384, 128]⟩
abbrev S256x128 : Shape := ⟨2, ![256, 128]⟩
abbrev S256 : Shape := ⟨1, ![256]⟩
abbrev S64x128 : Shape := ⟨2, ![64, 128]⟩
abbrev S64x64 : Shape := ⟨2, ![64, 64]⟩
abbrev S1x1x64x512 : Shape := ⟨4, ![1, 1, 64, 512]⟩
abbrev S64x512 : Shape := ⟨2, ![64, 512]⟩
abbrev S1x64x512 : Shape := ⟨3, ![1, 64, 512]⟩
abbrev S128x256 : Shape := ⟨2, ![128, 256]⟩
abbrev S64x256 : Shape := ⟨2, ![64, 256]⟩
abbrev S256x256 : Shape := ⟨2, ![256, 256]⟩
abbrev S1x1x1x128x128 : Shape := ⟨5, ![1, 1, 1, 128, 128]⟩
abbrev S1x64x128 : Shape := ⟨3, ![1, 64, 128]⟩

abbrev nBuf : Space → Nat
  | .hbm => 34
  | .vmem => 42
  | .smem => 2
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x2x8192x512, .f32⟩
  | .hbm, ⟨4, _⟩ => ⟨S2x2x8192x512, .f32⟩
  | .hbm, ⟨5, _⟩ => ⟨S2x2x8192x512, .f32⟩
  | .hbm, ⟨6, _⟩ => ⟨S2x8192x1280, .f32⟩
  | .hbm, ⟨7, _⟩ => ⟨S64, .f32⟩
  | .hbm, ⟨8, _⟩ => ⟨S64, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S1x64, .f32⟩
  | .hbm, ⟨28, _⟩ => ⟨S2x64, .f32⟩
  | .hbm, ⟨29, _⟩ => ⟨S128, .f32⟩
  | .hbm, ⟨30, _⟩ => ⟨S1x128, .f32⟩
  | .hbm, ⟨31, _⟩ => ⟨S2x8192x512, .f32⟩
  | .hbm, ⟨32, _⟩ => ⟨S2x8192x512, .f32⟩
  | .hbm, ⟨33, _⟩ => ⟨S2x8192x512, .bf16⟩
  | .local _ .vmem, ⟨0, _⟩ => ⟨S2x64x512, .f32⟩
  | .local _ .vmem, ⟨1, _⟩ => ⟨S2x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x512, .f32⟩
  | .local _ .vmem, ⟨5, _⟩ => ⟨S2x64x512, .f32⟩
  | .local _ .vmem, ⟨6, _⟩ => ⟨S2x64x512, .f32⟩
  | .local _ .vmem, ⟨7, _⟩ => ⟨S2x64x512, .f32⟩
  | .local _ .vmem, ⟨8, _⟩ => ⟨S2x64x512, .f32⟩
  | .local _ .vmem, ⟨9, _⟩ => ⟨S2x64x512, .f32⟩
  | .local _ .vmem, ⟨10, _⟩ => ⟨S2x64x512, .f32⟩
  | .local _ .vmem, ⟨11, _⟩ => ⟨S2x64x512, .f32⟩
  | .local _ .vmem, ⟨12, _⟩ => ⟨S1x2x64x512, .f32⟩
  | .local _ .vmem, ⟨13, _⟩ => ⟨S1x2x64x512, .f32⟩
  | .local _ .vmem, ⟨14, _⟩ => ⟨S1x2x64x512, .f32⟩
  | .local _ .vmem, ⟨15, _⟩ => ⟨S1x2x64x512, .f32⟩
  | .local _ .vmem, ⟨16, _⟩ => ⟨S1x2x64x512, .f32⟩
  | .local _ .vmem, ⟨17, _⟩ => ⟨S1x2x64x512, .f32⟩
  | .local _ .vmem, ⟨18, _⟩ => ⟨S1x2x64x512, .f32⟩
  | .local _ .vmem, ⟨19, _⟩ => ⟨S1x2x64x512, .f32⟩
  | .local _ .vmem, ⟨20, _⟩ => ⟨S1x2x64x512, .f32⟩
  | .local _ .vmem, ⟨21, _⟩ => ⟨S1x2x64x512, .f32⟩
  | .local _ .vmem, ⟨22, _⟩ => ⟨S1x2x64x512, .f32⟩
  | .local _ .vmem, ⟨23, _⟩ => ⟨S1x2x64x512, .f32⟩
  | .local _ .vmem, ⟨24, _⟩ => ⟨S1x128x1280, .f32⟩
  | .local _ .vmem, ⟨25, _⟩ => ⟨S1x128x1280, .f32⟩
  | .local _ .vmem, ⟨26, _⟩ => ⟨S1x128x256, .f32⟩
  | .local _ .vmem, ⟨27, _⟩ => ⟨S1x128x256, .f32⟩
  | .local _ .vmem, ⟨28, _⟩ => ⟨S1x128x256, .f32⟩
  | .local _ .vmem, ⟨29, _⟩ => ⟨S1x128x256, .f32⟩
  | .local _ .vmem, ⟨30, _⟩ => ⟨S1x128x256, .f32⟩
  | .local _ .vmem, ⟨31, _⟩ => ⟨S1x128x256, .f32⟩
  | .local _ .vmem, ⟨32, _⟩ => ⟨S1x512, .f32⟩
  | .local _ .vmem, ⟨33, _⟩ => ⟨S1x128, .f32⟩
  | .local _ .vmem, ⟨34, _⟩ => ⟨S2x64x512, .f32⟩
  | .local _ .vmem, ⟨35, _⟩ => ⟨S2x64x512, .f32⟩
  | .local _ .vmem, ⟨36, _⟩ => ⟨S2x64x512, .f32⟩
  | .local _ .vmem, ⟨37, _⟩ => ⟨S2x64x512, .f32⟩
  | .local _ .vmem, ⟨38, _⟩ => ⟨S1x128x512, .bf16⟩
  | .local _ .vmem, ⟨39, _⟩ => ⟨S1x128x512, .bf16⟩
  | .local _ .vmem, ⟨40, _⟩ => ⟨S2x2x4x128x128, .f32⟩
  | .local _ .vmem, ⟨41, _⟩ => ⟨S4x256x384, .f32⟩
  | .local _ .smem, ⟨0, _⟩ => ⟨S8, .f32⟩
  | .local _ .smem, ⟨1, _⟩ => ⟨S8, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_scratch0 : Ref sig .tc := ⟨.vmem, 40, rfl⟩
abbrev cc0_scratch1 : Ref sig .tc := ⟨.vmem, 41, rfl⟩
abbrev cc0_stg18_0 : Ref sig .tc := ⟨.smem, 0, rfl⟩
abbrev cc0_stg19_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 4 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_10 (i : grid0.Coords) : Fin 4 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_11 (i : grid0.Coords) : Fin 4 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_12 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_13 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi v26 c1_i32_10
  let c0_i32_11 : BitVec 32 := 0#32
  let v28 : BitVec 32 := Scalar.maxsi v27 c0_i32_11
  let c2_i32 : BitVec 32 := 2#32
  let c0_i32_12 : BitVec 32 := 0#32
  ![v16.toNat, v28.toNat, c2_i32.toNat]

def cc0_transform_14 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_10 : BitVec 32 := 0#32
  ![v16.toNat, v26.toNat, c2_i32.toNat]

def cc0_transform_15 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c63_i32 : BitVec 32 := 63#32
  let v28 : BitVec 32 := Scalar.minsi v27 c63_i32
  let c2_i32 : BitVec 32 := 2#32
  let c0_i32_11 : BitVec 32 := 0#32
  ![v16.toNat, v28.toNat, c2_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_22 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .smem S8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2x64x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x64x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x128x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2x8192x512 : Shape := ⟨3, ![2, 8192, 512]⟩
abbrev S2x2x8192x512 : Shape := ⟨4, ![2, 2, 8192, 512]⟩
abbrev S2x8192x1280 : Shape := ⟨3, ![2, 8192, 1280]⟩
abbrev S64 : Shape := ⟨1, ![64]⟩
abbrev S8 : Shape := ⟨1, ![8]⟩
abbrev S1x2x8192x512 : Shape := ⟨4, ![1, 2, 8192, 512]⟩
abbrev S2x2x8192x8x64 : Shape := ⟨5, ![2, 2, 8192, 8, 64]⟩
abbrev S8192x2x2x8x64 : Shape := ⟨5, ![8192, 2, 2, 8, 64]⟩
abbrev S_ : Shape := ⟨0, ![]⟩
abbrev S2x2x8x64x64 : Shape := ⟨5, ![2, 2, 8, 64, 64]⟩
abbrev S1x2x2x8x64 : Shape := ⟨5, ![1, 2, 2, 8, 64]⟩
abbrev S2x2x8x64 : Shape := ⟨4, ![2, 2, 8, 64]⟩
abbrev S2x2x8x1x64 : Shape := ⟨5, ![2, 2, 8, 1, 64]⟩
abbrev S2x2x8x64x1 : Shape := ⟨5, ![2, 2, 8, 64, 1]⟩
abbrev S1x2x8192x8x64 : Shape := ⟨5, ![1, 2, 8192, 8, 64]⟩
abbrev S2x8192x8x64 : Shape := ⟨4, ![2, 8192, 8, 64]⟩

abbrev nBuf : Space → Nat
  | .hbm => 151
  | .vmem => 0
  | .smem => 0
  | _ => 0

abbrev hbmTy0_0 (i : Nat) : BufTy := match i % 128 with
  | 0 => ⟨S2x8192x512, .f32⟩
  | 1 => ⟨S2x8192x512, .f32⟩
  | 2 => ⟨S2x8192x512, .f32⟩
  | 3 => ⟨S2x2x8192x512, .f32⟩
  | 4 => ⟨S2x2x8192x512, .f32⟩
  | 5 => ⟨S2x2x8192x512, .f32⟩
  | 6 => ⟨S2x8192x1280, .f32⟩
  | 7 => ⟨S64, .f32⟩
  | 8 => ⟨S64, .f32⟩
  | 9 => ⟨S8, .f32⟩
  | 10 => ⟨S2x8192x512, .f32⟩
  | 11 => ⟨S1x2x8192x512, .f32⟩
  | 12 => ⟨S1x2x8192x512, .f32⟩
  | 13 => ⟨S2x2x8192x512, .f32⟩
  | 14 => ⟨S2x2x8192x8x64, .f32⟩
  | 15 => ⟨S2x2x8192x512, .f32⟩
  | 16 => ⟨S1x2x8192x512, .f32⟩
  | 17 => ⟨S2x8192x512, .f32⟩
  | 18 => ⟨S1x2x8192x512, .f32⟩
  | 19 => ⟨S2x8192x512, .f32⟩
  | 20 => ⟨S2x8192x512, .f32⟩
  | 21 => ⟨S1x2x8192x512, .f32⟩
  | 22 => ⟨S1x2x8192x512, .f32⟩
  | 23 => ⟨S2x2x8192x512, .f32⟩
  | 24 => ⟨S2x2x8192x8x64, .f32⟩
  | 25 => ⟨S1x2x8192x512, .f32⟩
  | 26 => ⟨S2x8192x512, .f32⟩
  | 27 => ⟨S1x2x8192x512, .f32⟩
  | 28 => ⟨S2x8192x512, .f32⟩
  | 29 => ⟨S2x8192x512, .f32⟩
  | 30 => ⟨S1x2x8192x512, .f32⟩
  | 31 => ⟨S1x2x8192x512, .f32⟩
  | 32 => ⟨S2x2x8192x512, .f32⟩
  | 33 => ⟨S2x2x8192x8x64, .f32⟩
  | 34 => ⟨S2x8192x512, .f32⟩
  | 35 => ⟨S1x2x8192x512, .f32⟩
  | 36 => ⟨S1x2x8192x512, .f32⟩
  | 37 => ⟨S2x2x8192x512, .f32⟩
  | 38 => ⟨S2x2x8192x8x64, .f32⟩
  | 39 => ⟨S2x8192x512, .f32⟩
  | 40 => ⟨S1x2x8192x512, .f32⟩
  | 41 => ⟨S1x2x8192x512, .f32⟩
  | 42 => ⟨S2x2x8192x512, .f32⟩
  | 43 => ⟨S2x2x8192x8x64, .f32⟩
  | 44 => ⟨S1x2x8192x512, .f32⟩
  | 45 => ⟨S2x8192x512, .f32⟩
  | 46 => ⟨S1x2x8192x512, .f32⟩
  | 47 => ⟨S2x8192x512, .f32⟩
  | 48 => ⟨S2x8192x512, .f32⟩
  | 49 => ⟨S1x2x8192x512, .f32⟩
  | 50 => ⟨S1x2x8192x512, .f32⟩
  | 51 => ⟨S2x2x8192x512, .f32⟩
  | 52 => ⟨S2x2x8192x8x64, .f32⟩
  | 53 => ⟨S8192x2x2x8x64, .f32⟩
  | 54 => ⟨S8192x2x2x8x64, .f32⟩
  | 55 => ⟨S8192x2x2x8x64, .f32⟩
  | 56 => ⟨S8192x2x2x8x64, .f32⟩
  | 57 => ⟨S8192x2x2x8x64, .f32⟩
  | 58 => ⟨S8192x2x2x8x64, .f32⟩
  | 59 => ⟨S_, .f32⟩
  | 60 => ⟨S2x2x8x64x64, .f32⟩
  | 61 => ⟨S_, .f32⟩
  | 62 => ⟨S8192x2x2x8x64, .f32⟩
  | 63 => ⟨S_, .i32⟩
  | 64 => ⟨S8192x2x2x8x64, .f32⟩
  | 65 => ⟨S8192x2x2x8x64, .f32⟩
  | 66 => ⟨S8192x2x2x8x64, .f32⟩
  | 67 => ⟨S8192x2x2x8x64, .f32⟩
  | 68 => ⟨S8192x2x2x8x64, .f32⟩
  | 69 => ⟨S8192x2x2x8x64, .f32⟩
  | 70 => ⟨S_, .i32⟩
  | 71 => ⟨S2x2x8x64x64, .f32⟩
  | 72 => ⟨S8192x2x2x8x64, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1x2x2x8x64, .f32⟩
  | 80 => ⟨S2x2x8x64, .f32⟩
  | 81 => ⟨S_, .i32⟩
  | 82 => ⟨S_, .i32⟩
  | 83 => ⟨S_, .i32⟩
  | 84 => ⟨S_, .i32⟩
  | 85 => ⟨S1x2x2x8x64, .f32⟩
  | 86 => ⟨S2x2x8x64, .f32⟩
  | 87 => ⟨S_, .i32⟩
  | 88 => ⟨S_, .i32⟩
  | 89 => ⟨S_, .i32⟩
  | 90 => ⟨S_, .i32⟩
  | 91 => ⟨S1x2x2x8x64, .f32⟩
  | 92 => ⟨S2x2x8x64, .f32⟩
  | 93 => ⟨S_, .i32⟩
  | 94 => ⟨S_, .i32⟩
  | 95 => ⟨S_, .i32⟩
  | 96 => ⟨S_, .i32⟩
  | 97 => ⟨S1x2x2x8x64, .f32⟩
  | 98 => ⟨S2x2x8x64, .f32⟩
  | 99 => ⟨S_, .i32⟩
  | 100 => ⟨S_, .i32⟩
  | 101 => ⟨S_, .i32⟩
  | 102 => ⟨S_, .i32⟩
  | 103 => ⟨S1x2x2x8x64, .f32⟩
  | 104 => ⟨S2x2x8x64, .f32⟩
  | 105 => ⟨S_, .i32⟩
  | 106 => ⟨S_, .i32⟩
  | 107 => ⟨S_, .i32⟩
  | 108 => ⟨S_, .i32⟩
  | 109 => ⟨S1x2x2x8x64, .f32⟩
  | 110 => ⟨S2x2x8x64, .f32⟩
  | 111 => ⟨S2x2x8x64, .f32⟩
  | 112 => ⟨S2x2x8x1x64, .f32⟩
  | 113 => ⟨S2x2x8x64x64, .f32⟩
  | 114 => ⟨S2x2x8x64x64, .f32⟩
  | 115 => ⟨S2x2x8x64x1, .f32⟩
  | 116 => ⟨S2x2x8x1x64, .f32⟩
  | 117 => ⟨S2x2x8x64x64, .f32⟩
  | 118 => ⟨S2x2x8x64x64, .f32⟩
  | 119 => ⟨S2x2x8x64x64, .f32⟩
  | 120 => ⟨S2x2x8x64x64, .f32⟩
  | 121 => ⟨S2x2x8x64x1, .f32⟩
  | 122 => ⟨S2x2x8x1x64, .f32⟩
  | 123 => ⟨S2x2x8x64x64, .f32⟩
  | 124 => ⟨S2x2x8x64x64, .f32⟩
  | 125 => ⟨S2x2x8x64x64, .f32⟩
  | 126 => ⟨S2x2x8x64x64, .f32⟩
  | 127 => ⟨S2x2x8x64, .f32⟩
  | _ => ⟨S2x8192x512, .f32⟩

abbrev hbmTy0_1 (i : Nat) : BufTy := match i % 128 with
  | 0 => ⟨S1x2x2x8x64, .f32⟩
  | 1 => ⟨S_, .i32⟩
  | 2 => ⟨S_, .i32⟩
  | 3 => ⟨S_, .i32⟩
  | 4 => ⟨S_, .i32⟩
  | 5 => ⟨S8192x2x2x8x64, .f32⟩
  | 6 => ⟨S_, .i32⟩
  | 7 => ⟨S_, .i32⟩
  | 8 => ⟨S2x2x8192x8x64, .f32⟩
  | 9 => ⟨S1x2x8192x8x64, .f32⟩
  | 10 => ⟨S2x8192x8x64, .f32⟩
  | 11 => ⟨S1x2x8192x8x64, .f32⟩
  | 12 => ⟨S2x8192x8x64, .f32⟩
  | 13 => ⟨S2x8192x8x64, .f32⟩
  | 14 => ⟨S1x2x8192x8x64, .f32⟩
  | 15 => ⟨S1x2x8192x8x64, .f32⟩
  | 16 => ⟨S2x2x8192x8x64, .f32⟩
  | 17 => ⟨S1x2x8192x8x64, .f32⟩
  | 18 => ⟨S2x8192x8x64, .f32⟩
  | 19 => ⟨S2x8192x512, .f32⟩
  | 20 => ⟨S1x2x8192x8x64, .f32⟩
  | 21 => ⟨S2x8192x8x64, .f32⟩
  | 22 => ⟨S2x8192x512, .f32⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_c : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev main_v51_3 : Ref sig .tc := ⟨.hbm, 67, rfl⟩
abbrev main_v51_4 : Ref sig .tc := ⟨.hbm, 68, rfl⟩
abbrev main_v51_5 : Ref sig .tc := ⟨.hbm, 69, rfl⟩
abbrev main_v51_6 : Ref sig .tc := ⟨.hbm, 70, rfl⟩
abbrev main_v51_7 : Ref sig .tc := ⟨.hbm, 71, rfl⟩
abbrev main_v51_8 : Ref sig .tc := ⟨.hbm, 72, rfl⟩
abbrev main_while0c_c_9 : Ref sig .tc := ⟨.hbm, 73, rfl⟩
abbrev main_while0c_v67 : Ref sig .tc := ⟨.hbm, 74, rfl⟩
abbrev main_while0b_call6_c : Ref sig .tc := ⟨.hbm, 75, rfl⟩
abbrev main_while0b_call6_c_0 : Ref sig .tc := ⟨.hbm, 76, rfl⟩
abbrev main_while0b_call6_c_1 : Ref sig .tc := ⟨.hbm, 77, rfl⟩
abbrev main_while0b_call6_c_2 : Ref sig .tc := ⟨.hbm, 78, rfl⟩
abbrev main_while0b_call6_v0 : Ref sig .tc := ⟨.hbm, 79, rfl⟩
abbrev main_while0b_v67 : Ref sig .tc := ⟨.hbm, 80, rfl⟩
abbrev main_while0b_call7_c : Ref sig .tc := ⟨.hbm, 81, rfl⟩
abbrev main_while0b_call7_c_0 : Ref sig .tc := ⟨.hbm, 82, rfl⟩
abbrev main_while0b_call7_c_1 : Ref sig .tc := ⟨.hbm, 83, rfl⟩
abbrev main_while0b_call7_c_2 : Ref sig .tc := ⟨.hbm, 84, rfl⟩
abbrev main_while0b_call7_v0 : Ref sig .tc := ⟨.hbm, 85, rfl⟩
abbrev main_while0b_v68 : Ref sig .tc := ⟨.hbm, 86, rfl⟩
abbrev main_while0b_call8_c : Ref sig .tc := ⟨.hbm, 87, rfl⟩
abbrev main_while0b_call8_c_0 : Ref sig .tc := ⟨.hbm, 88, rfl⟩
abbrev main_while0b_call8_c_1 : Ref sig .tc := ⟨.hbm, 89, rfl⟩
abbrev main_while0b_call8_c_2 : Ref sig .tc := ⟨.hbm, 90, rfl⟩
abbrev main_while0b_call8_v0 : Ref sig .tc := ⟨.hbm, 91, rfl⟩
abbrev main_while0b_v69 : Ref sig .tc := ⟨.hbm, 92, rfl⟩
abbrev main_while0b_call9_c : Ref sig .tc := ⟨.hbm, 93, rfl⟩
abbrev main_while0b_call9_c_0 : Ref sig .tc := ⟨.hbm, 94, rfl⟩
abbrev main_while0b_call9_c_1 : Ref sig .tc := ⟨.hbm, 95, rfl⟩
abbrev main_while0b_call9_c_2 : Ref sig .tc := ⟨.hbm, 96, rfl⟩
abbrev main_while0b_call9_v0 : Ref sig .tc := ⟨.hbm, 97, rfl⟩
abbrev main_while0b_v70 : Ref sig .tc := ⟨.hbm, 98, rfl⟩
abbrev main_while0b_call10_c : Ref sig .tc := ⟨.hbm, 99, rfl⟩
abbrev main_while0b_call10_c_0 : Ref sig .tc := ⟨.hbm, 100, rfl⟩
abbrev main_while0b_call10_c_1 : Ref sig .tc := ⟨.hbm, 101, rfl⟩
abbrev main_while0b_call10_c_2 : Ref sig .tc := ⟨.hbm, 102, rfl⟩
abbrev main_while0b_call10_v0 : Ref sig .tc := ⟨.hbm, 103, rfl⟩
abbrev main_while0b_v71 : Ref sig .tc := ⟨.hbm, 104, rfl⟩
abbrev main_while0b_call11_c : Ref sig .tc := ⟨.hbm, 105, rfl⟩
abbrev main_while0b_call11_c_0 : Ref sig .tc := ⟨.hbm, 106, rfl⟩
abbrev main_while0b_call11_c_1 : Ref sig .tc := ⟨.hbm, 107, rfl⟩
abbrev main_while0b_call11_c_2 : Ref sig .tc := ⟨.hbm, 108, rfl⟩
abbrev main_while0b_call11_v0 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_call12_v0 : Ref sig .tc := ⟨.hbm, 128, rfl⟩
abbrev main_while0b_call12_c : Ref sig .tc := ⟨.hbm, 129, rfl⟩
abbrev main_while0b_call12_c_0 : Ref sig .tc := ⟨.hbm, 130, rfl⟩
abbrev main_while0b_call12_c_1 : Ref sig .tc := ⟨.hbm, 131, rfl⟩
abbrev main_while0b_call12_c_2 : Ref sig .tc := ⟨.hbm, 132, rfl⟩
abbrev main_while0b_v90 : Ref sig .tc := ⟨.hbm, 133, rfl⟩
abbrev main_while0b_c_9 : Ref sig .tc := ⟨.hbm, 134, rfl⟩
abbrev main_while0b_v91 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩

abbrev nD : Nat := 1
abbrev τ : Topo := Topo.v7x

variable {F : FTy → Type} [FloatOps F]

abbrev main_while0_count : Scf.Loop 32 := ⟨0#32, 8192#32, 1#32⟩
-- ==== Project.lean ====
abbrev S2x8192x1024 : Shape := ⟨3, ![2, 8192, 1024]⟩
abbrev S1024 : Shape := ⟨1, ![1024]⟩
abbrev S1024x5632 : Shape := ⟨2, ![1024, 5632]⟩
abbrev S2304 : Shape := ⟨1, ![2304]⟩
abbrev S2x512 : Shape := ⟨2, ![2, 512]⟩
abbrev S2x64x512 : Shape := ⟨3, ![2, 64, 512]⟩
abbrev S512 : Shape := ⟨1, ![512]⟩
abbrev S8x64 : Shape := ⟨2, ![8, 64]⟩
abbrev S1x2304 : Shape := ⟨2, ![1, 2304]⟩
abbrev S1x1024 : Shape := ⟨2, ![1, 1024]⟩
abbrev S1x64x512 : Shape := ⟨3, ![1, 64, 512]⟩
abbrev S64x512 : Shape := ⟨2, ![64, 512]⟩
abbrev S_ : Shape := ⟨0, ![]⟩
abbrev S64x1024 : Shape := ⟨2, ![64, 1024]⟩
abbrev S128x1024 : Shape := ⟨2, ![128, 1024]⟩
abbrev S1x512 : Shape := ⟨2, ![1, 512]⟩
abbrev S2x8192x1280 : Shape := ⟨3, ![2, 8192, 1280]⟩
abbrev S2x8192x2048 : Shape := ⟨3, ![2, 8192, 2048]⟩
abbrev S2x8192x512 : Shape := ⟨3, ![2, 8192, 512]⟩
abbrev S2x2x8192x512 : Shape := ⟨4, ![2, 2, 8192, 512]⟩
abbrev S1x256x1024 : Shape := ⟨3, ![1, 256, 1024]⟩
abbrev S1x16x1024 : Shape := ⟨3, ![1, 16, 1024]⟩
abbrev S1x256x1280 : Shape := ⟨3, ![1, 256, 1280]⟩
abbrev S1x256x2048 : Shape := ⟨3, ![1, 256, 2048]⟩
abbrev S1x256x512 : Shape := ⟨3, ![1, 256, 512]⟩
abbrev S2x1x256x512 : Shape := ⟨4, ![2, 1, 256, 512]⟩
abbrev S288x1024 : Shape := ⟨2, ![288, 1024]⟩
abbrev S288x2304 : Shape := ⟨2, ![288, 2304]⟩
abbrev S16x1024 : Shape := ⟨2, ![16, 1024]⟩
abbrev S16 : Shape := ⟨1, ![16]⟩
abbrev S16x1 : Shape := ⟨2, ![16, 1]⟩
abbrev S256x1024 : Shape := ⟨2, ![256, 1024]⟩
abbrev S256 : Shape := ⟨1, ![256]⟩
abbrev S256x1 : Shape := ⟨2, ![256, 1]⟩
abbrev S1024x2304 : Shape := ⟨2, ![1024, 2304]⟩
abbrev S512x512 : Shape := ⟨2, ![512, 512]⟩
abbrev S256x512 : Shape := ⟨2, ![256, 512]⟩
abbrev S288x512 : Shape := ⟨2, ![288, 512]⟩
abbrev S1024x512 : Shape := ⟨2, ![1024, 512]⟩
abbrev S1024x768 : Shape := ⟨2, ![1024, 768]⟩
abbrev S256x768 : Shape := ⟨2, ![256, 768]⟩
abbrev S1x256x768 : Shape := ⟨3, ![1, 256, 768]⟩
abbrev S256x256 : Shape := ⟨2, ![256, 256]⟩
abbrev S288x256 : Shape := ⟨2, ![288, 256]⟩
abbrev S1x256 : Shape := ⟨2, ![1, 256]⟩
abbrev S256x128 : Shape := ⟨2, ![256, 128]⟩
abbrev S1x1x256x512 : Shape := ⟨4, ![1, 1, 256, 512]⟩

abbrev nBuf : Space → Nat
  | .hbm => 53
  | .vmem => 38
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2304, .f32⟩
  | .hbm, ⟨4, _⟩ => ⟨S2x512, .f32⟩
  | .hbm, ⟨5, _⟩ => ⟨S2x64x512, .f32⟩
  | .hbm, ⟨6, _⟩ => ⟨S2x512, .f32⟩
  | .hbm, ⟨7, _⟩ => ⟨S2x64x512, .f32⟩
  | .hbm, ⟨8, _⟩ => ⟨S512, .f32⟩
  | .hbm, ⟨9, _⟩ => ⟨S512, .f32⟩
  | .hbm, ⟨10, _⟩ => ⟨S8x64, .f32⟩
  | .hbm, ⟨11, _⟩ => ⟨S1x2304, .f32⟩
  | .hbm, ⟨12, _⟩ => ⟨S1x1024, .f32⟩
  | .hbm, ⟨13, _⟩ => ⟨S1x64x512, .f32⟩
  | .hbm, ⟨14, _⟩ => ⟨S64x512, .f32⟩
  | .hbm, ⟨15, _⟩ => ⟨S_, .f32⟩
  | .hbm, ⟨16, _⟩ => ⟨S64x512, .f32⟩
  | .hbm, ⟨17, _⟩ => ⟨S1x64x512, .f32⟩
  | .hbm, ⟨18, _⟩ => ⟨S64x512, .f32⟩
  | .hbm, ⟨19, _⟩ => ⟨S64x1024, .f32⟩
  | .hbm, ⟨20, _⟩ => ⟨S1x64x512, .f32⟩
  | .hbm, ⟨21, _⟩ => ⟨S64x512, .f32⟩
  | .hbm, ⟨22, _⟩ => ⟨S64x1024, .f32⟩
  | .hbm, ⟨23, _⟩ => ⟨S128x1024, .f32⟩
  | .hbm, ⟨24, _⟩ => ⟨S128x1024, .bf16⟩
  | .hbm, ⟨25, _⟩ => ⟨S1x1024, .f32⟩
  | .hbm, ⟨26, _⟩ => ⟨S1x64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S1x64x512, .f32⟩
  | .hbm, ⟨31, _⟩ => ⟨S64x512, .f32⟩
  | .hbm, ⟨32, _⟩ => ⟨S64x1024, .f32⟩
  | .hbm, ⟨33, _⟩ => ⟨S1x64x512, .f32⟩
  | .hbm, ⟨34, _⟩ => ⟨S64x512, .f32⟩
  | .hbm, ⟨35, _⟩ => ⟨S64x1024, .f32⟩
  | .hbm, ⟨36, _⟩ => ⟨S128x1024, .f32⟩
  | .hbm, ⟨37, _⟩ => ⟨S128x1024, .bf16⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x1024, .f32⟩
  | .hbm, ⟨42, _⟩ => ⟨S1024x5632, .bf16⟩
  | .hbm, ⟨43, _⟩ => ⟨S2x8192x1280, .f32⟩
  | .hbm, ⟨44, _⟩ => ⟨S2x8192x2048, .bf16⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x2x8192x512, .f32⟩
  | .hbm, ⟨49, _⟩ => ⟨S2x2x8192x512, .f32⟩
  | .hbm, ⟨50, _⟩ => ⟨S2x2x8192x512, .f32⟩
  | .hbm, ⟨51, _⟩ => ⟨S2x8192x512, .f32⟩
  | .hbm, ⟨52, _⟩ => ⟨S2x8192x512, .f32⟩
  | .local _ .vmem, ⟨0, _⟩ => ⟨S1x256x1024, .f32⟩
  | .local _ .vmem, ⟨1, _⟩ => ⟨S1x256x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x5632, .bf16⟩
  | .local _ .vmem, ⟨8, _⟩ => ⟨S1x2304, .f32⟩
  | .local _ .vmem, ⟨9, _⟩ => ⟨S1x1024, .f32⟩
  | .local _ .vmem, ⟨10, _⟩ => ⟨S128x1024, .bf16⟩
  | .local _ .vmem, ⟨11, _⟩ => ⟨S1x1024, .f32⟩
  | .local _ .vmem, ⟨12, _⟩ => ⟨S128x1024, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x256x1280, .f32⟩
  | .local _ .vmem, ⟨17, _⟩ => ⟨S1x256x1280, .f32⟩
  | .local _ .vmem, ⟨18, _⟩ => ⟨S1x256x2048, .bf16⟩
  | .local _ .vmem, ⟨19, _⟩ => ⟨S1x256x2048, .bf16⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S2x1x256x512, .f32⟩
  | .local _ .vmem, ⟨27, _⟩ => ⟨S2x1x256x512, .f32⟩
  | .local _ .vmem, ⟨28, _⟩ => ⟨S2x1x256x512, .f32⟩
  | .local _ .vmem, ⟨29, _⟩ => ⟨S2x1x256x512, .f32⟩
  | .local _ .vmem, ⟨30, _⟩ => ⟨S2x1x256x512, .f32⟩
  | .local _ .vmem, ⟨31, _⟩ => ⟨S2x1x256x512, .f32⟩
  | .local _ .vmem, ⟨32, _⟩ => ⟨S1x256x512, .f32⟩
  | .local _ .vmem, ⟨33, _⟩ => ⟨S1x256x512, .f32⟩
  | .local _ .vmem, ⟨34, _⟩ => ⟨S1x256x512, .f32⟩
  | .local _ .vmem, ⟨35, _⟩ => ⟨S1x256x512, .f32⟩
  | .local _ .vmem, ⟨36, _⟩ => ⟨S288x1024, .bf16⟩
  | .local _ .vmem, ⟨37, _⟩ => ⟨S288x2304, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v30_4 : Ref sig .tc := ⟨.hbm, 47, rfl⟩
abbrev main_v30_5 : Ref sig .tc := ⟨.hbm, 48, rfl⟩
abbrev main_v30_6 : Ref sig .tc := ⟨.hbm, 49, rfl⟩
abbrev main_v30_7 : Ref sig .tc := ⟨.hbm, 50, rfl⟩
abbrev main_v30_8 : Ref sig .tc := ⟨.hbm, 51, rfl⟩
abbrev main_v30_9 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S2x1x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S2x1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ProjectedIdeal.lean ====
abbrev S2x8192x1024 : Shape := ⟨3, ![2, 8192, 1024]⟩
abbrev S1024 : Shape := ⟨1, ![1024]⟩
abbrev S1024x5632 : Shape := ⟨2, ![1024, 5632]⟩
abbrev S2304 : Shape := ⟨1, ![2304]⟩
abbrev S2x512 : Shape := ⟨2, ![2, 512]⟩
abbrev S2x64x512 : Shape := ⟨3, ![2, 64, 512]⟩
abbrev S512 : Shape := ⟨1, ![512]⟩
abbrev S8x64 : Shape := ⟨2, ![8, 64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2304 : Shape := ⟨3, ![2, 8192, 2304]⟩
abbrev S2x1x2304 : Shape := ⟨3, ![2, 1, 2304]⟩
abbrev S2x8191x2304 : Shape := ⟨3, ![2, 8191, 2304]⟩
abbrev S1x1x2304 : Shape := ⟨3, ![1, 1, 2304]⟩
abbrev S2x8192x512 : Shape := ⟨3, ![2, 8192, 512]⟩
abbrev S2x8192x128 : Shape := ⟨3, ![2, 8192, 128]⟩
abbrev S2x8192x2x64 : Shape := ⟨4, ![2, 8192, 2, 64]⟩
abbrev S2x1x1x512 : Shape := ⟨4, ![2, 1, 1, 512]⟩
abbrev S2x2x8192x512 : Shape := ⟨4, ![2, 2, 8192, 512]⟩
abbrev S1x1x512 : Shape := ⟨3, ![1, 1, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x2x8192x512 : Shape := ⟨4, ![1, 2, 8192, 512]⟩
abbrev S1x1x1x512 : Shape := ⟨4, ![1, 1, 1, 512]⟩
abbrev S1x1x8x64 : Shape := ⟨4, ![1, 1, 8, 64]⟩
abbrev S2x8192x1280 : Shape := ⟨3, ![2, 8192, 1280]⟩
abbrev S2x8192x2048 : Shape := ⟨3, ![2, 8192, 2048]⟩

abbrev nBuf : Space → Nat
  | .hbm => 139
  | .vmem => 0
  | .smem => 0
  | _ => 0

abbrev hbmTy0_0 (i : Nat) : BufTy := match i % 128 with
  | 0 => ⟨S2x8192x1024, .f32⟩
  | 1 => ⟨S1024, .f32⟩
  | 2 => ⟨S1024x5632, .f32⟩
  | 3 => ⟨S2304, .f32⟩
  | 4 => ⟨S2x512, .f32⟩
  | 5 => ⟨S2x64x512, .f32⟩
  | 6 => ⟨S2x512, .f32⟩
  | 7 => ⟨S2x64x512, .f32⟩
  | 8 => ⟨S512, .f32⟩
  | 9 => ⟨S512, .f32⟩
  | 10 => ⟨S8x64, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S2x8192x5632, .f32⟩
  | 28 => ⟨S2x8192x2304, .f32⟩
  | 29 => ⟨S2x1x2304, .f32⟩
  | 30 => ⟨S_, .f32⟩
  | 31 => ⟨S2x1x2304, .f32⟩
  | 32 => ⟨S2x8191x2304, .f32⟩
  | 33 => ⟨S2x8192x2304, .f32⟩
  | 34 => ⟨S2x8191x2304, .f32⟩
  | 35 => ⟨S2x8192x2304, .f32⟩
  | 36 => ⟨S2x8192x2304, .f32⟩
  | 37 => ⟨S_, .f32⟩
  | 38 => ⟨S2x8192x2304, .f32⟩
  | 39 => ⟨S2x8192x2304, .f32⟩
  | 40 => ⟨S2x8192x2304, .f32⟩
  | 41 => ⟨S1x1x2304, .f32⟩
  | 42 => ⟨S2x8192x2304, .f32⟩
  | 43 => ⟨S2x8192x2304, .f32⟩
  | 44 => ⟨S2x8192x2304, .f32⟩
  | 45 => ⟨S2x8192x512, .f32⟩
  | 46 => ⟨S2x8192x512, .f32⟩
  | 47 => ⟨S2x8192x512, .f32⟩
  | 48 => ⟨S2x8192x512, .f32⟩
  | 49 => ⟨S2x8192x128, .f32⟩
  | 50 => ⟨S2x8192x2x64, .f32⟩
  | 51 => ⟨S2x8192x128, .f32⟩
  | 52 => ⟨S2x8192x2x64, .f32⟩
  | 53 => ⟨S2x1x1x512, .f32⟩
  | 54 => ⟨S2x8192x2x64, .f32⟩
  | 55 => ⟨S2x2x8192x512, .f32⟩
  | 56 => ⟨S2x2x8192x512, .f32⟩
  | 57 => ⟨S2x2x8192x512, .f32⟩
  | 58 => ⟨S2x2x8192x512, .f32⟩
  | 59 => ⟨S2x2x8192x512, .f32⟩
  | 60 => ⟨S_, .f32⟩
  | 61 => ⟨S2x2x8192x512, .f32⟩
  | 62 => ⟨S2x2x8192x512, .f32⟩
  | 63 => ⟨S_, .f32⟩
  | 64 => ⟨S2x2x8192x512, .f32⟩
  | 65 => ⟨S2x2x8192x512, .f32⟩
  | 66 => ⟨S_, .f32⟩
  | 67 => ⟨S2x2x8192x512, .f32⟩
  | 68 => ⟨S2x2x8192x512, .f32⟩
  | 69 => ⟨S2x1x1x512, .f32⟩
  | 70 => ⟨S2x2x8192x512, .f32⟩
  | 71 => ⟨S2x2x8192x512, .f32⟩
  | 72 => ⟨S2x2x8192x512, .f32⟩
  | 73 => ⟨S2x2x8192x512, .f32⟩
  | 74 => ⟨S2x2x8192x512, .f32⟩
  | 75 => ⟨S_, .f32⟩
  | 76 => ⟨S2x2x8192x512, .f32⟩
  | 77 => ⟨S2x2x8192x512, .f32⟩
  | 78 => ⟨S_, .f32⟩
  | 79 => ⟨S2x2x8192x512, .f32⟩
  | 80 => ⟨S2x2x8192x512, .f32⟩
  | 81 => ⟨S1x1x512, .f32⟩
  | 82 => ⟨S2x8192x512, .f32⟩
  | 83 => ⟨S2x8192x512, .f32⟩
  | 84 => ⟨S2x8192x8x64, .f32⟩
  | 85 => ⟨S2x8192x8x64, .f32⟩
  | 86 => ⟨S_, .f32⟩
  | 87 => ⟨S2x8192x8, .f32⟩
  | 88 => ⟨S2x8192x8x1, .f32⟩
  | 89 => ⟨S_, .f32⟩
  | 90 => ⟨S2x8192x8x1, .f32⟩
  | 91 => ⟨S2x8192x8x1, .f32⟩
  | 92 => ⟨S2x8192x8x1, .f32⟩
  | 93 => ⟨S2x8192x8x64, .f32⟩
  | 94 => ⟨S2x8192x8x64, .f32⟩
  | 95 => ⟨S2x8192x512, .f32⟩
  | 96 => ⟨S1x2x8192x512, .f32⟩
  | 97 => ⟨S_, .f32⟩
  | 98 => ⟨S2x2x8192x512, .f32⟩
  | 99 => ⟨S2x2x8192x512, .f32⟩
  | 100 => ⟨S1x1x1x512, .f32⟩
  | 101 => ⟨S2x2x8192x512, .f32⟩
  | 102 => ⟨S2x2x8192x512, .f32⟩
  | 103 => ⟨S_, .f32⟩
  | 104 => ⟨S2x2x8192x512, .f32⟩
  | 105 => ⟨S2x2x8192x512, .f32⟩
  | 106 => ⟨S2x2x8192x512, .f32⟩
  | 107 => ⟨S2x2x8192x512, .f32⟩
  | 108 => ⟨S2x8192x8x64, .f32⟩
  | 109 => ⟨S_, .f32⟩
  | 110 => ⟨S2x8192x512, .f32⟩
  | 111 => ⟨S2x8192x8x64, .f32⟩
  | 112 => ⟨S2x8192x8x64, .f32⟩
  | 113 => ⟨S1x1x8x64, .f32⟩
  | 114 => ⟨S2x8192x8x64, .f32⟩
  | 115 => ⟨S2x8192x8x64, .f32⟩
  | 116 => ⟨S_, .f32⟩
  | 117 => ⟨S2x8192x8, .f32⟩
  | 118 => ⟨S2x8192x8x1, .f32⟩
  | 119 => ⟨S2x8192x8x64, .f32⟩
  | 120 => ⟨S2x8192x8x64, .f32⟩
  | 121 => ⟨S2x8192x8x64, .f32⟩
  | 122 => ⟨S2x8192x512, .f32⟩
  | 123 => ⟨S2x8192x1280, .f32⟩
  | 124 => ⟨S2x8192x2048, .f32⟩
  | 125 => ⟨S2x8192x2048, .bf16⟩
  | 126 => ⟨S2x8192x512, .f32⟩
  | 127 => ⟨S1x2x8192x512, .f32⟩
  | _ => ⟨S2x8192x1024, .f32⟩

abbrev hbmTy0_1 (i : Nat) : BufTy := match i % 128 with
  | 0 => ⟨S2x2x8192x512, .f32⟩
  | 1 => ⟨S2x2x8192x512, .f32⟩
  | 2 => ⟨S2x8192x512, .f32⟩
  | 3 => ⟨S2x8192x512, .f32⟩
  | 4 => ⟨S_, .f32⟩
  | 5 => ⟨S2x8192x512, .f32⟩
  | 6 => ⟨S2x8192x512, .f32⟩
  | 7 => ⟨S_, .f32⟩
  | 8 => ⟨S2x8192x512, .f32⟩
  | 9 => ⟨S2x8192x512, .f32⟩
  | 10 => ⟨S2x8192x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_cst_16 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x2048 : Shape := ⟨2, ![16384, 2048]⟩
abbrev S2x16384x256 : Shape := ⟨3, ![2, 16384, 256]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S1x512 : Shape := ⟨2, ![1, 512]⟩
abbrev S1x1024 : Shape := ⟨2, ![1, 1024]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩
abbrev S512x1 : Shape := ⟨2, ![512, 1]⟩

abbrev nBuf : Space → Nat
  | .hbm => 25
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .bf16⟩
  | .hbm, ⟨6, _⟩ => ⟨S16384x2048, .bf16⟩
  | .hbm, ⟨7, _⟩ => ⟨S2x16384x256, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S256x1024, .f32⟩
  | .hbm, ⟨16, _⟩ => ⟨S1x512, .f32⟩
  | .hbm, ⟨17, _⟩ => ⟨S1x512, .f32⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1024x1024, .bf16⟩
  | .hbm, ⟨23, _⟩ => ⟨S256x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S1x512x256, .f32⟩
  | .local _ .vmem, ⟨15, _⟩ => ⟨S1x512x256, .f32⟩
  | .local _ .vmem, ⟨16, _⟩ => ⟨S1x512, .f32⟩
  | .local _ .vmem, ⟨17, _⟩ => ⟨S1x512, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergedIdeal.lean ====
abbrev S16384x1024 : Shape := ⟨2, ![16384, 1024]⟩
abbrev S16384x512 : Shape := ⟨2, ![16384, 512]⟩
abbrev S16384x2048 : Shape := ⟨2, ![16384, 2048]⟩
abbrev S2x16384x256 : Shape := ⟨3, ![2, 16384, 256]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S1x512 : Shape := ⟨2, ![1, 512]⟩
abbrev S16384 : Shape := ⟨1, ![16384]⟩
abbrev S16384x1 : Shape := ⟨2, ![16384, 1]⟩
abbrev S1x1024 : Shape := ⟨2, ![1, 1024]⟩
abbrev S1x16384x256 : Shape := ⟨3, ![1, 16384, 256]⟩
abbrev S16384x256 : Shape := ⟨2, ![16384, 256]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .bf16⟩
  | .hbm, ⟨6, _⟩ => ⟨S16384x2048, .bf16⟩
  | .hbm, ⟨7, _⟩ => ⟨S2x16384x256, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S256x1024, .f32⟩
  | .hbm, ⟨16, _⟩ => ⟨S16384x512, .f32⟩
  | .hbm, ⟨17, _⟩ => ⟨S16384x8x64, .f32⟩
  | .hbm, ⟨18, _⟩ => ⟨S_, .f32⟩
  | .hbm, ⟨19, _⟩ => ⟨S16384x8, .f32⟩
  | .hbm, ⟨20, _⟩ => ⟨S16384x8x1, .f32⟩
  | .hbm, ⟨21, _⟩ => ⟨S_, .f32⟩
  | .hbm, ⟨22, _⟩ => ⟨S16384x8x1, .f32⟩
  | .hbm, ⟨23, _⟩ => ⟨S16384x8x1, .f32⟩
  | .hbm, ⟨24, _⟩ => ⟨S16384x8x64, .f32⟩
  | .hbm, ⟨25, _⟩ => ⟨S16384x8x64, .f32⟩
  | .hbm, ⟨26, _⟩ => ⟨S16384x8x64, .f32⟩
  | .hbm, ⟨27, _⟩ => ⟨S_, .f32⟩
  | .hbm, ⟨28, _⟩ => ⟨S16384x8, .f32⟩
  | .hbm, ⟨29, _⟩ => ⟨S16384x8x1, .f32⟩
  | .hbm, ⟨30, _⟩ => ⟨S_, .f32⟩
  | .hbm, ⟨31, _⟩ => ⟨S16384x8x1, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S16384x8x1, .f32⟩
  | .hbm, ⟨37, _⟩ => ⟨S16384x8x64, .f32⟩
  | .hbm, ⟨38, _⟩ => ⟨S16384x8x64, .f32⟩
  | .hbm, ⟨39, _⟩ => ⟨S16384x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x1024, .f32⟩
  | .hbm, ⟨49, _⟩ => ⟨S16384x512, .f32⟩
  | .hbm, ⟨50, _⟩ => ⟨S16384x1024, .f32⟩
  | .hbm, ⟨51, _⟩ => ⟨S16384x1024, .bf16⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .bf16⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S1x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S16384x1024, .f32⟩
  | .hbm, ⟨100, _⟩ => ⟨S16384x1024, .f32⟩
  | .hbm, ⟨101, _⟩ => ⟨S1x16384x256, .f32⟩
  | .hbm, ⟨102, _⟩ => ⟨S16384x256, .f32⟩
  | .hbm, ⟨103, _⟩ => ⟨S16384x1024, .f32⟩
  | .hbm, ⟨104, _⟩ => ⟨S16384x1024, .f32⟩
  | .hbm, ⟨105, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Proof.Finite.lean ====
/- The precondition read: every element of the recurrence's inputs is a real number. -/
module

public import proofs.«01_k».proof.Defs
public import Idealize.ShloMosaic.Lib.Pointwise
public import Idealize.ShloMosaic.Lib.IdealHost

@[expose] public section

noncomputable section

namespace Cert.Finite

open Idealize.ShloMosaic Cert.Pre_finite

theorem ofBits_inf : Ideal.ofBits .f32 0x7F800000#32 = ⊤ := by simp [Ideal.ofBits, Ideal.ieee]

theorem real_of_abs_lt (x : EReal) (h : max x (-x) < ⊤) : x = (x.toReal : EReal) := by
  refine (EReal.coe_toReal (fun e => ?_) (fun e => ?_)).symm
  · rw [e] at h; simp at h
  · rw [e] at h; simp at h

/-- An element whose magnitude compares below infinity is a real number. -/
theorem elt {s : Shape} (hb : S_.BroadcastsInDim s (![] : Fin 0 → Fin s.rank)) (x : FVec Ideal s .f32)
    (h : cmpf .olt (Host.absf x) (broadcastInDim s ![] hb (constant (F := Ideal) S_ .f32 0x7F800000#32)) = fun _ => 1#1) (i : s.Idx) :
    x i = ((x i : EReal).toReal : EReal) := by
  have h := congrFun h i
  have e : broadcastInDim s ![] hb (constant (F := Ideal) S_ .f32 0x7F800000#32) i = (⊤ : EReal) :=
    (broadcastInDim_apply _ _ _ _ (fun a => a.elim0) (fun a => a.elim0)).trans ofBits_inf
  apply real_of_abs_lt
  by_contra hn
  have h' : Ideal.cmp .olt (max (x i) (-x i)) (broadcastInDim s ![] hb (constant (F := Ideal) S_ .f32 0x7F800000#32) i) = 1#1 := h
  rw [e] at h'
  simp [Ideal.cmp, hn] at h'

end Cert.Finite

end
-- ==== Proof.RefEntry.lean ====
/- What the reference's loop starts from. -/
module

public import proofs.«01_k».proof.Proof.Gen.ReferenceIdeal.Run
public import Idealize.ShloMosaic.Lib.Pointwise

@[expose] public section

set_option maxRecDepth 16384

noncomputable section

namespace Cert.ReferenceIdeal.Scan

open Idealize.ShloMosaic Idealize.ShloMosaic.TcCoe Idealize.ShloMosaic.StableHlo
open Cert.ReferenceIdeal Cert.ReferenceIdeal.Gen Cert.ReferenceIdeal.Value

/-- One array for both directions, the second from its last time to its first, cut into heads, time first. -/
def both (x : FVec Ideal S2x8192x512 .f32) : FVec Ideal S8192x2x2x8x64 .f32 :=
  transpose S8192x2x2x8x64 [2, 0, 1, 3, 4] (shapeCast S2x2x8192x8x64 (concatenate S2x2x8192x512 0
    [⟨S1x2x8192x512, broadcastInDim S1x2x8192x512 ![1, 2, 3] bcast_S2x8192x512_S1x2x8192x512_1_2_3 x⟩,
     ⟨S1x2x8192x512, broadcastInDim S1x2x8192x512 ![1, 2, 3] bcast_S2x8192x512_S1x2x8192x512_1_2_3 (Host.reverse [1] x)⟩]
    concatenates_S1x2x8192x512_S1x2x8192x512_S2x2x8192x512_d0) shapeCasts_S2x2x8192x512_S2x2x8192x8x64)
    transposes_S2x2x8192x8x64_S8192x2x2x8x64_2_0_1_3_4

/-- An array of both directions, the second turned round in time, cut into heads, time first. -/
def turned (x : FVec Ideal S2x2x8192x512 .f32) : FVec Ideal S8192x2x2x8x64 .f32 :=
  transpose S8192x2x2x8x64 [2, 0, 1, 3, 4] (shapeCast S2x2x8192x8x64 (concatenate S2x2x8192x512 0
    [⟨S1x2x8192x512, broadcastInDim S1x2x8192x512 ![1, 2, 3] bcast_S2x8192x512_S1x2x8192x512_1_2_3
        (shapeCast S2x8192x512 (extractStridedSlice S1x2x8192x512 ![0, 0, 0, 0] x slices_S2x2x8192x512_S1x2x8192x512_0_0_0_0) shapeCasts_S1x2x8192x512_S2x8192x512)⟩,
     ⟨S1x2x8192x512, broadcastInDim S1x2x8192x512 ![1, 2, 3] bcast_S2x8192x512_S1x2x8192x512_1_2_3 (Host.reverse [1]
        (shapeCast S2x8192x512 (extractStridedSlice S1x2x8192x512 ![1, 0, 0, 0] x slices_S2x2x8192x512_S1x2x8192x512_1_0_0_0) shapeCasts_S1x2x8192x512_S2x8192x512))⟩]
    concatenates_S1x2x8192x512_S1x2x8192x512_S2x2x8192x512_d0) shapeCasts_S2x2x8192x512_S2x2x8192x8x64)
    transposes_S2x2x8192x8x64_S8192x2x2x8x64_2_0_1_3_4

/-- A lane of a head. -/
def hl (h : Fin 8) (j : Fin 64) : Fin 512 := ⟨64 * h.val + j.val, by omega⟩

/-- The time of a step. -/
def tmR (d : Fin 2) (n : Fin 8192) : Fin 8192 := if d = 0 then n else ⟨8191 - n.val, by omega⟩

theorem tr_at (x : FVec Ideal S2x2x8192x8x64 .f32) (n : Fin 8192) (d b : Fin 2) (h : Fin 8) (j : Fin 64) :
    transpose S8192x2x2x8x64 [2, 0, 1, 3, 4] x transposes_S2x2x8192x8x64_S8192x2x2x8x64_2_0_1_3_4 (ix5 n d b h j) = x (ix5 d b n h j) := by
  pointwise

theorem cut_at (x : FVec Ideal S2x2x8192x512 .f32) (n : Fin 8192) (d b : Fin 2) (h : Fin 8) (j : Fin 64) :
    shapeCast S2x2x8192x8x64 x shapeCasts_S2x2x8192x512_S2x2x8192x8x64 (ix5 d b n h j) = x (ix4 d b n (hl h j)) :=
  shapeCast_apply x _ _ _ (by
    rw [Shape.rowMajor_val_five, Shape.rowMajor_val_four]
    show ((d.val * 2 + b.val) * 8192 + n.val) * 512 + (64 * h.val + j.val) = (((d.val * 2 + b.val) * 8192 + n.val) * 8 + h.val) * 64 + j.val
    omega)

theorem cat_0 (x y : FVec Ideal S1x2x8192x512 .f32) (n : Fin 8192) (b : Fin 2) (l : Fin 512) :
    concatenate S2x2x8192x512 0 [⟨S1x2x8192x512, x⟩, ⟨S1x2x8192x512, y⟩] concatenates_S1x2x8192x512_S1x2x8192x512_S2x2x8192x512_d0 (ix4 0 b n l) = x (ix4 0 b n l) := by
  pointwise

theorem cat_1 (x y : FVec Ideal S1x2x8192x512 .f32) (n : Fin 8192) (b : Fin 2) (l : Fin 512) :
    concatenate S2x2x8192x512 0 [⟨S1x2x8192x512, x⟩, ⟨S1x2x8192x512, y⟩] concatenates_S1x2x8192x512_S1x2x8192x512_S2x2x8192x512_d0 (ix4 1 b n l) = y (ix4 0 b n l) := by
  pointwise

theorem up_at (x : FVec Ideal S2x8192x512 .f32) (n : Fin 8192) (b : Fin 2) (l : Fin 512) :
    broadcastInDim S1x2x8192x512 ![1, 2, 3] bcast_S2x8192x512_S1x2x8192x512_1_2_3 x (ix4 0 b n l) = x (ix3 b n l) := by
  pointwise

theorem rev_eq (n : Fin 8192) : n.rev = tmR 1 n := Fin.ext (show 8192 - (n.val + 1) = 8191 - n.val by omega)

theorem rev_at (x : FVec Ideal S2x8192x512 .f32) (n : Fin 8192) (b : Fin 2) (l : Fin 512) :
    Host.reverse [1] x (ix3 b n l) = x (ix3 b (tmR 1 n) l) := by
  rw [← rev_eq]
  pointwise
  simp

theorem down_0 (x : FVec Ideal S2x2x8192x512 .f32) (n : Fin 8192) (b : Fin 2) (l : Fin 512) :
    extractStridedSlice S1x2x8192x512 ![0, 0, 0, 0] x slices_S2x2x8192x512_S1x2x8192x512_0_0_0_0 (ix4 0 b n l) = x (ix4 0 b n l) := by
  pointwise

theorem down_1 (x : FVec Ideal S2x2x8192x512 .f32) (n : Fin 8192) (b : Fin 2) (l : Fin 512) :
    extractStridedSlice S1x2x8192x512 ![1, 0, 0, 0] x slices_S2x2x8192x512_S1x2x8192x512_1_0_0_0 (ix4 0 b n l) = x (ix4 1 b n l) := by
  pointwise

theorem flat_at (x : FVec Ideal S1x2x8192x512 .f32) (n : Fin 8192) (b : Fin 2) (l : Fin 512) :
    shapeCast S2x8192x512 x shapeCasts_S1x2x8192x512_S2x8192x512 (ix3 b n l) = x (ix4 0 b n l) := by
  pointwise

theorem both_0 (x : FVec Ideal S2x8192x512 .f32) (n : Fin 8192) (b : Fin 2) (h : Fin 8) (j : Fin 64) :
    both x (ix5 n 0 b h j) = x (ix3 b n (hl h j)) :=
  (tr_at _ n 0 b h j).trans ((cut_at _ n 0 b h j).trans ((cat_0 _ _ n b (hl h j)).trans (up_at x n b (hl h j))))

theorem both_1 (x : FVec Ideal S2x8192x512 .f32) (n : Fin 8192) (b : Fin 2) (h : Fin 8) (j : Fin 64) :
    both x (ix5 n 1 b h j) = x (ix3 b (tmR 1 n) (hl h j)) :=
  (tr_at _ n 1 b h j).trans ((cut_at _ n 1 b h j).trans ((cat_1 _ _ n b (hl h j)).trans ((up_at _ n b (hl h j)).trans (rev_at x n b (hl h j)))))

theorem both_at (x : FVec Ideal S2x8192x512 .f32) (n : Fin 8192) (d b : Fin 2) (h : Fin 8) (j : Fin 64) :
    both x (ix5 n d b h j) = x (ix3 b (tmR d n) (hl h j)) := by
  fin_cases d
  exacts [both_0 x n b h j, both_1 x n b h j]

theorem turned_0 (x : FVec Ideal S2x2x8192x512 .f32) (n : Fin 8192) (b : Fin 2) (h : Fin 8) (j : Fin 64) :
    turned x (ix5 n 0 b h j) = x (ix4 0 b n (hl h j)) :=
  (tr_at _ n 0 b h j).trans ((cut_at _ n 0 b h j).trans ((cat_0 _ _ n b (hl h j)).trans ((up_at _ n b (hl h j)).trans
    ((flat_at _ n b (hl h j)).trans (down_0 x n b (hl h j))))))

theorem turned_1 (x : FVec Ideal S2x2x8192x512 .f32) (n : Fin 8192) (b : Fin 2) (h : Fin 8) (j : Fin 64) :
    turned x (ix5 n 1 b h j) = x (ix4 1 b (tmR 1 n) (hl h j)) :=
  (tr_at _ n 1 b h j).trans ((cut_at _ n 1 b h j).trans ((cat_1 _ _ n b (hl h j)).trans ((up_at _ n b (hl h j)).trans
    ((rev_at _ n b (hl h j)).trans ((flat_at _ (tmR 1 n) b (hl h j)).trans (down_1 x (tmR 1 n) b (hl h j)))))))

theorem turned_at (x : FVec Ideal S2x2x8192x512 .f32) (n : Fin 8192) (d b : Fin 2) (h : Fin 8) (j : Fin 64) :
    turned x (ix5 n d b h j) = x (ix4 d b (tmR d n) (hl h j)) := by
  fin_cases d
  exacts [turned_0 x n b h j, turned_1 x n b h j]

variable (m : (ℓ : Loc nD τ sig) → Buf (Elt Ideal) ℓ) (c : Dev nD)

set_option maxHeartbeats 2000000 in
theorem entry_0 : entryContents preI m c (Proc.devRef .tc main_v51_0) = both (m ((c.tc : Thread nD τ).loc main_arg0)) := by
  simp only [entryContents, afterL_cons, afterL_nil]
  after_reads_simp
  rfl

set_option maxHeartbeats 2000000 in
theorem entry_1 : entryContents preI m c (Proc.devRef .tc main_v51_1) = turned (Host.exp (m ((c.tc : Thread nD τ).loc main_arg3))) := by
  simp only [entryContents, afterL_cons, afterL_nil]
  after_reads_simp
  rfl

set_option maxHeartbeats 2000000 in
theorem entry_2 : entryContents preI m c (Proc.devRef .tc main_v51_2) = turned (m ((c.tc : Thread nD τ).loc main_arg4)) := by
  simp only [entryContents, afterL_cons, afterL_nil]
  after_reads_simp
  rfl

set_option maxHeartbeats 2000000 in
theorem entry_3 : entryContents preI m c (Proc.devRef .tc main_v51_3) = both (m ((c.tc : Thread nD τ).loc main_arg1)) := by
  simp only [entryContents, afterL_cons, afterL_nil]
  after_reads_simp
  rfl

set_option maxHeartbeats 2000000 in
theorem entry_4 : entryContents preI m c (Proc.devRef .tc main_v51_4) = both (m ((c.tc : Thread nD τ).loc main_arg2)) := by
  simp only [entryContents, afterL_cons, afterL_nil]
  after_reads_simp
  rfl

set_option maxHeartbeats 2000000 in
theorem entry_5 : entryContents preI m c (Proc.devRef .tc main_v51_5) = turned (m ((c.tc : Thread nD τ).loc main_arg5)) := by
  simp only [entryContents, afterL_cons, afterL_nil]
  after_reads_simp
  rfl

set_option maxHeartbeats 2000000 in
theorem entry_7 : entryContents preI m c (Proc.devRef .tc main_v51_7) = broadcastInDim S2x2x8x64x64 ![] bcast_S_S2x2x8x64x64 (constant (F := Ideal) S_ .f32 0x00000000#32) := by
  simp only [entryContents, afterL_cons, afterL_nil]
  after_reads_simp
  rfl

end Cert.ReferenceIdeal.Scan

end
-- ==== Proof.RefStep.lean ====
/- One step of the reference's loop, at an index. -/
module

public import proofs.«01_k».proof.Proof.RefEntry
public import Idealize.ShloMosaic.Lib.DynamicIndex

@[expose] public section

set_option maxRecDepth 16384

noncomputable section

namespace Cert.ReferenceIdeal.Scan

open Idealize.ShloMosaic Idealize.ShloMosaic.TcCoe Idealize.ShloMosaic.StableHlo
open Cert.ReferenceIdeal Cert.ReferenceIdeal.Gen Cert.ReferenceIdeal.Value

/-- The slice's start: the counter along time. -/
def start (n : IVec S_ 32) : Fin 5 → ℤ :=
  fun k => ((![n, constantI S_ 32 0#32, constantI S_ 32 0#32, constantI S_ 32 0#32, constantI S_ 32 0#32] : Fin 5 → IVec S_ 32) k (Shape.Idx.first h_S_)).toInt

/-- The inputs of one step. -/
def row (x : FVec Ideal S8192x2x2x8x64 .f32) (n : IVec S_ 32) : FVec Ideal S2x2x8x64 .f32 :=
  shapeCast S2x2x8x64 (Host.dynamicSlice S1x2x2x8x64 x (start n) sliceFits_S8192x2x2x8x64_S1x2x2x8x64) shapeCasts_S1x2x2x8x64_S2x2x8x64

/-- A step's inputs along the state's rows and along its columns. -/
def rows (x : FVec Ideal S2x2x8x64 .f32) : FVec Ideal S2x2x8x64x64 .f32 :=
  broadcastInDim S2x2x8x64x64 ![0, 1, 2, 3, 4] bcast_S2x2x8x64x1_S2x2x8x64x64_0_1_2_3_4 (broadcastInDim S2x2x8x64x1 ![0, 1, 2, 3] bcast_S2x2x8x64_S2x2x8x64x1_0_1_2_3 x)
def cols (x : FVec Ideal S2x2x8x64 .f32) : FVec Ideal S2x2x8x64x64 .f32 :=
  broadcastInDim S2x2x8x64x64 ![0, 1, 2, 3, 4] bcast_S2x2x8x1x64_S2x2x8x64x64_0_1_2_3_4 (broadcastInDim S2x2x8x1x64 ![0, 1, 2, 4] bcast_S2x2x8x64_S2x2x8x1x64_0_1_2_4 x)

/-- A state times a vector. -/
def act (S : FVec Ideal S2x2x8x64x64 .f32) (x : FVec Ideal S2x2x8x64 .f32) : FVec Ideal S2x2x8x64 .f32 :=
  Host.dotGeneral dot_S2x2x8x64x64_S2x2x8x64_S2x2x8x64_4_3_3_n_012_012 none S x

/-- The next state. -/
def next (S : FVec Ideal S2x2x8x64x64 .f32) (w k v a b : FVec Ideal S2x2x8x64 .f32) : FVec Ideal S2x2x8x64x64 .f32 :=
  addf (addf (mulf S (cols w)) (mulf (rows (act S a)) (cols b))) (mulf (rows v) (cols k))

/-- The next emitted array. -/
def emit (y : FVec Ideal S8192x2x2x8x64 .f32) (n : IVec S_ 32) (z : FVec Ideal S2x2x8x64 .f32) : FVec Ideal S8192x2x2x8x64 .f32 :=
  Host.dynamicUpdateSlice y (broadcastInDim S1x2x2x8x64 ![1, 2, 3, 4] bcast_S2x2x8x64_S1x2x2x8x64_1_2_3_4 z) (start n) updateFits_S8192x2x2x8x64_S1x2x2x8x64

theorem step_state (V : Valuation τ sig (Elt Ideal)) : res_main_while0b_v88 V
    = next (V (Proc.devRef .tc main_v51_7)) (row (V (Proc.devRef .tc main_v51_1)) (V (Proc.devRef .tc main_v51_6))) (row (V (Proc.devRef .tc main_v51_2)) (V (Proc.devRef .tc main_v51_6)))
        (row (V (Proc.devRef .tc main_v51_3)) (V (Proc.devRef .tc main_v51_6))) (row (V (Proc.devRef .tc main_v51_4)) (V (Proc.devRef .tc main_v51_6))) (row (V (Proc.devRef .tc main_v51_5)) (V (Proc.devRef .tc main_v51_6))) := rfl

theorem update_congr (y : FVec Ideal S8192x2x2x8x64 .f32) {u u' : FVec Ideal S1x2x2x8x64 .f32} {st st' : Fin 5 → ℤ} (hu : u = u') (hs : st = st') :
    Host.dynamicUpdateSlice y u st updateFits_S8192x2x2x8x64_S1x2x2x8x64 = Host.dynamicUpdateSlice y u' st' updateFits_S8192x2x2x8x64_S1x2x2x8x64 := by
  subst hu hs
  rfl

theorem step_emit (V : Valuation τ sig (Elt Ideal)) : step_main_v51_8 V
    = emit (V (Proc.devRef .tc main_v51_8)) (V (Proc.devRef .tc main_v51_6)) (act (res_main_while0b_v88 V) (row (V (Proc.devRef .tc main_v51_0)) (V (Proc.devRef .tc main_v51_6)))) := by
  unfold step_main_v51_8
  generalize res_main_while0b_v88 V = R
  rw [id_eq]
  exact update_congr _ rfl rfl

/-- The counter at step `n`. -/
def ctr (n : ℕ) : IVec S_ 32 := fun _ => BitVec.ofNat 32 n

theorem ctr_succ (n : ℕ) : addi (ctr n) (constantI S_ 32 1#32) = ctr (n + 1) := by
  funext i
  show BitVec.ofNat 32 n + 1#32 = BitVec.ofNat 32 (n + 1)
  exact BitVec.ofNat_add_ofNat n 1

theorem start_ctr (n : Fin 8192) (a : Fin 5) : start (ctr n.val) a = ((![n.val, 0, 0, 0, 0] : Fin 5 → ℕ) a : ℤ) := by
  have := n.isLt
  fin_cases a
  · exact toInt_ofNat_of_lt (k := n.val) (by omega)
  all_goals rfl

theorem drop_at (x : FVec Ideal S1x2x2x8x64 .f32) (d b : Fin 2) (h : Fin 8) (j : Fin 64) :
    shapeCast S2x2x8x64 x shapeCasts_S1x2x2x8x64_S2x2x8x64 (ix4 d b h j) = x (ix5 0 d b h j) := by
  pointwise

theorem row_at (x : FVec Ideal S8192x2x2x8x64 .f32) (n : Fin 8192) (d b : Fin 2) (h : Fin 8) (j : Fin 64) :
    row x (ctr n.val) (ix4 d b h j) = x (ix5 n d b h j) := by
  have hoff : S8192x2x2x8x64.Slices ![n.val, 0, 0, 0, 0] S1x2x2x8x64 := ⟨rfl, fun a => by
    have := n.isLt
    fin_cases a
    · show n.val + 1 ≤ 8192; omega
    · show 0 + 2 ≤ 2; omega
    · show 0 + 2 ≤ 2; omega
    · show 0 + 8 ≤ 8; omega
    · show 0 + 64 ≤ 64; omega⟩
  unfold row
  rw [Host.dynamicSlice_eq_extractStridedSlice S1x2x2x8x64 x (start (ctr n.val)) ![n.val, 0, 0, 0, 0] sliceFits_S8192x2x2x8x64_S1x2x2x8x64 hoff (start_ctr n)]
  refine (drop_at _ d b h j).trans (congrArg x ?_)
  funext a
  apply Fin.ext
  fin_cases a
  · rfl
  · exact Nat.zero_add _
  · exact Nat.zero_add _
  · exact Nat.zero_add _
  · exact Nat.zero_add _

theorem rows_at (x : FVec Ideal S2x2x8x64 .f32) (d b : Fin 2) (h : Fin 8) (i j : Fin 64) : rows x (ix5 d b h i j) = x (ix4 d b h i) := by
  unfold rows
  pointwise
theorem cols_at (x : FVec Ideal S2x2x8x64 .f32) (d b : Fin 2) (h : Fin 8) (i j : Fin 64) : cols x (ix5 d b h i j) = x (ix4 d b h j) := by
  unfold cols
  pointwise
theorem act_at (S : FVec Ideal S2x2x8x64x64 .f32) (x : FVec Ideal S2x2x8x64 .f32) (d b : Fin 2) (h : Fin 8) (i : Fin 64) :
    act S x (ix4 d b h i) = ∑ q : Fin 64, S (ix5 d b h i q) * x (ix4 d b h q) := by
  unfold act
  pointwise
theorem next_at (S : FVec Ideal S2x2x8x64x64 .f32) (w k v a b' : FVec Ideal S2x2x8x64 .f32) (d b : Fin 2) (h : Fin 8) (i j : Fin 64) :
    next S w k v a b' (ix5 d b h i j) = S (ix5 d b h i j) * w (ix4 d b h j) + (∑ q : Fin 64, S (ix5 d b h i q) * a (ix4 d b h q)) * b' (ix4 d b h j)
      + v (ix4 d b h i) * k (ix4 d b h j) := by
  show S (ix5 d b h i j) * cols w (ix5 d b h i j) + rows (act S a) (ix5 d b h i j) * cols b' (ix5 d b h i j) + rows v (ix5 d b h i j) * cols k (ix5 d b h i j) = _
  rw [cols_at, cols_at, cols_at, rows_at, rows_at, act_at]

theorem up4_at (x : FVec Ideal S2x2x8x64 .f32) (d b : Fin 2) (h : Fin 8) (j : Fin 64) :
    broadcastInDim S1x2x2x8x64 ![1, 2, 3, 4] bcast_S2x2x8x64_S1x2x2x8x64_1_2_3_4 x (ix5 0 d b h j) = x (ix4 d b h j) := by
  pointwise

theorem fits (n : Fin 8192) (a : Fin 5) : (![n.val, 0, 0, 0, 0] : Fin 5 → ℕ) a + S1x2x2x8x64.size a ≤ S8192x2x2x8x64.size a := by
  have := n.isLt
  fin_cases a
  · show n.val + 1 ≤ 8192; omega
  · show 0 + 2 ≤ 2; omega
  · show 0 + 2 ≤ 2; omega
  · show 0 + 8 ≤ 8; omega
  · show 0 + 64 ≤ 64; omega

theorem clamp (n : Fin 8192) (a : Fin 5) : Host.clampedStart S8192x2x2x8x64 S1x2x2x8x64 rfl (start (ctr n.val)) a = (![n.val, 0, 0, 0, 0] : Fin 5 → ℕ) a :=
  Host.clampedStart_of_le (s := S8192x2x2x8x64) (t := S1x2x2x8x64) rfl (start (ctr n.val)) a ((![n.val, 0, 0, 0, 0] : Fin 5 → ℕ) a) (start_ctr n a) (fits n a)

theorem emit_at (y : FVec Ideal S8192x2x2x8x64 .f32) (n : Fin 8192) (z : FVec Ideal S2x2x8x64 .f32) (n' : Fin 8192) (d b : Fin 2) (h : Fin 8) (j : Fin 64) :
    emit y (ctr n.val) z (ix5 n' d b h j) = if n' = n then z (ix4 d b h j) else y (ix5 n' d b h j) := by
  unfold emit
  rw [Host.dynamicUpdateSlice_apply]
  have c0 := clamp n 0
  have c1 := clamp n 1
  have c2 := clamp n 2
  have c3 := clamp n 3
  have c4 := clamp n 4
  by_cases hn : n' = n
  · subst hn
    rw [if_pos rfl, dif_pos (fun a => by
      have hc := clamp n' a
      rw [hc]
      fin_cases a
      · show n'.val ≤ n'.val ∧ n'.val < n'.val + 1; omega
      · show 0 ≤ d.val ∧ d.val < 0 + 2; omega
      · show 0 ≤ b.val ∧ b.val < 0 + 2; omega
      · show 0 ≤ h.val ∧ h.val < 0 + 8; omega
      · show 0 ≤ j.val ∧ j.val < 0 + 64; omega)]
    refine Eq.trans (congrArg _ ?_) (up4_at z d b h j)
    funext a
    apply Fin.ext
    fin_cases a
    · show n'.val - Host.clampedStart S8192x2x2x8x64 S1x2x2x8x64 rfl (start (ctr n'.val)) 0 = 0
      rw [c0]; exact Nat.sub_self _
    · show d.val - Host.clampedStart S8192x2x2x8x64 S1x2x2x8x64 rfl (start (ctr n'.val)) 1 = d.val
      rw [c1]; rfl
    · show b.val - Host.clampedStart S8192x2x2x8x64 S1x2x2x8x64 rfl (start (ctr n'.val)) 2 = b.val
      rw [c2]; rfl
    · show h.val - Host.clampedStart S8192x2x2x8x64 S1x2x2x8x64 rfl (start (ctr n'.val)) 3 = h.val
      rw [c3]; rfl
    · show j.val - Host.clampedStart S8192x2x2x8x64 S1x2x2x8x64 rfl (start (ctr n'.val)) 4 = j.val
      rw [c4]; rfl
  · rw [if_neg hn, dif_neg (fun hin => hn (Fin.ext (by
      have h0 := hin 0
      rw [c0] at h0
      have h1 : n.val ≤ n'.val ∧ n'.val < n.val + 1 := h0
      omega)))]

end Cert.ReferenceIdeal.Scan

end
-- ==== Proof.Chain.lean ====
/- One chain of the chunked recurrence, written once: two heads side by side in 128 lanes, one direction, one chunk.
   The kernel prints it for each direction, batch and pair of heads; every printed copy is an instance of these functions. -/
module

public import proofs.«01_k».proof.Proof.Gen.KernelIdeal.Skeleton

@[expose] public section

noncomputable section

namespace Cert.KernelIdeal.Chain

open Idealize.ShloMosaic Cert.KernelIdeal Cert.KernelIdeal.Gen

variable {F : FTy → Type} [FloatOps F] [Named F]

/-- The masks a chain reads: the two heads' lanes, the diagonal, the strict and inclusive time masks of its direction,
    the blocks of 2, 4, 8, 16 and 32 steps, and the state's two diagonal blocks. -/
structure Masks (F : FTy → Type) where
  p : FVec F S64x128 .bf16
  q : FVec F S64x128 .bf16
  eye : FVec F S64x128 .f32
  strict : FVec F S64x128 .f32
  incl : FVec F S64x128 .f32
  k2 : FVec F S64x128 .f32
  k4 : FVec F S64x128 .f32
  k8 : FVec F S64x128 .f32
  k16 : FVec F S64x128 .f32
  k32 : FVec F S64x128 .f32
  st : FVec F S128x128 .f32

/-- What a chain reads besides: the rescaled inputs of its two heads over the chunk. -/
structure Ins (F : FTy → Type) where
  at_ : FVec F S64x128 .f32
  rt : FVec F S64x128 .f32
  v : FVec F S64x128 .f32
  bt : FVec F S64x128 .f32
  kt : FVec F S64x128 .f32
  bh : FVec F S64x128 .f32
  kh : FVec F S64x128 .f32
  pt : FVec F S1x128 .f32

variable (M : Masks F) (I : Ins F)

/-- Rounding to half width. -/
def b16 (x : FVec F S64x128 .f32) : FVec F S64x128 .bf16 := truncf .bf16 x bitsLt_bf16_f32

/-- The two heads' rows on the diagonal of a square. -/
def bd (x : FVec F S64x128 .bf16) : FVec F S128x128 .bf16 :=
  concatenate S128x128 0 [⟨S64x128, mulf x M.p⟩, ⟨S64x128, mulf x M.q⟩] concatenates_S64x128_S64x128_S128x128_d0

/-- The product of a pair of heads with a square. -/
def mm (a : FVec F S64x128 .bf16) (b : FVec F S128x128 .bf16) : FVec F S64x128 .f32 :=
  matmul dot_S64x128_S128x128_S64x128_1_0_0_1_n_n none a b (constant S64x128 .f32 0x00000000#32)

/-- All four score matrices of both heads. -/
def sbk : FVec F S128x256 .f32 :=
  matmul dot_S128x128_S256x128_S128x256_1_1_0_0_n_n none
    (concatenate S128x128 0 [⟨S64x128, b16 I.at_⟩, ⟨S64x128, b16 I.rt⟩] concatenates_S64x128_S64x128_S128x128_d0)
    (concatenate S256x128 0 [⟨S128x128, bd M (b16 I.bt)⟩, ⟨S128x128, bd M (b16 I.kt)⟩] concatenates_S128x128_S128x128_S256x128_d0)
    (constant S128x256 .f32 0x00000000#32)

def mab : FVec F S64x128 .f32 :=
  mulf (extractStridedSlice S64x128 ![0, 0] (extractStridedSlice S128x128 ![0, 0] (sbk M I) slices_S128x256_o0_0_S128x128) slices_S128x128_o0_0_S64x128) M.strict
def nrb : FVec F S64x128 .f32 :=
  mulf (extractStridedSlice S64x128 ![64, 0] (extractStridedSlice S128x128 ![0, 0] (sbk M I) slices_S128x256_o0_0_S128x128) slices_S128x128_o64_0_S64x128) M.incl
def mak : FVec F S64x128 .f32 :=
  mulf (extractStridedSlice S64x128 ![0, 0] (extractStridedSlice S128x128 ![0, 128] (sbk M I) slices_S128x256_o0_128_S128x128) slices_S128x128_o0_0_S64x128) M.strict
def nrk : FVec F S64x128 .f32 :=
  mulf (extractStridedSlice S64x128 ![64, 0] (extractStridedSlice S128x128 ![0, 128] (sbk M I) slices_S128x256_o0_128_S128x128) slices_S128x128_o64_0_S64x128) M.incl

/-- The values summed by the strict scores. -/
def mv : FVec F S64x128 .f32 := mm (b16 (mak M I)) (bd M (b16 I.v))

/-- The inverse on blocks of two steps. -/
def x0 (m : FVec F S64x128 .f32) : FVec F S64x128 .f32 := addf M.eye (mulf m M.k2)

/-- One doubling of the blocks. -/
def lvl (m sel x : FVec F S64x128 .f32) : FVec F S64x128 .f32 :=
  addf x (mm (b16 (mm (b16 x) (bd M (b16 (mulf m sel))))) (bd M (b16 x)))

/-- The inverse on the whole chunk. -/
def xinv (m : FVec F S64x128 .f32) : FVec F S64x128 .f32 :=
  lvl M m (subf (broadcast S64x128 (Scalar.ofBits .f32 0x3F800000#32)) M.k32) (lvl M m (subf M.k32 M.k16) (lvl M m (subf M.k16 M.k8) (lvl M m (subf M.k8 M.k4) (lvl M m (subf M.k4 M.k2) (x0 M m)))))

def wab : FVec F S64x256 .f32 :=
  matmul dot_S64x128_S128x256_S64x256_1_0_0_1_n_n none (b16 (xinv M (mab M I)))
    (concatenate S128x256 1 [⟨S128x128, bd M (b16 I.at_)⟩, ⟨S128x128, bd M (b16 (mv M I))⟩] concatenates_S128x128_S128x128_S128x256_d1)
    (constant S64x256 .f32 0x00000000#32)
def wa : FVec F S64x128 .bf16 := b16 (extractStridedSlice S64x128 ![0, 0] (wab M I) slices_S64x256_o0_0_S64x128)
def wb : FVec F S64x128 .bf16 := b16 (extractStridedSlice S64x128 ![0, 128] (wab M I) slices_S64x256_o0_128_S64x128)

def yqc : FVec F S64x256 .f32 :=
  matmul dot_S64x256_S256x256_S64x256_1_0_0_1_n_n none
    (concatenate S64x256 1 [⟨S64x128, b16 (nrb M I)⟩, ⟨S64x128, b16 (nrk M I)⟩] concatenates_S64x128_S64x128_S64x256_d1)
    (concatenate S256x256 0
      [⟨S128x256, concatenate S128x256 1 [⟨S128x128, bd M (wa M I)⟩, ⟨S128x128, bd M (wb M I)⟩] concatenates_S128x128_S128x128_S128x256_d1⟩,
       ⟨S128x256, concatenate S128x256 1 [⟨S128x128, broadcast S128x128 (Scalar.ofBits .bf16 0x0000#16)⟩, ⟨S128x128, bd M (b16 I.v)⟩] concatenates_S128x128_S128x128_S128x256_d1⟩]
      concatenates_S128x256_S128x256_S256x256_d0)
    (constant S64x256 .f32 0x00000000#32)
def yq : FVec F S64x128 .f32 := addf I.rt (extractStridedSlice S64x128 ![0, 0] (yqc M I) slices_S64x256_o0_0_S64x128)
def yc : FVec F S64x128 .f32 := extractStridedSlice S64x128 ![0, 128] (yqc M I) slices_S64x256_o0_128_S64x128

def php : FVec F S256x128 .f32 :=
  matmul dot_S128x256_S128x128_S256x128_0_0_1_1_n_n none
    (concatenate S128x256 0
      [⟨S64x256, concatenate S64x256 1 [⟨S64x128, wa M I⟩, ⟨S64x128, wb M I⟩] concatenates_S64x128_S64x128_S64x256_d1⟩,
       ⟨S64x256, concatenate S64x256 1 [⟨S64x128, broadcast S64x128 (Scalar.ofBits .bf16 0x0000#16)⟩, ⟨S64x128, b16 I.v⟩] concatenates_S64x128_S64x128_S64x256_d1⟩]
      concatenates_S64x256_S64x256_S128x256_d0)
    (concatenate S128x128 0 [⟨S64x128, b16 I.bh⟩, ⟨S64x128, b16 I.kh⟩] concatenates_S64x128_S64x128_S128x128_d0)
    (constant S256x128 .f32 0x00000000#32)
def phi : FVec F S128x128 .f32 := mulf (extractStridedSlice S128x128 ![0, 0] (php M I) slices_S256x128_o0_0_S128x128) M.st
def psi : FVec F S128x128 .f32 := mulf (extractStridedSlice S128x128 ![128, 0] (php M I) slices_S256x128_o128_0_S128x128) M.st

/-- What the chain emits, from the state `s` it enters with. -/
def yOut (s : FVec F S128x128 .f32) : FVec F S64x128 .f32 :=
  addf (matmul dot_S64x128_S128x128_S64x128_1_1_0_0_n_n none (b16 (yq M I)) (truncf .bf16 s bitsLt_bf16_f32) (constant S64x128 .f32 0x00000000#32)) (yc M I)

/-- The state it leaves. -/
def sOut (s : FVec F S128x128 .f32) : FVec F S128x128 .f32 :=
  addf (addf (mulf s (broadcastTo S128x128 I.pt broadcasts_S1x128_S128x128))
    (matmul dot_S128x128_S128x128_S128x128_1_0_0_1_n_n none (truncf .bf16 s bitsLt_bf16_f32) (truncf .bf16 (phi M I) bitsLt_bf16_f32) (constant S128x128 .f32 0x00000000#32)))
    (psi M I)

/-! ## The rescaled inputs, from one batch's blocks over all 512 lanes -/

/-- The decay's running sum: the time mask applied to the three parts of the logarithms. -/
def csum (tri : FVec F S64x64 .bf16) (lw : FVec F S64x512 .f32) : FVec F S64x512 .f32 :=
  have b1 : FVec F S64x512 .bf16 := truncf .bf16 lw bitsLt_bf16_f32
  have r1 : FVec F S64x512 .f32 := subf lw (extf .f32 b1 bitsLt_bf16_f32)
  have b2 : FVec F S64x512 .bf16 := truncf .bf16 r1 bitsLt_bf16_f32
  have r2 : FVec F S64x512 .f32 := subf r1 (extf .f32 b2 bitsLt_bf16_f32)
  have b3 : FVec F S64x512 .bf16 := truncf .bf16 r2 bitsLt_bf16_f32
  addf (matmul dot_S64x64_S64x512_S64x512_1_0_0_1_n_n none tri b1 (constant S64x512 .f32 0x00000000#32))
    (addf (matmul dot_S64x64_S64x512_S64x512_1_0_0_1_n_n none tri b2 (constant S64x512 .f32 0x00000000#32))
      (matmul dot_S64x64_S64x512_S64x512_1_0_0_1_n_n none tri b3 (constant S64x512 .f32 0x00000000#32)))

/-- The reciprocal decay. -/
def einv (cs : FVec F S64x512 .f32) : FVec F S64x512 .f32 := exp (subf (broadcast S64x512 (Scalar.ofBits .f32 0x00000000#32)) cs)

/-- The chunk's whole decay. -/
def ptot (lw : FVec F S64x512 .f32) : FVec F S1x512 .f32 :=
  exp (shapeCast S1x512 (multiReduction .add [0] S512 lw 0x00000000#32 reduces_S64x512_S512 (.inl rfl) rfl) shapeCasts_S512_S1x512)

/-- One batch's blocks of a chunk, as read: all 512 lanes. -/
structure Blocks (F : FTy → Type) where
  r : FVec F S64x512 .f32
  v : FVec F S64x512 .f32
  a : FVec F S64x512 .f32
  lw : FVec F S64x512 .f32
  k : FVec F S64x512 .f32
  b : FVec F S64x512 .f32

/-- The rescaled inputs of the pair of heads at lanes `o …`. -/
def ins (tri : FVec F S64x64 .bf16) (B : Blocks F) (o : ℕ) (h : S64x512.Slices ![0, o] S64x128) (h1 : S1x512.Slices ![0, o] S1x128) : Ins F where
  at_ := extractStridedSlice S64x128 ![0, o] (mulf B.a (exp (subf (csum tri B.lw) B.lw))) h
  rt := extractStridedSlice S64x128 ![0, o] (mulf B.r (exp (csum tri B.lw))) h
  v := extractStridedSlice S64x128 ![0, o] B.v h
  bt := extractStridedSlice S64x128 ![0, o] (mulf B.b (einv (csum tri B.lw))) h
  kt := extractStridedSlice S64x128 ![0, o] (mulf B.k (einv (csum tri B.lw))) h
  bh := extractStridedSlice S64x128 ![0, o] (mulf (mulf B.b (einv (csum tri B.lw))) (broadcastTo S64x512 (ptot B.lw) broadcasts_S1x512_S64x512)) h
  kh := extractStridedSlice S64x128 ![0, o] (mulf (mulf B.k (einv (csum tri B.lw))) (broadcastTo S64x512 (ptot B.lw) broadcasts_S1x512_S64x512)) h
  pt := extractStridedSlice S1x128 ![0, o] (ptot B.lw) h1

end Cert.KernelIdeal.Chain

end
-- ==== Proof.ChainIdeal.lean ====
/- The chain over the reals: on real inputs every stage of `Chain` is the real stage, head by head. -/
module

public import proofs.«01_k».proof.Proof.Chain
public import Idealize.ShloMosaic.Lib.Pointwise

@[expose] public section

set_option maxRecDepth 16384

noncomputable section

namespace Cert.KernelIdeal.Chain

open Idealize.ShloMosaic Cert.KernelIdeal Cert.KernelIdeal.Gen

/-- Lane `j` of head `h` of a pair. -/
def lane (h : Fin 2) (j : Fin 64) : Fin 128 := ⟨h.val * 64 + j.val, by omega⟩

theorem lane_lo (s : Fin 64) (h : s.val < 128) : (⟨s.val, h⟩ : Fin 128) = lane 0 s := Fin.ext (by simp [lane])
theorem lane_hi (s : Fin 64) (h : 64 + s.val < 128) : (⟨64 + s.val, h⟩ : Fin 128) = lane 1 s := Fin.ext (by simp [lane])

theorem sum_lane {β : Type} [AddCommMonoid β] (f : Fin 128 → β) : ∑ k, f k = ∑ h : Fin 2, ∑ s : Fin 64, f (lane h s) := by
  rw [Fin.sum_univ_two]
  refine (Fin.sum_univ_add (a := 64) (b := 64) f).trans ?_
  exact congrArg₂ (· + ·) (Finset.sum_congr rfl fun s _ => congrArg f (Fin.ext (by simp [lane])))
    (Finset.sum_congr rfl fun s _ => congrArg f (Fin.ext (by simp [lane, Nat.add_comm])))

theorem lane_cases (l : Fin 128) : ∃ h j, l = lane h j :=
  ⟨⟨l.val / 64, by omega⟩, ⟨l.val % 64, by omega⟩, Fin.ext (by simp only [lane]; omega)⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

theorem coe_ite (p : Prop) [Decidable p] (a b : ℝ) : (if p then (a : EReal) else (b : EReal)) = ((if p then a else b : ℝ) : EReal) := by
  split <;> rfl

abbrev Mat := Matrix (Fin 64) (Fin 64) ℝ

/-- A pair of heads holds the two real matrices `X 0` and `X 1`. -/
def IsH {φ : FTy} (x : FVec Ideal S64x128 φ) (X : Fin 2 → Mat) : Prop := ∀ t h j, x (ix2 t (lane h j)) = (X h t j : EReal)

/-- A square holds two real matrices on its diagonal and zero elsewhere. -/
def IsS {φ : FTy} (x : FVec Ideal S128x128 φ) (X : Fin 2 → Mat) : Prop :=
  ∀ h i h' j, x (ix2 (lane h i) (lane h' j)) = ((if h = h' then X h i j else 0 : ℝ) : EReal)

/-- The place of a step in its direction's order. -/
def rk (d : Fin 2) (t : Fin 64) : ℕ := if d = 0 then t.val else 63 - t.val

/-- The 0/1 matrix of a relation of steps. -/
def ind (R : Fin 64 → Fin 64 → Prop) [∀ t s, Decidable (R t s)] : Mat := fun t s => if R t s then 1 else 0

/-- What the masks of direction `d` are. -/
structure MasksOK (M : Masks Ideal) (d : Fin 2) : Prop where
  p : ∀ t h j, M.p (ix2 t (lane h j)) = ((if h = 0 then 1 else 0 : ℝ) : EReal)
  q : ∀ t h j, M.q (ix2 t (lane h j)) = ((if h = 1 then 1 else 0 : ℝ) : EReal)
  eye : IsH M.eye (fun _ => ind fun t s => t = s)
  strict : IsH M.strict (fun _ => ind fun t s => rk d s < rk d t)
  incl : IsH M.incl (fun _ => ind fun t s => rk d s ≤ rk d t)
  k2 : IsH M.k2 (fun _ => ind fun t s => t.val / 2 = s.val / 2)
  k4 : IsH M.k4 (fun _ => ind fun t s => t.val / 4 = s.val / 4)
  k8 : IsH M.k8 (fun _ => ind fun t s => t.val / 8 = s.val / 8)
  k16 : IsH M.k16 (fun _ => ind fun t s => t.val / 16 = s.val / 16)
  k32 : IsH M.k32 (fun _ => ind fun t s => t.val / 32 = s.val / 32)
  st : IsS M.st (fun _ _ _ => 1)

section Basic
variable {φ : FTy} {x y : FVec Ideal S64x128 .f32} {X Y : Fin 2 → Mat}

theorem IsH.b16 (hx : IsH x X) : IsH (b16 x) X := fun t h j => by
  pointwise [Chain.b16]; exact hx t h j

theorem IsH.add (hx : IsH x X) (hy : IsH y Y) : IsH (addf x y) (fun h => X h + Y h) := fun t h j => by
  pointwise; rw [hx, hy, ← EReal.coe_add]; rfl

theorem IsH.sub (hx : IsH x X) (hy : IsH y Y) : IsH (subf x y) (fun h => X h - Y h) := fun t h j => by
  pointwise; rw [hx, hy, ← EReal.coe_sub]; rfl

theorem IsH.mul (hx : IsH x X) (hy : IsH y Y) : IsH (mulf x y) (fun h t s => X h t s * Y h t s) := fun t h j => by
  pointwise; rw [hx, hy, ← EReal.coe_mul]

theorem IsH.one : IsH (broadcast S64x128 (Scalar.ofBits .f32 0x3F800000#32) : FVec Ideal S64x128 .f32) (fun _ _ _ => 1) := fun t h j => by
  pointwise; simp

end Basic

section Masked
variable {M : Masks Ideal} {d : Fin 2} (hM : MasksOK M d)
include hM

theorem IsS.bd {x : FVec Ideal S64x128 .bf16} {X : Fin 2 → Mat} (hx : IsH x X) : IsS (bd M x) X := fun h i h' j => by
  generalize hl : lane h' j = l
  have e0 : Chain.bd M x (ix2 (lane 0 i) l) = x (ix2 i l) * M.p (ix2 i l) := by
    pointwise [Chain.bd, lane]
  have e1 : Chain.bd M x (ix2 (lane 1 i) l) = x (ix2 i l) * M.q (ix2 i l) := by
    pointwise [Chain.bd, lane]
  subst hl
  fin_cases h
  · refine e0.trans ?_
    rw [hx, hM.p, ← EReal.coe_mul]
    fin_cases h' <;> simp
  · refine e1.trans ?_
    rw [hx, hM.q, ← EReal.coe_mul]
    fin_cases h' <;> simp

end Masked

theorem IsH.mmS {a : FVec Ideal S64x128 .bf16} {b : FVec Ideal S128x128 .bf16} {A B : Fin 2 → Mat} (ha : IsH a A) (hb : IsS b B) :
    IsH (mm a b) (fun h => A h * B h) := fun t h j => by
  have e : mm a b (ix2 t (lane h j)) = ∑ k : Fin 128, a (ix2 t k) * b (ix2 k (lane h j)) := by
    pointwise [mm]
  rw [e, sum_lane]
  simp only [ha _ _ _, hb _ _ _ _, ← EReal.coe_mul, coe_sum]
  congr 1
  fin_cases h <;> simp [Matrix.mul_apply]

/-- The second factor read by columns. -/
theorem IsH.mmT {a : FVec Ideal S64x128 .bf16} {b : FVec Ideal S128x128 .bf16} {A B : Fin 2 → Mat} (ha : IsH a A) (hb : IsS b B) :
    IsH (matmul dot_S64x128_S128x128_S64x128_1_1_0_0_n_n none a b (constant S64x128 .f32 0x00000000#32)) (fun h => A h * (B h).transpose) := fun t h j => by
  have e : matmul dot_S64x128_S128x128_S64x128_1_1_0_0_n_n none a b (constant S64x128 .f32 0x00000000#32) (ix2 t (lane h j)) = ∑ k : Fin 128, a (ix2 t k) * b (ix2 (lane h j) k) := by
    pointwise
  rw [e, sum_lane]
  simp only [ha _ _ _, hb _ _ _ _, ← EReal.coe_mul, coe_sum]
  congr 1
  fin_cases h <;> simp [Matrix.mul_apply]

theorem IsS.mm {a b : FVec Ideal S128x128 .bf16} {A B : Fin 2 → Mat} (ha : IsS a A) (hb : IsS b B) :
    IsS (matmul dot_S128x128_S128x128_S128x128_1_0_0_1_n_n none a b (constant S128x128 .f32 0x00000000#32)) (fun h => A h * B h) := fun h i h' j => by
  have e : matmul dot_S128x128_S128x128_S128x128_1_0_0_1_n_n none a b (constant S128x128 .f32 0x00000000#32) (ix2 (lane h i) (lane h' j)) = ∑ k : Fin 128, a (ix2 (lane h i) k) * b (ix2 k (lane h' j)) := by
    pointwise
  rw [e, sum_lane]
  simp only [ha _ _ _, hb _ _ _ _, ← EReal.coe_mul, coe_sum]
  congr 1
  fin_cases h <;> fin_cases h' <;> simp [Matrix.mul_apply]

theorem IsS.add {x y : FVec Ideal S128x128 .f32} {X Y : Fin 2 → Mat} (hx : IsS x X) (hy : IsS y Y) : IsS (addf x y) (fun h => X h + Y h) := fun h i h' j => by
  pointwise; rw [hx, hy, ← EReal.coe_add]; congr 1; split <;> simp

theorem IsS.b16 {x : FVec Ideal S128x128 .f32} {X : Fin 2 → Mat} (hx : IsS x X) : IsS (truncf .bf16 x bitsLt_bf16_f32) X := fun h i h' j => by
  pointwise; exact hx h i h' j

/-! ## The real chain -/

/-- The inputs of a chain as real matrices, for each of its two heads. -/
structure RIns where
  at_ : Fin 2 → Mat
  rt : Fin 2 → Mat
  v : Fin 2 → Mat
  bt : Fin 2 → Mat
  kt : Fin 2 → Mat
  bh : Fin 2 → Mat
  kh : Fin 2 → Mat
  pt : Fin 2 → Fin 64 → ℝ

structure InsOK (I : Ins Ideal) (R : RIns) : Prop where
  at_ : IsH I.at_ R.at_
  rt : IsH I.rt R.rt
  v : IsH I.v R.v
  bt : IsH I.bt R.bt
  kt : IsH I.kt R.kt
  bh : IsH I.bh R.bh
  kh : IsH I.kh R.kh
  pt : ∀ h j, I.pt (ix2 0 (lane h j)) = (R.pt h j : EReal)

/-- The entries of `m` where `R` holds. -/
def msk (R : Fin 64 → Fin 64 → Prop) [∀ t s, Decidable (R t s)] (m : Mat) : Mat := fun t s => m t s * ind R t s

variable (d : Fin 2) (R : RIns) (h : Fin 2)

def Rmab : Mat := msk (fun t s => rk d s < rk d t) (R.at_ h * (R.bt h).transpose)
def Rmak : Mat := msk (fun t s => rk d s < rk d t) (R.at_ h * (R.kt h).transpose)
def Rnrb : Mat := msk (fun t s => rk d s ≤ rk d t) (R.rt h * (R.bt h).transpose)
def Rnrk : Mat := msk (fun t s => rk d s ≤ rk d t) (R.rt h * (R.kt h).transpose)

/-- The blocks of `n` steps. -/
def blk (n : ℕ) : Mat := ind fun t s => t.val / n = s.val / n

def hmul (m e : Mat) : Mat := fun t s => m t s * e t s
def Rx0 (m : Mat) : Mat := (ind fun t s => t = s) + hmul m (blk 2)
def Rlvl (m sel x : Mat) : Mat := x + x * hmul m sel * x
def Rinv (m : Mat) : Mat :=
  Rlvl m ((ind fun _ _ => True) - blk 32) (Rlvl m (blk 32 - blk 16) (Rlvl m (blk 16 - blk 8) (Rlvl m (blk 8 - blk 4) (Rlvl m (blk 4 - blk 2) (Rx0 m)))))

def Rwa : Mat := Rinv (Rmab d R h) * R.at_ h
def Rwb : Mat := Rinv (Rmab d R h) * (Rmak d R h * R.v h)
def Ryq : Mat := R.rt h + Rnrb d R h * Rwa d R h
def Ryc : Mat := Rnrb d R h * Rwb d R h + Rnrk d R h * R.v h
def Rphi : Mat := (Rwa d R h).transpose * R.bh h
def Rpsi : Mat := (Rwb d R h).transpose * R.bh h + (R.v h).transpose * R.kh h
def RyOut (S : Fin 2 → Mat) : Mat := Ryq d R h * (S h).transpose + Ryc d R h
def RsOut (S : Fin 2 → Mat) : Mat := (Matrix.of fun i q => S h i q * R.pt h q) + S h * Rphi d R h + Rpsi d R h

section Stages
variable {M : Masks Ideal} {d : Fin 2} (hM : MasksOK M d) {I : Ins Ideal} {R : RIns} (hI : InsOK I R)
include hM hI

theorem mab_ok : IsH (mab M I) (Rmab d R) := fun t h s => by
  have e : mab M I (ix2 t (lane h s)) = (∑ k : Fin 128, b16 I.at_ (ix2 t k) * bd M (b16 I.bt) (ix2 (lane h s) k)) * M.strict (ix2 t (lane h s)) := by
    generalize lane h s = l
    pointwise [mab, sbk, Chain.bd]
  rw [e, sum_lane, hM.strict]
  simp only [hI.at_.b16 _ _ _, IsS.bd hM hI.bt.b16 _ _ _ _, ← EReal.coe_mul, coe_sum]
  congr 1
  simp only [Rmab, msk, Matrix.mul_apply, Matrix.transpose_apply]
  congr 1
  fin_cases h <;> simp

theorem mak_ok : IsH (mak M I) (Rmak d R) := fun t h s => by
  have e : mak M I (ix2 t (lane h s)) = (∑ k : Fin 128, b16 I.at_ (ix2 t k) * bd M (b16 I.kt) (ix2 (lane h s) k)) * M.strict (ix2 t (lane h s)) := by
    generalize lane h s = l
    pointwise [mak, sbk, Chain.bd]
  rw [e, sum_lane, hM.strict]
  simp only [hI.at_.b16 _ _ _, IsS.bd hM hI.kt.b16 _ _ _ _, ← EReal.coe_mul, coe_sum]
  congr 1
  simp only [Rmak, msk, Matrix.mul_apply, Matrix.transpose_apply]
  congr 1
  fin_cases h <;> simp

theorem nrb_ok : IsH (nrb M I) (Rnrb d R) := fun t h s => by
  have e : nrb M I (ix2 t (lane h s)) = (∑ k : Fin 128, b16 I.rt (ix2 t k) * bd M (b16 I.bt) (ix2 (lane h s) k)) * M.incl (ix2 t (lane h s)) := by
    generalize lane h s = l
    pointwise [nrb, sbk, Chain.bd]
  rw [e, sum_lane, hM.incl]
  simp only [hI.rt.b16 _ _ _, IsS.bd hM hI.bt.b16 _ _ _ _, ← EReal.coe_mul, coe_sum]
  congr 1
  simp only [Rnrb, msk, Matrix.mul_apply, Matrix.transpose_apply]
  congr 1
  fin_cases h <;> simp

theorem nrk_ok : IsH (nrk M I) (Rnrk d R) := fun t h s => by
  have e : nrk M I (ix2 t (lane h s)) = (∑ k : Fin 128, b16 I.rt (ix2 t k) * bd M (b16 I.kt) (ix2 (lane h s) k)) * M.incl (ix2 t (lane h s)) := by
    generalize lane h s = l
    pointwise [nrk, sbk, Chain.bd]
  rw [e, sum_lane, hM.incl]
  simp only [hI.rt.b16 _ _ _, IsS.bd hM hI.kt.b16 _ _ _ _, ← EReal.coe_mul, coe_sum]
  congr 1
  simp only [Rnrk, msk, Matrix.mul_apply, Matrix.transpose_apply]
  congr 1
  fin_cases h <;> simp

theorem mv_ok : IsH (mv M I) (fun h => Rmak d R h * R.v h) := (mak_ok hM hI).b16.mmS (IsS.bd hM hI.v.b16)

omit hI in
theorem lvl_ok {m sel x : FVec Ideal S64x128 .f32} {m' : Fin 2 → Mat} {s' : Mat} {X : Fin 2 → Mat} (hm : IsH m m') (hs : IsH sel (fun _ => s')) (hx : IsH x X) :
    IsH (lvl M m sel x) (fun h => Rlvl (m' h) s' (X h)) :=
  hx.add ((hx.b16.mmS (IsS.bd hM (hm.mul hs).b16)).b16.mmS (IsS.bd hM hx.b16))

theorem xinv_ok : IsH (xinv M (mab M I)) (fun h => Rinv (Rmab d R h)) := by
  have hm := mab_ok hM hI
  have h0 : IsH (x0 M (mab M I)) (fun h => Rx0 (Rmab d R h)) := hM.eye.add (hm.mul hM.k2)
  have h1 : IsH (broadcast S64x128 (Scalar.ofBits .f32 0x3F800000#32) : FVec Ideal S64x128 .f32) (fun _ => ind fun _ _ => True) := by
    have e : (ind fun _ _ => True) = fun _ _ => (1 : ℝ) := by funext a b; simp [ind]
    rw [e]; exact IsH.one
  exact lvl_ok hM hm (h1.sub hM.k32) (lvl_ok hM hm (hM.k32.sub hM.k16) (lvl_ok hM hm (hM.k16.sub hM.k8) (lvl_ok hM hm (hM.k8.sub hM.k4) (lvl_ok hM hm (hM.k4.sub hM.k2) h0))))

theorem wa_ok : IsH (wa M I) (Rwa d R) := fun t h j => by
  have e : wa M I (ix2 t (lane h j)) = mm (b16 (xinv M (mab M I))) (bd M (b16 I.at_)) (ix2 t (lane h j)) := by
    generalize lane h j = l
    pointwise [wa, wab, mm, b16]
  rw [e]; exact (xinv_ok hM hI).b16.mmS (IsS.bd hM hI.at_.b16) t h j

theorem wb_ok : IsH (wb M I) (Rwb d R) := fun t h j => by
  have e : wb M I (ix2 t (lane h j)) = mm (b16 (xinv M (mab M I))) (bd M (b16 (mv M I))) (ix2 t (lane h j)) := by
    generalize lane h j = l
    pointwise [wb, wab, mm, b16]
  rw [e]; exact (xinv_ok hM hI).b16.mmS (IsS.bd hM (mv_ok hM hI).b16) t h j

theorem yq_ok : IsH (yq M I) (Ryq d R) := fun t h j => by
  have e : yq M I (ix2 t (lane h j)) = addf I.rt (mm (b16 (nrb M I)) (bd M (wa M I))) (ix2 t (lane h j)) := by
    generalize lane h j = l
    pointwise [yq, yqc, mm, b16]
    simp only [mul_zero, Finset.sum_const_zero, add_zero]
  rw [e]; exact hI.rt.add ((nrb_ok hM hI).b16.mmS (IsS.bd hM (wa_ok hM hI))) t h j

theorem yc_ok : IsH (yc M I) (Ryc d R) := fun t h j => by
  have e : yc M I (ix2 t (lane h j)) = addf (mm (b16 (nrb M I)) (bd M (wb M I))) (mm (b16 (nrk M I)) (bd M (b16 I.v))) (ix2 t (lane h j)) := by
    generalize lane h j = l
    pointwise [yc, yqc, mm, b16]
  rw [e]; exact ((nrb_ok hM hI).b16.mmS (IsS.bd hM (wb_ok hM hI))).add ((nrk_ok hM hI).b16.mmS (IsS.bd hM hI.v.b16)) t h j

theorem phi_ok : IsS (phi M I) (Rphi d R) := fun h i h' j => by
  have e : phi M I (ix2 (lane h i) (lane h' j)) = (∑ k : Fin 64, wa M I (ix2 k (lane h i)) * b16 I.bh (ix2 k (lane h' j))) * M.st (ix2 (lane h i) (lane h' j)) := by
    generalize lane h i = l; generalize lane h' j = l'
    pointwise [phi, php, b16]
    simp only [zero_mul, Finset.sum_const_zero, add_zero]
  rw [e, hM.st]
  simp only [wa_ok hM hI _ _ _, hI.bh.b16 _ _ _, ← EReal.coe_mul, coe_sum]
  congr 1
  by_cases hh : h = h'
  · subst hh; simp [Rphi, Matrix.mul_apply]
  · simp [hh]

theorem psi_ok : IsS (psi M I) (Rpsi d R) := fun h i h' j => by
  have e : psi M I (ix2 (lane h i) (lane h' j)) = ((∑ k : Fin 64, wb M I (ix2 k (lane h i)) * b16 I.bh (ix2 k (lane h' j))) + ∑ k : Fin 64, b16 I.v (ix2 k (lane h i)) * b16 I.kh (ix2 k (lane h' j))) * M.st (ix2 (lane h i) (lane h' j)) := by
    generalize lane h i = l; generalize lane h' j = l'
    pointwise [psi, php, b16]
  rw [e, hM.st]
  simp only [wb_ok hM hI _ _ _, hI.bh.b16 _ _ _, hI.v.b16 _ _ _, hI.kh.b16 _ _ _, ← EReal.coe_mul, coe_sum, ← EReal.coe_add]
  congr 1
  by_cases hh : h = h'
  · subst hh; simp [Rpsi, Matrix.mul_apply]
  · simp [hh]

theorem yOut_ok {s : FVec Ideal S128x128 .f32} {S : Fin 2 → Mat} (hs : IsS s S) : IsH (yOut M I s) (fun h => RyOut d R h S) :=
  ((yq_ok hM hI).b16.mmT hs.b16).add (yc_ok hM hI)

theorem sOut_ok {s : FVec Ideal S128x128 .f32} {S : Fin 2 → Mat} (hs : IsS s S) : IsS (sOut M I s) (fun h => RsOut d R h S) := by
  have h0 : IsS (mulf s (broadcastTo S128x128 I.pt broadcasts_S1x128_S128x128)) (fun h => Matrix.of fun i q => S h i q * R.pt h q) := fun h i h' j => by
    have e : mulf s (broadcastTo S128x128 I.pt broadcasts_S1x128_S128x128) (ix2 (lane h i) (lane h' j)) = s (ix2 (lane h i) (lane h' j)) * I.pt (ix2 0 (lane h' j)) := by
      generalize lane h i = l; generalize lane h' j = l'
      pointwise
    rw [e, hs, hI.pt, ← EReal.coe_mul]
    congr 1
    by_cases hh : h = h'
    · subst hh; simp
    · simp [hh]
  exact (h0.add (hs.b16.mm (phi_ok hM hI).b16)).add (psi_ok hM hI)

end Stages

end Cert.KernelIdeal.Chain
end
-- ==== Proof.Chunk.lean ====
/- The chunked recurrence over the reals: one chunk of the state recurrence in closed form, and the
   triangular inverse by block doubling. Nothing here speaks of a program. -/
module

public import Mathlib.Analysis.SpecialFunctions.Exp
public import Mathlib.Data.Matrix.Mul
public import Mathlib.Tactic.Ring
public import Mathlib.Tactic.LinearCombination
public import Mathlib.Tactic.Abel
public import Mathlib.Tactic.Linarith

@[expose] public section

noncomputable section

namespace Cert.Chunk

open scoped BigOperators

variable {ι κ ν : Type} [Fintype ι] [Fintype κ]

/-- One step of the recurrence: decay the state by columns, add the rank-one correction and the new outer product. -/
def stepS (S : ν → κ → ℝ) (w k a b : κ → ℝ) (v : ν → ℝ) : ν → κ → ℝ :=
  fun i q => S i q * w q + (∑ p, S i p * a p) * b q + v i * k q

/-- The states of a run from `S0`: the input of step `n` is the one at time `σ n`. -/
def run (σ : ℕ → ι) (lw k a b : ι → κ → ℝ) (v : ι → ν → ℝ) (S0 : ν → κ → ℝ) : ℕ → ν → κ → ℝ
  | 0 => S0
  | n + 1 => stepS (run σ lw k a b v S0 n) (fun q => Real.exp (lw (σ n) q)) (k (σ n)) (a (σ n)) (b (σ n)) (v (σ n))

/-- A run of `m + n` steps is a run of `m` followed by one of `n`. -/
theorem run_add (σ : ℕ → ι) (lw k a b : ι → κ → ℝ) (v : ι → ν → ℝ) (S0 : ν → κ → ℝ) (m n : ℕ) :
    run σ lw k a b v S0 (m + n) = run (fun j => σ (m + j)) lw k a b v (run σ lw k a b v S0 m) n := by
  induction n with
  | zero => rfl
  | succ n ih => rw [← Nat.add_assoc]; simp only [run, ih]

/-- Runs over inputs that agree along the times read are the same. -/
theorem run_congr {ι' : Type} (σ : ℕ → ι) (σ' : ℕ → ι') {lw k a b : ι → κ → ℝ} {v : ι → ν → ℝ} {lw' k' a' b' : ι' → κ → ℝ}
    {v' : ι' → ν → ℝ} (S0 : ν → κ → ℝ) (n : ℕ)
    (h : ∀ j < n, lw (σ j) = lw' (σ' j) ∧ k (σ j) = k' (σ' j) ∧ a (σ j) = a' (σ' j) ∧ b (σ j) = b' (σ' j) ∧ v (σ j) = v' (σ' j)) :
    run σ lw k a b v S0 n = run σ' lw' k' a' b' v' S0 n := by
  induction n with
  | zero => rfl
  | succ n ih =>
    obtain ⟨h1, h2, h3, h4, h5⟩ := h n (Nat.lt_succ_self n)
    simp only [run, ih (fun j hj => h j (Nat.lt_succ_of_lt hj)), h1, h2, h3, h4, h5]

section Closed

variable (rank : ι → ℕ) (σ : ℕ → ι)

theorem sum_rank_succ (hinj : Function.Injective rank) {n : ℕ} (hn : rank (σ n) = n) (f : ι → ℝ) :
    (∑ s, if rank s < n + 1 then f s else 0) = (∑ s, if rank s < n then f s else 0) + f (σ n) := by
  classical
  have h : ∀ s, (if rank s < n + 1 then f s else 0) = (if rank s < n then f s else 0) + (if s = σ n then f s else 0) := by
    intro s
    by_cases hs : s = σ n
    · subst hs; simp [hn]
    · have : rank s ≠ n := fun e => hs (hinj (e.trans hn.symm))
      by_cases h1 : rank s < n
      · simp [hs, h1, Nat.lt_succ_of_lt h1]
      · have : ¬ rank s < n + 1 := by omega
        simp [hs, h1, this]
  simp only [h, Finset.sum_add_distrib, Finset.sum_ite_eq', Finset.mem_univ, if_true]

variable (lw k a b : ι → κ → ℝ) (v : ι → ν → ℝ) (S0 : ν → κ → ℝ)

/-- The decay's running sum, up to and with the step. -/
def cs (s : ι) (q : κ) : ℝ := ∑ s', if rank s' ≤ rank s then lw s' q else 0

/-- The correction vector of the step at `s`: the state before it, applied to `a`. -/
def U (s : ι) (i : ν) : ℝ := ∑ p, run σ lw k a b v S0 (rank s) i p * a s p

/-- The state after `n` steps in closed form. -/
theorem run_closed (hinj : Function.Injective rank) (C : ℕ) (hσ : ∀ n < C, rank (σ n) = n) :
    ∀ n ≤ C, ∀ i q, run σ lw k a b v S0 n i q =
      Real.exp (∑ s, if rank s < n then lw s q else 0) *
        (S0 i q + ∑ s, if rank s < n then
          U rank σ lw k a b v S0 s i * (b s q * Real.exp (-cs rank lw s q)) + v s i * (k s q * Real.exp (-cs rank lw s q)) else 0) := by
  intro n
  induction n with
  | zero => intro _ i q; simp [run]
  | succ n ih =>
    intro hn i q
    have hr := hσ n hn
    have hcs : cs rank lw (σ n) q = (∑ s, if rank s < n then lw s q else 0) + lw (σ n) q := by
      rw [← sum_rank_succ rank σ hinj hr (fun s => lw s q)]
      simp only [cs, hr, Nat.lt_succ_iff]
    have hU : U rank σ lw k a b v S0 (σ n) i = ∑ p, run σ lw k a b v S0 n i p * a (σ n) p := by
      simp only [U, hr]
    rw [sum_rank_succ rank σ hinj hr (fun s => lw s q), sum_rank_succ rank σ hinj hr]
    rw [run, stepS, ← hU, ih (by omega) i q, ← add_assoc, mul_add (Real.exp _)]
    rw [Real.exp_add]
    have he : Real.exp (∑ s, if rank s < n then lw s q else 0) * Real.exp (lw (σ n) q) * Real.exp (-cs rank lw (σ n) q) = 1 := by
      rw [← Real.exp_add, ← Real.exp_add, hcs]; simp
    linear_combination (-(U rank σ lw k a b v S0 (σ n) i * b (σ n) q + v (σ n) i * k (σ n) q)) * he

/-- The score matrix of `x` against the rescaled `y`: `x` decayed to its own step, `y` undecayed. -/
def dotK (x y : ι → κ → ℝ) (t s : ι) : ℝ := ∑ q, x t q * y s q

/-- The corrections solve a triangular system. -/
theorem U_system (hinj : Function.Injective rank) (C : ℕ) (hσ : ∀ n < C, rank (σ n) = n) (hC : ∀ s, rank s < C) (t : ι) (i : ν) :
    U rank σ lw k a b v S0 t i =
      (∑ q, (a t q * Real.exp (cs rank lw t q - lw t q)) * S0 i q)
      + (∑ s, (if rank s < rank t then dotK (fun t q => a t q * Real.exp (cs rank lw t q - lw t q)) (fun s q => b s q * Real.exp (-cs rank lw s q)) t s else 0) * U rank σ lw k a b v S0 s i)
      + ∑ s, (if rank s < rank t then dotK (fun t q => a t q * Real.exp (cs rank lw t q - lw t q)) (fun s q => k s q * Real.exp (-cs rank lw s q)) t s else 0) * v s i := by
  have hP : ∀ q, cs rank lw t q - lw t q = ∑ s, if rank s < rank t then lw s q else 0 := by
    intro q
    have := sum_rank_succ rank (fun _ => t) hinj (n := rank t) rfl (fun s => lw s q)
    simp only [cs, ← Nat.lt_succ_iff]
    rw [Nat.succ_eq_add_one, this]; ring
  rw [U]
  simp only [run_closed rank σ lw k a b v S0 hinj C hσ (rank t) (hC t).le, hP, dotK]
  have e1 : ∀ (y : ι → κ → ℝ) (z : ι → ℝ),
      (∑ s, (if rank s < rank t then ∑ q, a t q * Real.exp (∑ s, if rank s < rank t then lw s q else 0) * y s q else 0) * z s)
      = ∑ q, a t q * Real.exp (∑ s, if rank s < rank t then lw s q else 0) * ∑ s, if rank s < rank t then z s * y s q else 0 := by
    intro y z
    simp only [Finset.mul_sum]
    rw [Finset.sum_comm]
    refine Finset.sum_congr rfl fun s _ => ?_
    by_cases h : rank s < rank t
    · simp only [h, if_true, Finset.sum_mul]
      refine Finset.sum_congr rfl fun q _ => by ring
    · simp [h]
  rw [e1, e1, ← Finset.sum_add_distrib, ← Finset.sum_add_distrib]
  refine Finset.sum_congr rfl fun q _ => ?_
  have e2 : ∀ (f g : ι → ℝ), (∑ s, if rank s < rank t then f s + g s else 0)
      = (∑ s, if rank s < rank t then f s else 0) + ∑ s, if rank s < rank t then g s else 0 := by
    intro f g; rw [← Finset.sum_add_distrib]
    refine Finset.sum_congr rfl fun s _ => by split_ifs <;> simp
  rw [e2]; ring

/-- What the step at `t` emits: the state after it, applied to `r`. -/
theorem out_closed (r : ι → κ → ℝ) (hinj : Function.Injective rank) (C : ℕ) (hσ : ∀ n < C, rank (σ n) = n) (hC : ∀ s, rank s < C) (t : ι) (i : ν) :
    (∑ q, run σ lw k a b v S0 (rank t + 1) i q * r t q) =
      (∑ q, (r t q * Real.exp (cs rank lw t q)) * S0 i q)
      + (∑ s, (if rank s ≤ rank t then dotK (fun t q => r t q * Real.exp (cs rank lw t q)) (fun s q => b s q * Real.exp (-cs rank lw s q)) t s else 0) * U rank σ lw k a b v S0 s i)
      + ∑ s, (if rank s ≤ rank t then dotK (fun t q => r t q * Real.exp (cs rank lw t q)) (fun s q => k s q * Real.exp (-cs rank lw s q)) t s else 0) * v s i := by
  simp only [run_closed rank σ lw k a b v S0 hinj C hσ (rank t + 1) (hC t), dotK, Nat.lt_succ_iff]
  have hc : ∀ q, (∑ s, if rank s ≤ rank t then lw s q else 0) = cs rank lw t q := fun _ => rfl
  simp only [hc]
  have e1 : ∀ (y : ι → κ → ℝ) (z : ι → ℝ),
      (∑ s, (if rank s ≤ rank t then ∑ q, r t q * Real.exp (cs rank lw t q) * y s q else 0) * z s)
      = ∑ q, r t q * Real.exp (cs rank lw t q) * ∑ s, if rank s ≤ rank t then z s * y s q else 0 := by
    intro y z
    simp only [Finset.mul_sum]
    rw [Finset.sum_comm]
    refine Finset.sum_congr rfl fun s _ => ?_
    by_cases h : rank s ≤ rank t
    · simp only [h, if_true, Finset.sum_mul]
      refine Finset.sum_congr rfl fun q _ => by ring
    · simp [h]
  rw [e1, e1, ← Finset.sum_add_distrib, ← Finset.sum_add_distrib]
  refine Finset.sum_congr rfl fun q _ => ?_
  have e2 : ∀ (f g : ι → ℝ), (∑ s, if rank s ≤ rank t then f s + g s else 0)
      = (∑ s, if rank s ≤ rank t then f s else 0) + ∑ s, if rank s ≤ rank t then g s else 0 := by
    intro f g; rw [← Finset.sum_add_distrib]
    refine Finset.sum_congr rfl fun s _ => by split_ifs <;> simp
  rw [e2]; ring

/-- The state at the end of the chunk. -/
theorem end_closed (hinj : Function.Injective rank) (C : ℕ) (hσ : ∀ n < C, rank (σ n) = n) (hC : ∀ s, rank s < C) (i : ν) (q : κ) :
    run σ lw k a b v S0 C i q = S0 i q * Real.exp (∑ s, lw s q)
      + (∑ s, U rank σ lw k a b v S0 s i * (b s q * Real.exp (-cs rank lw s q) * Real.exp (∑ s, lw s q)))
      + ∑ s, v s i * (k s q * Real.exp (-cs rank lw s q) * Real.exp (∑ s, lw s q)) := by
  rw [run_closed rank σ lw k a b v S0 hinj C hσ C le_rfl]
  simp only [hC, if_true, Finset.sum_add_distrib, mul_add, Finset.mul_sum]
  rw [← add_assoc, mul_comm (Real.exp _) (S0 i q)]
  congr 1; congr 1
  all_goals refine Finset.sum_congr rfl fun s _ => by ring

end Closed

section Inverse

open Matrix

variable [DecidableEq ι]

/-- One level of the doubling: `X` inverts `A`, and `N` squares to nothing through `X`. -/
theorem double_step {X A N : Matrix ι ι ℝ} (hX : X * A = 1) (hN : N * X * N = 0) :
    (X + X * N * X) * (A - N) = 1 := by
  have h : X * N * X * N = 0 := by
    rw [Matrix.mul_assoc X N X, Matrix.mul_assoc X, hN, Matrix.mul_zero]
  rw [Matrix.add_mul, Matrix.mul_sub, Matrix.mul_sub, h, Matrix.mul_assoc (X * N) X A, hX, Matrix.mul_one]
  abel

end Inverse

end Cert.Chunk

end
-- ==== Proof.ChainReal.lean ====
/- The real chain is the recurrence: the doubling inverts the triangular system, and the chunk's outputs and its last
   state are those of the step-by-step run. -/
module

public import proofs.«01_k».proof.Proof.ChainIdeal
public import proofs.«01_k».proof.Proof.Chunk

@[expose] public section

noncomputable section

namespace Cert.KernelIdeal.Chain

open Cert.Chunk

/-- Lower triangular in the order of direction `d`. -/
def Low (d : Fin 2) (m : Mat) : Prop := ∀ t s, ¬ rk d s < rk d t → m t s = 0

/-- Zero outside the blocks of `n` steps. -/
def Sup (n : ℕ) (m : Mat) : Prop := ∀ t s, t.val / n ≠ s.val / n → m t s = 0

theorem Sup.mul {n : ℕ} {x y : Mat} (hx : Sup n x) (hy : Sup n y) : Sup n (x * y) := fun t s h => by
  rw [Matrix.mul_apply]
  refine Finset.sum_eq_zero fun k _ => ?_
  by_cases hk : t.val / n = k.val / n
  · rw [hy k s (hk ▸ h), mul_zero]
  · rw [hx t k hk, zero_mul]

theorem Sup.add {n : ℕ} {x y : Mat} (hx : Sup n x) (hy : Sup n y) : Sup n (x + y) := fun t s h => by
  rw [Matrix.add_apply, hx t s h, hy t s h, add_zero]

theorem Sup.mono {n : ℕ} {x : Mat} (hx : Sup n x) : Sup (n * 2) x := fun t s h => hx t s fun e => h (by
  rw [← Nat.div_div_eq_div_mul, ← Nat.div_div_eq_div_mul, e])

theorem double_zero {n : ℕ} {m x : Mat} {d : Fin 2} (hm : Low d m) (hx : Sup n x) (hn : 0 < n) :
    hmul m (blk (n * 2) - blk n) * x * hmul m (blk (n * 2) - blk n) = 0 := by
  have hN : ∀ t s, ¬ (rk d s < rk d t ∧ t.val / (n * 2) = s.val / (n * 2) ∧ t.val / n ≠ s.val / n) → hmul m (blk (n * 2) - blk n) t s = 0 := by
    intro t s h
    by_cases h1 : rk d s < rk d t
    · by_cases h2 : t.val / n = s.val / n
      · have h3 : t.val / (n * 2) = s.val / (n * 2) := by rw [← Nat.div_div_eq_div_mul, ← Nat.div_div_eq_div_mul, h2]
        simp [hmul, blk, ind, h2, h3]
      · have h3 : t.val / (n * 2) ≠ s.val / (n * 2) := fun e => h ⟨h1, e, h2⟩
        simp [hmul, blk, ind, h2, h3]
    · simp [hmul, hm t s h1]
  ext t u
  rw [Matrix.mul_apply]
  refine Finset.sum_eq_zero fun s' _ => ?_
  rw [Matrix.mul_apply, Finset.sum_mul]
  refine Finset.sum_eq_zero fun s _ => ?_
  by_cases h1 : rk d s < rk d t ∧ t.val / (n * 2) = s.val / (n * 2) ∧ t.val / n ≠ s.val / n
  · by_cases h2 : s.val / n = s'.val / n
    · rw [hN s' u, mul_zero]
      rintro ⟨h3, h4, h5⟩
      obtain ⟨h6, h7, h8⟩ := h1
      rw [← Nat.div_div_eq_div_mul, ← Nat.div_div_eq_div_mul] at h7 h4
      have m1 : ∀ a b : ℕ, a ≤ b → a / n ≤ b / n := fun a b h => Nat.div_le_div_right h
      have := t.isLt; have := s.isLt; have := s'.isLt; have := u.isLt
      fin_cases d
      · simp only [rk, Fin.zero_eta, if_true] at h3 h6
        have := m1 s.val t.val h6.le; have := m1 u.val s'.val h3.le
        omega
      · simp only [rk, Fin.mk_one, one_ne_zero, if_false] at h3 h6
        have := m1 t.val s.val (by omega); have := m1 s'.val u.val (by omega)
        omega
    · rw [hx s s' h2, mul_zero, zero_mul]
  · rw [hN t s h1, zero_mul, zero_mul]

theorem hmul_sup (m : Mat) (n : ℕ) : Sup (n * 2) (hmul m (blk (n * 2) - blk n)) := fun t s h => by
  have h2 : t.val / n ≠ s.val / n := fun e => h (by rw [← Nat.div_div_eq_div_mul, ← Nat.div_div_eq_div_mul, e])
  simp [hmul, blk, ind, h, h2]

/-- One level: from the inverse on blocks of `n` to the inverse on blocks of `2 n`. -/
theorem level {n : ℕ} {m x : Mat} {d : Fin 2} (hm : Low d m) (hx : Sup n x) (hn : 0 < n) (hi : x * (1 - hmul m (blk n)) = 1) :
    Sup (n * 2) (Rlvl m (blk (n * 2) - blk n) x) ∧ Rlvl m (blk (n * 2) - blk n) x * (1 - hmul m (blk (n * 2))) = 1 := by
  refine ⟨hx.mono.add ((hx.mono.mul (hmul_sup m n)).mul hx.mono), ?_⟩
  have e : (1 : Mat) - hmul m (blk (n * 2)) = (1 - hmul m (blk n)) - hmul m (blk (n * 2) - blk n) := by
    ext t s; simp only [Matrix.sub_apply, hmul]; ring
  rw [e]
  exact double_step hi (double_zero hm hx hn)

theorem Rx0_eq (m : Mat) : Rx0 m = Rlvl m (blk (1 * 2) - blk 1) 1 + hmul m (blk 1) := by
  ext t s
  simp only [Rx0, Rlvl, one_mul, mul_one, Matrix.add_apply, Matrix.sub_apply, hmul, ind, Matrix.one_apply]
  ring

theorem Rinv_mul {m : Mat} {d : Fin 2} (hm : Low d m) : Rinv m * (1 - m) = 1 := by
  have h1 : hmul m (blk 1) = 0 := by
    ext t s
    by_cases h : rk d s < rk d t
    · have : t ≠ s := fun e => by subst e; exact lt_irrefl _ h
      have : t.val ≠ s.val := fun e => this (Fin.ext e)
      simp [hmul, blk, ind, this]
    · simp [hmul, hm t s h]
  have a0 : Sup 1 (1 : Mat) := fun t s h => Matrix.one_apply_ne fun e => h (by rw [e])
  obtain ⟨s1, a1⟩ := level (n := 1) hm a0 (by omega) (by rw [h1, sub_zero, one_mul])
  rw [show Rlvl m (blk (1 * 2) - blk 1) 1 = Rx0 m by rw [Rx0_eq, h1, add_zero]] at s1 a1
  obtain ⟨s2, a2⟩ := level (n := 2) hm s1 (by omega) a1
  obtain ⟨s3, a3⟩ := level (n := 4) hm s2 (by omega) a2
  obtain ⟨s4, a4⟩ := level (n := 8) hm s3 (by omega) a3
  obtain ⟨s5, a5⟩ := level (n := 16) hm s4 (by omega) a4
  obtain ⟨-, a6⟩ := level (n := 32) hm s5 (by omega) a5
  have e : (ind fun _ _ => True : Mat) = blk (32 * 2) := by
    ext t s
    have := t.isLt; have := s.isLt
    have : t.val / 64 = s.val / 64 := by omega
    simp [blk, ind, this]
  have e' : hmul m (blk (32 * 2)) = m := by
    rw [← e]; ext t s; simp [hmul, ind]
  rw [e'] at a6
  rw [Rinv, e]
  exact a6

/-! ## The chunk -/

/-- The step at place `n` of direction `d`. -/
def sg (d : Fin 2) (n : ℕ) : Fin 64 := if d = 0 then ⟨n % 64, by omega⟩ else ⟨63 - n % 64, by omega⟩

theorem rk_inj (d : Fin 2) : Function.Injective (rk d) := fun t s h => by
  have := t.isLt; have := s.isLt
  fin_cases d <;> simp [rk] at h <;> exact Fin.ext (by omega)

theorem rk_sg (d : Fin 2) (n : ℕ) (hn : n < 64) : rk d (sg d n) = n := by
  fin_cases d <;> simp [rk, sg] <;> omega

theorem rk_lt (d : Fin 2) (s : Fin 64) : rk d s < 64 := by
  have := s.isLt
  fin_cases d <;> simp [rk] <;> omega

/-- The real inputs of one pair over one chunk, before rescaling, for each head. -/
structure Raw where
  r : Fin 2 → Fin 64 → Fin 64 → ℝ
  v : Fin 2 → Fin 64 → Fin 64 → ℝ
  a : Fin 2 → Fin 64 → Fin 64 → ℝ
  lw : Fin 2 → Fin 64 → Fin 64 → ℝ
  k : Fin 2 → Fin 64 → Fin 64 → ℝ
  b : Fin 2 → Fin 64 → Fin 64 → ℝ

/-- The rescaled inputs of a chunk. -/
def Raw.ins (d : Fin 2) (X : Raw) : RIns where
  at_ h := Matrix.of fun t q => X.a h t q * Real.exp (cs (rk d) (X.lw h) t q - X.lw h t q)
  rt h := Matrix.of fun t q => X.r h t q * Real.exp (cs (rk d) (X.lw h) t q)
  v h := Matrix.of (X.v h)
  bt h := Matrix.of fun t q => X.b h t q * Real.exp (-cs (rk d) (X.lw h) t q)
  kt h := Matrix.of fun t q => X.k h t q * Real.exp (-cs (rk d) (X.lw h) t q)
  bh h := Matrix.of fun t q => X.b h t q * Real.exp (-cs (rk d) (X.lw h) t q) * Real.exp (∑ s, X.lw h s q)
  kh h := Matrix.of fun t q => X.k h t q * Real.exp (-cs (rk d) (X.lw h) t q) * Real.exp (∑ s, X.lw h s q)
  pt h q := Real.exp (∑ s, X.lw h s q)

/-- The run of the chunk from `S`. -/
def Raw.run (d : Fin 2) (X : Raw) (h : Fin 2) (S : Mat) : ℕ → Mat := Chunk.run (sg d) (X.lw h) (X.k h) (X.a h) (X.b h) (X.v h) S

variable (d : Fin 2) (X : Raw) (h : Fin 2) (S : Fin 2 → Mat)

theorem low_Rmab (R : RIns) : Low d (Rmab d R h) := fun t s hts => by simp [Rmab, msk, ind, hts]

theorem U_eq : (Matrix.of fun t i => U (rk d) (sg d) (X.lw h) (X.k h) (X.a h) (X.b h) (X.v h) (S h) t i : Mat)
    = Rwa d (X.ins d) h * (S h).transpose + Rwb d (X.ins d) h := by
  set UU : Mat := Matrix.of fun t i => U (rk d) (sg d) (X.lw h) (X.k h) (X.a h) (X.b h) (X.v h) (S h) t i with hU
  have hs : UU = (X.ins d).at_ h * (S h).transpose + Rmab d (X.ins d) h * UU + Rmak d (X.ins d) h * (X.ins d).v h := by
    ext t i
    refine (U_system (rk d) (sg d) (X.lw h) (X.k h) (X.a h) (X.b h) (X.v h) (S h) (rk_inj d) 64 (fun n hn => rk_sg d n hn) (rk_lt d) t i).trans ?_
    simp only [Matrix.add_apply, Matrix.mul_apply, Matrix.transpose_apply, Rmab, Rmak, msk, ind, Raw.ins, dotK, Matrix.of_apply, mul_ite, mul_one, mul_zero, hU]
  have h2 : (1 - Rmab d (X.ins d) h) * UU = (X.ins d).at_ h * (S h).transpose + Rmak d (X.ins d) h * (X.ins d).v h := by
    rw [Matrix.sub_mul, Matrix.one_mul]
    nth_rw 1 [hs]
    abel
  have h3 := congrArg (fun z => Rinv (Rmab d (X.ins d) h) * z) h2
  simp only [← Matrix.mul_assoc, Rinv_mul (low_Rmab d h (X.ins d)), Matrix.one_mul, Matrix.mul_add] at h3
  rw [h3, Rwa, Rwb]
  simp only [Matrix.mul_assoc]

/-- What the chunk emits: each step's state applied to its `r`. -/
theorem RyOut_eq (t i : Fin 64) : RyOut d (X.ins d) h S t i = ∑ q, X.run d h (S h) (rk d t + 1) i q * X.r h t q := by
  refine Eq.trans ?_ (out_closed (rk d) (sg d) _ _ _ _ _ _ (X.r h) (rk_inj d) 64 (fun n hn => rk_sg d n hn) (rk_lt d) t i).symm
  have e : RyOut d (X.ins d) h S = (X.ins d).rt h * (S h).transpose + Rnrb d (X.ins d) h * (Matrix.of fun t i => U (rk d) (sg d) (X.lw h) (X.k h) (X.a h) (X.b h) (X.v h) (S h) t i : Mat)
      + Rnrk d (X.ins d) h * (X.ins d).v h := by
    rw [U_eq, RyOut, Ryq, Ryc, Matrix.add_mul, Matrix.mul_add, Matrix.mul_assoc]
    abel
  rw [e]
  simp only [Matrix.add_apply, Matrix.mul_apply, Matrix.transpose_apply, Rnrb, Rnrk, msk, ind, Raw.ins, dotK, Matrix.of_apply, mul_ite, mul_one, mul_zero]

/-- The state the chunk leaves. -/
theorem RsOut_eq : RsOut d (X.ins d) h S = X.run d h (S h) 64 := by
  ext i q
  refine Eq.trans ?_ (end_closed (rk d) (sg d) _ _ _ _ _ _ (rk_inj d) 64 (fun n hn => rk_sg d n hn) (rk_lt d) i q).symm
  have e : RsOut d (X.ins d) h S = (Matrix.of fun i q => S h i q * (X.ins d).pt h q)
      + (Matrix.of fun t i => U (rk d) (sg d) (X.lw h) (X.k h) (X.a h) (X.b h) (X.v h) (S h) t i : Mat).transpose * (X.ins d).bh h
      + ((X.ins d).v h).transpose * (X.ins d).kh h := by
    rw [U_eq, RsOut, Rphi, Rpsi, Matrix.transpose_add, Matrix.transpose_mul, Matrix.transpose_transpose, Matrix.add_mul, Matrix.mul_assoc]
    abel
  rw [e]
  simp only [Matrix.add_apply, Matrix.mul_apply, Matrix.transpose_apply, Raw.ins, Matrix.of_apply]

end Cert.KernelIdeal.Chain

end
-- ==== Proof.MasksOf.lean ====
/- The kernel's masks: written once over the machine words they are made of, and read as 0/1 matrices. -/
module

public import proofs.«01_k».proof.Proof.ChainReal

@[expose] public section

set_option maxRecDepth 16384

noncomputable section

namespace Cert.KernelIdeal.Chain

open Idealize.ShloMosaic Cert.KernelIdeal Cert.KernelIdeal.Gen

variable {F : FTy → Type} [FloatOps F] [Named F]

/-- The floor of a quotient of signed words, as printed: the truncated quotient, less one where the signs differ and a
    remainder is left. -/
def fdiv (S : Shape) (v : IVec S 32) (k : BitVec 32) : IVec S 32 :=
  select (andi (cmpi .ne (subi (extui 32 (cmpi .sgt v (broadcast S 0#32)) natLt_1_32) (extui 32 (cmpi .slt v (broadcast S 0#32)) natLt_1_32))
      (broadcast S (Scalar.subi (Scalar.extui (Scalar.cmpi .sgt k 0#32)) (Scalar.extui (Scalar.cmpi .slt k 0#32)))))
      (cmpi .ne (remsi v (broadcast S k)) (broadcast S 0#32)))
    (subi (divsi v (broadcast S k)) (broadcast S 1#32)) (divsi v (broadcast S k))

def row : IVec S64x128 32 := iota .tc S64x128 32 [0] iota_S64x128_d0_w32
def lan : IVec S64x128 32 := iota .tc S64x128 32 [1] iota_S64x128_d1_w32
def w64 : BitVec 32 := Scalar.select (Scalar.cmpi .eq 64#32 0#32) 1#32 64#32
/-- A lane's place within its head. -/
def col : IVec S64x128 32 := k0_pay79 lan w64 (broadcast S64x128 w64)

/-- A comparison as a 0/1 number. -/
def num (c : IVec S64x128 1) : FVec F S64x128 .f32 := sitofp .f32 (extui 32 c natLt_1_32)

def same (k : BitVec 32) : FVec F S64x128 .f32 := num (cmpi .eq (fdiv S64x128 row k) (fdiv S64x128 col k))
def headMask (h : BitVec 32) : FVec F S64x128 .bf16 :=
  truncf .bf16 (num (cmpi .eq (fdiv S64x128 lan 64#32) (broadcast S64x128 h)) : FVec F S64x128 .f32) bitsLt_bf16_f32
def stMask : FVec F S128x128 .f32 :=
  sitofp .f32 (extui 32 (cmpi .eq (fdiv S128x128 (iota .tc S128x128 32 [0] iota_S128x128_d0_w32) 64#32)
    (fdiv S128x128 (iota .tc S128x128 32 [1] iota_S128x128_d1_w32) 64#32)) natLt_1_32)

/-- The masks of direction `d`. -/
def masks (d : Fin 2) : Masks F where
  p := headMask 0#32
  q := headMask 1#32
  eye := num (cmpi .eq row col)
  strict := num (if d = 0 then cmpi .slt col row else cmpi .sgt col row)
  incl := num (if d = 0 then cmpi .sle col row else cmpi .sge col row)
  k2 := same 2#32
  k4 := same 4#32
  k8 := same 8#32
  k16 := same 16#32
  k32 := same 32#32
  st := stMask

/-- The time mask of direction `d`. -/
def triMask (d : Fin 2) : FVec F S64x64 .bf16 :=
  truncf .bf16 (sitofp .f32 (extui 32 (if d = 0
    then cmpi .sle (iota .tc S64x64 32 [1] iota_S64x64_d1_w32) (iota .tc S64x64 32 [0] iota_S64x64_d0_w32)
    else cmpi .sge (iota .tc S64x64 32 [1] iota_S64x64_d1_w32) (iota .tc S64x64 32 [0] iota_S64x64_d0_w32)) natLt_1_32) : FVec F S64x64 .f32) bitsLt_bf16_f32

/-! ## Their values -/

/-- One word of `fdiv`. -/
def fd (x k : BitVec 32) : BitVec 32 := fdiv S64x128 (fun _ => x) k (ix2 0 0)

/-- One word of `col`. -/
def fm (x : BitVec 32) : BitVec 32 := k0_pay79 (fun _ => x) w64 (broadcast S64x128 w64) (ix2 0 0)

theorem row_at (t : Fin 64) (l : Fin 128) : row (ix2 t l) = BitVec.ofNat 32 t.val := by
  pointwise [row]
theorem lan_at (t : Fin 64) (l : Fin 128) : lan (ix2 t l) = BitVec.ofNat 32 l.val := by
  pointwise [lan]

theorem fm_eq : ∀ l : Fin 128, fm (BitVec.ofNat 32 l.val) = BitVec.ofNat 32 (l.val % 64) := by decide +kernel

theorem lane_mod (h : Fin 2) (j : Fin 64) : (lane h j).val % 64 = j.val := by simp only [lane]; omega

theorem col_at (t : Fin 64) (h : Fin 2) (j : Fin 64) : col (ix2 t (lane h j)) = BitVec.ofNat 32 j.val := by
  have e : col (ix2 t (lane h j)) = fm (lan (ix2 t (lane h j))) := rfl
  rw [e, lan_at, fm_eq, lane_mod]

theorem bit_at (w : BitVec 1) : FloatOps.sitofp (F := Ideal) FTy.f32 (BitVec.setWidth 32 w) = ((if w = 1#1 then 1 else 0 : ℝ) : EReal) := by
  rcases BitVec.eq_zero_or_eq_one w with rfl | rfl <;> simp [FloatOps.sitofp]

theorem num_at (c : IVec S64x128 1) (t : Fin 64) (l : Fin 128) : (num c : FVec Ideal S64x128 .f32) (ix2 t l) = ((if c (ix2 t l) = 1#1 then 1 else 0 : ℝ) : EReal) := by
  rw [← bit_at]; rfl

theorem fd2 : ∀ t : Fin 64, fd (BitVec.ofNat 32 t.val) 2#32 = BitVec.ofNat 32 (t.val / 2) := by decide +kernel
theorem fd4 : ∀ t : Fin 64, fd (BitVec.ofNat 32 t.val) 4#32 = BitVec.ofNat 32 (t.val / 4) := by decide +kernel
theorem fd8 : ∀ t : Fin 64, fd (BitVec.ofNat 32 t.val) 8#32 = BitVec.ofNat 32 (t.val / 8) := by decide +kernel
theorem fd16 : ∀ t : Fin 64, fd (BitVec.ofNat 32 t.val) 16#32 = BitVec.ofNat 32 (t.val / 16) := by decide +kernel
theorem fd32 : ∀ t : Fin 64, fd (BitVec.ofNat 32 t.val) 32#32 = BitVec.ofNat 32 (t.val / 32) := by decide +kernel
theorem fd64 : ∀ t : Fin 128, fd (BitVec.ofNat 32 t.val) 64#32 = BitVec.ofNat 32 (t.val / 64) := by decide +kernel

theorem ofNat_inj {a b : ℕ} (ha : a < 128) (hb : b < 128) : BitVec.ofNat 32 a = BitVec.ofNat 32 b ↔ a = b := by
  constructor
  · intro h; have := congrArg BitVec.toNat h; simp only [BitVec.toNat_ofNat] at this; omega
  · rintro rfl; rfl

theorem eq_one {a b : BitVec 32} : IntOp.cmpi .eq a b = 1#1 ↔ a = b := by
  by_cases h : a = b
  · subst h; simp [IntOp.cmpi]
  · have : (a == b) = false := by simpa using h
    simp [IntOp.cmpi, h, this]

theorem fdiv_at (S : Shape) (v : IVec S 32) (k : BitVec 32) (i : S.Idx) : fdiv S v k i = fd (v i) k := rfl
theorem cmpi_at (S : Shape) (p : CmpIPredicate) (a b : IVec S 32) (i : S.Idx) : cmpi p a b i = IntOp.cmpi p (a i) (b i) := rfl

theorem same_ok (n : ℕ) (k : BitVec 32) (hk : ∀ t : Fin 64, fd (BitVec.ofNat 32 t.val) k = BitVec.ofNat 32 (t.val / n)) :
    IsH (same k : FVec Ideal S64x128 .f32) (fun _ => ind fun t s => t.val / n = s.val / n) := fun t h s => by
  rw [same, num_at]
  have h1 := Nat.div_le_self t.val n
  have h2 := Nat.div_le_self s.val n
  rw [cmpi_at, fdiv_at, fdiv_at, row_at, col_at, hk, hk]
  simp only [eq_one, ofNat_inj (show t.val / n < 128 by omega) (show s.val / n < 128 by omega), ind]

theorem head_at (h0 : ℕ) (h1 : h0 < 128) (t : Fin 64) (h : Fin 2) (j : Fin 64) :
    (headMask (BitVec.ofNat 32 h0) : FVec Ideal S64x128 .bf16) (ix2 t (lane h j)) = ((if h.val = h0 then 1 else 0 : ℝ) : EReal) := by
  have e0 : (headMask (BitVec.ofNat 32 h0) : FVec Ideal S64x128 .bf16) (ix2 t (lane h j))
    = (num (cmpi .eq (fdiv S64x128 lan 64#32) (broadcast S64x128 (BitVec.ofNat 32 h0))) : FVec Ideal S64x128 .f32) (ix2 t (lane h j)) := by
    pointwise [headMask]
  have e : broadcast S64x128 (BitVec.ofNat 32 h0) (ix2 t (lane h j)) = BitVec.ofNat 32 h0 := rfl
  have h2 : (lane h j).val / 64 = h.val := by simp only [lane]; omega
  rw [e0, num_at, cmpi_at, fdiv_at, e, lan_at, fd64, h2]
  simp only [eq_one, ofNat_inj (show h.val < 128 by omega) h1]

theorem sle_one : ∀ a b : Fin 64, IntOp.cmpi .sle (BitVec.ofNat 32 a.val) (BitVec.ofNat 32 b.val) = 1#1 ↔ a.val ≤ b.val := by decide +kernel
theorem slt_one : ∀ a b : Fin 64, IntOp.cmpi .slt (BitVec.ofNat 32 a.val) (BitVec.ofNat 32 b.val) = 1#1 ↔ a.val < b.val := by decide +kernel
theorem sge_one : ∀ a b : Fin 64, IntOp.cmpi .sge (BitVec.ofNat 32 a.val) (BitVec.ofNat 32 b.val) = 1#1 ↔ b.val ≤ a.val := by decide +kernel
theorem sgt_one : ∀ a b : Fin 64, IntOp.cmpi .sgt (BitVec.ofNat 32 a.val) (BitVec.ofNat 32 b.val) = 1#1 ↔ b.val < a.val := by decide +kernel

theorem rk_zero (t : Fin 64) : rk 0 t = t.val := rfl
theorem rk_one (t : Fin 64) : rk 1 t = 63 - t.val := rfl

theorem masks_ok (d : Fin 2) : MasksOK (masks d : Masks Ideal) d where
  p t h j := by
    have := head_at 0 (by omega) t h j
    simpa only [masks, ← Fin.val_eq_zero_iff] using this
  q t h j := by
    have := head_at 1 (by omega) t h j
    have e : h = 1 ↔ h.val = 1 := by omega
    simpa only [masks, e] using this
  eye t h s := by
    show (num _ : FVec Ideal S64x128 .f32) _ = _
    rw [num_at]
    have e : cmpi .eq row col (ix2 t (lane h s)) = IntOp.cmpi .eq (row (ix2 t (lane h s))) (col (ix2 t (lane h s))) := rfl
    rw [e, row_at, col_at]
    simp only [eq_one, ofNat_inj (show t.val < 128 by omega) (show s.val < 128 by omega), ind, Fin.ext_iff]
  strict t h s := by
    show (num _ : FVec Ideal S64x128 .f32) _ = _
    rw [num_at]
    have a := t.isLt; have b := s.isLt
    fin_cases d
    · have e : cmpi .slt col row (ix2 t (lane h s)) = IntOp.cmpi .slt (col (ix2 t (lane h s))) (row (ix2 t (lane h s))) := rfl
      simp only [Fin.zero_eta, if_true, e, row_at, col_at, slt_one, ind, rk_zero]; congr
    · have e : cmpi .sgt col row (ix2 t (lane h s)) = IntOp.cmpi .sgt (col (ix2 t (lane h s))) (row (ix2 t (lane h s))) := rfl
      simp only [Fin.mk_one, one_ne_zero, if_false, e, row_at, col_at, sgt_one, ind, rk_one, show (63 - s.val < 63 - t.val) ↔ t.val < s.val by omega]
  incl t h s := by
    show (num _ : FVec Ideal S64x128 .f32) _ = _
    rw [num_at]
    have a := t.isLt; have b := s.isLt
    fin_cases d
    · have e : cmpi .sle col row (ix2 t (lane h s)) = IntOp.cmpi .sle (col (ix2 t (lane h s))) (row (ix2 t (lane h s))) := rfl
      simp only [Fin.zero_eta, if_true, e, row_at, col_at, sle_one, ind, rk_zero]; congr
    · have e : cmpi .sge col row (ix2 t (lane h s)) = IntOp.cmpi .sge (col (ix2 t (lane h s))) (row (ix2 t (lane h s))) := rfl
      simp only [Fin.mk_one, one_ne_zero, if_false, e, row_at, col_at, sge_one, ind, rk_one, show (63 - s.val ≤ 63 - t.val) ↔ t.val ≤ s.val by omega]
  k2 := same_ok 2 _ fd2
  k4 := same_ok 4 _ fd4
  k8 := same_ok 8 _ fd8
  k16 := same_ok 16 _ fd16
  k32 := same_ok 32 _ fd32
  st h i h' j := by
    set W : IVec S128x128 1 := cmpi .eq (fdiv S128x128 (iota .tc S128x128 32 [0] iota_S128x128_d0_w32) 64#32)
      (fdiv S128x128 (iota .tc S128x128 32 [1] iota_S128x128_d1_w32) 64#32) with hW
    have e : (stMask : FVec Ideal S128x128 .f32) (ix2 (lane h i) (lane h' j)) = FloatOps.sitofp (F := Ideal) FTy.f32 (BitVec.setWidth 32 (W (ix2 (lane h i) (lane h' j)))) := rfl
    have e0 : iota .tc S128x128 32 [0] iota_S128x128_d0_w32 (ix2 (lane h i) (lane h' j)) = BitVec.ofNat 32 (lane h i).val := by pointwise
    have e1 : iota .tc S128x128 32 [1] iota_S128x128_d1_w32 (ix2 (lane h i) (lane h' j)) = BitVec.ofNat 32 (lane h' j).val := by pointwise
    have e2 : W (ix2 (lane h i) (lane h' j)) = IntOp.cmpi .eq (fd (iota .tc S128x128 32 [0] iota_S128x128_d0_w32 (ix2 (lane h i) (lane h' j))) 64#32)
      (fd (iota .tc S128x128 32 [1] iota_S128x128_d1_w32 (ix2 (lane h i) (lane h' j))) 64#32) := by rw [hW, cmpi_at, fdiv_at, fdiv_at]
    have h2 : ∀ (h : Fin 2) (j : Fin 64), (lane h j).val / 64 = h.val := fun h j => by simp only [lane]; omega
    show (stMask : FVec Ideal S128x128 .f32) _ = _
    rw [e, bit_at, e2, e0, e1, fd64, fd64, h2, h2]
    simp only [eq_one, ofNat_inj (show h.val < 128 by omega) (show h'.val < 128 by omega), Fin.ext_iff]

theorem tri_at (d : Fin 2) (t s : Fin 64) : (triMask d : FVec Ideal S64x64 .bf16) (ix2 t s) = ((if rk d s ≤ rk d t then 1 else 0 : ℝ) : EReal) := by
  have a := t.isLt; have b := s.isLt
  have e0 : iota .tc S64x64 32 [0] iota_S64x64_d0_w32 (ix2 t s) = BitVec.ofNat 32 t.val := by pointwise
  have e1 : iota .tc S64x64 32 [1] iota_S64x64_d1_w32 (ix2 t s) = BitVec.ofNat 32 s.val := by pointwise
  fin_cases d
  · have e : (triMask 0 : FVec Ideal S64x64 .bf16) (ix2 t s) = FloatOps.sitofp (F := Ideal) FTy.f32 (BitVec.setWidth 32 (IntOp.cmpi .sle (iota .tc S64x64 32 [1] iota_S64x64_d1_w32 (ix2 t s)) (iota .tc S64x64 32 [0] iota_S64x64_d0_w32 (ix2 t s)))) := rfl
    simp only [Fin.zero_eta, e, e0, e1, bit_at, sle_one, rk_zero]; congr
  · have e : (triMask 1 : FVec Ideal S64x64 .bf16) (ix2 t s) = FloatOps.sitofp (F := Ideal) FTy.f32 (BitVec.setWidth 32 (IntOp.cmpi .sge (iota .tc S64x64 32 [1] iota_S64x64_d1_w32 (ix2 t s)) (iota .tc S64x64 32 [0] iota_S64x64_d0_w32 (ix2 t s)))) := rfl
    simp only [Fin.mk_one, e, e0, e1, bit_at, sge_one, rk_one, show (63 - s.val ≤ 63 - t.val) ↔ t.val ≤ s.val by omega]

end Cert.KernelIdeal.Chain

end
-- ==== Proof.Loads.lean ====
/- What a chain loads and stores: one batch's blocks of a chunk out of its windows, one pair's state out of the scratch,
   and the two pieces it leaves. -/
module

public import proofs.«01_k».proof.Proof.MasksOf
public import Idealize.ShloMosaic.Lib.WholeRead

@[expose] public section

set_option maxRecDepth 16384

noncomputable section

namespace Cert.KernelIdeal.Pieces

open Idealize.ShloMosaic Idealize.ShloMosaic.TcCoe
open Cert.KernelIdeal Cert.KernelIdeal.Gen Cert.KernelIdeal.Chain

variable {F : FTy → Type} [FloatOps F] [Named F]

theorem inb3 (b : Fin 2) : ∀ a, (![b.val, 0, 0] : Fin S2x64x512.rank → ℕ) a + S1x64x512.size a ≤ S2x64x512.size a := by
  revert b; decide
theorem inb4 (b : Fin 2) : ∀ a, (![0, b.val, 0, 0] : Fin S1x2x64x512.rank → ℕ) a + S1x1x64x512.size a ≤ S1x2x64x512.size a := by
  revert b; decide
theorem inbS (d b : Fin 2) (g : Fin 4) :
    ∀ a, (![d.val, b.val, g.val, 0, 0] : Fin S2x2x4x128x128.rank → ℕ) a + S1x1x1x128x128.size a ≤ S2x2x4x128x128.size a := by
  revert d b g; decide
theorem inbY (b : Fin 2) (g : Fin 4) :
    ∀ a, (![b.val, 0, 128 * g.val] : Fin S2x64x512.rank → ℕ) a + S1x64x128.size a ≤ S2x64x512.size a := by
  revert b g; decide
theorem slG (g : Fin 4) : S64x512.Slices ![0, 128 * g.val] S64x128 := by revert g; decide
theorem slG1 (g : Fin 4) : S1x512.Slices ![0, 128 * g.val] S1x128 := by revert g; decide

/-- One batch's block of a window over the two batches. -/
def ld3 (m : Memref sig .tc .vmem S2x64x512 .f32) (h : m.IsWhole) (x : Vec F S2x64x512 .f32) (b : Fin 2) : FVec F S64x512 .f32 :=
  shapeCast S64x512 (View.readAt (Elt F) m.view (Rect.unit (s := S2x64x512) ![b.val, 0, 0] S1x64x512.size (inb3 b)).toLoadRect (h.unread x)) shapeCasts_S1x64x512_S64x512

/-- The same, of a window with a direction's axis before it. -/
def ld4 (m : Memref sig .tc .vmem S1x2x64x512 .f32) (h : m.IsWhole) (x : Vec F S1x2x64x512 .f32) (b : Fin 2) : FVec F S64x512 .f32 :=
  shapeCast S64x512 (View.readAt (Elt F) m.view (Rect.unit (s := S1x2x64x512) ![0, b.val, 0, 0] S1x1x64x512.size (inb4 b)).toLoadRect (h.unread x)) shapeCasts_S1x1x64x512_S64x512

/-- One batch's blocks out of the six windows of a direction. -/
def ldB (m1 : Memref sig .tc .vmem S2x64x512 .f32) (h1 : m1.IsWhole) (m2 : Memref sig .tc .vmem S2x64x512 .f32) (h2 : m2.IsWhole)
    (m3 : Memref sig .tc .vmem S2x64x512 .f32) (h3 : m3.IsWhole) (m4 : Memref sig .tc .vmem S1x2x64x512 .f32) (h4 : m4.IsWhole)
    (m5 : Memref sig .tc .vmem S1x2x64x512 .f32) (h5 : m5.IsWhole) (m6 : Memref sig .tc .vmem S1x2x64x512 .f32) (h6 : m6.IsWhole)
    (x1 x2 x3 : Vec F S2x64x512 .f32) (x4 x5 x6 : Vec F S1x2x64x512 .f32) (b : Fin 2) : Blocks F where
  r := ld3 m1 h1 x1 b
  v := ld3 m2 h2 x2 b
  a := ld3 m3 h3 x3 b
  lw := ld4 m4 h4 x4 b
  k := ld4 m5 h5 x5 b
  b := ld4 m6 h6 x6 b

/-- One pair's state out of the scratch. -/
def ldS (m : Memref sig .tc .vmem S2x2x4x128x128 .f32) (h : m.IsWhole) (x : Vec F S2x2x4x128x128 .f32) (d b : Fin 2) (g : Fin 4) : FVec F S128x128 .f32 :=
  shapeCast S128x128 (View.readAt (Elt F) m.view (Rect.unit (s := S2x2x4x128x128) ![d.val, b.val, g.val, 0, 0] S1x1x1x128x128.size (inbS d b g)).toLoadRect (h.unread x)) shapeCasts_S1x1x1x128x128_S128x128

/-- The emitted block of a pair, stored at its lanes. -/
def yP (d b : Fin 2) (g : Fin 4) (B : Blocks F) (s : FVec F S128x128 .f32) : View.Piece (Elt F) S2x64x512 .f32 :=
  ⟨Rect.unit (s := S2x64x512) ![b.val, 0, 128 * g.val] S1x64x128.size (inbY b g),
    shapeCast S1x64x128 (yOut (masks d) (ins (triMask d) B (128 * g.val) (slG g) (slG1 g)) s) shapeCasts_S64x128_S1x64x128⟩

/-- The state a pair leaves, stored at its place. -/
def sP (d b : Fin 2) (g : Fin 4) (B : Blocks F) (s : FVec F S128x128 .f32) : View.Piece (Elt F) S2x2x4x128x128 .f32 :=
  ⟨Rect.unit (s := S2x2x4x128x128) ![d.val, b.val, g.val, 0, 0] S1x1x1x128x128.size (inbS d b g),
    shapeCast S1x1x1x128x128 (sOut (masks d) (ins (triMask d) B (128 * g.val) (slG g) (slG1 g)) s) shapeCasts_S128x128_S1x1x1x128x128⟩

end Cert.KernelIdeal.Pieces

end
-- ==== Proof.InsIdeal.lean ====
/- The rescaled inputs of a pair of heads over the reals: real blocks give the real rescaled inputs. -/
module

public import proofs.«01_k».proof.Proof.ChainReal
public import proofs.«01_k».proof.Proof.MasksOf
public import proofs.«01_k».proof.Proof.Loads

@[expose] public section

set_option maxRecDepth 16384

noncomputable section

namespace Cert.KernelIdeal.Chain

open Idealize.ShloMosaic Cert.KernelIdeal Cert.KernelIdeal.Gen Cert.KernelIdeal.Pieces

/-- One batch's blocks of a chunk over the reals. -/
structure RBlocks where
  r : Fin 64 → Fin 512 → ℝ
  v : Fin 64 → Fin 512 → ℝ
  a : Fin 64 → Fin 512 → ℝ
  lw : Fin 64 → Fin 512 → ℝ
  k : Fin 64 → Fin 512 → ℝ
  b : Fin 64 → Fin 512 → ℝ

/-- A block holds the real block `X`. -/
def Is512 (x : FVec Ideal S64x512 .f32) (X : Fin 64 → Fin 512 → ℝ) : Prop := ∀ t l, x (ix2 t l) = (X t l : EReal)

structure BlocksOK (B : Blocks Ideal) (R : RBlocks) : Prop where
  r : Is512 B.r R.r
  v : Is512 B.v R.v
  a : Is512 B.a R.a
  lw : Is512 B.lw R.lw
  k : Is512 B.k R.k
  b : Is512 B.b R.b

/-- Lane `j` of head `h` of pair `g`. -/
def glane (g : Fin 4) (h : Fin 2) (j : Fin 64) : Fin 512 := ⟨128 * g.val + (h.val * 64 + j.val), by omega⟩

/-- The blocks of pair `g`, head by head. -/
def RBlocks.raw (R : RBlocks) (g : Fin 4) : Raw where
  r h t j := R.r t (glane g h j)
  v h t j := R.v t (glane g h j)
  a h t j := R.a t (glane g h j)
  lw h t j := R.lw t (glane g h j)
  k h t j := R.k t (glane g h j)
  b h t j := R.b t (glane g h j)

/-- The time mask applied to a real block is its running sum. -/
theorem tri_mm (d : Fin 2) (x : FVec Ideal S64x512 .bf16) (X : Fin 64 → Fin 512 → ℝ) (hx : ∀ t l, x (ix2 t l) = (X t l : EReal)) (t : Fin 64) (l : Fin 512) :
    matmul dot_S64x64_S64x512_S64x512_1_0_0_1_n_n none (triMask d : FVec Ideal S64x64 .bf16) x (constant S64x512 .f32 0x00000000#32) (ix2 t l)
      = ((∑ s, if rk d s ≤ rk d t then X s l else 0 : ℝ) : EReal) := by
  have e : ∀ s : Fin 64, (triMask d : FVec Ideal S64x64 .bf16) (ix2 t s) * x (ix2 s l) = ((if rk d s ≤ rk d t then X s l else 0 : ℝ) : EReal) := fun s => by
    rw [tri_at, hx, ← EReal.coe_mul]; congr 1; split <;> simp
  rw [← coe_sum, ← Finset.sum_congr rfl fun s _ => e s]
  generalize (triMask d : FVec Ideal S64x64 .bf16) = T
  pointwise

/-- The running sum of real logarithms: the other two parts are zero. -/
theorem csum_at (d : Fin 2) (lw : FVec Ideal S64x512 .f32) (X : Fin 64 → Fin 512 → ℝ) (h : Is512 lw X) :
    Is512 (csum (triMask d) lw) (fun t l => ∑ s, if rk d s ≤ rk d t then X s l else 0) := fun t l => by
  have z1 : ∀ t l, subf lw (extf .f32 (truncf .bf16 lw bitsLt_bf16_f32 : FVec Ideal S64x512 .bf16) bitsLt_bf16_f32) (ix2 t l) = ((0 : ℝ) : EReal) := fun t l => by
    refine Eq.trans (show _ = lw (ix2 t l) - lw (ix2 t l) from rfl) ?_
    rw [h t l, ← EReal.coe_sub, sub_self]
  have z2 : ∀ t l, (fun i => subf lw (extf .f32 (truncf .bf16 lw bitsLt_bf16_f32 : FVec Ideal S64x512 .bf16) bitsLt_bf16_f32) i - subf lw (extf .f32 (truncf .bf16 lw bitsLt_bf16_f32 : FVec Ideal S64x512 .bf16) bitsLt_bf16_f32) i : S64x512.Idx → EReal) (ix2 t l) = ((0 : ℝ) : EReal) := fun t l => by
    show subf lw (extf .f32 (truncf .bf16 lw bitsLt_bf16_f32 : FVec Ideal S64x512 .bf16) bitsLt_bf16_f32) (ix2 t l) - subf lw (extf .f32 (truncf .bf16 lw bitsLt_bf16_f32 : FVec Ideal S64x512 .bf16) bitsLt_bf16_f32) (ix2 t l) = _
    rw [z1 t l, ← EReal.coe_sub, sub_self]
  refine (congrArg₂ (fun a b : EReal => a + b) (tri_mm d lw X h t l) (congrArg₂ (fun a b : EReal => a + b) (tri_mm d _ (fun _ _ => 0) z1 t l) (tri_mm d _ (fun _ _ => 0) z2 t l))).trans ?_
  simp

theorem einv_at (cs : FVec Ideal S64x512 .f32) (X : Fin 64 → Fin 512 → ℝ) (h : Is512 cs X) : Is512 (einv cs) (fun t l => Real.exp (-X t l)) := fun t l => by
  refine Eq.trans (show _ = Ideal.exp ((Scalar.ofBits (F := Ideal) .f32 0x00000000#32) - cs (ix2 t l)) from rfl) ?_
  rw [h t l, show (Scalar.ofBits (F := Ideal) .f32 0x00000000#32 : EReal) = ((0 : ℝ) : EReal) by simp [Scalar.ofBits], ← EReal.coe_sub, zero_sub, Ideal.exp_coe]

theorem ptot_at (lw : FVec Ideal S64x512 .f32) (X : Fin 64 → Fin 512 → ℝ) (h : Is512 lw X) (l : Fin 512) :
    ptot lw (ix2 0 l) = (Real.exp (∑ s, X s l) : EReal) := by
  have e : ptot lw (ix2 0 l) = Ideal.exp (∑ s : Fin 64, lw (ix2 s l)) := by
    unfold ptot; pointwise
  rw [e, Finset.sum_congr rfl fun s _ => h s l, coe_sum, Ideal.exp_coe]

theorem Is512.mul {x y : FVec Ideal S64x512 .f32} {X Y : Fin 64 → Fin 512 → ℝ} (hx : Is512 x X) (hy : Is512 y Y) : Is512 (mulf x y) (fun t l => X t l * Y t l) := fun t l => by
  rw [EReal.coe_mul, ← hx t l, ← hy t l]; rfl

theorem Is512.sub {x y : FVec Ideal S64x512 .f32} {X Y : Fin 64 → Fin 512 → ℝ} (hx : Is512 x X) (hy : Is512 y Y) : Is512 (subf x y) (fun t l => X t l - Y t l) := fun t l => by
  rw [EReal.coe_sub, ← hx t l, ← hy t l]; rfl

theorem Is512.exp {x : FVec Ideal S64x512 .f32} {X : Fin 64 → Fin 512 → ℝ} (hx : Is512 x X) : Is512 (Idealize.ShloMosaic.exp x) (fun t l => Real.exp (X t l)) := fun t l => by
  rw [← Ideal.exp_coe, ← hx t l]; rfl

/-- A row spread over the steps. -/
theorem spread_at (x : FVec Ideal S1x512 .f32) (X : Fin 512 → ℝ) (h : ∀ l, x (ix2 0 l) = (X l : EReal)) :
    Is512 (broadcastTo S64x512 x broadcasts_S1x512_S64x512) (fun _ l => X l) := fun t l => by
  rw [← h l]; pointwise

/-- A pair's lanes of a block. -/
theorem slice_at {x : FVec Ideal S64x512 .f32} {X : Fin 64 → Fin 512 → ℝ} (hx : Is512 x X) (g : Fin 4) :
    IsH (extractStridedSlice S64x128 ![0, 128 * g.val] x (slG g)) (fun h => Matrix.of fun t j => X t (glane g h j)) := fun t h j => by
  refine Eq.trans ?_ (hx t (glane g h j))
  fin_cases g <;> fin_cases h <;> pointwise <;> exact congrArg x (congrArg (ix2 _) (Fin.ext (by simp [lane, glane])))

/-- A pair's lanes of a row. -/
theorem slice_row (x : FVec Ideal S1x512 .f32) (g : Fin 4) (h : Fin 2) (j : Fin 64) :
    extractStridedSlice S1x128 ![0, 128 * g.val] x (slG1 g) (ix2 0 (lane h j)) = x (ix2 0 (glane g h j)) := by
  fin_cases g <;> fin_cases h <;> pointwise <;> exact congrArg x (congrArg (ix2 _) (Fin.ext (by simp [lane, glane])))

/-- The rescaled inputs of pair `g`. -/
theorem ins_ok (d : Fin 2) (B : Blocks Ideal) (R : RBlocks) (hB : BlocksOK B R) (g : Fin 4) :
    InsOK (ins (triMask d) B (128 * g.val) (slG g) (slG1 g)) ((R.raw g).ins d) := by
  have hc := csum_at d B.lw R.lw hB.lw
  have he := einv_at _ _ hc
  have hp := spread_at _ _ (ptot_at B.lw R.lw hB.lw)
  exact
    { at_ := slice_at (hB.a.mul (hc.sub hB.lw).exp) g
      rt := slice_at (hB.r.mul hc.exp) g
      v := slice_at hB.v g
      bt := slice_at (hB.b.mul he) g
      kt := slice_at (hB.k.mul he) g
      bh := slice_at ((hB.b.mul he).mul hp) g
      kh := slice_at ((hB.k.mul he).mul hp) g
      pt := fun h j => (slice_row _ g h j).trans (ptot_at B.lw R.lw hB.lw _) }

end Cert.KernelIdeal.Chain

end
-- ==== Proof.Ladder.lean ====
/- A chain, stated by the values it passes through: equal steps give equal stores. -/
module

public import proofs.«01_k».proof.Proof.Loads

@[expose] public section

set_option maxRecDepth 16384

noncomputable section

namespace Cert.KernelIdeal.Pieces

open Idealize.ShloMosaic Idealize.ShloMosaic.TcCoe
open Cert.KernelIdeal Cert.KernelIdeal.Gen Cert.KernelIdeal.Chain

variable {F : FTy → Type} [FloatOps F] [Named F]

theorem cons_eq {α : Type*} {a b : α} {l l' : List α} (h : a = b) (t : l = l') : a :: l = b :: l' := by rw [h, t]

/-- The whole inverse, level by level. -/
theorem xinv_of {M : Masks F} {m x1 x2 x3 x4 x5 x6 : FVec F S64x128 .f32}
    (h6 : x6 = lvl M m (subf (broadcast S64x128 (Scalar.ofBits .f32 0x3F800000#32)) M.k32) x5)
    (h5 : x5 = lvl M m (subf M.k32 M.k16) x4) (h4 : x4 = lvl M m (subf M.k16 M.k8) x3)
    (h3 : x3 = lvl M m (subf M.k8 M.k4) x2) (h2 : x2 = lvl M m (subf M.k4 M.k2) x1) (h1 : x1 = Chain.x0 M m) :
    x6 = xinv M m := by
  subst h1 h2 h3 h4 h5 h6; rfl

/-- The chain up to its solved rows and its emitted products. -/
theorem mid_of {M : Masks F} {I : Ins F} {qc w : FVec F S64x256 .f32} {p : FVec F S256x128 .f32} {sb : FVec F S128x256 .f32}
    {wa' wb' : FVec F S64x128 .bf16} {m x1 x2 x3 x4 x5 x6 : FVec F S64x128 .f32}
    (hq : qc = matmul dot_S64x256_S256x256_S64x256_1_0_0_1_n_n none
      (concatenate S64x256 1 [⟨S64x128, b16 (mulf (extractStridedSlice S64x128 ![64, 0] (extractStridedSlice S128x128 ![0, 0] sb slices_S128x256_o0_0_S128x128) slices_S128x128_o64_0_S64x128) M.incl)⟩, ⟨S64x128, b16 (mulf (extractStridedSlice S64x128 ![64, 0] (extractStridedSlice S128x128 ![0, 128] sb slices_S128x256_o0_128_S128x128) slices_S128x128_o64_0_S64x128) M.incl)⟩] concatenates_S64x128_S64x128_S64x256_d1)
      (concatenate S256x256 0
        [⟨S128x256, concatenate S128x256 1 [⟨S128x128, bd M wa'⟩, ⟨S128x128, bd M wb'⟩] concatenates_S128x128_S128x128_S128x256_d1⟩,
         ⟨S128x256, concatenate S128x256 1 [⟨S128x128, broadcast S128x128 (Scalar.ofBits .bf16 0x0000#16)⟩,
           ⟨S128x128, bd M (b16 I.v)⟩] concatenates_S128x128_S128x128_S128x256_d1⟩]
        concatenates_S128x256_S128x256_S256x256_d0)
      (constant S64x256 .f32 0x00000000#32))
    (hp : p = matmul dot_S128x256_S128x128_S256x128_0_0_1_1_n_n none
      (concatenate S128x256 0
        [⟨S64x256, concatenate S64x256 1 [⟨S64x128, wa'⟩, ⟨S64x128, wb'⟩] concatenates_S64x128_S64x128_S64x256_d1⟩,
         ⟨S64x256, concatenate S64x256 1 [⟨S64x128, broadcast S64x128 (Scalar.ofBits .bf16 0x0000#16)⟩,
           ⟨S64x128, b16 I.v⟩] concatenates_S64x128_S64x128_S64x256_d1⟩]
        concatenates_S64x256_S64x256_S128x256_d0)
      (concatenate S128x128 0 [⟨S64x128, b16 I.bh⟩, ⟨S64x128, b16 I.kh⟩] concatenates_S64x128_S64x128_S128x128_d0)
      (constant S256x128 .f32 0x00000000#32))
    (ha : wa' = b16 (extractStridedSlice S64x128 ![0, 0] w slices_S64x256_o0_0_S64x128))
    (hb : wb' = b16 (extractStridedSlice S64x128 ![0, 128] w slices_S64x256_o0_128_S64x128))
    (hw : w = matmul dot_S64x128_S128x256_S64x256_1_0_0_1_n_n none (b16 x6)
      (concatenate S128x256 1 [⟨S128x128, bd M (b16 I.at_)⟩,
        ⟨S128x128, bd M (b16 (mm (b16 (mulf (extractStridedSlice S64x128 ![0, 0] (extractStridedSlice S128x128 ![0, 128] sb slices_S128x256_o0_128_S128x128) slices_S128x128_o0_0_S64x128) M.strict)) (bd M (b16 I.v))))⟩] concatenates_S128x128_S128x128_S128x256_d1)
      (constant S64x256 .f32 0x00000000#32))
    (h6 : x6 = lvl M m (subf (broadcast S64x128 (Scalar.ofBits .f32 0x3F800000#32)) M.k32) x5)
    (h5 : x5 = lvl M m (subf M.k32 M.k16) x4) (h4 : x4 = lvl M m (subf M.k16 M.k8) x3)
    (h3 : x3 = lvl M m (subf M.k8 M.k4) x2) (h2 : x2 = lvl M m (subf M.k4 M.k2) x1) (h1 : x1 = Chain.x0 M m)
    (hm : m = mulf (extractStridedSlice S64x128 ![0, 0] (extractStridedSlice S128x128 ![0, 0] sb slices_S128x256_o0_0_S128x128) slices_S128x128_o0_0_S64x128) M.strict) (hs : sb = sbk M I) : qc = yqc M I ∧ p = php M I := by
  have hX := xinv_of h6 h5 h4 h3 h2 h1
  subst hs hm
  rw [hX] at hw
  have hw' : w = wab M I := hw
  subst hw'
  exact ⟨by rw [hq, ha, hb]; rfl, by rw [hp, ha, hb]; rfl⟩

/-- What a pair emits and the state it leaves. -/
theorem pair_of {d b : Fin 2} {g : Fin 4} {B : Blocks F} {s : FVec F S128x128 .f32} {P : View.Piece (Elt F) S2x64x512 .f32}
    {Q : View.Piece (Elt F) S2x2x4x128x128 .f32} {I : Ins F} (hI : I = ins (triMask d) B (128 * g.val) (slG g) (slG1 g))
    {y : FVec F S64x128 .f32} {z : FVec F S128x128 .f32} {qc : FVec F S64x256 .f32} {p : FVec F S256x128 .f32}
    (hP : P = ⟨Rect.unit (s := S2x64x512) ![b.val, 0, 128 * g.val] S1x64x128.size (inbY b g), shapeCast S1x64x128 y shapeCasts_S64x128_S1x64x128⟩)
    (hQ : Q = ⟨Rect.unit (s := S2x2x4x128x128) ![d.val, b.val, g.val, 0, 0] S1x1x1x128x128.size (inbS d b g),
      shapeCast S1x1x1x128x128 z shapeCasts_S128x128_S1x1x1x128x128⟩)
    (hy : y = addf (matmul dot_S64x128_S128x128_S64x128_1_1_0_0_n_n none
        (b16 (addf I.rt (extractStridedSlice S64x128 ![0, 0] qc slices_S64x256_o0_0_S64x128)))
        (truncf .bf16 s bitsLt_bf16_f32) (constant S64x128 .f32 0x00000000#32)) (extractStridedSlice S64x128 ![0, 128] qc slices_S64x256_o0_128_S64x128))
    (hz : z = addf (addf (mulf s (broadcastTo S128x128 I.pt broadcasts_S1x128_S128x128))
      (matmul dot_S128x128_S128x128_S128x128_1_0_0_1_n_n none (truncf .bf16 s bitsLt_bf16_f32)
        (truncf .bf16 (mulf (extractStridedSlice S128x128 ![0, 0] p slices_S256x128_o0_0_S128x128) (masks d).st) bitsLt_bf16_f32) (constant S128x128 .f32 0x00000000#32)))
      (mulf (extractStridedSlice S128x128 ![128, 0] p slices_S256x128_o128_0_S128x128) (masks d).st))
    (h : qc = yqc (masks d) I ∧ p = php (masks d) I) : P = yP d b g B s ∧ Q = sP d b g B s := by
  subst hI
  exact ⟨by rw [hP, hy, h.1]; rfl, by rw [hQ, hz, h.2]; rfl⟩

/-- The blocks a direction emits, last store first. -/
def ys (d : Fin 2) (B : Fin 2 → Blocks F) (s : Fin 2 → Fin 4 → FVec F S128x128 .f32) : List (View.Piece (Elt F) S2x64x512 .f32) :=
  [yP d 1 3 (B 1) (s 1 3), yP d 1 2 (B 1) (s 1 2), yP d 1 1 (B 1) (s 1 1), yP d 1 0 (B 1) (s 1 0), yP d 0 3 (B 0) (s 0 3), yP d 0 2 (B 0) (s 0 2), yP d 0 1 (B 0) (s 0 1), yP d 0 0 (B 0) (s 0 0)]

/-- The states a direction leaves, last store first. -/
def ss (d : Fin 2) (B : Fin 2 → Blocks F) (s : Fin 2 → Fin 4 → FVec F S128x128 .f32) : List (View.Piece (Elt F) S2x2x4x128x128 .f32) :=
  [sP d 1 3 (B 1) (s 1 3), sP d 1 2 (B 1) (s 1 2), sP d 1 1 (B 1) (s 1 1), sP d 1 0 (B 1) (s 1 0), sP d 0 3 (B 0) (s 0 3), sP d 0 2 (B 0) (s 0 2), sP d 0 1 (B 0) (s 0 1), sP d 0 0 (B 0) (s 0 0)]

/-- The three lists of stores of a chunk, pair by pair. -/
theorem lists_of {B : Fin 2 → Fin 2 → Blocks F} {s : Fin 2 → Fin 2 → Fin 4 → FVec F S128x128 .f32}
    {l0 l1 : List (View.Piece (Elt F) S2x64x512 .f32)} {l2 t : List (View.Piece (Elt F) S2x2x4x128x128 .f32)}
    {p013 p012 p011 p010 p003 p002 p001 p000 p113 p112 p111 p110 p103 p102 p101 p100 : View.Piece (Elt F) S2x64x512 .f32}
    {q013 q012 q011 q010 q003 q002 q001 q000 q113 q112 q111 q110 q103 q102 q101 q100 : View.Piece (Elt F) S2x2x4x128x128 .f32}
    (h0 : l0 = [p013, p012, p011, p010, p003, p002, p001, p000]) (h1 : l1 = [p113, p112, p111, p110, p103, p102, p101, p100])
    (h2 : l2 = q113 :: q112 :: q111 :: q110 :: q103 :: q102 :: q101 :: q100 :: q013 :: q012 :: q011 :: q010 :: q003 :: q002 :: q001 :: q000 :: t)
    (e013 : p013 = yP 0 1 3 (B 0 1) (s 0 1 3) ∧ q013 = sP 0 1 3 (B 0 1) (s 0 1 3)) (e012 : p012 = yP 0 1 2 (B 0 1) (s 0 1 2) ∧ q012 = sP 0 1 2 (B 0 1) (s 0 1 2)) (e011 : p011 = yP 0 1 1 (B 0 1) (s 0 1 1) ∧ q011 = sP 0 1 1 (B 0 1) (s 0 1 1)) (e010 : p010 = yP 0 1 0 (B 0 1) (s 0 1 0) ∧ q010 = sP 0 1 0 (B 0 1) (s 0 1 0)) (e003 : p003 = yP 0 0 3 (B 0 0) (s 0 0 3) ∧ q003 = sP 0 0 3 (B 0 0) (s 0 0 3)) (e002 : p002 = yP 0 0 2 (B 0 0) (s 0 0 2) ∧ q002 = sP 0 0 2 (B 0 0) (s 0 0 2)) (e001 : p001 = yP 0 0 1 (B 0 0) (s 0 0 1) ∧ q001 = sP 0 0 1 (B 0 0) (s 0 0 1)) (e000 : p000 = yP 0 0 0 (B 0 0) (s 0 0 0) ∧ q000 = sP 0 0 0 (B 0 0) (s 0 0 0))
    (e113 : p113 = yP 1 1 3 (B 1 1) (s 1 1 3) ∧ q113 = sP 1 1 3 (B 1 1) (s 1 1 3)) (e112 : p112 = yP 1 1 2 (B 1 1) (s 1 1 2) ∧ q112 = sP 1 1 2 (B 1 1) (s 1 1 2)) (e111 : p111 = yP 1 1 1 (B 1 1) (s 1 1 1) ∧ q111 = sP 1 1 1 (B 1 1) (s 1 1 1)) (e110 : p110 = yP 1 1 0 (B 1 1) (s 1 1 0) ∧ q110 = sP 1 1 0 (B 1 1) (s 1 1 0)) (e103 : p103 = yP 1 0 3 (B 1 0) (s 1 0 3) ∧ q103 = sP 1 0 3 (B 1 0) (s 1 0 3)) (e102 : p102 = yP 1 0 2 (B 1 0) (s 1 0 2) ∧ q102 = sP 1 0 2 (B 1 0) (s 1 0 2)) (e101 : p101 = yP 1 0 1 (B 1 0) (s 1 0 1) ∧ q101 = sP 1 0 1 (B 1 0) (s 1 0 1)) (e100 : p100 = yP 1 0 0 (B 1 0) (s 1 0 0) ∧ q100 = sP 1 0 0 (B 1 0) (s 1 0 0)) :
    l0 = ys 0 (B 0) (s 0) ∧ l1 = ys 1 (B 1) (s 1) ∧ l2 = ss 1 (B 1) (s 1) ++ ss 0 (B 0) (s 0) ++ t := by
  obtain ⟨rfl, rfl⟩ := e013; obtain ⟨rfl, rfl⟩ := e012; obtain ⟨rfl, rfl⟩ := e011; obtain ⟨rfl, rfl⟩ := e010; obtain ⟨rfl, rfl⟩ := e003; obtain ⟨rfl, rfl⟩ := e002; obtain ⟨rfl, rfl⟩ := e001; obtain ⟨rfl, rfl⟩ := e000
  obtain ⟨rfl, rfl⟩ := e113; obtain ⟨rfl, rfl⟩ := e112; obtain ⟨rfl, rfl⟩ := e111; obtain ⟨rfl, rfl⟩ := e110; obtain ⟨rfl, rfl⟩ := e103; obtain ⟨rfl, rfl⟩ := e102; obtain ⟨rfl, rfl⟩ := e101; obtain ⟨rfl, rfl⟩ := e100
  exact ⟨h0, h1, h2⟩

end Cert.KernelIdeal.Pieces

end
-- ==== Proof.Spec.lean ====
/- The recurrence over the whole sequence, and one chunk's stores as its states: both over the real numbers. -/
module

public import proofs.«01_k».proof.Proof.ChainReal
public import proofs.«01_k».proof.Proof.InsIdeal
public import proofs.«01_k».proof.Proof.Ladder

@[expose] public section

set_option maxRecDepth 16384

noncomputable section

namespace Cert.KernelIdeal.Spec

open Idealize.ShloMosaic Idealize.ShloMosaic.TcCoe
open Cert.KernelIdeal Cert.KernelIdeal.Gen Cert.KernelIdeal.Chain Cert.KernelIdeal.Pieces

/-- The real inputs of the recurrence. -/
structure Dat where
  r : Fin 2 → Fin 8192 → Fin 512 → ℝ
  v : Fin 2 → Fin 8192 → Fin 512 → ℝ
  a : Fin 2 → Fin 8192 → Fin 512 → ℝ
  lw : Fin 2 → Fin 2 → Fin 8192 → Fin 512 → ℝ
  k : Fin 2 → Fin 2 → Fin 8192 → Fin 512 → ℝ
  b : Fin 2 → Fin 2 → Fin 8192 → Fin 512 → ℝ

/-- The time of step `n` of direction `d`. -/
def tm (d : Fin 2) (n : ℕ) : Fin 8192 := if d = 0 then ⟨n % 8192, by omega⟩ else ⟨8191 - n % 8192, by omega⟩

/-- The step of time `t`. -/
def stp (d : Fin 2) (t : Fin 8192) : ℕ := if d = 0 then t.val else 8191 - t.val

variable (D : Dat)

/-- The state of a head before step `n`. -/
def St (d b : Fin 2) (g : Fin 4) (h : Fin 2) (n : ℕ) : Fin 64 → Fin 64 → ℝ :=
  Chunk.run (tm d) (fun t j => D.lw d b t (glane g h j)) (fun t j => D.k d b t (glane g h j)) (fun t j => D.a b t (glane g h j))
    (fun t j => D.b d b t (glane g h j)) (fun t j => D.v b t (glane g h j)) (fun _ _ => 0) n

/-- What a head emits at time `t`. -/
def Y (d b : Fin 2) (t : Fin 8192) (g : Fin 4) (h : Fin 2) (i : Fin 64) : ℝ :=
  ∑ q, St D d b g h (stp d t + 1) i q * D.r b t (glane g h q)

/-- The time of row `t` of chunk `n`. -/
def ct (d : Fin 2) (n : Fin 128) (t : Fin 64) : Fin 8192 :=
  if d = 0 then ⟨64 * n.val + t.val, by omega⟩ else ⟨64 * (127 - n.val) + t.val, by omega⟩

/-- The blocks of chunk `n`. -/
def blk (d b : Fin 2) (n : Fin 128) : RBlocks where
  r t l := D.r b (ct d n t) l
  v t l := D.v b (ct d n t) l
  a t l := D.a b (ct d n t) l
  lw t l := D.lw d b (ct d n t) l
  k t l := D.k d b (ct d n t) l
  b t l := D.b d b (ct d n t) l

theorem ct_sg (d : Fin 2) (n : Fin 128) (j : ℕ) (hj : j < 64) : ct d n (sg d j) = tm d (64 * n.val + j) := by
  have := n.isLt
  fin_cases d <;> simp [ct, sg, tm] <;> omega

theorem stp_ct (d : Fin 2) (n : Fin 128) (t : Fin 64) : stp d (ct d n t) = 64 * n.val + rk d t := by
  have := n.isLt; have := t.isLt
  fin_cases d <;> simp [ct, stp, rk] <;> omega

/-- A chunk's run continues the whole run. -/
theorem run_blk (d b : Fin 2) (g : Fin 4) (h : Fin 2) (n : Fin 128) (k : ℕ) (hk : k ≤ 64) :
    ((blk D d b n).raw g).run d h (St D d b g h (64 * n.val)) k = St D d b g h (64 * n.val + k) := by
  unfold St
  rw [Chunk.run_add]
  refine Chunk.run_congr _ _ _ k fun j hj => ?_
  have e := ct_sg d n j (by omega)
  refine ⟨?_, ?_, ?_, ?_, ?_⟩ <;> funext q <;> simp only [RBlocks.raw, blk, e]

/-- The states of a pair's two heads, as matrices. -/
def StM (d b : Fin 2) (g : Fin 4) (n : ℕ) : Fin 2 → Mat := fun h => Matrix.of (St D d b g h n)

variable {D}

/-- A chunk's chain from the run's state emits the run's outputs and leaves its next state. -/
theorem chunk_ok {d b : Fin 2} {n : Fin 128} {B : Blocks Ideal} (hB : BlocksOK B (blk D d b n)) {g : Fin 4} {s : FVec Ideal S128x128 .f32}
    (hs : IsS s (StM D d b g (64 * n.val))) :
    IsH (yOut (masks d) (ins (triMask d) B (128 * g.val) (slG g) (slG1 g)) s) (fun h => Matrix.of fun t i => Y D d b (ct d n t) g h i) ∧
    IsS (sOut (masks d) (ins (triMask d) B (128 * g.val) (slG g) (slG1 g)) s) (StM D d b g (64 * (n.val + 1))) := by
  have hI := ins_ok d B _ hB g
  refine ⟨fun t h i => ?_, fun h i h' j => ?_⟩
  · refine (yOut_ok (masks_ok d) hI hs t h i).trans (congrArg _ ?_)
    refine (RyOut_eq d ((blk D d b n).raw g) h (StM D d b g (64 * n.val)) t i).trans ?_
    have hr := rk_lt d t
    refine Eq.trans ?_ (show ∑ q, St D d b g h (stp d (ct d n t) + 1) i q * D.r b (ct d n t) (glane g h q) = _ from rfl)
    rw [stp_ct, Nat.add_assoc, ← run_blk D d b g h n _ (by omega)]
    rfl
  · refine (sOut_ok (masks_ok d) hI hs h i h' j).trans (congrArg (Real.toEReal) ?_)
    have e : RsOut d (((blk D d b n).raw g).ins d) h (StM D d b g (64 * n.val)) = StM D d b g (64 * (n.val + 1)) h :=
      (RsOut_eq d ((blk D d b n).raw g) h (StM D d b g (64 * n.val))).trans (run_blk D d b g h n 64 le_rfl)
    exact congrArg (fun M : Mat => if h = h' then M i j else 0) e

end Cert.KernelIdeal.Spec

end
-- ==== Proof.RefScan.lean ====
/- The reference's loop: its state and the array it emits after any number of steps, over the reals. -/
module

public import proofs.«01_k».proof.Proof.RefStep
public import proofs.«01_k».proof.Proof.Spec

@[expose] public section

set_option maxRecDepth 16384

noncomputable section

namespace Cert.ReferenceIdeal.Scan

open Idealize.ShloMosaic Idealize.ShloMosaic.TcCoe Idealize.ShloMosaic.StableHlo
open Cert.ReferenceIdeal Cert.ReferenceIdeal.Gen Cert.ReferenceIdeal.Value
open Cert.KernelIdeal.Spec (Dat tm stp)

variable (D : Dat)

/-- A head's state before step `n`. -/
def SR (d b : Fin 2) (h : Fin 8) (n : ℕ) : Fin 64 → Fin 64 → ℝ :=
  Chunk.run (tm d) (fun t j => D.lw d b t (hl h j)) (fun t j => D.k d b t (hl h j)) (fun t j => D.a b t (hl h j))
    (fun t j => D.b d b t (hl h j)) (fun t j => D.v b t (hl h j)) (fun _ _ => 0) n

/-- What step `n` emits. -/
def ER (d b : Fin 2) (h : Fin 8) (n : ℕ) (i : Fin 64) : ℝ := ∑ q, SR D d b h (n + 1) i q * D.r b (tm d n) (hl h q)

theorem tm_tmR (d : Fin 2) (n : Fin 8192) : tmR d n = tm d n.val := by
  have e : n.val % 8192 = n.val := Nat.mod_eq_of_lt n.isLt
  fin_cases d
  · exact Fin.ext e.symm
  · exact Fin.ext (congrArg (8191 - ·) e.symm)

variable (m : (ℓ : Loc nD τ sig) → Buf (Elt Ideal) ℓ) (c : Dev nD)

/-- The reference's arguments hold the data. -/
structure InputOK : Prop where
  r : ∀ b t l, m ((c.tc : Thread nD τ).loc main_arg0) (ix3 b t l) = (D.r b t l : EReal)
  v : ∀ b t l, m ((c.tc : Thread nD τ).loc main_arg1) (ix3 b t l) = (D.v b t l : EReal)
  a : ∀ b t l, m ((c.tc : Thread nD τ).loc main_arg2) (ix3 b t l) = (D.a b t l : EReal)
  lw : ∀ d b t l, m ((c.tc : Thread nD τ).loc main_arg3) (ix4 d b t l) = (D.lw d b t l : EReal)
  k : ∀ d b t l, m ((c.tc : Thread nD τ).loc main_arg4) (ix4 d b t l) = (D.k d b t l : EReal)
  b : ∀ d b t l, m ((c.tc : Thread nD τ).loc main_arg5) (ix4 d b t l) = (D.b d b t l : EReal)

/-- The buffers before step `n`. -/
def VV (n : ℕ) : Valuation τ sig (Elt Ideal) := STEP^[n] (entryContents preI m c)

theorem VV_succ (n : ℕ) : VV m c (n + 1) = STEP (VV m c n) := Function.iterate_succ_apply' _ _ _

theorem VV_0 (n : ℕ) : VV m c n (Proc.devRef .tc main_v51_0) = both (m ((c.tc : Thread nD τ).loc main_arg0)) := by
  induction n with
  | zero => exact entry_0 m c
  | succ n ih => rw [VV_succ, STEP_main_v51_0]; exact ih
theorem VV_1 (n : ℕ) : VV m c n (Proc.devRef .tc main_v51_1) = turned (Host.exp (m ((c.tc : Thread nD τ).loc main_arg3))) := by
  induction n with
  | zero => exact entry_1 m c
  | succ n ih => rw [VV_succ, STEP_main_v51_1]; exact ih
theorem VV_2 (n : ℕ) : VV m c n (Proc.devRef .tc main_v51_2) = turned (m ((c.tc : Thread nD τ).loc main_arg4)) := by
  induction n with
  | zero => exact entry_2 m c
  | succ n ih => rw [VV_succ, STEP_main_v51_2]; exact ih
theorem VV_3 (n : ℕ) : VV m c n (Proc.devRef .tc main_v51_3) = both (m ((c.tc : Thread nD τ).loc main_arg1)) := by
  induction n with
  | zero => exact entry_3 m c
  | succ n ih => rw [VV_succ, STEP_main_v51_3]; exact ih
theorem VV_4 (n : ℕ) : VV m c n (Proc.devRef .tc main_v51_4) = both (m ((c.tc : Thread nD τ).loc main_arg2)) := by
  induction n with
  | zero => exact entry_4 m c
  | succ n ih => rw [VV_succ, STEP_main_v51_4]; exact ih
theorem VV_5 (n : ℕ) : VV m c n (Proc.devRef .tc main_v51_5) = turned (m ((c.tc : Thread nD τ).loc main_arg5)) := by
  induction n with
  | zero => exact entry_5 m c
  | succ n ih => rw [VV_succ, STEP_main_v51_5]; exact ih
theorem VV_6 (n : ℕ) : VV m c n (Proc.devRef .tc main_v51_6) = ctr n := by
  induction n with
  | zero => exact ctr_entry m c
  | succ n ih =>
    rw [VV_succ, STEP_main_v51_6]
    show addi (VV m c n (Proc.devRef .tc main_v51_6)) (constantI S_ 32 1#32) = _
    rw [ih, ctr_succ]

variable {m c D} (hD : InputOK D m c)
include hD

theorem in_r (n : Fin 8192) (d b : Fin 2) (h : Fin 8) (j : Fin 64) :
    row (both (m ((c.tc : Thread nD τ).loc main_arg0))) (ctr n.val) (ix4 d b h j) = (D.r b (tm d n.val) (hl h j) : EReal) := by
  rw [row_at, both_at, hD.r, tm_tmR]
theorem in_v (n : Fin 8192) (d b : Fin 2) (h : Fin 8) (j : Fin 64) :
    row (both (m ((c.tc : Thread nD τ).loc main_arg1))) (ctr n.val) (ix4 d b h j) = (D.v b (tm d n.val) (hl h j) : EReal) := by
  rw [row_at, both_at, hD.v, tm_tmR]
theorem in_a (n : Fin 8192) (d b : Fin 2) (h : Fin 8) (j : Fin 64) :
    row (both (m ((c.tc : Thread nD τ).loc main_arg2))) (ctr n.val) (ix4 d b h j) = (D.a b (tm d n.val) (hl h j) : EReal) := by
  rw [row_at, both_at, hD.a, tm_tmR]
theorem in_k (n : Fin 8192) (d b : Fin 2) (h : Fin 8) (j : Fin 64) :
    row (turned (m ((c.tc : Thread nD τ).loc main_arg4))) (ctr n.val) (ix4 d b h j) = (D.k d b (tm d n.val) (hl h j) : EReal) := by
  rw [row_at, turned_at, hD.k, tm_tmR]
theorem in_b (n : Fin 8192) (d b : Fin 2) (h : Fin 8) (j : Fin 64) :
    row (turned (m ((c.tc : Thread nD τ).loc main_arg5))) (ctr n.val) (ix4 d b h j) = (D.b d b (tm d n.val) (hl h j) : EReal) := by
  rw [row_at, turned_at, hD.b, tm_tmR]
theorem in_w (n : Fin 8192) (d b : Fin 2) (h : Fin 8) (j : Fin 64) :
    row (turned (Host.exp (m ((c.tc : Thread nD τ).loc main_arg3)))) (ctr n.val) (ix4 d b h j) = (Real.exp (D.lw d b (tm d n.val) (hl h j)) : EReal) := by
  rw [row_at, turned_at]
  show Ideal.exp (m ((c.tc : Thread nD τ).loc main_arg3) (ix4 d b (tmR d n) (hl h j))) = _
  rw [hD.lw, tm_tmR, Ideal.exp_coe]

theorem state_at (n : ℕ) (hn : n ≤ 8192) (d b : Fin 2) (h : Fin 8) (i j : Fin 64) :
    VV m c n (Proc.devRef .tc main_v51_7) (ix5 d b h i j) = (SR D d b h n i j : EReal) := by
  induction n generalizing i j with
  | zero =>
    show entryContents preI m c (Proc.devRef .tc main_v51_7) (ix5 d b h i j) = _
    rw [entry_7]
    refine Eq.trans (b := (0 : EReal)) ?_ EReal.coe_zero.symm
    exact (broadcastInDim_apply _ _ _ _ (Shape.Idx.first h_S_) (fun a => a.elim0)).trans Ideal.ofBits_zero_f32
  | succ n ih =>
    have hn' : n < 8192 := by omega
    have ih := ih (by omega)
    rw [VV_succ, STEP_main_v51_7]
    show res_main_while0b_v88 (VV m c n) (ix5 d b h i j) = _
    rw [step_state, VV_1, VV_2, VV_3, VV_4, VV_5, VV_6, next_at]
    simp only [in_w hD ⟨n, hn'⟩, in_k hD ⟨n, hn'⟩, in_v hD ⟨n, hn'⟩, in_a hD ⟨n, hn'⟩, in_b hD ⟨n, hn'⟩, ih]
    simp only [← EReal.coe_mul, ← EReal.coe_add, Cert.KernelIdeal.Chain.coe_sum]
    rfl

theorem emit_all (n : ℕ) (hn : n ≤ 8192) (n' : Fin 8192) (hlt : n'.val < n) (d b : Fin 2) (h : Fin 8) (i : Fin 64) :
    VV m c n (Proc.devRef .tc main_v51_8) (ix5 n' d b h i) = (ER D d b h n'.val i : EReal) := by
  induction n with
  | zero => omega
  | succ n ih =>
    have hn' : n < 8192 := by omega
    rw [VV_succ, STEP_main_v51_8, step_emit, VV_6, VV_0]
    refine (emit_at _ ⟨n, hn'⟩ _ n' d b h i).trans ?_
    by_cases e : n' = ⟨n, hn'⟩
    · rw [if_pos e, act_at]
      have hs : ∀ q, res_main_while0b_v88 (VV m c n) (ix5 d b h i q) = (SR D d b h (n + 1) i q : EReal) := fun q => by
        rw [← state_at hD (n + 1) hn d b h i q, VV_succ, STEP_main_v51_7]
        rfl
      simp only [hs, in_r hD ⟨n, hn'⟩]
      simp only [← EReal.coe_mul, Cert.KernelIdeal.Chain.coe_sum, e]
      rfl
    · rw [if_neg e]
      exact ih (by omega) (by
        have : n'.val ≠ n := fun h => e (Fin.ext h)
        omega)

end Cert.ReferenceIdeal.Scan

end
-- ==== Proof.Point.lean ====
/- One chunk's stores read back at an index: the emitted blocks and the scratch of states. -/
module

public import proofs.«01_k».proof.Proof.Spec
public import Idealize.ShloMosaic.Lib.Pipeline.ValueKit

@[expose] public section

set_option maxRecDepth 16384

noncomputable section

namespace Cert.KernelIdeal.Spec

open Idealize.ShloMosaic Idealize.ShloMosaic.TcCoe
open Cert.KernelIdeal Cert.KernelIdeal.Gen Cert.KernelIdeal.Chain Cert.KernelIdeal.Pieces

theorem ys_mem {d : Fin 2} {B : Fin 2 → Blocks Ideal} {s : Fin 2 → Fin 4 → FVec Ideal S128x128 .f32} {p : View.Piece (Elt Ideal) S2x64x512 .f32}
    (h : p ∈ ys d B s) : ∃ b g, p = yP d b g (B b) (s b g) := by
  simp only [ys, List.mem_cons, List.not_mem_nil, or_false] at h
  rcases h with h | h | h | h | h | h | h | h <;> exact ⟨_, _, h⟩

theorem mem_ys (d : Fin 2) (B : Fin 2 → Blocks Ideal) (s : Fin 2 → Fin 4 → FVec Ideal S128x128 .f32) (b : Fin 2) (g : Fin 4) :
    yP d b g (B b) (s b g) ∈ ys d B s := by
  fin_cases b <;> fin_cases g <;> simp [ys]

theorem ss_mem {d : Fin 2} {B : Fin 2 → Blocks Ideal} {s : Fin 2 → Fin 4 → FVec Ideal S128x128 .f32} {p : View.Piece (Elt Ideal) S2x2x4x128x128 .f32}
    (h : p ∈ ss d B s) : ∃ b g, p = sP d b g (B b) (s b g) := by
  simp only [ss, List.mem_cons, List.not_mem_nil, or_false] at h
  rcases h with h | h | h | h | h | h | h | h <;> exact ⟨_, _, h⟩

theorem mem_ss (d : Fin 2) (B : Fin 2 → Blocks Ideal) (s : Fin 2 → Fin 4 → FVec Ideal S128x128 .f32) (b : Fin 2) (g : Fin 4) :
    sP d b g (B b) (s b g) ∈ ss d B s := by
  fin_cases b <;> fin_cases g <;> simp [ss]

variable {D : Dat}

/-- The emitted block of a direction, at a time of the chunk. -/
theorem ys_at {d : Fin 2} {n : Fin 128} {B : Fin 2 → Blocks Ideal} (hB : ∀ b, BlocksOK (B b) (blk D d b n))
    {s : Fin 2 → Fin 4 → FVec Ideal S128x128 .f32} (hs : ∀ b g, IsS (s b g) (StM D d b g (64 * n.val)))
    (b : Fin 2) (t : Fin 64) (g : Fin 4) (h : Fin 2) (i : Fin 64) :
    View.canon (ys d B s) (ix3 b t (glane g h i)) = (Y D d b (ct d n t) g h i : EReal) := by
  refine View.canon_eq_of_allAt _ _ _ ⟨_, mem_ys d B s b g, ?_⟩ ?_
  · refine (Rect.mem_set_unit (inb := inbY b g)).2 fun a => ?_
    have hh := h.isLt
    have hi := i.isLt
    have ht := t.isLt
    fin_cases a
    · show b.val ≤ b.val ∧ b.val < b.val + 1; omega
    · show 0 ≤ t.val ∧ t.val < 0 + 64; omega
    · show 128 * g.val ≤ 128 * g.val + (h.val * 64 + i.val) ∧ 128 * g.val + (h.val * 64 + i.val) < 128 * g.val + 128; omega
  · intro p hp x hx
    obtain ⟨b', g', rfl⟩ := ys_mem hp
    have h0 : b'.val + (x 0).val = b.val := (Rect.idx_unit_val _ _ (inbY b' g') x 0).symm.trans (congrArg (fun y : S2x64x512.Idx => (y 0).val) hx)
    have h1 : 0 + (x 1).val = t.val := (Rect.idx_unit_val _ _ (inbY b' g') x 1).symm.trans (congrArg (fun y : S2x64x512.Idx => (y 1).val) hx)
    have h2 : 128 * g'.val + (x 2).val = 128 * g.val + (h.val * 64 + i.val) := (Rect.idx_unit_val _ _ (inbY b' g') x 2).symm.trans (congrArg (fun y : S2x64x512.Idx => (y 2).val) hx)
    have l0 : (x 0).val < 1 := (x 0).isLt
    have l2 : (x 2).val < 128 := (x 2).isLt
    have hh := h.isLt
    have hi := i.isLt
    obtain rfl : b' = b := Fin.ext (by omega)
    obtain rfl : g' = g := Fin.ext (by omega)
    have ex : x = ix3 0 t (lane h i) := by
      funext a
      apply Fin.ext
      fin_cases a
      · show (x 0).val = 0; omega
      · show (x 1).val = t.val; omega
      · show (x 2).val = h.val * 64 + i.val; omega
    subst ex
    refine Eq.trans ?_ ((chunk_ok (hB b') (hs b' g')).1 t h i)
    show shapeCast S1x64x128 (yOut (masks d) (ins (triMask d) (B b') (128 * g'.val) (slG g') (slG1 g')) (s b' g')) shapeCasts_S64x128_S1x64x128 (ix3 0 t (lane h i)) = _
    generalize yOut (masks d) (ins (triMask d) (B b') (128 * g'.val) (slG g') (slG1 g')) (s b' g') = z
    generalize lane h i = l
    pointwise

/-- The scratch holds the states before step `N`. -/
def ScratchOK (D : Dat) (x : FVec Ideal S2x2x4x128x128 .f32) (N : ℕ) : Prop :=
  ∀ d b g, IsS (fun i : S128x128.Idx => x (ix5 d b g (i 0) (i 1))) (StM D d b g N)

theorem ss_allAt {d : Fin 2} {n : Fin 128} {B : Fin 2 → Blocks Ideal} (hB : ∀ b, BlocksOK (B b) (blk D d b n))
    {s : Fin 2 → Fin 4 → FVec Ideal S128x128 .f32} (hs : ∀ b g, IsS (s b g) (StM D d b g (64 * n.val)))
    (d' b : Fin 2) (g : Fin 4) (h : Fin 2) (i : Fin 64) (h' : Fin 2) (j : Fin 64) (p) (hp : p ∈ ss d B s) (x : p.1.shape.Idx)
    (hx : p.1.idx x = ix5 d' b g (lane h i) (lane h' j)) :
    d' = d ∧ p.2 x = ((if h = h' then StM D d b g (64 * (n.val + 1)) h i j else 0 : ℝ) : EReal) := by
  obtain ⟨b', g', rfl⟩ := ss_mem hp
  have h0 : d.val + (x 0).val = d'.val := (Rect.idx_unit_val _ _ (inbS d b' g') x 0).symm.trans (congrArg (fun y : S2x2x4x128x128.Idx => (y 0).val) hx)
  have h1 : b'.val + (x 1).val = b.val := (Rect.idx_unit_val _ _ (inbS d b' g') x 1).symm.trans (congrArg (fun y : S2x2x4x128x128.Idx => (y 1).val) hx)
  have h2 : g'.val + (x 2).val = g.val := (Rect.idx_unit_val _ _ (inbS d b' g') x 2).symm.trans (congrArg (fun y : S2x2x4x128x128.Idx => (y 2).val) hx)
  have h3 : 0 + (x 3).val = (lane h i).val := (Rect.idx_unit_val _ _ (inbS d b' g') x 3).symm.trans (congrArg (fun y : S2x2x4x128x128.Idx => (y 3).val) hx)
  have h4 : 0 + (x 4).val = (lane h' j).val := (Rect.idx_unit_val _ _ (inbS d b' g') x 4).symm.trans (congrArg (fun y : S2x2x4x128x128.Idx => (y 4).val) hx)
  have l0 : (x 0).val < 1 := (x 0).isLt
  have l1 : (x 1).val < 1 := (x 1).isLt
  have l2 : (x 2).val < 1 := (x 2).isLt
  obtain rfl : b' = b := Fin.ext (by omega)
  obtain rfl : g' = g := Fin.ext (by omega)
  refine ⟨Fin.ext (by omega), ?_⟩
  have ex : x = ix5 0 0 0 (lane h i) (lane h' j) := by
    funext a
    apply Fin.ext
    fin_cases a
    · show (x 0).val = 0; omega
    · show (x 1).val = 0; omega
    · show (x 2).val = 0; omega
    · show (x 3).val = (lane h i).val; omega
    · show (x 4).val = (lane h' j).val; omega
  subst ex
  refine Eq.trans ?_ ((chunk_ok (hB b') (hs b' g')).2 h i h' j)
  show shapeCast S1x1x1x128x128 (sOut (masks d) (ins (triMask d) (B b') (128 * g'.val) (slG g') (slG1 g')) (s b' g')) shapeCasts_S128x128_S1x1x1x128x128 (ix5 0 0 0 (lane h i) (lane h' j)) = _
  generalize sOut (masks d) (ins (triMask d) (B b') (128 * g'.val) (slG g') (slG1 g')) (s b' g') = z
  generalize lane h i = l
  generalize lane h' j = l'
  pointwise

theorem ss_cover (d : Fin 2) (B : Fin 2 → Blocks Ideal) (s : Fin 2 → Fin 4 → FVec Ideal S128x128 .f32) (b : Fin 2) (g : Fin 4) (l l' : Fin 128) :
    ∃ p ∈ ss d B s, ix5 d b g l l' ∈ p.1.set := by
  refine ⟨_, mem_ss d B s b g, (Rect.mem_set_unit (inb := inbS d b g)).2 fun a => ?_⟩
  have hl := l.isLt
  have hl' := l'.isLt
  fin_cases a
  · show d.val ≤ d.val ∧ d.val < d.val + 1; omega
  · show b.val ≤ b.val ∧ b.val < b.val + 1; omega
  · show g.val ≤ g.val ∧ g.val < g.val + 1; omega
  · show 0 ≤ l.val ∧ l.val < 0 + 128; omega
  · show 0 ≤ l'.val ∧ l'.val < 0 + 128; omega

/-- Stores that agree at an index some of them holds, over any earlier ones. -/
theorem canon_append_allAt {S : Shape} {e : EltTy} (t : List (View.Piece (Elt Ideal) S e)) (y : S.Idx) (v : Elt Ideal e) :
    ∀ L : List (View.Piece (Elt Ideal) S e), (∃ p ∈ L, y ∈ p.1.set) → (∀ p ∈ L, ∀ x : p.1.shape.Idx, p.1.idx x = y → p.2 x = v) → View.canon (L ++ t) y = v
  | [], hc, _ => by obtain ⟨p, hp, _⟩ := hc; exact absurd hp List.not_mem_nil
  | p :: L, hc, h => by
    by_cases hm : y ∈ p.1.set
    · obtain ⟨x, rfl⟩ := p.1.exists_idx_of_mem hm
      rw [List.cons_append, show p.1.idx x = p.1.emb x from rfl, View.canon_cons_emb]
      exact h p List.mem_cons_self x rfl
    · rw [List.cons_append, View.canon_cons_of_not_mem _ _ hm]
      obtain ⟨q, hq, hy⟩ := hc
      refine canon_append_allAt t y v L ⟨q, ?_, hy⟩ fun r hr => h r (List.mem_cons_of_mem _ hr)
      rcases List.mem_cons.1 hq with rfl | hq
      · exact absurd hy hm
      · exact hq

/-- The states the stores of a chunk leave, over any earlier ones. -/
theorem ss_at {n : Fin 128} {B : Fin 2 → Fin 2 → Blocks Ideal} (hB : ∀ d b, BlocksOK (B d b) (blk D d b n))
    {s : Fin 2 → Fin 2 → Fin 4 → FVec Ideal S128x128 .f32} (hs : ∀ d b g, IsS (s d b g) (StM D d b g (64 * n.val))) (t) :
    ScratchOK D (View.canon (Val := Elt Ideal) (ss 1 (B 1) (s 1) ++ ss 0 (B 0) (s 0) ++ t)) (64 * (n.val + 1)) := by
  intro d b g h i h' j
  have hc : ∃ p ∈ ss 1 (B 1) (s 1) ++ ss 0 (B 0) (s 0), ix5 d b g (lane h i) (lane h' j) ∈ p.1.set := by
    obtain ⟨p, hp, hy⟩ := ss_cover d (B d) (s d) b g (lane h i) (lane h' j)
    refine ⟨p, ?_, hy⟩
    fin_cases d
    · exact List.mem_append_right _ hp
    · exact List.mem_append_left _ hp
  refine canon_append_allAt t _ _ _ hc fun p hp x hx => ?_
  rcases List.mem_append.1 hp with hp | hp
  · obtain ⟨rfl, h2⟩ := ss_allAt (hB 1) (hs 1) d b g h i h' j p hp x hx
    exact h2
  · obtain ⟨rfl, h2⟩ := ss_allAt (hB 0) (hs 0) d b g h i h' j p hp x hx
    exact h2

end Cert.KernelIdeal.Spec

end
-- ==== Proof.Windows.lean ====
/- The recurrence's input windows at a point, read off the argument arrays, and the loads of a chain off its windows. -/
module

public import proofs.«01_k».proof.Proof.Point
public import proofs.«01_k».proof.Proof.Gen.KernelIdeal.Frame

@[expose] public section

set_option maxRecDepth 16384

noncomputable section

namespace Cert.KernelIdeal.Spec

open Idealize.ShloMosaic Idealize.ShloMosaic.TcCoe
open Cert.KernelIdeal Cert.KernelIdeal.Gen Cert.KernelIdeal.Chain Cert.KernelIdeal.Pieces

variable (m : (ℓ : Loc nD τ sig) → Buf (Elt Ideal) ℓ) (c : Dev nD)

/-- A point's number. -/
def pt (t : Fin cfg0.N) : Fin 128 := ⟨t.val, t.isLt⟩

theorem index_f : ∀ t : Fin cfg0.N, win0_0.index t = ![0, t.val, 0] ∧ win0_1.index t = ![0, t.val, 0] ∧ win0_2.index t = ![0, t.val, 0] :=
  (by decide +kernel : ∀ t : Fin grid0.N, _)
theorem index_b : ∀ t : Fin cfg0.N, win0_3.index t = ![0, 127 - t.val, 0] ∧ win0_4.index t = ![0, 127 - t.val, 0] ∧ win0_5.index t = ![0, 127 - t.val, 0] :=
  (by decide +kernel : ∀ t : Fin grid0.N, _)
theorem index_fd : ∀ t : Fin cfg0.N, win0_6.index t = ![0, 0, t.val, 0] ∧ win0_7.index t = ![0, 0, t.val, 0] ∧ win0_8.index t = ![0, 0, t.val, 0] :=
  (by decide +kernel : ∀ t : Fin grid0.N, _)
theorem index_bd : ∀ t : Fin cfg0.N, win0_9.index t = ![1, 0, 127 - t.val, 0] ∧ win0_10.index t = ![1, 0, 127 - t.val, 0] ∧ win0_11.index t = ![1, 0, 127 - t.val, 0] :=
  (by decide +kernel : ∀ t : Fin grid0.N, _)
theorem index_o : ∀ t : Fin cfg0.N, win0_20.index t = ![0, t.val, 0] ∧ win0_21.index t = ![0, 127 - t.val, 0] :=
  (by decide +kernel : ∀ t : Fin grid0.N, _)

theorem ct0 (n : Fin 128) (t : Fin 64) : (ct 0 n t).val = 64 * n.val + t.val := rfl
theorem ct1 (n : Fin 128) (t : Fin 64) : (ct 1 n t).val = 64 * (127 - n.val) + t.val := rfl

theorem iblk_0 (t : Fin cfg0.N) (b : Fin 2) (s : Fin 64) (l : Fin 512) :
    iblk m c 0 t (ix3 b s l) = m ((c : Thread nD τ).loc main_arg0) (ix3 b (ct 0 (pt t) s) l) := by
  have h := (index_f t).1
  blk_ext [iblk, V, h, ct0, pt]
theorem iblk_1 (t : Fin cfg0.N) (b : Fin 2) (s : Fin 64) (l : Fin 512) :
    iblk m c 1 t (ix3 b s l) = m ((c : Thread nD τ).loc main_arg1) (ix3 b (ct 0 (pt t) s) l) := by
  have h := (index_f t).2.1
  blk_ext [iblk, V, h, ct0, pt]
theorem iblk_2 (t : Fin cfg0.N) (b : Fin 2) (s : Fin 64) (l : Fin 512) :
    iblk m c 2 t (ix3 b s l) = m ((c : Thread nD τ).loc main_arg2) (ix3 b (ct 0 (pt t) s) l) := by
  have h := (index_f t).2.2
  blk_ext [iblk, V, h, ct0, pt]
theorem iblk_3 (t : Fin cfg0.N) (b : Fin 2) (s : Fin 64) (l : Fin 512) :
    iblk m c 3 t (ix3 b s l) = m ((c : Thread nD τ).loc main_arg0) (ix3 b (ct 1 (pt t) s) l) := by
  have h := (index_b t).1
  blk_ext [iblk, V, h, ct1, pt]
theorem iblk_4 (t : Fin cfg0.N) (b : Fin 2) (s : Fin 64) (l : Fin 512) :
    iblk m c 4 t (ix3 b s l) = m ((c : Thread nD τ).loc main_arg1) (ix3 b (ct 1 (pt t) s) l) := by
  have h := (index_b t).2.1
  blk_ext [iblk, V, h, ct1, pt]
theorem iblk_5 (t : Fin cfg0.N) (b : Fin 2) (s : Fin 64) (l : Fin 512) :
    iblk m c 5 t (ix3 b s l) = m ((c : Thread nD τ).loc main_arg2) (ix3 b (ct 1 (pt t) s) l) := by
  have h := (index_b t).2.2
  blk_ext [iblk, V, h, ct1, pt]
theorem iblk_6 (t : Fin cfg0.N) (b : Fin 2) (s : Fin 64) (l : Fin 512) :
    iblk m c 6 t (ix4 0 b s l) = m ((c : Thread nD τ).loc main_arg3) (ix4 0 b (ct 0 (pt t) s) l) := by
  have h := (index_fd t).1
  blk_ext [iblk, V, h, ct0, pt]
theorem iblk_7 (t : Fin cfg0.N) (b : Fin 2) (s : Fin 64) (l : Fin 512) :
    iblk m c 7 t (ix4 0 b s l) = m ((c : Thread nD τ).loc main_arg4) (ix4 0 b (ct 0 (pt t) s) l) := by
  have h := (index_fd t).2.1
  blk_ext [iblk, V, h, ct0, pt]
theorem iblk_8 (t : Fin cfg0.N) (b : Fin 2) (s : Fin 64) (l : Fin 512) :
    iblk m c 8 t (ix4 0 b s l) = m ((c : Thread nD τ).loc main_arg5) (ix4 0 b (ct 0 (pt t) s) l) := by
  have h := (index_fd t).2.2
  blk_ext [iblk, V, h, ct0, pt]
theorem iblk_9 (t : Fin cfg0.N) (b : Fin 2) (s : Fin 64) (l : Fin 512) :
    iblk m c 9 t (ix4 0 b s l) = m ((c : Thread nD τ).loc main_arg3) (ix4 1 b (ct 1 (pt t) s) l) := by
  have h := (index_bd t).1
  blk_ext [iblk, V, h, ct1, pt]
theorem iblk_10 (t : Fin cfg0.N) (b : Fin 2) (s : Fin 64) (l : Fin 512) :
    iblk m c 10 t (ix4 0 b s l) = m ((c : Thread nD τ).loc main_arg4) (ix4 1 b (ct 1 (pt t) s) l) := by
  have h := (index_bd t).2.1
  blk_ext [iblk, V, h, ct1, pt]
theorem iblk_11 (t : Fin cfg0.N) (b : Fin 2) (s : Fin 64) (l : Fin 512) :
    iblk m c 11 t (ix4 0 b s l) = m ((c : Thread nD τ).loc main_arg5) (ix4 1 b (ct 1 (pt t) s) l) := by
  have h := (index_bd t).2.2
  blk_ext [iblk, V, h, ct1, pt]

theorem cast3 (z : FVec Ideal S1x64x512 .f32) (t : Fin 64) (l : Fin 512) : shapeCast S64x512 z shapeCasts_S1x64x512_S64x512 (ix2 t l) = z (ix3 0 t l) := by
  pointwise
theorem cast4 (z : FVec Ideal S1x1x64x512 .f32) (t : Fin 64) (l : Fin 512) : shapeCast S64x512 z shapeCasts_S1x1x64x512_S64x512 (ix2 t l) = z (ix4 0 0 t l) := by
  pointwise
theorem castS (z : FVec Ideal S1x1x1x128x128 .f32) (i j : Fin 128) : shapeCast S128x128 z shapeCasts_S1x1x1x128x128_S128x128 (ix2 i j) = z (ix5 0 0 0 i j) := by
  pointwise

theorem ld3_at (M : Memref sig .tc .vmem S2x64x512 .f32) (h : M.IsWhole) (x : Vec Ideal S2x64x512 .f32) (b : Fin 2) (t : Fin 64) (l : Fin 512) :
    ld3 M h x b (ix2 t l) = x (ix3 b t l) := by
  unfold ld3
  have e : View.readAt (Elt Ideal) M.view (Rect.unit (s := S2x64x512) ![b.val, 0, 0] S1x64x512.size (inb3 b)).toLoadRect (h.unread x)
      = fun j => x ((Rect.unit (s := S2x64x512) ![b.val, 0, 0] S1x64x512.size (inb3 b)).toLoadRect.idx j) :=
    funext fun j => Memref.IsWhole.readAt_unread h x _ j
  rw [e]
  refine Eq.trans (b := x ((Rect.unit (s := S2x64x512) ![b.val, 0, 0] S1x64x512.size (inb3 b)).toLoadRect.idx (ix3 0 t l))) ?_ (congrArg x ?_)
  · exact cast3 _ t l
  · funext a
    apply Fin.ext
    fin_cases a
    · show b.val + 1 * 0 = b.val; omega
    · show 0 + 1 * t.val = t.val; omega
    · show 0 + 1 * l.val = l.val; omega

theorem ld4_at (M : Memref sig .tc .vmem S1x2x64x512 .f32) (h : M.IsWhole) (x : Vec Ideal S1x2x64x512 .f32) (b : Fin 2) (t : Fin 64) (l : Fin 512) :
    ld4 M h x b (ix2 t l) = x (ix4 0 b t l) := by
  unfold ld4
  have e : View.readAt (Elt Ideal) M.view (Rect.unit (s := S1x2x64x512) ![0, b.val, 0, 0] S1x1x64x512.size (inb4 b)).toLoadRect (h.unread x)
      = fun j => x ((Rect.unit (s := S1x2x64x512) ![0, b.val, 0, 0] S1x1x64x512.size (inb4 b)).toLoadRect.idx j) :=
    funext fun j => Memref.IsWhole.readAt_unread h x _ j
  rw [e]
  refine Eq.trans (b := x ((Rect.unit (s := S1x2x64x512) ![0, b.val, 0, 0] S1x1x64x512.size (inb4 b)).toLoadRect.idx (ix4 0 0 t l))) ?_ (congrArg x ?_)
  · exact cast4 _ t l
  · funext a
    apply Fin.ext
    fin_cases a
    · show 0 + 1 * 0 = 0; omega
    · show b.val + 1 * 0 = b.val; omega
    · show 0 + 1 * t.val = t.val; omega
    · show 0 + 1 * l.val = l.val; omega

theorem ldS_at (M : Memref sig .tc .vmem S2x2x4x128x128 .f32) (h : M.IsWhole) (x : Vec Ideal S2x2x4x128x128 .f32) (d b : Fin 2) (g : Fin 4) (i j : Fin 128) :
    ldS M h x d b g (ix2 i j) = x (ix5 d b g i j) := by
  unfold ldS
  have e : View.readAt (Elt Ideal) M.view (Rect.unit (s := S2x2x4x128x128) ![d.val, b.val, g.val, 0, 0] S1x1x1x128x128.size (inbS d b g)).toLoadRect (h.unread x)
      = fun j => x ((Rect.unit (s := S2x2x4x128x128) ![d.val, b.val, g.val, 0, 0] S1x1x1x128x128.size (inbS d b g)).toLoadRect.idx j) :=
    funext fun j => Memref.IsWhole.readAt_unread h x _ j
  rw [e]
  refine Eq.trans (b := x ((Rect.unit (s := S2x2x4x128x128) ![d.val, b.val, g.val, 0, 0] S1x1x1x128x128.size (inbS d b g)).toLoadRect.idx (ix5 0 0 0 i j))) ?_ (congrArg x ?_)
  · exact castS _ i j
  · funext a
    apply Fin.ext
    fin_cases a
    · show d.val + 1 * 0 = d.val; omega
    · show b.val + 1 * 0 = b.val; omega
    · show g.val + 1 * 0 = g.val; omega
    · show 0 + 1 * i.val = i.val; omega
    · show 0 + 1 * j.val = j.val; omega

/-- The argument arrays hold the real data `D`. -/
structure InputOK (D : Dat) : Prop where
  r : ∀ b t l, m ((c : Thread nD τ).loc main_arg0) (ix3 b t l) = (D.r b t l : EReal)
  v : ∀ b t l, m ((c : Thread nD τ).loc main_arg1) (ix3 b t l) = (D.v b t l : EReal)
  a : ∀ b t l, m ((c : Thread nD τ).loc main_arg2) (ix3 b t l) = (D.a b t l : EReal)
  lw : ∀ d b t l, m ((c : Thread nD τ).loc main_arg3) (ix4 d b t l) = (D.lw d b t l : EReal)
  k : ∀ d b t l, m ((c : Thread nD τ).loc main_arg4) (ix4 d b t l) = (D.k d b t l : EReal)
  b : ∀ d b t l, m ((c : Thread nD τ).loc main_arg5) (ix4 d b t l) = (D.b d b t l : EReal)

variable {m c} {D : Dat} (hD : InputOK m c D)
include hD

theorem blocks_f (t : Fin cfg0.N) (b : Fin 2) (M1 h1 M2 h2 M3 h3 M4 h4 M5 h5 M6 h6) :
    BlocksOK (ldB M1 h1 M2 h2 M3 h3 M4 h4 M5 h5 M6 h6 (iblk m c 0 t) (iblk m c 1 t) (iblk m c 2 t) (iblk m c 6 t) (iblk m c 7 t) (iblk m c 8 t) b) (blk D 0 b (pt t)) where
  r s l := (ld3_at _ _ _ b s l).trans ((iblk_0 m c t b s l).trans (hD.r _ _ _))
  v s l := (ld3_at _ _ _ b s l).trans ((iblk_1 m c t b s l).trans (hD.v _ _ _))
  a s l := (ld3_at _ _ _ b s l).trans ((iblk_2 m c t b s l).trans (hD.a _ _ _))
  lw s l := (ld4_at _ _ _ b s l).trans ((iblk_6 m c t b s l).trans (hD.lw _ _ _ _))
  k s l := (ld4_at _ _ _ b s l).trans ((iblk_7 m c t b s l).trans (hD.k _ _ _ _))
  b s l := (ld4_at _ _ _ b s l).trans ((iblk_8 m c t b s l).trans (hD.b _ _ _ _))

theorem blocks_b (t : Fin cfg0.N) (b : Fin 2) (M1 h1 M2 h2 M3 h3 M4 h4 M5 h5 M6 h6) :
    BlocksOK (ldB M1 h1 M2 h2 M3 h3 M4 h4 M5 h5 M6 h6 (iblk m c 3 t) (iblk m c 4 t) (iblk m c 5 t) (iblk m c 9 t) (iblk m c 10 t) (iblk m c 11 t) b) (blk D 1 b (pt t)) where
  r s l := (ld3_at _ _ _ b s l).trans ((iblk_3 m c t b s l).trans (hD.r _ _ _))
  v s l := (ld3_at _ _ _ b s l).trans ((iblk_4 m c t b s l).trans (hD.v _ _ _))
  a s l := (ld3_at _ _ _ b s l).trans ((iblk_5 m c t b s l).trans (hD.a _ _ _))
  lw s l := (ld4_at _ _ _ b s l).trans ((iblk_9 m c t b s l).trans (hD.lw _ _ _ _))
  k s l := (ld4_at _ _ _ b s l).trans ((iblk_10 m c t b s l).trans (hD.k _ _ _ _))
  b s l := (ld4_at _ _ _ b s l).trans ((iblk_11 m c t b s l).trans (hD.b _ _ _ _))

omit hD in
/-- A state loaded from a scratch that holds the states. -/
theorem ldS_ok {x : Vec Ideal S2x2x4x128x128 .f32} {N : ℕ} (hx : ScratchOK D x N) (M h) (d b : Fin 2) (g : Fin 4) : IsS (ldS M h x d b g) (StM D d b g N) :=
  fun e i e' j => (ldS_at M h x d b g _ _).trans (hx d b g e i e' j)

end Cert.KernelIdeal.Spec

end
-- ==== Proof.PiecesA.lean ====
/- The stores of a chunk's chains, as the first point makes them: its states start at zero: each is an instance of one chain. -/
module

public import proofs.«01_k».proof.Proof.Ladder
public import proofs.«01_k».proof.Proof.Gen.KernelIdeal.Frame.RunA

@[expose] public section

set_option maxRecDepth 16384

set_option maxHeartbeats 4000000

noncomputable section

namespace Cert.KernelIdeal.Pieces

open Idealize.ShloMosaic Idealize.ShloMosaic.TcCoe
open Cert.KernelIdeal Cert.KernelIdeal.Gen Cert.KernelIdeal.Chain

variable {F : FTy → Type} [FloatOps F] [Named F]

/-- The state a chain starts with. -/
def sZ : FVec F S128x128 .f32 := broadcast S128x128 (Scalar.ofBits .f32 0x00000000#32)

/-- A state's load passes over another pair's store. -/
theorem skip {v : View sig .tc .vmem S2x2x4x128x128 .f32} {L' L : List (View.Piece (Elt F) S2x2x4x128x128 .f32)} {off off' : Fin 5 → ℕ}
    {inb : ∀ a, off a + S1x1x1x128x128.size a ≤ S2x2x4x128x128.size a} {inb' : ∀ a, off' a + S1x1x1x128x128.size a ≤ S2x2x4x128x128.size a}
    {w : (Rect.unit (s := S2x2x4x128x128) off S1x1x1x128x128.size inb).shape.Idx → Elt F .f32} {X}
    (hL : L' = ⟨Rect.unit (s := S2x2x4x128x128) off S1x1x1x128x128.size inb, w⟩ :: L)
    (h : ∃ a, off a + S1x1x1x128x128.size a ≤ off' a ∨ off' a + S1x1x1x128x128.size a ≤ off a)
    (hX : v.readCov L (Rect.unit (s := S2x2x4x128x128) off' S1x1x1x128x128.size inb').toLoadRect = X) :
    v.readCov L' (Rect.unit (s := S2x2x4x128x128) off' S1x1x1x128x128.size inb').toLoadRect = X := by
  subst hL
  rw [← hX]
  obtain ⟨a, h⟩ := h
  exact View.readCov_cons_of_disjoint v _ L _ (Rect.unit_disjoint (inb := inb) (inb' := inb') a h)

/-- Over the cleared scratch it reads zeros. -/
theorem skip_end {v : View sig .tc .vmem S2x2x4x128x128 .f32} {L' : List (View.Piece (Elt F) S2x2x4x128x128 .f32)} {off' : Fin 5 → ℕ}
    {inb' : ∀ a, off' a + S1x1x1x128x128.size a ≤ S2x2x4x128x128.size a}
    (hL : L' = [⟨Rect.unit (s := S2x2x4x128x128) ![0, 0, 0, 0, 0] S2x2x4x128x128.size inb_S2x2x4x128x128_S2x2x4x128x128_0_0_0_0_0, k0_pay2⟩]) :
    v.readCov L' (Rect.unit (s := S2x2x4x128x128) off' S1x1x1x128x128.size inb').toLoadRect = fun _ => Scalar.ofBits .f32 0x00000000#32 := by
  subst hL
  rw [View.readCov_eq_canon']
  funext j
  have h := View.canon_cons_emb (Val := Elt F) (e := .f32) (Rect.unit (s := S2x2x4x128x128) ![0, 0, 0, 0, 0] S2x2x4x128x128.size inb_S2x2x4x128x128_S2x2x4x128x128_0_0_0_0_0) (k0_pay2 (F := F)) []
    ((Rect.unit (s := S2x2x4x128x128) off' S1x1x1x128x128.size inb').toLoadRect.idx j)
  have e : (Rect.unit (s := S2x2x4x128x128) ![0, 0, 0, 0, 0] S2x2x4x128x128.size inb_S2x2x4x128x128_S2x2x4x128x128_0_0_0_0_0).emb
      ((Rect.unit (s := S2x2x4x128x128) off' S1x1x1x128x128.size inb').toLoadRect.idx j) = (Rect.unit (s := S2x2x4x128x128) off' S1x1x1x128x128.size inb').toLoadRect.idx j := by
    funext a
    apply Fin.ext
    show (![0, 0, 0, 0, 0] : Fin 5 → ℕ) a + 1 * _ = _
    fin_cases a <;> simp
  rw [e] at h
  exact h

/-- The loaded state, once its load reads zeros. -/
theorem zero_of {s' : FVec F S128x128 .f32} {X : FVec F S1x1x1x128x128 .f32} (h : s' = shapeCast S128x128 X shapeCasts_S1x1x1x128x128_S128x128)
    (hX : X = fun _ => Scalar.ofBits .f32 0x00000000#32) : s' = sZ := by
  subst hX
  exact h

/-- A pair's two stores, its state being zero. -/
theorem pair_zero {d b : Fin 2} {g : Fin 4} {B : Blocks F} {s' : FVec F S128x128 .f32} {P : View.Piece (Elt F) S2x64x512 .f32}
    {Q : View.Piece (Elt F) S2x2x4x128x128 .f32} (h : P = yP d b g B s' ∧ Q = sP d b g B s') (hs : s' = sZ) :
    P = yP d b g B sZ ∧ Q = sP d b g B sZ := hs ▸ h

variable (c : Dev nD) (i : grid0.Coords) (arg1 : Memref sig .tc .vmem S2x64x512 .f32) (harg1 : arg1.IsWhole) (arg2 : Memref sig .tc .vmem S2x64x512 .f32) (harg2 : arg2.IsWhole) (arg3 : Memref sig .tc .vmem S2x64x512 .f32) (harg3 : arg3.IsWhole) (arg4 : Memref sig .tc .vmem S2x64x512 .f32) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S1x2x64x512 .f32) (harg7 : arg7.IsWhole) (arg8 : Memref sig .tc .vmem S1x2x64x512 .f32) (harg8 : arg8.IsWhole) (arg9 : Memref sig .tc .vmem S1x2x64x512 .f32) (harg9 : arg9.IsWhole) (arg10 : Memref sig .tc .vmem S1x2x64x512 .f32) (harg10 : arg10.IsWhole) (arg11 : Memref sig .tc .vmem S1x2x64x512 .f32) (harg11 : arg11.IsWhole) (arg12 : Memref sig .tc .vmem S1x2x64x512 .f32) (harg12 : arg12.IsWhole) (arg13 : Memref sig .tc .vmem S1x128x1280 .f32) (harg13 : arg13.IsWhole) (arg14 : Memref sig .tc .vmem S1x128x256 .f32) (harg14 : arg14.IsWhole) (arg15 : Memref sig .tc .vmem S1x128x256 .f32) (harg15 : arg15.IsWhole) (arg16 : Memref sig .tc .vmem S1x128x256 .f32) (harg16 : arg16.IsWhole) (arg17 : Memref sig .tc .vmem S1x512 .f32) (harg17 : arg17.IsWhole) (arg18 : Memref sig .tc .vmem S1x128 .f32) (harg18 : arg18.IsWhole) (arg19 : Memref sig .tc .smem S8 .f32) (harg19 : arg19.IsWhole) (arg20 : Memref sig .tc .smem S8 .f32) (harg20 : arg20.IsWhole) (arg21 : Memref sig .tc .vmem S2x64x512 .f32) (harg21 : arg21.IsWhole) (arg22 : Memref sig .tc .vmem S2x64x512 .f32) (harg22 : arg22.IsWhole) (arg23 : Memref sig .tc .vmem S1x128x512 .bf16) (harg23 : arg23.IsWhole) (arg24 : Memref sig .tc .vmem S2x2x4x128x128 .f32) (harg24 : arg24.IsWhole) (arg25 : Memref sig .tc .vmem S4x256x384 .f32) (harg25 : arg25.IsWhole) (hc0 : cond0_0 i)
    (x0 : Vec F S2x64x512 .f32) (x1 : Vec F S2x64x512 .f32) (x2 : Vec F S2x64x512 .f32) (x3 : Vec F S2x64x512 .f32) (x4 : Vec F S2x64x512 .f32) (x5 : Vec F S2x64x512 .f32) (x6 : Vec F S1x2x64x512 .f32) (x7 : Vec F S1x2x64x512 .f32) (x8 : Vec F S1x2x64x512 .f32) (x9 : Vec F S1x2x64x512 .f32) (x10 : Vec F S1x2x64x512 .f32) (x11 : Vec F S1x2x64x512 .f32) (x12 : Vec F S1x128x1280 .f32) (x13 : Vec F S1x128x256 .f32) (x14 : Vec F S1x128x256 .f32) (x15 : Vec F S1x128x256 .f32) (x16 : Vec F S1x512 .f32) (x17 : Vec F S1x128 .f32) (x18 : Vec F S8 .f32) (x19 : Vec F S8 .f32)

/-- One pair's two stores, each value being the next of its chain. -/
theorem stores_A :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).1 = ys 0 (ldB arg1 harg1 arg2 harg2 arg3 harg3 arg7 harg7 arg8 harg8 arg9 harg9 x0 x1 x2 x6 x7 x8) (fun _ _ => sZ) ∧
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.1 = ys 1 (ldB arg4 harg4 arg5 harg5 arg6 harg6 arg10 harg10 arg11 harg11 arg12 harg12 x3 x4 x5 x9 x10 x11) (fun _ _ => sZ) ∧
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.2.1 = ss 1 (ldB arg4 harg4 arg5 harg5 arg6 harg6 arg10 harg10 arg11 harg11 arg12 harg12 x3 x4 x5 x9 x10 x11) (fun _ _ => sZ) ++ ss 0 (ldB arg1 harg1 arg2 harg2 arg3 harg3 arg7 harg7 arg8 harg8 arg9 harg9 x0 x1 x2 x6 x7 x8) (fun _ _ => sZ) ++
      [⟨Rect.unit (s := S2x2x4x128x128) ![0, 0, 0, 0, 0] S2x2x4x128x128.size inb_S2x2x4x128x128_S2x2x4x128x128_0_0_0_0_0, k0_pay2⟩] := by
  refine lists_of (B := ![ldB arg1 harg1 arg2 harg2 arg3 harg3 arg7 harg7 arg8 harg8 arg9 harg9 x0 x1 x2 x6 x7 x8, ldB arg4 harg4 arg5 harg5 arg6 harg6 arg10 harg10 arg11 harg11 arg12 harg12 x3 x4 x5 x9 x10 x11]) (s := fun _ _ _ => sZ) rfl rfl rfl ?_ ?_ ?_ ?_ ?_ ?_ ?_ ?_ ?_ ?_ ?_ ?_ ?_ ?_ ?_ ?_
  all_goals
    refine pair_zero (pair_of rfl rfl rfl rfl rfl (mid_of rfl rfl rfl rfl rfl rfl rfl rfl rfl rfl rfl rfl rfl)) (zero_of rfl ?_)
    repeat refine skip rfl (by decide) ?_
    exact skip_end rfl

end Cert.KernelIdeal.Pieces

end
-- ==== Proof.PointA.lean ====
/- A point's outputs and scratch, from real windows at the first point. -/
module

public import proofs.«01_k».proof.Proof.Windows
public import proofs.«01_k».proof.Proof.PiecesA

@[expose] public section

set_option maxRecDepth 16384

noncomputable section

namespace Cert.KernelIdeal.Spec

open Idealize.ShloMosaic Idealize.ShloMosaic.TcCoe
open Cert.KernelIdeal Cert.KernelIdeal.Gen Cert.KernelIdeal.Chain Cert.KernelIdeal.Pieces

theorem sZ_ok {D : Dat} (n : Fin 128) (hn : n.val = 0) (d b : Fin 2) (g : Fin 4) : IsS (sZ : FVec Ideal S128x128 .f32) (StM D d b g (64 * n.val)) := by
  intro h i h' j
  rw [hn]
  refine Eq.trans (b := ((0 : ℝ) : EReal)) (by simp [sZ, broadcast, Scalar.ofBits]) ?_
  refine congrArg _ ?_
  show (0 : ℝ) = if h = h' then (0 : ℝ) else 0
  simp

theorem point_A {D : Dat} (n : Fin 128)
    (c : Dev nD) (i : grid0.Coords) (arg1 : Memref sig .tc .vmem S2x64x512 .f32) (harg1 : arg1.IsWhole) (arg2 : Memref sig .tc .vmem S2x64x512 .f32) (harg2 : arg2.IsWhole) (arg3 : Memref sig .tc .vmem S2x64x512 .f32) (harg3 : arg3.IsWhole) (arg4 : Memref sig .tc .vmem S2x64x512 .f32) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S1x2x64x512 .f32) (harg7 : arg7.IsWhole) (arg8 : Memref sig .tc .vmem S1x2x64x512 .f32) (harg8 : arg8.IsWhole) (arg9 : Memref sig .tc .vmem S1x2x64x512 .f32) (harg9 : arg9.IsWhole) (arg10 : Memref sig .tc .vmem S1x2x64x512 .f32) (harg10 : arg10.IsWhole) (arg11 : Memref sig .tc .vmem S1x2x64x512 .f32) (harg11 : arg11.IsWhole) (arg12 : Memref sig .tc .vmem S1x2x64x512 .f32) (harg12 : arg12.IsWhole) (arg13 : Memref sig .tc .vmem S1x128x1280 .f32) (harg13 : arg13.IsWhole) (arg14 : Memref sig .tc .vmem S1x128x256 .f32) (harg14 : arg14.IsWhole) (arg15 : Memref sig .tc .vmem S1x128x256 .f32) (harg15 : arg15.IsWhole) (arg16 : Memref sig .tc .vmem S1x128x256 .f32) (harg16 : arg16.IsWhole) (arg17 : Memref sig .tc .vmem S1x512 .f32) (harg17 : arg17.IsWhole) (arg18 : Memref sig .tc .vmem S1x128 .f32) (harg18 : arg18.IsWhole) (arg19 : Memref sig .tc .smem S8 .f32) (harg19 : arg19.IsWhole) (arg20 : Memref sig .tc .smem S8 .f32) (harg20 : arg20.IsWhole) (arg21 : Memref sig .tc .vmem S2x64x512 .f32) (harg21 : arg21.IsWhole) (arg22 : Memref sig .tc .vmem S2x64x512 .f32) (harg22 : arg22.IsWhole) (arg23 : Memref sig .tc .vmem S1x128x512 .bf16) (harg23 : arg23.IsWhole) (arg24 : Memref sig .tc .vmem S2x2x4x128x128 .f32) (harg24 : arg24.IsWhole) (arg25 : Memref sig .tc .vmem S4x256x384 .f32) (harg25 : arg25.IsWhole) (hc0 : cond0_0 i)
    (x0 : Vec Ideal S2x64x512 .f32) (x1 : Vec Ideal S2x64x512 .f32) (x2 : Vec Ideal S2x64x512 .f32) (x3 : Vec Ideal S2x64x512 .f32) (x4 : Vec Ideal S2x64x512 .f32) (x5 : Vec Ideal S2x64x512 .f32) (x6 : Vec Ideal S1x2x64x512 .f32) (x7 : Vec Ideal S1x2x64x512 .f32) (x8 : Vec Ideal S1x2x64x512 .f32) (x9 : Vec Ideal S1x2x64x512 .f32) (x10 : Vec Ideal S1x2x64x512 .f32) (x11 : Vec Ideal S1x2x64x512 .f32) (x12 : Vec Ideal S1x128x1280 .f32) (x13 : Vec Ideal S1x128x256 .f32) (x14 : Vec Ideal S1x128x256 .f32) (x15 : Vec Ideal S1x128x256 .f32) (x16 : Vec Ideal S1x512 .f32) (x17 : Vec Ideal S1x128 .f32) (x18 : Vec Ideal S8 .f32) (x19 : Vec Ideal S8 .f32)
    (hF : ∀ b, BlocksOK (ldB arg1 harg1 arg2 harg2 arg3 harg3 arg7 harg7 arg8 harg8 arg9 harg9 x0 x1 x2 x6 x7 x8 b) (blk D 0 b n)) (hG : ∀ b, BlocksOK (ldB arg4 harg4 arg5 harg5 arg6 harg6 arg10 harg10 arg11 harg11 arg12 harg12 x3 x4 x5 x9 x10 x11 b) (blk D 1 b n)) (hn : n.val = 0) :
    (∀ b t g h e, out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 (ix3 b t (glane g h e)) = (Y D 0 b (ct 0 n t) g h e : EReal)) ∧
    (∀ b t g h e, out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 (ix3 b t (glane g h e)) = (Y D 1 b (ct 1 n t) g h e : EReal)) ∧
    ScratchOK D (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19) (64 * (n.val + 1)) := by
  obtain ⟨e0, e1, e2⟩ := stores_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19
  have hs0 : ∀ (b : Fin 2) (g : Fin 4), IsS sZ (StM D 0 b g (64 * n.val)) := fun b g => sZ_ok n hn 0 b g
  have hs1 : ∀ (b : Fin 2) (g : Fin 4), IsS sZ (StM D 1 b g (64 * n.val)) := fun b g => sZ_ok n hn 1 b g
  refine ⟨fun b t g h e => ?_, fun b t g h e => ?_, ?_⟩
  · refine (congrFun (View.read_writes_junk_eq_canon VO0_20 (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).1) _).trans ?_
    rw [e0]
    exact ys_at hF hs0 b t g h e
  · refine (congrFun (View.read_writes_junk_eq_canon VO0_21 (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.1) _).trans ?_
    rw [e1]
    exact ys_at hG hs1 b t g h e
  · have e : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 = View.canon (Val := Elt Ideal) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.2.1 :=
      View.read_writes_junk_eq_canon VS0_0 (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.2.1
    rw [e, e2]
    exact ss_at (B := ![fun b => (ldB arg1 harg1 arg2 harg2 arg3 harg3 arg7 harg7 arg8 harg8 arg9 harg9 x0 x1 x2 x6 x7 x8 b), fun b => (ldB arg4 harg4 arg5 harg5 arg6 harg6 arg10 harg10 arg11 harg11 arg12 harg12 x3 x4 x5 x9 x10 x11 b)]) (s := fun d b g => sZ) (fun d b => by fin_cases d; exacts [hF b, hG b]) (fun d b g => by fin_cases d; exacts [hs0 b g, hs1 b g]) _

end Cert.KernelIdeal.Spec

end
-- ==== Proof.PiecesB.lean ====
/- The stores of a chunk's chains, as a point past the first makes them: each is an instance of one chain. -/
module

public import proofs.«01_k».proof.Proof.Ladder
public import proofs.«01_k».proof.Proof.Gen.KernelIdeal.Frame.RunB

@[expose] public section

set_option maxRecDepth 16384

set_option maxHeartbeats 4000000

noncomputable section

namespace Cert.KernelIdeal.Pieces

open Idealize.ShloMosaic Idealize.ShloMosaic.TcCoe
open Cert.KernelIdeal Cert.KernelIdeal.Gen Cert.KernelIdeal.Chain

variable {F : FTy → Type} [FloatOps F] [Named F]

variable (c : Dev nD) (i : grid0.Coords) (arg1 : Memref sig .tc .vmem S2x64x512 .f32) (harg1 : arg1.IsWhole) (arg2 : Memref sig .tc .vmem S2x64x512 .f32) (harg2 : arg2.IsWhole) (arg3 : Memref sig .tc .vmem S2x64x512 .f32) (harg3 : arg3.IsWhole) (arg4 : Memref sig .tc .vmem S2x64x512 .f32) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S1x2x64x512 .f32) (harg7 : arg7.IsWhole) (arg8 : Memref sig .tc .vmem S1x2x64x512 .f32) (harg8 : arg8.IsWhole) (arg9 : Memref sig .tc .vmem S1x2x64x512 .f32) (harg9 : arg9.IsWhole) (arg10 : Memref sig .tc .vmem S1x2x64x512 .f32) (harg10 : arg10.IsWhole) (arg11 : Memref sig .tc .vmem S1x2x64x512 .f32) (harg11 : arg11.IsWhole) (arg12 : Memref sig .tc .vmem S1x2x64x512 .f32) (harg12 : arg12.IsWhole) (arg13 : Memref sig .tc .vmem S1x128x1280 .f32) (harg13 : arg13.IsWhole) (arg14 : Memref sig .tc .vmem S1x128x256 .f32) (harg14 : arg14.IsWhole) (arg15 : Memref sig .tc .vmem S1x128x256 .f32) (harg15 : arg15.IsWhole) (arg16 : Memref sig .tc .vmem S1x128x256 .f32) (harg16 : arg16.IsWhole) (arg17 : Memref sig .tc .vmem S1x512 .f32) (harg17 : arg17.IsWhole) (arg18 : Memref sig .tc .vmem S1x128 .f32) (harg18 : arg18.IsWhole) (arg19 : Memref sig .tc .smem S8 .f32) (harg19 : arg19.IsWhole) (arg20 : Memref sig .tc .smem S8 .f32) (harg20 : arg20.IsWhole) (arg21 : Memref sig .tc .vmem S2x64x512 .f32) (harg21 : arg21.IsWhole) (arg22 : Memref sig .tc .vmem S2x64x512 .f32) (harg22 : arg22.IsWhole) (arg23 : Memref sig .tc .vmem S1x128x512 .bf16) (harg23 : arg23.IsWhole) (arg24 : Memref sig .tc .vmem S2x2x4x128x128 .f32) (harg24 : arg24.IsWhole) (arg25 : Memref sig .tc .vmem S4x256x384 .f32) (harg25 : arg25.IsWhole) (hc0 : ¬cond0_0 i)
    (x0 : Vec F S2x64x512 .f32) (x1 : Vec F S2x64x512 .f32) (x2 : Vec F S2x64x512 .f32) (x3 : Vec F S2x64x512 .f32) (x4 : Vec F S2x64x512 .f32) (x5 : Vec F S2x64x512 .f32) (x6 : Vec F S1x2x64x512 .f32) (x7 : Vec F S1x2x64x512 .f32) (x8 : Vec F S1x2x64x512 .f32) (x9 : Vec F S1x2x64x512 .f32) (x10 : Vec F S1x2x64x512 .f32) (x11 : Vec F S1x2x64x512 .f32) (x12 : Vec F S1x128x1280 .f32) (x13 : Vec F S1x128x256 .f32) (x14 : Vec F S1x128x256 .f32) (x15 : Vec F S1x128x256 .f32) (x16 : Vec F S1x512 .f32) (x17 : Vec F S1x128 .f32) (x18 : Vec F S8 .f32) (x19 : Vec F S8 .f32) (xs0 : Vec F S2x2x4x128x128 .f32) (xs1 : Vec F S4x256x384 .f32)

/-- One pair's two stores, each value being the next of its chain. -/
theorem stores_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1).1 = ys 0 (ldB arg1 harg1 arg2 harg2 arg3 harg3 arg7 harg7 arg8 harg8 arg9 harg9 x0 x1 x2 x6 x7 x8) (ldS arg24 harg24 xs0 0) ∧
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1).2.1 = ys 1 (ldB arg4 harg4 arg5 harg5 arg6 harg6 arg10 harg10 arg11 harg11 arg12 harg12 x3 x4 x5 x9 x10 x11) (ldS arg24 harg24 xs0 1) ∧
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1).2.2.2.1 = ss 1 (ldB arg4 harg4 arg5 harg5 arg6 harg6 arg10 harg10 arg11 harg11 arg12 harg12 x3 x4 x5 x9 x10 x11) (ldS arg24 harg24 xs0 1) ++ ss 0 (ldB arg1 harg1 arg2 harg2 arg3 harg3 arg7 harg7 arg8 harg8 arg9 harg9 x0 x1 x2 x6 x7 x8) (ldS arg24 harg24 xs0 0) ++ [] := by
  refine lists_of (B := ![ldB arg1 harg1 arg2 harg2 arg3 harg3 arg7 harg7 arg8 harg8 arg9 harg9 x0 x1 x2 x6 x7 x8, ldB arg4 harg4 arg5 harg5 arg6 harg6 arg10 harg10 arg11 harg11 arg12 harg12 x3 x4 x5 x9 x10 x11]) (s := ldS arg24 harg24 xs0) rfl rfl rfl ?_ ?_ ?_ ?_ ?_ ?_ ?_ ?_ ?_ ?_ ?_ ?_ ?_ ?_ ?_ ?_
  all_goals exact pair_of rfl rfl rfl rfl rfl (mid_of rfl rfl rfl rfl rfl rfl rfl rfl rfl rfl rfl rfl rfl)

end Cert.KernelIdeal.Pieces

end
-- ==== Proof.PointB.lean ====
/- A point's outputs and scratch, from real windows and the states the point before left. -/
module

public import proofs.«01_k».proof.Proof.Windows
public import proofs.«01_k».proof.Proof.PiecesB

@[expose] public section

set_option maxRecDepth 16384

noncomputable section

namespace Cert.KernelIdeal.Spec

open Idealize.ShloMosaic Idealize.ShloMosaic.TcCoe
open Cert.KernelIdeal Cert.KernelIdeal.Gen Cert.KernelIdeal.Chain Cert.KernelIdeal.Pieces

theorem point_B {D : Dat} (n : Fin 128)
    (c : Dev nD) (i : grid0.Coords) (arg1 : Memref sig .tc .vmem S2x64x512 .f32) (harg1 : arg1.IsWhole) (arg2 : Memref sig .tc .vmem S2x64x512 .f32) (harg2 : arg2.IsWhole) (arg3 : Memref sig .tc .vmem S2x64x512 .f32) (harg3 : arg3.IsWhole) (arg4 : Memref sig .tc .vmem S2x64x512 .f32) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S1x2x64x512 .f32) (harg7 : arg7.IsWhole) (arg8 : Memref sig .tc .vmem S1x2x64x512 .f32) (harg8 : arg8.IsWhole) (arg9 : Memref sig .tc .vmem S1x2x64x512 .f32) (harg9 : arg9.IsWhole) (arg10 : Memref sig .tc .vmem S1x2x64x512 .f32) (harg10 : arg10.IsWhole) (arg11 : Memref sig .tc .vmem S1x2x64x512 .f32) (harg11 : arg11.IsWhole) (arg12 : Memref sig .tc .vmem S1x2x64x512 .f32) (harg12 : arg12.IsWhole) (arg13 : Memref sig .tc .vmem S1x128x1280 .f32) (harg13 : arg13.IsWhole) (arg14 : Memref sig .tc .vmem S1x128x256 .f32) (harg14 : arg14.IsWhole) (arg15 : Memref sig .tc .vmem S1x128x256 .f32) (harg15 : arg15.IsWhole) (arg16 : Memref sig .tc .vmem S1x128x256 .f32) (harg16 : arg16.IsWhole) (arg17 : Memref sig .tc .vmem S1x512 .f32) (harg17 : arg17.IsWhole) (arg18 : Memref sig .tc .vmem S1x128 .f32) (harg18 : arg18.IsWhole) (arg19 : Memref sig .tc .smem S8 .f32) (harg19 : arg19.IsWhole) (arg20 : Memref sig .tc .smem S8 .f32) (harg20 : arg20.IsWhole) (arg21 : Memref sig .tc .vmem S2x64x512 .f32) (harg21 : arg21.IsWhole) (arg22 : Memref sig .tc .vmem S2x64x512 .f32) (harg22 : arg22.IsWhole) (arg23 : Memref sig .tc .vmem S1x128x512 .bf16) (harg23 : arg23.IsWhole) (arg24 : Memref sig .tc .vmem S2x2x4x128x128 .f32) (harg24 : arg24.IsWhole) (arg25 : Memref sig .tc .vmem S4x256x384 .f32) (harg25 : arg25.IsWhole) (hc0 : ¬cond0_0 i)
    (x0 : Vec Ideal S2x64x512 .f32) (x1 : Vec Ideal S2x64x512 .f32) (x2 : Vec Ideal S2x64x512 .f32) (x3 : Vec Ideal S2x64x512 .f32) (x4 : Vec Ideal S2x64x512 .f32) (x5 : Vec Ideal S2x64x512 .f32) (x6 : Vec Ideal S1x2x64x512 .f32) (x7 : Vec Ideal S1x2x64x512 .f32) (x8 : Vec Ideal S1x2x64x512 .f32) (x9 : Vec Ideal S1x2x64x512 .f32) (x10 : Vec Ideal S1x2x64x512 .f32) (x11 : Vec Ideal S1x2x64x512 .f32) (x12 : Vec Ideal S1x128x1280 .f32) (x13 : Vec Ideal S1x128x256 .f32) (x14 : Vec Ideal S1x128x256 .f32) (x15 : Vec Ideal S1x128x256 .f32) (x16 : Vec Ideal S1x512 .f32) (x17 : Vec Ideal S1x128 .f32) (x18 : Vec Ideal S8 .f32) (x19 : Vec Ideal S8 .f32) (xs0 : Vec Ideal S2x2x4x128x128 .f32) (xs1 : Vec Ideal S4x256x384 .f32)
    (hF : ∀ b, BlocksOK (ldB arg1 harg1 arg2 harg2 arg3 harg3 arg7 harg7 arg8 harg8 arg9 harg9 x0 x1 x2 x6 x7 x8 b) (blk D 0 b n)) (hG : ∀ b, BlocksOK (ldB arg4 harg4 arg5 harg5 arg6 harg6 arg10 harg10 arg11 harg11 arg12 harg12 x3 x4 x5 x9 x10 x11 b) (blk D 1 b n)) (hS : ScratchOK D xs0 (64 * n.val)) :
    (∀ b t g h e, out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1 (ix3 b t (glane g h e)) = (Y D 0 b (ct 0 n t) g h e : EReal)) ∧
    (∀ b t g h e, out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1 (ix3 b t (glane g h e)) = (Y D 1 b (ct 1 n t) g h e : EReal)) ∧
    ScratchOK D (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1) (64 * (n.val + 1)) := by
  obtain ⟨e0, e1, e2⟩ := stores_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1
  have hs0 := fun b g => ldS_ok hS arg24 harg24 0 b g
  have hs1 := fun b g => ldS_ok hS arg24 harg24 1 b g
  refine ⟨fun b t g h e => ?_, fun b t g h e => ?_, ?_⟩
  · refine (congrFun (View.read_writes_junk_eq_canon VO0_20 (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1).1) _).trans ?_
    rw [e0]
    exact ys_at hF hs0 b t g h e
  · refine (congrFun (View.read_writes_junk_eq_canon VO0_21 (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1).2.1) _).trans ?_
    rw [e1]
    exact ys_at hG hs1 b t g h e
  · have e : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1 = View.canon (Val := Elt Ideal) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1).2.2.2.1 :=
      View.read_writes_junk_eq_canon VS0_0 (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xs0 xs1).2.2.2.1
    rw [e, e2]
    exact ss_at (B := ![fun b => (ldB arg1 harg1 arg2 harg2 arg3 harg3 arg7 harg7 arg8 harg8 arg9 harg9 x0 x1 x2 x6 x7 x8 b), fun b => (ldB arg4 harg4 arg5 harg5 arg6 harg6 arg10 harg10 arg11 harg11 arg12 harg12 x3 x4 x5 x9 x10 x11 b)]) (s := fun d b g => ldS arg24 harg24 xs0 d b g) (fun d b => by fin_cases d; exacts [hF b, hG b]) (fun d b g => by fin_cases d; exacts [hs0 b g, hs1 b g]) _

end Cert.KernelIdeal.Spec

end
-- ==== Proof.Sweep.lean ====
/- The kernel's two outputs of the recurrence, over all its points. -/
module

public import proofs.«01_k».proof.Proof.PointA
public import proofs.«01_k».proof.Proof.PointB

@[expose] public section

set_option maxRecDepth 16384

noncomputable section

namespace Cert.KernelIdeal.Spec

open Idealize.ShloMosaic Idealize.ShloMosaic.TcCoe
open Cert.KernelIdeal Cert.KernelIdeal.Gen Cert.KernelIdeal.Chain Cert.KernelIdeal.Pieces

variable (m : (ℓ : Loc nD τ sig) → Buf (Elt Ideal) ℓ) (c : Dev nD)

/-- What holds after point `t`. -/
def After (D : Dat) (t : Fin cfg0.N) : Prop :=
  (∀ b s g h e, (outsAt0 m c t.val t.isLt).1 (ix3 b s (glane g h e)) = (Y D 0 b (ct 0 (pt t) s) g h e : EReal)) ∧
  (∀ b s g h e, (outsAt0 m c t.val t.isLt).2.1 (ix3 b s (glane g h e)) = (Y D 1 b (ct 1 (pt t) s) g h e : EReal)) ∧
  ScratchOK D (outsAt0 m c t.val t.isLt).2.2.2.1 (64 * (t.val + 1))

variable {m c} {D : Dat}

/-- The same, told of a named tuple of outputs. -/
theorem After_of (t : Fin cfg0.N) {a b w x y} (e : outsAt0 m c t.val t.isLt = (a, b, w, x, y))
    (p : (∀ b' s g h e, a (ix3 b' s (glane g h e)) = (Y D 0 b' (ct 0 (pt t) s) g h e : EReal)) ∧
      (∀ b' s g h e, b (ix3 b' s (glane g h e)) = (Y D 1 b' (ct 1 (pt t) s) g h e : EReal)) ∧ ScratchOK D x (64 * ((pt t).val + 1))) :
    After m c D t := by
  unfold After
  rw [e]
  exact p

variable (hD : InputOK m c D)
include hD

theorem after_first (t : Fin cfg0.N) (h0 : t.val % 128 = 0) (hz : (pt t).val = 0) : After m c D t := by
  refine After_of t (outsAt0_A m c t h0) ?_
  have p := point_A (D := D) (pt t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    (fun b => blocks_f hD t b _ _ _ _ _ _ _ _ _ _ _ _) (fun b => blocks_b hD t b _ _ _ _ _ _ _ _ _ _ _ _) hz
  exact p

theorem after_next (t : Fin cfg0.N) (h0 : ¬t.val % 128 = 0)
    (hp : ScratchOK D (outsAt0 m c (t.val - 1) (Nat.lt_of_le_of_lt (Nat.sub_le _ _) t.isLt)).2.2.2.1 (64 * (pt t).val)) : After m c D t := by
  refine After_of t (outsAt0_B m c t h0) ?_
  have p := point_B (D := D) (pt t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    (fun b => blocks_f hD t b _ _ _ _ _ _ _ _ _ _ _ _) (fun b => blocks_b hD t b _ _ _ _ _ _ _ _ _ _ _ _) hp
  exact p

theorem after : ∀ (n : ℕ) (hn : n < cfg0.N), After m c D ⟨n, hn⟩
  | 0, hn => after_first hD ⟨0, hn⟩ rfl rfl
  | n + 1, hn => by
    have hlt : n + 1 < 128 := hn
    exact after_next hD ⟨n + 1, hn⟩ (by show ¬(n + 1) % 128 = 0; omega) (after n (Nat.lt_of_succ_lt hn)).2.2

end Cert.KernelIdeal.Spec

end
-- ==== Proof.Arrays.lean ====
/- The kernel's two arrays of the recurrence after the run. -/
module

public import proofs.«01_k».proof.Proof.Sweep
public import proofs.«01_k».proof.Proof.Gen.KernelIdeal.Value

@[expose] public section

set_option maxRecDepth 16384

noncomputable section

namespace Cert.KernelIdeal.Spec

open Idealize.ShloMosaic Idealize.ShloMosaic.TcCoe
open Cert.KernelIdeal Cert.KernelIdeal.Gen Cert.KernelIdeal.Chain Cert.KernelIdeal.Pieces

/-- The output of direction `d` as an array. -/
def YA (D : Dat) (d : Fin 2) : S2x8192x512.Idx → EReal := fun i =>
  ((Y D d ⟨(i 0).val, (i 0).isLt⟩ ⟨(i 1).val, (i 1).isLt⟩ ⟨(i 2).val / 128, Nat.div_lt_of_lt_mul (i 2).isLt⟩
    ⟨(i 2).val % 128 / 64, Nat.div_lt_of_lt_mul (Nat.mod_lt _ (by decide))⟩ ⟨(i 2).val % 64, Nat.mod_lt _ (by decide)⟩ : ℝ) : EReal)

theorem glane_split (l : Fin 512) : l = glane ⟨l.val / 128, by omega⟩ ⟨l.val % 128 / 64, by omega⟩ ⟨l.val % 64, by omega⟩ := by
  apply Fin.ext
  show l.val = 128 * (l.val / 128) + (l.val % 128 / 64 * 64 + l.val % 64)
  omega

variable {m : (ℓ : Loc nD τ sig) → Buf (Elt Ideal) ℓ} {c : Dev nD} {D : Dat} (hD : InputOK m c D)
include hD

theorem at_f (t : Fin cfg0.N) (y : S2x64x512.Idx) : (outsAt0 m c t.val t.isLt).1 y
    = YA D 0 (ix3 (y 0) (ct 0 (pt t) (y 1)) (y 2)) := by
  have e : y = ix3 (y 0) (y 1) (glane ⟨(y 2).val / 128, Nat.div_lt_of_lt_mul (y 2).isLt⟩
    ⟨(y 2).val % 128 / 64, Nat.div_lt_of_lt_mul (Nat.mod_lt _ (by decide))⟩ ⟨(y 2).val % 64, Nat.mod_lt _ (by decide)⟩) := by
    funext a
    fin_cases a
    exacts [rfl, rfl, glane_split (y 2)]
  exact (congrArg _ e).trans ((after hD t.val t.isLt).1 _ _ _ _ _)

theorem at_b (t : Fin cfg0.N) (y : S2x64x512.Idx) : (outsAt0 m c t.val t.isLt).2.1 y
    = YA D 1 (ix3 (y 0) (ct 1 (pt t) (y 1)) (y 2)) := by
  have e : y = ix3 (y 0) (y 1) (glane ⟨(y 2).val / 128, Nat.div_lt_of_lt_mul (y 2).isLt⟩
    ⟨(y 2).val % 128 / 64, Nat.div_lt_of_lt_mul (Nat.mod_lt _ (by decide))⟩ ⟨(y 2).val % 64, Nat.mod_lt _ (by decide)⟩) := by
    funext a
    fin_cases a
    exacts [rfl, rfl, glane_split (y 2)]
  exact (congrArg _ e).trans ((after hD t.val t.isLt).2.1 _ _ _ _ _)

theorem arr20 : (dats m 0 c).arrAt 20 cfg0.N = YA D 0 := by
  refine (dats m 0 c).arrAt_eq_of_covers 20 _ (by decide +kernel) fun t hf y => ?_
  blk_simp
  rw [after0_20]
  refine (at_f hD t y).trans (congrArg (YA D 0) ?_)
  have h := (index_o t).1
  funext a
  apply Fin.ext
  fin_cases a
  · blk_simp [h]; rfl
  · blk_simp [h]; exact congrArg (· + (y 1).val) (Nat.mul_comm 64 t.val)
  · blk_simp [h]; rfl

theorem arr21 : (dats m 0 c).arrAt 21 cfg0.N = YA D 1 := by
  refine (dats m 0 c).arrAt_eq_of_covers 21 _ (by decide +kernel) fun t hf y => ?_
  blk_simp
  rw [after0_21]
  refine (at_b hD t y).trans (congrArg (YA D 1) ?_)
  have h := (index_o t).2
  funext a
  apply Fin.ext
  fin_cases a
  · blk_simp [h]; rfl
  · blk_simp [h]; exact congrArg (· + (y 1).val) (Nat.mul_comm 64 (127 - t.val))
  · blk_simp [h]; rfl

end Cert.KernelIdeal.Spec

end
-- ==== Proof.RefOut.lean ====
/- The reference's two results of the recurrence. -/
module

public import proofs.«01_k».proof.Proof.RefScan
public import proofs.«01_k».proof.Proof.Arrays

@[expose] public section

set_option maxRecDepth 16384

noncomputable section

namespace Cert.ReferenceIdeal.Scan

open Idealize.ShloMosaic Idealize.ShloMosaic.TcCoe Idealize.ShloMosaic.StableHlo
open Cert.ReferenceIdeal Cert.ReferenceIdeal.Gen Cert.ReferenceIdeal.Value
open Cert.KernelIdeal.Spec (Dat tm stp YA Y St glane_split)
open Cert.KernelIdeal.Chain (glane)

theorem back_at (x : FVec Ideal S8192x2x2x8x64 .f32) (d b : Fin 2) (n : Fin 8192) (h : Fin 8) (j : Fin 64) :
    transpose S2x2x8192x8x64 [1, 2, 0, 3, 4] x transposes_S8192x2x2x8x64_S2x2x8192x8x64_1_2_0_3_4 (ix5 d b n h j) = x (ix5 n d b h j) := by
  pointwise
theorem half0_at (x : FVec Ideal S2x2x8192x8x64 .f32) (b : Fin 2) (n : Fin 8192) (h : Fin 8) (j : Fin 64) :
    extractStridedSlice S1x2x8192x8x64 ![0, 0, 0, 0, 0] x slices_S2x2x8192x8x64_S1x2x8192x8x64_0_0_0_0_0 (ix5 0 b n h j) = x (ix5 0 b n h j) := by
  pointwise
theorem half1_at (x : FVec Ideal S2x2x8192x8x64 .f32) (b : Fin 2) (n : Fin 8192) (h : Fin 8) (j : Fin 64) :
    extractStridedSlice S1x2x8192x8x64 ![1, 0, 0, 0, 0] x slices_S2x2x8192x8x64_S1x2x8192x8x64_1_0_0_0_0 (ix5 0 b n h j) = x (ix5 1 b n h j) := by
  pointwise
theorem lose_at (x : FVec Ideal S1x2x8192x8x64 .f32) (b : Fin 2) (n : Fin 8192) (h : Fin 8) (j : Fin 64) :
    shapeCast S2x8192x8x64 x shapeCasts_S1x2x8192x8x64_S2x8192x8x64 (ix4 b n h j) = x (ix5 0 b n h j) := by
  pointwise
theorem gain_at (x : FVec Ideal S2x8192x8x64 .f32) (b : Fin 2) (n : Fin 8192) (h : Fin 8) (j : Fin 64) :
    broadcastInDim S1x2x8192x8x64 ![1, 2, 3, 4] bcast_S2x8192x8x64_S1x2x8192x8x64_1_2_3_4 x (ix5 0 b n h j) = x (ix4 b n h j) := by
  pointwise
theorem turn_at (x : FVec Ideal S2x8192x8x64 .f32) (b : Fin 2) (n : Fin 8192) (h : Fin 8) (j : Fin 64) :
    Host.reverse [1] x (ix4 b n h j) = x (ix4 b (tmR 1 n) h j) := by
  rw [← rev_eq]
  pointwise
  simp
theorem pair0_at (x y : FVec Ideal S1x2x8192x8x64 .f32) (b : Fin 2) (n : Fin 8192) (h : Fin 8) (j : Fin 64) :
    concatenate S2x2x8192x8x64 0 [⟨S1x2x8192x8x64, x⟩, ⟨S1x2x8192x8x64, y⟩] concatenates_S1x2x8192x8x64_S1x2x8192x8x64_S2x2x8192x8x64_d0 (ix5 0 b n h j)
      = x (ix5 0 b n h j) := by
  pointwise
theorem pair1_at (x y : FVec Ideal S1x2x8192x8x64 .f32) (b : Fin 2) (n : Fin 8192) (h : Fin 8) (j : Fin 64) :
    concatenate S2x2x8192x8x64 0 [⟨S1x2x8192x8x64, x⟩, ⟨S1x2x8192x8x64, y⟩] concatenates_S1x2x8192x8x64_S1x2x8192x8x64_S2x2x8192x8x64_d0 (ix5 1 b n h j)
      = y (ix5 0 b n h j) := by
  pointwise
theorem merge_at (x : FVec Ideal S2x8192x8x64 .f32) (b : Fin 2) (n : Fin 8192) (h : Fin 8) (j : Fin 64) :
    shapeCast S2x8192x512 x shapeCasts_S2x8192x8x64_S2x8192x512 (ix3 b n (hl h j)) = x (ix4 b n h j) :=
  shapeCast_apply x _ _ _ (by
    rw [Shape.rowMajor_val_four, Shape.rowMajor_val_three]
    show ((b.val * 8192 + n.val) * 8 + h.val) * 64 + j.val = (b.val * 8192 + n.val) * 512 + (64 * h.val + j.val)
    omega)

theorem out0_at (V : Valuation τ sig (Elt Ideal)) (b : Fin 2) (n : Fin 8192) (h : Fin 8) (j : Fin 64) :
    out_main_v63 V (ix3 b n (hl h j)) = V (Proc.devRef .tc main_v51_8) (ix5 n 0 b h j) := by
  unfold out_main_v63
  refine (merge_at _ b n h j).trans ?_
  refine (lose_at _ b n h j).trans ?_
  refine (half0_at _ b n h j).trans ?_
  refine (pair0_at _ _ b n h j).trans ?_
  refine (gain_at _ b n h j).trans ?_
  refine (lose_at _ b n h j).trans ?_
  refine (half0_at _ b n h j).trans ?_
  exact back_at _ 0 b n h j

theorem out1_at (V : Valuation τ sig (Elt Ideal)) (b : Fin 2) (n : Fin 8192) (h : Fin 8) (j : Fin 64) :
    out_main_v66 V (ix3 b n (hl h j)) = V (Proc.devRef .tc main_v51_8) (ix5 (tmR 1 n) 1 b h j) := by
  unfold out_main_v66
  refine (merge_at _ b n h j).trans ?_
  refine (lose_at _ b n h j).trans ?_
  refine (half1_at _ b n h j).trans ?_
  refine (pair1_at _ _ b n h j).trans ?_
  refine (gain_at _ b n h j).trans ?_
  refine (turn_at _ b n h j).trans ?_
  refine (lose_at _ b (tmR 1 n) h j).trans ?_
  refine (half1_at _ b (tmR 1 n) h j).trans ?_
  exact back_at _ 1 b (tmR 1 n) h j

variable (D : Dat)

/-- Head `h` is the second or first of its pair. -/
theorem glane_hl (h : Fin 8) (j : Fin 64) : glane ⟨h.val / 2, by omega⟩ ⟨h.val % 2, by omega⟩ j = hl h j := by
  apply Fin.ext
  show 128 * (h.val / 2) + (h.val % 2 * 64 + j.val) = 64 * h.val + j.val
  omega

/-- The head of a lane. -/
theorem lane_hl (l : Fin 512) : l = hl ⟨l.val / 64, by omega⟩ ⟨l.val % 64, by omega⟩ := by
  apply Fin.ext
  show l.val = 64 * (l.val / 64) + l.val % 64
  omega

theorem YA_at (d b : Fin 2) (t : Fin 8192) (h : Fin 8) (i : Fin 64) : YA D d (ix3 b t (hl h i)) = (ER D d b h (stp d t) i : EReal) := by
  have e1 : (hl h i).val / 128 = h.val / 2 := by show (64 * h.val + i.val) / 128 = _; omega
  have e2 : (hl h i).val % 128 / 64 = h.val % 2 := by show (64 * h.val + i.val) % 128 / 64 = _; omega
  have e3 : (hl h i).val % 64 = i.val := by show (64 * h.val + i.val) % 64 = _; omega
  have et : tm d (stp d t) = t := by
    have := t.isLt
    fin_cases d
    · exact Fin.ext (Nat.mod_eq_of_lt t.isLt)
    · apply Fin.ext
      show 8191 - (8191 - t.val) % 8192 = t.val
      omega
  have eY : Y D d b t ⟨h.val / 2, by omega⟩ ⟨h.val % 2, by omega⟩ i = ER D d b h (stp d t) i := by
    unfold Y ER St SR
    simp only [glane_hl, et]
  rw [← eY]
  unfold YA
  congr 1
  exact congr (congr (congrArg (Y D d b t) (Fin.ext e1)) (Fin.ext e2)) (Fin.ext e3)

variable {D} {m : (ℓ : Loc nD τ sig) → Buf (Elt Ideal) ℓ} {c : Dev nD} (hD : InputOK D m c)
include hD

theorem ref0 : out_main_v63 (STEP^[8192] (entryContents preI m c)) = YA D 0 := by
  funext i
  rw [eq_ix3 i]
  generalize i 0 = b
  generalize i 1 = t
  generalize i 2 = l
  obtain ⟨h, j, rfl⟩ : ∃ h j, l = hl h j := ⟨_, _, lane_hl l⟩
  exact (out0_at _ b t h j).trans ((emit_all hD 8192 le_rfl t t.isLt 0 b h j).trans (YA_at D 0 b t h j).symm)

theorem ref1 : out_main_v66 (STEP^[8192] (entryContents preI m c)) = YA D 1 := by
  funext i
  rw [eq_ix3 i]
  generalize i 0 = b
  generalize i 1 = t
  generalize i 2 = l
  obtain ⟨h, j, rfl⟩ : ∃ h j, l = hl h j := ⟨_, _, lane_hl l⟩
  exact (out1_at _ b t h j).trans ((emit_all hD 8192 le_rfl (tmR 1 t) (tmR 1 t).isLt 1 b h j).trans (YA_at D 1 b t h j).symm)

end Cert.ReferenceIdeal.Scan

end
-- ==== Proof.Value.lean ====
/- The recurrence's two results of the kernel are the reference's. -/
module

public import proofs.«01_k».proof.Proof.Finite
public import proofs.«01_k».proof.Proof.RefOut

@[expose] public section

noncomputable section

namespace Cert.Value

open Idealize.ShloMosaic Idealize.ShloMosaic.TcCoe Idealize.SL.Sem
open Cert.KernelIdeal.Spec (Dat YA)

section Data

open Cert.KernelIdeal

variable (m : (ℓ : Loc nD τ sig) → Buf (Elt Ideal) ℓ) (c : Dev nD)

/-- The kernel's inputs as real numbers. -/
def dat : Dat where
  r b t l := (m ((c.tc : Thread nD τ).loc main_arg0) (ix3 b t l) : EReal).toReal
  v b t l := (m ((c.tc : Thread nD τ).loc main_arg1) (ix3 b t l) : EReal).toReal
  a b t l := (m ((c.tc : Thread nD τ).loc main_arg2) (ix3 b t l) : EReal).toReal
  lw d b t l := (m ((c.tc : Thread nD τ).loc main_arg3) (ix4 d b t l) : EReal).toReal
  k d b t l := (m ((c.tc : Thread nD τ).loc main_arg4) (ix4 d b t l) : EReal).toReal
  b d b t l := (m ((c.tc : Thread nD τ).loc main_arg5) (ix4 d b t l) : EReal).toReal

variable [Cert.Pre_finite.Facts] {m}

theorem kernelInputs (h : Cert.Pre_KernelIdeal_finite m) : Cert.KernelIdeal.Spec.InputOK m c (dat m c) where
  r b t l := Cert.Finite.elt _ _ (h c).1 _
  v b t l := Cert.Finite.elt _ _ (h c).2.1 _
  a b t l := Cert.Finite.elt _ _ (h c).2.2.1 _
  lw d b t l := Cert.Finite.elt _ _ (h c).2.2.2.1 _
  k d b t l := Cert.Finite.elt _ _ (h c).2.2.2.2.1 _
  b d b t l := Cert.Finite.elt _ _ (h c).2.2.2.2.2 _

end Data

theorem algebraic (hp : Cert.Pre_finite.Facts) : Cert.algebraic_KernelIdeal_ReferenceIdeal_pre_finite (hKernelIdeal := Cert.KernelIdeal.Gen.facts)
    (hReferenceIdeal := Cert.ReferenceIdeal.Gen.facts) (hPre_finite := hp) := by
  intro m g m' g' hpre harg
  have hk := fun c => kernelInputs c hpre
  have hr : ∀ c, Cert.ReferenceIdeal.Scan.InputOK (dat m c) m' c := fun c => by
    obtain ⟨e0, e1, e2, e3, e4, e5, -⟩ := harg c
    exact ⟨fun b t l => (congrFun e0 _).trans ((hk c).r b t l), fun b t l => (congrFun e1 _).trans ((hk c).v b t l),
      fun b t l => (congrFun e2 _).trans ((hk c).a b t l), fun d b t l => (congrFun e3 _).trans ((hk c).lw d b t l),
      fun d b t l => (congrFun e4 _).trans ((hk c).k d b t l), fun d b t l => (congrFun e5 _).trans ((hk c).b d b t l)⟩
  refine ⟨fun c => YA (dat m c) 0, fun c => YA (dat m c) 1, ?_, ?_⟩
  · refine (θ_run Cert.KernelIdeal.defs _ _).mono (fun r h c => ?_) (Cert.KernelIdeal.Value.run_blocks (F := Ideal) m g)
    obtain ⟨h0, h1, -, h⟩ := h c
    exact ⟨h0.trans (Cert.KernelIdeal.Spec.arr20 (hk c)), h1.trans (Cert.KernelIdeal.Spec.arr21 (hk c)), h⟩
  · refine (θ_run Cert.ReferenceIdeal.defs _ _).mono (fun r h c => ?_) (Cert.ReferenceIdeal.Value.run (F := Ideal) m' g')
    obtain ⟨h0, h1, h⟩ := h c
    exact ⟨h0.trans (Cert.ReferenceIdeal.Scan.ref0 (hr c)), h1.trans (Cert.ReferenceIdeal.Scan.ref1 (hr c)), h⟩

end Cert.Value

end
-- ==== Proof.ProjPieces.lean ====
/- What a point of the projection stores into its first two outputs. -/
module

public import proofs.«01_k».proof.Proof.Gen.ProjectIdeal.Frame
public import Idealize.ShloMosaic.Lib.Pipeline.RowLoads

@[expose] public section

set_option maxRecDepth 16384

noncomputable section

namespace Cert.Proj

open Idealize.ShloMosaic Idealize.ShloMosaic.TcCoe
open Cert.ProjectIdeal Cert.ProjectIdeal.Gen

variable {F : FTy → Type} [FloatOps F]

/-- The two column pieces of the first output, last first. -/
def pieces13 (H : FVec F S256x1024 .bf16) (w0 : FVec F S1024x512 .bf16) (w1 : FVec F S1024x768 .bf16) : List (View.Piece (Elt F) S1x256x1280 .f32) :=
  [⟨Rect.unit (s := S1x256x1280) ![0, 0, 512] S1x256x768.size inb_S1x256x1280_S1x256x768_0_0_512, k0_pay17 H w1⟩,
   ⟨Rect.unit (s := S1x256x1280) ![0, 0, 0] S1x256x512.size inb_S1x256x1280_S1x256x512_0_0_0, k0_pay13 H w0⟩]

/-- The four column pieces of the second. -/
def pieces14 (H : FVec F S256x1024 .bf16) (w0 w1 w2 w3 : FVec F S1024x512 .bf16) : List (View.Piece (Elt F) S1x256x2048 .bf16) :=
  [⟨Rect.unit (s := S1x256x2048) ![0, 0, 1536] S1x256x512.size inb_S1x256x2048_S1x256x512_0_0_1536, k0_pay32 H w3⟩,
   ⟨Rect.unit (s := S1x256x2048) ![0, 0, 1024] S1x256x512.size inb_S1x256x2048_S1x256x512_0_0_1024, k0_pay27 H w2⟩,
   ⟨Rect.unit (s := S1x256x2048) ![0, 0, 512] S1x256x512.size inb_S1x256x2048_S1x256x512_0_0_512, k0_pay22 H w1⟩,
   ⟨Rect.unit (s := S1x256x2048) ![0, 0, 0] S1x256x512.size inb_S1x256x2048_S1x256x512_0_0_0, k0_pay20 (k0_pay19 H w0)⟩]

/-- A load does not meet a store at other rows. -/
theorem past {S : Shape} {e : EltTy} {v : View sig .tc .vmem S e} {L : List (View.Piece (Elt F) S e)} {off off' : Fin S.rank → ℕ} {sz sz' : Fin S.rank → ℕ}
    {inb : ∀ a, off a + sz a ≤ S.size a} {inb' : ∀ a, off' a + sz' a ≤ S.size a} {w : (Rect.unit (s := S) off sz inb).shape.Idx → Elt F e}
    (h : ∃ a, off a + sz a ≤ off' a ∨ off' a + sz' a ≤ off a) :
    v.readCov (⟨Rect.unit (s := S) off sz inb, w⟩ :: L) (Rect.unit (s := S) off' sz' inb').toLoadRect
      = v.readCov L (Rect.unit (s := S) off' sz' inb').toLoadRect := by
  obtain ⟨a, h⟩ := h
  exact View.readCov_cons_of_disjoint v _ L _ (Rect.unit_disjoint (inb := inb) (inb' := inb') a h)

/-- A load of what the newest store wrote. -/
theorem same {S : Shape} {e : EltTy} {v : View sig .tc .vmem S e} {L : List (View.Piece (Elt F) S e)} {off : Fin S.rank → ℕ} {sz : Fin S.rank → ℕ}
    {inb : ∀ a, off a + sz a ≤ S.size a} {w : (Rect.unit (s := S) off sz inb).shape.Idx → Elt F e} :
    v.readCov (⟨Rect.unit (s := S) off sz inb, w⟩ :: L) (Rect.unit (s := S) off sz inb).toLoadRect = w := by
  rw [View.readCov_eq_canon']
  funext j
  exact View.canon_cons_emb (Val := Elt F) (e := e) (Rect.unit (s := S) off sz inb) w L j

/-- A load of the middle rows, the newest piece holding rows after them. -/
theorem load_mid (v : View sig .tc .vmem S288x1024 .bf16) {L : List (View.Piece (Elt F) S288x1024 .bf16)} {X : FVec F S256x1024 .bf16} {Y Z : FVec F S16x1024 .bf16}
    (hL : L = [⟨Rect.unit (s := S288x1024) ![272, 0] S16x1024.size inb_S288x1024_S16x1024_272_0, Y⟩,
      ⟨Rect.unit (s := S288x1024) ![16, 0] S256x1024.size inb_S288x1024_S256x1024_16_0, X⟩,
      ⟨Rect.unit (s := S288x1024) ![0, 0] S16x1024.size inb_S288x1024_S16x1024_0_0, Z⟩]) :
    v.readCov L (Rect.unit (s := S288x1024) ![16, 0] S256x1024.size inb_S288x1024_S256x1024_16_0).toLoadRect = X := by
  subst hL
  exact (past ⟨0, Or.inr (Nat.le_refl 272)⟩).trans same

theorem of13 {L : List (View.Piece (Elt F) S1x256x1280 .f32)} {H H' w0 w1} (h : L = pieces13 (F := F) H w0 w1) (e : H = H') : L = pieces13 H' w0 w1 := e ▸ h
theorem of14 {L : List (View.Piece (Elt F) S1x256x2048 .bf16)} {H H' w0 w1 w2 w3} (h : L = pieces14 (F := F) H w0 w1 w2 w3) (e : H = H') : L = pieces14 H' w0 w1 w2 w3 := e ▸ h

/-- The tile's rows of one input window, whole. -/
def ldX (m : Memref sig .tc .vmem S1x256x1024 .f32) (h : m.IsWhole) (x : Vec F S1x256x1024 .f32) : FVec F S1x256x1024 .f32 :=
  View.readAt (Elt F) m.view (Rect.unit (s := S1x256x1024) ![0, 0, 0] S1x256x1024.size inb_S1x256x1024_S1x256x1024_0_0_0).toLoadRect (h.unread x)
def ldG (m : Memref sig .tc .vmem S1x1024 .f32) (h : m.IsWhole) (x : Vec F S1x1024 .f32) : FVec F S1x1024 .f32 :=
  View.readAt (Elt F) m.view (Rect.unit (s := S1x1024) ![0, 0] S1x1024.size inb_S1x1024_S1x1024_0_0).toLoadRect (h.unread x)
theorem inbW (n lo : ℕ) (h : lo + n ≤ 5632) : ∀ a, (![0, lo] : Fin 2 → ℕ) a + (⟨2, ![1024, n]⟩ : Shape).size a ≤ S1024x5632.size a := fun a =>
  match a with
  | ⟨0, _⟩ => Nat.le_refl 1024
  | ⟨1, _⟩ => h
/-- Columns of the weights. -/
def ldW (n lo : ℕ) (hl : lo + n ≤ 5632) (m : Memref sig .tc .vmem S1024x5632 .bf16) (h : m.IsWhole) (x : Vec F S1024x5632 .bf16) : FVec F (⟨2, ![1024, n]⟩ : Shape) .bf16 :=
  View.readAt (Elt F) m.view (Rect.unit (s := S1024x5632) ![0, lo] (⟨2, ![1024, n]⟩ : Shape).size (inbW n lo hl)).toLoadRect (h.unread x)

variable (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S1x2304 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256x1280 .f32) (harg15 : arg15.IsWhole) (arg16 : Memref sig .tc .vmem S1x256x2048 .bf16) (harg16 : arg16.IsWhole) (arg17 : Memref sig .tc .vmem S1x256x512 .f32) (harg17 : arg17.IsWhole) (arg18 : Memref sig .tc .vmem S1x256x512 .f32) (harg18 : arg18.IsWhole) (arg19 : Memref sig .tc .vmem S1x256x512 .f32) (harg19 : arg19.IsWhole) (arg20 : Memref sig .tc .vmem S2x1x256x512 .f32) (harg20 : arg20.IsWhole) (arg21 : Memref sig .tc .vmem S2x1x256x512 .f32) (harg21 : arg21.IsWhole) (arg22 : Memref sig .tc .vmem S2x1x256x512 .f32) (harg22 : arg22.IsWhole) (arg23 : Memref sig .tc .vmem S1x256x512 .f32) (harg23 : arg23.IsWhole) (arg24 : Memref sig .tc .vmem S1x256x512 .f32) (harg24 : arg24.IsWhole) (arg25 : Memref sig .tc .vmem S288x1024 .bf16) (harg25 : arg25.IsWhole) (arg26 : Memref sig .tc .vmem S288x2304 .f32) (harg26 : arg26.IsWhole)
  (x0 : Vec F S1x256x1024 .f32) (x1 : Vec F S1x16x1024 .f32) (x2 : Vec F S1x16x1024 .f32) (x3 : Vec F S1x1024 .f32) (x4 : Vec F S1024x5632 .bf16) (x5 : Vec F S1x2304 .f32) (x6 : Vec F S1x1024 .f32) (x7 : Vec F S128x1024 .bf16) (x8 : Vec F S1x1024 .f32) (x9 : Vec F S128x1024 .bf16) (x10 : Vec F S1x512 .f32) (x11 : Vec F S1x512 .f32) (x12 : Vec F S1x512 .f32)

/-- The tile's rows, normalised. -/
def hm (m : Memref sig .tc .vmem S1x256x1024 .f32) (h : m.IsWhole) (x : Vec F S1x256x1024 .f32) (m' : Memref sig .tc .vmem S1x1024 .f32) (h' : m'.IsWhole) (g : Vec F S1x1024 .f32) : FVec F S256x1024 .bf16 :=
  k0_pay4 (k0_pay2 (ldX m h x)) (k0_pay3 (ldG m' h' g))

theorem stores13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).1
    = pieces13 (hm arg2 harg2 x0 arg5 harg5 x3) (ldW 512 2304 (by decide) arg6 harg6 x4) (ldW 768 2816 (by decide) arg6 harg6 x4) :=
  of13 rfl (load_mid _ rfl)

theorem stores14 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.1
    = pieces14 (hm arg2 harg2 x0 arg5 harg5 x3) (ldW 512 3584 (by decide) arg6 harg6 x4) (ldW 512 4096 (by decide) arg6 harg6 x4) (ldW 512 4608 (by decide) arg6 harg6 x4) (ldW 512 5120 (by decide) arg6 harg6 x4) :=
  of14 rfl (load_mid _ rfl)

end Cert.Proj

end
-- ==== Proof.ProjSpec.lean ====
/- The projection as mathematics: a token's row, normalised and scaled, times a column of the weights. -/
module

public import proofs.«01_k».proof.Proof.Gen.ProjectIdeal.Skeleton
public import Idealize.ShloMosaic.Lib.Pointwise

@[expose] public section

noncomputable section

namespace Cert.Proj

open Idealize.ShloMosaic Idealize.ShloMosaic.TcCoe
open Cert.ProjectIdeal Cert.ProjectIdeal.Gen

/-- One over the root mean square, off the sum of squares. -/
def scale (s : EReal) : EReal :=
  Ideal.rsqrt (Ideal.div s (Ideal.ofBits FTy.f32 0x44800000#32) + Ideal.ofBits FTy.f32 0x358637BD#32)

/-- A row normalised and scaled by the norm's weight. -/
def nrm (x g : Fin 1024 → EReal) (k : Fin 1024) : EReal := x k * scale (∑ l, x l * x l) * g k

/-- Its product with one column of the weights. -/
def proj (x g w : Fin 1024 → EReal) : EReal := ∑ k, nrm x g k * w k

/-- Columns `lo ..` of the projection of every token. -/
def projA (n lo : ℕ) (h : lo + n ≤ 5632) (x : S2x8192x1024.Idx → EReal) (g : Fin 1024 → EReal) (w : S1024x5632.Idx → EReal) :
    (⟨3, ![2, 8192, n]⟩ : Shape).Idx → EReal := fun i =>
  proj (fun k => x (ix3 (i 0) (i 1) k)) g (fun k => w (ix2 k ⟨lo + (i 2).val, Nat.lt_of_lt_of_le (Nat.add_lt_add_left (i 2).isLt lo) h⟩))

theorem pay2_at (X : FVec Ideal S1x256x1024 .f32) (r : Fin 256) (k : Fin 1024) :
    k0_pay2 (F := Ideal) X (ix2 r k) = (X (ix3 0 r k) * scale (∑ l : Fin 1024, X (ix3 0 r l) * X (ix3 0 r l)) : EReal) := by
  unfold k0_pay2 scale
  pointwise

theorem pay4_at (X : FVec Ideal S256x1024 .f32) (g : FVec Ideal S1x1024 .f32) (r : Fin 256) (k : Fin 1024) :
    k0_pay4 (F := Ideal) X (k0_pay3 (F := Ideal) g) (ix2 r k) = (X (ix2 r k) * g (ix2 0 k) : EReal) := by
  unfold k0_pay4 k0_pay3
  pointwise

/-- The tile's rows normalised, as the kernel keeps them. -/
theorem hm_at (X : FVec Ideal S1x256x1024 .f32) (g : FVec Ideal S1x1024 .f32) (r : Fin 256) (k : Fin 1024) :
    k0_pay4 (F := Ideal) (k0_pay2 (F := Ideal) X) (k0_pay3 (F := Ideal) g) (ix2 r k)
      = nrm (fun l => X (ix3 0 r l)) (fun l => g (ix2 0 l)) k :=
  (pay4_at _ g r k).trans (congrArg (· * g (ix2 0 k)) (pay2_at X r k))

theorem pay13_at (H : FVec Ideal S256x1024 .bf16) (w : FVec Ideal S1024x512 .bf16) (r : Fin 256) (n : Fin 512) :
    k0_pay13 (F := Ideal) H w (ix3 0 r n) = (∑ k : Fin 1024, H (ix2 r k) * w (ix2 k n) : EReal) := by
  unfold k0_pay13
  pointwise

theorem pay17_at (H : FVec Ideal S256x1024 .bf16) (w : FVec Ideal S1024x768 .bf16) (r : Fin 256) (n : Fin 768) :
    k0_pay17 (F := Ideal) H w (ix3 0 r n) = (∑ k : Fin 1024, H (ix2 r k) * w (ix2 k n) : EReal) := by
  unfold k0_pay17
  pointwise

theorem pay20_at (H : FVec Ideal S256x1024 .bf16) (w : FVec Ideal S1024x512 .bf16) (r : Fin 256) (n : Fin 512) :
    k0_pay20 (F := Ideal) (k0_pay19 (F := Ideal) H w) (ix3 0 r n) = (∑ k : Fin 1024, H (ix2 r k) * w (ix2 k n) : EReal) := by
  unfold k0_pay20 k0_pay19
  pointwise

theorem pay22_at (H : FVec Ideal S256x1024 .bf16) (w : FVec Ideal S1024x512 .bf16) (r : Fin 256) (n : Fin 512) :
    k0_pay22 (F := Ideal) H w (ix3 0 r n) = (∑ k : Fin 1024, H (ix2 r k) * w (ix2 k n) : EReal) := by
  unfold k0_pay22
  pointwise

theorem pay27_at (H : FVec Ideal S256x1024 .bf16) (w : FVec Ideal S1024x512 .bf16) (r : Fin 256) (n : Fin 512) :
    k0_pay27 (F := Ideal) H w (ix3 0 r n) = (∑ k : Fin 1024, H (ix2 r k) * w (ix2 k n) : EReal) := by
  unfold k0_pay27
  pointwise

theorem pay32_at (H : FVec Ideal S256x1024 .bf16) (w : FVec Ideal S1024x512 .bf16) (r : Fin 256) (n : Fin 512) :
    k0_pay32 (F := Ideal) H w (ix3 0 r n) = (∑ k : Fin 1024, H (ix2 r k) * w (ix2 k n) : EReal) := by
  unfold k0_pay32
  pointwise

end Cert.Proj

end
-- ==== Proof.ProjOut.lean ====
/- The two outputs of a point of the projection, entry by entry. -/
module

public import proofs.«01_k».proof.Proof.ProjPieces
public import proofs.«01_k».proof.Proof.ProjSpec
public import Idealize.ShloMosaic.Lib.WholeRead
public import Idealize.ShloMosaic.Lib.Pipeline.ValueKit

@[expose] public section

set_option maxRecDepth 16384

noncomputable section

namespace Cert.Proj

open Idealize.ShloMosaic Idealize.ShloMosaic.TcCoe
open Cert.ProjectIdeal Cert.ProjectIdeal.Gen

/-- A row of the tile times a column of the weights. -/
def cell (H : FVec Ideal S256x1024 .bf16) (W : S1024x5632.Idx → EReal) (r : Fin 256) (n : Fin 5632) : EReal :=
  ∑ k : Fin 1024, H (ix2 r k) * W (ix2 k n)

theorem ldX_at (M : Memref sig .tc .vmem S1x256x1024 .f32) (h : M.IsWhole) (x : Vec Ideal S1x256x1024 .f32) (r : Fin 256) (k : Fin 1024) :
    ldX M h x (ix3 0 r k) = x (ix3 0 r k) := by
  refine (Memref.IsWhole.readAt_unread h x _ _).trans (congrArg x ?_)
  funext a
  apply Fin.ext
  fin_cases a
  · show 0 + 1 * 0 = 0; omega
  · show 0 + 1 * r.val = r.val; omega
  · show 0 + 1 * k.val = k.val; omega

theorem ldG_at (M : Memref sig .tc .vmem S1x1024 .f32) (h : M.IsWhole) (x : Vec Ideal S1x1024 .f32) (k : Fin 1024) :
    ldG M h x (ix2 0 k) = x (ix2 0 k) := by
  refine (Memref.IsWhole.readAt_unread h x _ _).trans (congrArg x ?_)
  funext a
  apply Fin.ext
  fin_cases a
  · show 0 + 1 * 0 = 0; omega
  · show 0 + 1 * k.val = k.val; omega

theorem ldW_at (n lo : ℕ) (hl : lo + n ≤ 5632) (M : Memref sig .tc .vmem S1024x5632 .bf16) (h : M.IsWhole) (x : Vec Ideal S1024x5632 .bf16) (k : Fin 1024) (j : Fin n) :
    ldW n lo hl M h x (ix2 k j) = x (ix2 k ⟨lo + j.val, by omega⟩) := by
  refine (Memref.IsWhole.readAt_unread h x _ _).trans (congrArg x ?_)
  funext a
  apply Fin.ext
  fin_cases a
  · show 0 + 1 * k.val = k.val; omega
  · show lo + 1 * j.val = lo + j.val; omega

/-- The sum over the tile's row of one stored piece is a cell of the whole product. -/
theorem sum_cell (H : FVec Ideal S256x1024 .bf16) {n lo : ℕ} (hl : lo + n ≤ 5632) (M : Memref sig .tc .vmem S1024x5632 .bf16) (h : M.IsWhole) (x : Vec Ideal S1024x5632 .bf16)
    (r : Fin 256) (j : Fin n) (q : Fin 5632) (hq : q.val = lo + j.val) :
    (∑ k : Fin 1024, H (ix2 r k) * ldW n lo hl M h x (ix2 k j) : EReal) = cell H x r q := by
  have e : q = ⟨lo + j.val, by omega⟩ := Fin.ext hq
  rw [e]
  exact Finset.sum_congr rfl fun k _ => congrArg (fun z : EReal => (H (ix2 r k) : EReal) * z) (ldW_at n lo hl M h x k j)

theorem mem_cols {n N off : ℕ} {inb : ∀ a, (![0, 0, off] : Fin 3 → ℕ) a + (⟨3, ![1, 256, n]⟩ : Shape).size a ≤ (⟨3, ![1, 256, N]⟩ : Shape).size a}
    (y : (⟨3, ![1, 256, N]⟩ : Shape).Idx) (h : off ≤ (y 2).val ∧ (y 2).val < off + n) :
    y ∈ (Rect.unit (s := (⟨3, ![1, 256, N]⟩ : Shape)) ![0, 0, off] (⟨3, ![1, 256, n]⟩ : Shape).size inb).set := by
  refine (Rect.mem_set_unit (inb := inb)).2 fun a => ?_
  have h0 : (y 0).val < 1 := (y 0).isLt
  have h1 : (y 1).val < 256 := (y 1).isLt
  fin_cases a
  · show 0 ≤ (y 0).val ∧ (y 0).val < 0 + 1; omega
  · show 0 ≤ (y 1).val ∧ (y 1).val < 0 + 256; omega
  · exact h

/-- A piece's entry, at its place in the whole. -/
theorem at_cols {n N off base : ℕ} {hb : base + N ≤ 5632} {inb : ∀ a, (![0, 0, off] : Fin 3 → ℕ) a + (⟨3, ![1, 256, n]⟩ : Shape).size a ≤ (⟨3, ![1, 256, N]⟩ : Shape).size a}
    {p : (⟨3, ![1, 256, n]⟩ : Shape).Idx → EReal} {H : FVec Ideal S256x1024 .bf16} {W : S1024x5632.Idx → EReal}
    (hp : ∀ (r : Fin 256) (j : Fin n) (q : Fin 5632), q.val = base + off + j.val → p (ix3 0 r j) = cell H W r q)
    (r : Fin 256) (q : Fin N) (x : (Rect.unit (s := (⟨3, ![1, 256, N]⟩ : Shape)) ![0, 0, off] (⟨3, ![1, 256, n]⟩ : Shape).size inb).shape.Idx)
    (hx : (Rect.unit (s := (⟨3, ![1, 256, N]⟩ : Shape)) ![0, 0, off] (⟨3, ![1, 256, n]⟩ : Shape).size inb).idx x = ix3 0 r q) :
    p x = cell H W r ⟨base + q.val, by omega⟩ := by
  have h1 : 0 + (x 1).val = r.val := (Rect.idx_unit_val _ _ inb x 1).symm.trans (congrArg (fun y : (⟨3, ![1, 256, N]⟩ : Shape).Idx => (y 1).val) hx)
  have h2 : off + (x 2).val = q.val := (Rect.idx_unit_val _ _ inb x 2).symm.trans (congrArg (fun y : (⟨3, ![1, 256, N]⟩ : Shape).Idx => (y 2).val) hx)
  have l0 : (x 0).val < 1 := (x 0).isLt
  have l2 : (x 2).val < n := (x 2).isLt
  have ex : x = ix3 (0 : Fin 1) r (⟨(x 2).val, l2⟩ : Fin n) := by
    funext a
    apply Fin.ext
    fin_cases a
    · show (x 0).val = 0; omega
    · show (x 1).val = r.val; omega
    · rfl
  rw [ex]
  refine hp r ⟨(x 2).val, l2⟩ _ ?_
  show base + q.val = base + off + (x 2).val
  omega

theorem canon13 (H : FVec Ideal S256x1024 .bf16) (M : Memref sig .tc .vmem S1024x5632 .bf16) (h : M.IsWhole) (x : Vec Ideal S1024x5632 .bf16) (r : Fin 256) (q : Fin 1280) :
    View.canon (pieces13 H (ldW 512 2304 (by decide) M h x) (ldW 768 2816 (by decide) M h x)) (ix3 0 r q) = cell H x r ⟨2304 + q.val, by omega⟩ := by
  refine View.canon_eq_of_allAt _ _ _ ?_ ?_
  · by_cases hq : q.val < 512
    · exact ⟨_, List.mem_cons_of_mem _ List.mem_cons_self, mem_cols (inb := inb_S1x256x1280_S1x256x512_0_0_0) _ ⟨Nat.zero_le _, by show q.val < 0 + 512; omega⟩⟩
    · exact ⟨_, List.mem_cons_self, mem_cols (inb := inb_S1x256x1280_S1x256x768_0_0_512) _ ⟨by show 512 ≤ q.val; omega, q.isLt⟩⟩
  · intro p hp y hy
    rcases List.mem_cons.1 hp with rfl | hp
    · exact at_cols (base := 2304) (hb := by decide) (inb := inb_S1x256x1280_S1x256x768_0_0_512) (fun r j q e => (pay17_at H _ r j).trans (sum_cell H _ M h x r j q e)) r q y hy
    · obtain rfl := List.mem_singleton.1 hp
      exact at_cols (base := 2304) (hb := by decide) (inb := inb_S1x256x1280_S1x256x512_0_0_0) (fun r j q e => (pay13_at H _ r j).trans (sum_cell H _ M h x r j q e)) r q y hy

theorem canon14 (H : FVec Ideal S256x1024 .bf16) (M : Memref sig .tc .vmem S1024x5632 .bf16) (h : M.IsWhole) (x : Vec Ideal S1024x5632 .bf16) (r : Fin 256) (q : Fin 2048) :
    View.canon (pieces14 H (ldW 512 3584 (by decide) M h x) (ldW 512 4096 (by decide) M h x) (ldW 512 4608 (by decide) M h x) (ldW 512 5120 (by decide) M h x)) (ix3 0 r q)
      = cell H x r ⟨3584 + q.val, by omega⟩ := by
  refine View.canon_eq_of_allAt _ _ _ ?_ ?_
  · by_cases h0 : q.val < 512
    · exact ⟨_, List.mem_cons_of_mem _ (List.mem_cons_of_mem _ (List.mem_cons_of_mem _ List.mem_cons_self)), mem_cols (inb := inb_S1x256x2048_S1x256x512_0_0_0) _ ⟨Nat.zero_le _, by show q.val < 0 + 512; omega⟩⟩
    · by_cases h1 : q.val < 1024
      · exact ⟨_, List.mem_cons_of_mem _ (List.mem_cons_of_mem _ List.mem_cons_self), mem_cols (inb := inb_S1x256x2048_S1x256x512_0_0_512) _ ⟨by show 512 ≤ q.val; omega, by show q.val < 512 + 512; omega⟩⟩
      · by_cases h2 : q.val < 1536
        · exact ⟨_, List.mem_cons_of_mem _ List.mem_cons_self, mem_cols (inb := inb_S1x256x2048_S1x256x512_0_0_1024) _ ⟨by show 1024 ≤ q.val; omega, by show q.val < 1024 + 512; omega⟩⟩
        · exact ⟨_, List.mem_cons_self, mem_cols (inb := inb_S1x256x2048_S1x256x512_0_0_1536) _ ⟨by show 1536 ≤ q.val; omega, q.isLt⟩⟩
  · intro p hp y hy
    rcases List.mem_cons.1 hp with rfl | hp
    · exact at_cols (base := 3584) (hb := by decide) (inb := inb_S1x256x2048_S1x256x512_0_0_1536) (fun r j q e => (pay32_at H _ r j).trans (sum_cell H _ M h x r j q e)) r q y hy
    rcases List.mem_cons.1 hp with rfl | hp
    · exact at_cols (base := 3584) (hb := by decide) (inb := inb_S1x256x2048_S1x256x512_0_0_1024) (fun r j q e => (pay27_at H _ r j).trans (sum_cell H _ M h x r j q e)) r q y hy
    rcases List.mem_cons.1 hp with rfl | hp
    · exact at_cols (base := 3584) (hb := by decide) (inb := inb_S1x256x2048_S1x256x512_0_0_512) (fun r j q e => (pay22_at H _ r j).trans (sum_cell H _ M h x r j q e)) r q y hy
    · obtain rfl := List.mem_singleton.1 hp
      exact at_cols (base := 3584) (hb := by decide) (inb := inb_S1x256x2048_S1x256x512_0_0_0) (fun r j q e => (pay20_at H _ r j).trans (sum_cell H _ M h x r j q e)) r q y hy

/-- A cell of a tile is an entry of the projection. -/
theorem cell_eq (M : Memref sig .tc .vmem S1x256x1024 .f32) (h : M.IsWhole) (x : Vec Ideal S1x256x1024 .f32) (M' : Memref sig .tc .vmem S1x1024 .f32) (h' : M'.IsWhole) (g : Vec Ideal S1x1024 .f32)
    (W : S1024x5632.Idx → EReal) (r : Fin 256) (q : Fin 5632) :
    cell (hm M h x M' h' g) W r q = proj (fun k => x (ix3 0 r k)) (fun k => g (ix2 0 k)) (fun k => W (ix2 k q)) := by
  refine Finset.sum_congr rfl fun k _ => congrArg (· * W (ix2 k q)) ?_
  refine (hm_at _ _ r k).trans ?_
  have e0 : (fun l => ldX M h x (ix3 0 r l)) = fun l => x (ix3 0 r l) := funext fun l => ldX_at M h x r l
  have e1 : (fun l => ldG M' h' g (ix2 0 l)) = fun l => g (ix2 0 l) := funext fun l => ldG_at M' h' g l
  exact congrArg₂ (fun a b => nrm a b k) e0 e1

end Cert.Proj

end
-- ==== Proof.ProjMix.lean ====
/- What the projection makes of one token's mixed columns, as mathematics, and the body's operations read at an entry. -/
module

public import proofs.«01_k».proof.Proof.ProjSpec

@[expose] public section

noncomputable section

namespace Cert.Proj

open Idealize.ShloMosaic Idealize.ShloMosaic.TcCoe
open Cert.ProjectIdeal Cert.ProjectIdeal.Gen

def half : EReal := Ideal.ofBits FTy.f32 0x3F000000#32
/-- The decay's factor. -/
def dec : EReal := Ideal.ofBits FTy.f32 0xBF1B4598#32
/-- The floor of a head's sum of squares. -/
def floor : EReal := Ideal.ofBits FTy.f32 0x179ABE15#32

/-- A column mixed with the mean of its two neighbours. -/
def mix (u p q mu : EReal) : EReal := u + mu * (half * (p + q) - u)
def sgm (x : EReal) : EReal := Ideal.div 1 (1 + Ideal.exp (-x))

/-- The weights of the layer that act on a token's mixed columns. -/
structure Par where
  w0 : Fin 2 → Fin 512 → EReal
  dup : Fin 2 → Fin 64 → Fin 512 → EReal
  a0 : Fin 2 → Fin 512 → EReal
  iup : Fin 2 → Fin 64 → Fin 512 → EReal
  kk : Fin 512 → EReal
  ka : Fin 512 → EReal
  rk : Fin 8 → Fin 64 → EReal

/-- Column `lo + j` of a token's row. -/
def col (s : Fin 2304 → EReal) (lo : ℕ) {n : ℕ} (h : lo + n ≤ 2304) (j : Fin n) : EReal := s ⟨lo + j.val, by omega⟩

/-- The sum over the head that holds column `j`. -/
def headSum (f : Fin 512 → EReal) (j : Fin 512) : EReal := ∑ i : Fin 64, f ⟨64 * (j.val / 64) + i.val, by omega⟩

variable (P : Par) (s : Fin 2304 → EReal)

def rowLw (d : Fin 2) (j : Fin 512) : EReal :=
  dec * sgm (P.w0 d j + ∑ r : Fin 64, Ideal.tanh (s ⟨2048 + 64 * d.val + r.val, by omega⟩) * P.dup d r j)
def rowA (d : Fin 2) (j : Fin 512) : EReal :=
  sgm (P.a0 d j + ∑ r : Fin 64, s ⟨2176 + 64 * d.val + r.val, by omega⟩ * P.iup d r j)
def rowKd (d : Fin 2) (j : Fin 512) : EReal := col s 512 (by decide) j * (1 + (rowA P s d j - 1) * P.ka j)
def rowK0 (j : Fin 512) : EReal := col s 512 (by decide) j * P.kk j
def rowKk (j : Fin 512) : EReal := rowK0 P s j * Ideal.rsqrt (max (headSum (fun i => rowK0 P s i * rowK0 P s i) j) floor)
def rowBb (d : Fin 2) (j : Fin 512) : EReal := rowKk P s j * rowA P s d j
def rowBonus (j : Fin 512) : EReal :=
  headSum (fun i => col s 0 (by decide) i * (rowKd P s 0 i + rowKd P s 1 i) * P.rk ⟨i.val / 64, by omega⟩ ⟨i.val % 64, Nat.mod_lt _ (by decide)⟩) j
    * col s 1024 (by decide) j
def rowGz (j : Fin 512) : EReal := col s 1536 (by decide) j * sgm (col s 1536 (by decide) j)

omit P s

/-- A sum whose terms vanish outside one block of `n`. -/
theorem sum_block {N n : ℕ} (hn : 0 < n) (f : Fin (N * n) → EReal) (h : Fin N) (hz : ∀ k, k.val / n ≠ h.val → f k = 0)
    (hb : ∀ i : Fin n, n * h.val + i.val < N * n) :
    ∑ k, f k = ∑ i : Fin n, f ⟨n * h.val + i.val, hb i⟩ := by
  rw [← Equiv.sum_comp finProdFinEquiv f, Fintype.sum_prod_type, Finset.sum_eq_single h]
  · refine Finset.sum_congr rfl fun i _ => congrArg f (Fin.ext ?_)
    show i.val + n * h.val = n * h.val + i.val
    omega
  · intro b _ hbne
    refine Finset.sum_eq_zero fun i _ => hz _ fun e => hbne (Fin.ext ?_)
    have e1 : (i.val + n * b.val) / n = h.val := e
    rw [Nat.add_mul_div_left _ _ hn, Nat.div_eq_of_lt i.isLt, Nat.zero_add] at e1
    exact e1
  · intro hx
    exact absurd (Finset.mem_univ h) hx

section Mixed

theorem pay12_at (u : FVec Ideal S256x512 .f32) (e : FVec Ideal S288x512 .f32) (mu : FVec Ideal S1x512 .f32) (r : Fin 256) (n : Fin 512) :
    k0_pay12 (F := Ideal) u e mu (ix2 r n)
      = mix (u (ix2 r n)) (e (ix2 ⟨15 + r.val, by omega⟩ n)) (e (ix2 ⟨17 + r.val, by omega⟩ n)) (mu (ix2 0 n)) := by
  have h0 : (⟨15 + r.val, by omega⟩ : Fin 288) = ⟨(16 + r.val + 288 - 1) % 288, by omega⟩ := Fin.ext (by show 15 + r.val = (16 + r.val + 288 - 1) % 288; omega)
  have h1 : (⟨17 + r.val, by omega⟩ : Fin 288) = ⟨(16 + r.val + 288 - 287) % 288, by omega⟩ := Fin.ext (by show 17 + r.val = (16 + r.val + 288 - 287) % 288; omega)
  rw [h0, h1]
  unfold k0_pay12 mix half
  pointwise

theorem pay18_eq (u : FVec Ideal S256x512 .f32) (e : FVec Ideal S288x512 .f32) (mu : FVec Ideal S1x512 .f32) :
    k0_pay18 (F := Ideal) u e mu = k0_pay12 (F := Ideal) u e mu := rfl
theorem pay21_eq (u : FVec Ideal S256x512 .f32) (e : FVec Ideal S288x512 .f32) (mu : FVec Ideal S1x512 .f32) :
    k0_pay21 (F := Ideal) u e mu = k0_pay12 (F := Ideal) u e mu := rfl
theorem pay16_eq (u : FVec Ideal S256x512 .f32) (e : FVec Ideal S288x512 .f32) (mu : FVec Ideal S1x512 .f32) :
    k0_pay16 (F := Ideal) u (k0_pay14 (F := Ideal) e) (k0_pay15 (F := Ideal) e) mu = k0_pay12 (F := Ideal) u e mu := rfl

theorem pay26_at (u : FVec Ideal S256x256 .f32) (e : FVec Ideal S288x256 .f32) (mu : FVec Ideal S1x256 .f32) (r : Fin 256) (n : Fin 256) :
    k0_pay26 (F := Ideal) u (k0_pay23 (F := Ideal) mu) (k0_pay24 (F := Ideal) e) (k0_pay25 (F := Ideal)) (ix2 r n)
      = mix (u (ix2 r n)) (e (ix2 ⟨15 + r.val, by omega⟩ n)) (e (ix2 ⟨17 + r.val, by omega⟩ n)) (mu (ix2 0 n)) := by
  have h0 : (⟨15 + r.val, by omega⟩ : Fin 288) = ⟨(16 + r.val + 288 - 1) % 288, by omega⟩ := Fin.ext (by show 15 + r.val = (16 + r.val + 288 - 1) % 288; omega)
  have h1 : (⟨17 + r.val, by omega⟩ : Fin 288) = ⟨(16 + r.val + 288 - 287) % 288, by omega⟩ := Fin.ext (by show 17 + r.val = (16 + r.val + 288 - 287) % 288; omega)
  rw [h0, h1]
  unfold k0_pay26 k0_pay23 k0_pay24 k0_pay25 mix half
  pointwise

end Mixed

section Made

theorem pay28_at (u : FVec Ideal S256x256 .f32) (m : FVec Ideal S1x256 .f32) (e c : FVec Ideal S256x256 .f32) (w : FVec Ideal S1x1024 .f32) (D : FVec Ideal S128x1024 .bf16) (r : Fin 256) (n : Fin 1024) :
    k0_pay28 (F := Ideal) u m e c w D (ix2 r n)
      = dec * sgm (w (ix2 0 n) + ∑ k : Fin 128, Ideal.tanh (k0_pay26 (F := Ideal) u m e c (ix2 r ⟨k.val, by omega⟩)) * D (ix2 k n)) := by
  unfold k0_pay28 sgm dec
  rw [← zero_sub]
  pointwise

theorem pay31_at (u : FVec Ideal S256x256 .f32) (m : FVec Ideal S1x256 .f32) (e c : FVec Ideal S256x256 .f32) (w : FVec Ideal S1x1024 .f32) (D : FVec Ideal S128x1024 .bf16) (r : Fin 256) (n : Fin 1024) :
    k0_pay31 (F := Ideal) (k0_pay29 (F := Ideal) u m e c D) (k0_pay30 (F := Ideal) w) (ix2 r n)
      = sgm (w (ix2 0 n) + ∑ k : Fin 128, (k0_pay26 (F := Ideal) u m e c (ix2 r ⟨128 + k.val, by omega⟩)) * D (ix2 k n)) := by
  unfold k0_pay31 k0_pay29 k0_pay30 sgm
  rw [← zero_sub]
  pointwise

theorem pay36_at (K : FVec Ideal S256x512 .f32) (x y : FVec Ideal S256x1024 .f32) (ka : FVec Ideal S1x512 .f32) (r : Fin 256) (n : Fin 512) :
    k0_pay36 (F := Ideal) K x y ka (ix2 r n) = K (ix2 r n) * (1 + (k0_pay31 (F := Ideal) x y (ix2 r ⟨n.val, by omega⟩) - 1) * ka (ix2 0 n)) := by
  unfold k0_pay36 k0_pay35 k0_pay34
  pointwise

theorem pay43_at (K : FVec Ideal S256x512 .f32) (A : FVec Ideal S256x1024 .f32) (ka : FVec Ideal S1x512 .f32) (r : Fin 256) (n : Fin 512) :
    k0_pay43 (F := Ideal) K A (k0_pay34 (F := Ideal) ka) (ix2 r n) = (K (ix2 r n) * (1 + (A (ix2 r ⟨512 + n.val, by omega⟩) - 1) * ka (ix2 0 n)) : EReal) := by
  unfold k0_pay43 k0_pay42 k0_pay34
  pointwise

theorem pay44_at (K : FVec Ideal S256x512 .f32) (x y : FVec Ideal S256x1024 .f32) (ka : FVec Ideal S1x512 .f32) (r : Fin 256) (n : Fin 512) :
    k0_pay44 (F := Ideal) K (k0_pay31 (F := Ideal) x y) (k0_pay34 (F := Ideal) ka) (k0_pay37 (F := Ideal) K x y ka) (ix2 r n)
      = k0_pay36 (F := Ideal) K x y ka (ix2 r n) + k0_pay43 (F := Ideal) K (k0_pay31 (F := Ideal) x y) (k0_pay34 (F := Ideal) ka) (ix2 r n) := by
  unfold k0_pay44 k0_pay37
  pointwise

theorem pay33_at (M : FVec Ideal S512x512 .bf16) (K : FVec Ideal S256x512 .f32) (kk : FVec Ideal S1x512 .f32) (r : Fin 256) (n : Fin 512) :
    k0_pay33 (F := Ideal) M K kk (ix2 r n)
      = (K (ix2 r n) * kk (ix2 0 n) * Ideal.rsqrt (max (∑ k : Fin 512, K (ix2 r k) * kk (ix2 0 k) * (K (ix2 r k) * kk (ix2 0 k)) * M (ix2 k n)) floor) : EReal) := by
  unfold k0_pay33 floor
  pointwise

theorem pay39_at (L : FVec Ideal S256x1024 .f32) (r : Fin 256) (n : Fin 512) :
    k0_pay39 (F := Ideal) (k0_pay38 (F := Ideal) L) (ix4 0 0 r n) = L (ix2 r ⟨n.val, by omega⟩) := by
  unfold k0_pay39 k0_pay38
  pointwise

theorem pay45_at (L : FVec Ideal S256x1024 .f32) (r : Fin 256) (n : Fin 512) :
    k0_pay45 (F := Ideal) L (ix4 0 0 r n) = L (ix2 r ⟨512 + n.val, by omega⟩) := by
  unfold k0_pay45
  pointwise

theorem pay40_at (L : FVec Ideal S256x512 .f32) (r : Fin 256) (n : Fin 512) : k0_pay40 (F := Ideal) L (ix4 0 0 r n) = L (ix2 r n) := by
  unfold k0_pay40
  pointwise

theorem pay46_at (K : FVec Ideal S256x512 .f32) (A : FVec Ideal S256x1024 .f32) (ka : FVec Ideal S1x512 .f32) (r : Fin 256) (n : Fin 512) :
    k0_pay46 (F := Ideal) K A ka (ix4 0 0 r n) = k0_pay43 (F := Ideal) K A ka (ix2 r n) := by
  unfold k0_pay46
  pointwise

theorem pay41_at (K : FVec Ideal S256x512 .f32) (x y : FVec Ideal S256x1024 .f32) (r : Fin 256) (n : Fin 512) :
    k0_pay41 (F := Ideal) K (k0_pay35 (F := Ideal) x y) (ix4 0 0 r n) = K (ix2 r n) * k0_pay31 (F := Ideal) x y (ix2 r ⟨n.val, by omega⟩) := by
  unfold k0_pay41 k0_pay35
  pointwise

theorem pay47_at (A : FVec Ideal S256x1024 .f32) (K : FVec Ideal S256x512 .f32) (r : Fin 256) (n : Fin 512) :
    k0_pay47 (F := Ideal) A K (ix4 0 0 r n) = (K (ix2 r n) * A (ix2 r ⟨512 + n.val, by omega⟩) : EReal) := by
  unfold k0_pay47 k0_pay42
  pointwise

theorem pay48_at (K : FVec Ideal S256x512 .f32) (r : Fin 256) (n : Fin 512) : k0_pay48 (F := Ideal) K (ix3 0 r n) = K (ix2 r n) := by
  unfold k0_pay48
  pointwise
theorem pay49_at (K : FVec Ideal S256x512 .f32) (r : Fin 256) (n : Fin 512) : k0_pay49 (F := Ideal) K (ix3 0 r n) = K (ix2 r n) := by
  unfold k0_pay49
  pointwise
theorem pay50_at (K : FVec Ideal S256x512 .f32) (r : Fin 256) (n : Fin 512) : k0_pay50 (F := Ideal) K (ix3 0 r n) = (-(K (ix2 r n) : EReal)) := by
  rw [← zero_sub]
  unfold k0_pay50
  pointwise
theorem pay51_at (M : FVec Ideal S512x512 .bf16) (R V k : FVec Ideal S256x512 .f32) (rk : FVec Ideal S1x512 .f32) (r : Fin 256) (n : Fin 512) :
    k0_pay51 (F := Ideal) M R V k rk (ix3 0 r n) = ((∑ i : Fin 512, R (ix2 r i) * k (ix2 r i) * rk (ix2 0 i) * M (ix2 i n)) * V (ix2 r n) : EReal) := by
  unfold k0_pay51
  pointwise
theorem pay52_at (Z : FVec Ideal S256x512 .f32) (r : Fin 256) (n : Fin 512) : k0_pay52 (F := Ideal) Z (ix3 0 r n) = (Z (ix2 r n) * sgm (Z (ix2 r n)) : EReal) := by
  unfold k0_pay52 sgm
  rw [← zero_sub]
  pointwise

end Made

section Heads

theorem pay7_at (a b : Fin 512) : k0_pay7 (ix2 a b) = BitVec.ofNat 32 (a.val / 64) := by
  unfold k0_pay7
  pointwise
  revert a
  decide +kernel

theorem head_of (b : Fin 512) :
    Scalar.select
            (IntOp.andi
              (IntOp.cmpi CmpIPredicate.ne
                (IntOp.subi (BitVec.setWidth 32 (IntOp.cmpi CmpIPredicate.sgt (BitVec.ofNat 32 b.val) 0#32))
                  (BitVec.setWidth 32 (IntOp.cmpi CmpIPredicate.slt (BitVec.ofNat 32 b.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 b.val) 64#32) 0#32))
            (IntOp.subi (IntOp.divsi ArithUnit.vector (BitVec.ofNat 32 b.val) 64#32) 1#32)
            (IntOp.divsi ArithUnit.vector (BitVec.ofNat 32 b.val) 64#32) = BitVec.ofNat 32 (b.val / 64) := by
  revert b
  decide +kernel

theorem cmp_of (x y : Fin 8) :
    BitVec.setWidth 32 (IntOp.cmpi CmpIPredicate.eq (BitVec.ofNat 32 x.val) (BitVec.ofNat 32 y.val)) = if x.val = y.val then 1#32 else 0#32 := by
  revert x y
  decide +kernel

/-- The matrix of the heads: one where two columns are of one head. -/
theorem pay11_at (a b : Fin 512) :
    k0_pay11 (F := Ideal) k0_pay7 k0_pay8 k0_pay9 k0_pay10 0#32 (ix2 a b) = if a.val / 64 = b.val / 64 then (1 : EReal) else 0 := by
  unfold k0_pay11 k0_pay8 k0_pay9 k0_pay10
  pointwise
  rw [pay7_at, head_of]
  refine (congrArg _ (cmp_of ⟨a.val / 64, by omega⟩ ⟨b.val / 64, by omega⟩)).trans ?_
  show FloatOps.sitofp FTy.f32 (if a.val / 64 = b.val / 64 then 1#32 else 0#32) = _
  split
  · show (((1#32 : BitVec 32).toInt : ℝ) : EReal) = 1
    norm_num
  · show (((0#32 : BitVec 32).toInt : ℝ) : EReal) = 0
    norm_num

/-- A sum against that matrix is a head's sum. -/
theorem sum_heads {M : FVec Ideal S512x512 .bf16} (hM : ∀ a b : Fin 512, M (ix2 a b) = if a.val / 64 = b.val / 64 then (1 : EReal) else 0)
    (f : Fin 512 → EReal) (j : Fin 512) : (∑ k : Fin 512, f k * M (ix2 k j) : EReal) = headSum f j := by
  refine (sum_block (N := 8) (n := 64) (by decide) (fun k => f k * M (ix2 k j)) ⟨j.val / 64, by omega⟩ (fun k hk => ?_) (fun i => by show 64 * (j.val / 64) + i.val < 8 * 64; omega)).trans ?_
  · show f k * M (ix2 k j) = 0
    rw [hM]
    exact (congrArg (f k * ·) (if_neg hk)).trans (mul_zero _)
  · refine Finset.sum_congr rfl fun i _ => ?_
    show f ⟨64 * (j.val / 64) + i.val, _⟩ * M (ix2 ⟨64 * (j.val / 64) + i.val, _⟩ j) = _
    rw [hM]
    exact (congrArg (f _ * ·) (if_pos (by show (64 * (j.val / 64) + i.val) / 64 = j.val / 64; omega))).trans (mul_one _)

end Heads

section Rows

variable (P : Par) (s : Fin 256 → Fin 2304 → EReal)

/-- The two directions' weights, side by side and one below the other. -/
def diag (D : Fin 2 → Fin 64 → Fin 512 → EReal) (k : Fin 128) (n : Fin 1024) : EReal :=
  if k.val / 64 = n.val / 512 then D ⟨n.val / 512, by omega⟩ ⟨k.val % 64, Nat.mod_lt _ (by decide)⟩ ⟨n.val % 512, Nat.mod_lt _ (by decide)⟩ else 0

theorem sum_diag (D : Fin 2 → Fin 64 → Fin 512 → EReal) {M : FVec Ideal S128x1024 .bf16} (hM : ∀ k n, M (ix2 k n) = diag D k n)
    (f : Fin 128 → EReal) (d : Fin 2) (j : Fin 512) (n : Fin 1024) (hn : n.val = 512 * d.val + j.val) :
    (∑ k : Fin 128, f k * M (ix2 k n) : EReal) = ∑ r : Fin 64, f ⟨64 * d.val + r.val, by omega⟩ * D d r j := by
  have e : n.val / 512 = d.val := by omega
  have e' : n.val % 512 = j.val := by omega
  refine (sum_block (N := 2) (n := 64) (by decide) (fun k => f k * M (ix2 k n)) d (fun k hk => ?_) (fun i => by show 64 * d.val + i.val < 2 * 64; omega)).trans ?_
  · show f k * M (ix2 k n) = 0
    rw [hM]
    exact (congrArg (f k * ·) (if_neg (by rw [e]; exact hk))).trans (mul_zero _)
  · refine Finset.sum_congr rfl fun r _ => ?_
    show f ⟨64 * d.val + r.val, _⟩ * M (ix2 ⟨64 * d.val + r.val, _⟩ n) = _
    rw [hM]
    refine congrArg (f _ * ·) ((if_pos (by show (64 * d.val + r.val) / 64 = n.val / 512; omega)).trans ?_)
    have a1 : (⟨n.val / 512, by omega⟩ : Fin 2) = d := Fin.ext e
    have a2 : (⟨(64 * d.val + r.val) % 64, Nat.mod_lt _ (by decide)⟩ : Fin 64) = r := Fin.ext (by show (64 * d.val + r.val) % 64 = r.val; omega)
    have a3 : (⟨n.val % 512, Nat.mod_lt _ (by decide)⟩ : Fin 512) = j := Fin.ext e'
    show D ⟨n.val / 512, _⟩ ⟨(64 * d.val + r.val) % 64, _⟩ ⟨n.val % 512, _⟩ = _
    rw [a1, a2, a3]

variable {u : FVec Ideal S256x256 .f32} {m : FVec Ideal S1x256 .f32} {e c : FVec Ideal S256x256 .f32} {w : FVec Ideal S1x1024 .f32} {D : FVec Ideal S128x1024 .bf16}

theorem lw_row (hL : ∀ r n, k0_pay26 (F := Ideal) u m e c (ix2 r n) = col (s r) 2048 (by decide) n)
    (hw : ∀ (d : Fin 2) (j : Fin 512), w (ix2 0 ⟨512 * d.val + j.val, by omega⟩) = P.w0 d j) (hD : ∀ k n, D (ix2 k n) = diag P.dup k n) (d : Fin 2) (r : Fin 256) (j : Fin 512) :
    k0_pay28 (F := Ideal) u m e c w D (ix2 r ⟨512 * d.val + j.val, by omega⟩) = rowLw P (s r) d j := by
  rw [pay28_at, hw, sum_diag P.dup hD (fun k => Ideal.tanh (k0_pay26 (F := Ideal) u m e c (ix2 r ⟨k.val, by omega⟩))) d j _ rfl]
  unfold rowLw
  refine congrArg (fun x => dec * sgm (P.w0 d j + x)) (Finset.sum_congr rfl fun k _ => ?_)
  rw [hL]
  unfold col
  refine congrArg (fun x => Ideal.tanh (s r x) * _) (Fin.ext ?_)
  show 2048 + (64 * d.val + k.val) = 2048 + 64 * d.val + k.val
  omega

theorem a_row (hL : ∀ r n, k0_pay26 (F := Ideal) u m e c (ix2 r n) = col (s r) 2048 (by decide) n)
    (hw : ∀ (d : Fin 2) (j : Fin 512), w (ix2 0 ⟨512 * d.val + j.val, by omega⟩) = P.a0 d j) (hD : ∀ k n, D (ix2 k n) = diag P.iup k n) (d : Fin 2) (r : Fin 256) (j : Fin 512) :
    k0_pay31 (F := Ideal) (k0_pay29 (F := Ideal) u m e c D) (k0_pay30 (F := Ideal) w) (ix2 r ⟨512 * d.val + j.val, by omega⟩) = rowA P (s r) d j := by
  rw [pay31_at, hw, sum_diag P.iup hD (fun k => (k0_pay26 (F := Ideal) u m e c (ix2 r ⟨128 + k.val, by omega⟩))) d j _ rfl]
  unfold rowA
  refine congrArg (fun x => sgm (P.a0 d j + x)) (Finset.sum_congr rfl fun k _ => ?_)
  rw [hL]
  unfold col
  refine congrArg (fun x => s r x * _) (Fin.ext ?_)
  show 2048 + (128 + (64 * d.val + k.val)) = 2176 + 64 * d.val + k.val
  omega

variable {K R V Z : FVec Ideal S256x512 .f32} {x y : FVec Ideal S256x1024 .f32} {kk ka rk : FVec Ideal S1x512 .f32} {M : FVec Ideal S512x512 .bf16}

theorem kd0_row (hK : ∀ r n, K (ix2 r n) = col (s r) 512 (by decide) n)
    (hA : ∀ (d : Fin 2) r (j : Fin 512), k0_pay31 (F := Ideal) x y (ix2 r ⟨512 * d.val + j.val, by omega⟩) = rowA P (s r) d j)
    (hka : ∀ j, ka (ix2 0 j) = P.ka j) (r : Fin 256) (j : Fin 512) : k0_pay36 (F := Ideal) K x y ka (ix2 r j) = rowKd P (s r) 0 j := by
  have h := hA 0 r j
  rw [show (⟨512 * (0 : Fin 2).val + j.val, by omega⟩ : Fin 1024) = ⟨j.val, by omega⟩ from Fin.ext (by show 512 * 0 + j.val = j.val; omega)] at h
  rw [pay36_at, hK, h, hka]
  rfl

theorem kd1_row (hK : ∀ r n, K (ix2 r n) = col (s r) 512 (by decide) n)
    (hA : ∀ (d : Fin 2) r (j : Fin 512), k0_pay31 (F := Ideal) x y (ix2 r ⟨512 * d.val + j.val, by omega⟩) = rowA P (s r) d j)
    (hka : ∀ j, ka (ix2 0 j) = P.ka j) (r : Fin 256) (j : Fin 512) : k0_pay43 (F := Ideal) K (k0_pay31 (F := Ideal) x y) (k0_pay34 (F := Ideal) ka) (ix2 r j) = rowKd P (s r) 1 j := by
  have h := hA 1 r j
  rw [show (⟨512 * (1 : Fin 2).val + j.val, by omega⟩ : Fin 1024) = ⟨512 + j.val, by omega⟩ from Fin.ext (by show 512 * 1 + j.val = 512 + j.val; omega)] at h
  rw [pay43_at, hK, h, hka]
  rfl

theorem kk_row (hM : ∀ a b : Fin 512, M (ix2 a b) = if a.val / 64 = b.val / 64 then (1 : EReal) else 0) (hK : ∀ r n, K (ix2 r n) = col (s r) 512 (by decide) n)
    (hkk : ∀ j, kk (ix2 0 j) = P.kk j) (r : Fin 256) (j : Fin 512) : k0_pay33 (F := Ideal) M K kk (ix2 r j) = rowKk P (s r) j := by
  rw [pay33_at, sum_heads hM (fun k => K (ix2 r k) * kk (ix2 0 k) * (K (ix2 r k) * kk (ix2 0 k)))]
  unfold rowKk rowK0
  simp only [hK, hkk]

theorem bonus_row (hM : ∀ a b : Fin 512, M (ix2 a b) = if a.val / 64 = b.val / 64 then (1 : EReal) else 0) (hK : ∀ r n, K (ix2 r n) = col (s r) 512 (by decide) n)
    (hA : ∀ (d : Fin 2) r (j : Fin 512), k0_pay31 (F := Ideal) x y (ix2 r ⟨512 * d.val + j.val, by omega⟩) = rowA P (s r) d j)
    (hka : ∀ j, ka (ix2 0 j) = P.ka j) (hR : ∀ r n, R (ix2 r n) = col (s r) 0 (by decide) n) (hV : ∀ r n, V (ix2 r n) = col (s r) 1024 (by decide) n)
    (hrk : ∀ j : Fin 512, rk (ix2 0 j) = P.rk ⟨j.val / 64, by omega⟩ ⟨j.val % 64, Nat.mod_lt _ (by decide)⟩) (r : Fin 256) (j : Fin 512) :
    k0_pay51 (F := Ideal) M R V (k0_pay44 (F := Ideal) K (k0_pay31 (F := Ideal) x y) (k0_pay34 (F := Ideal) ka) (k0_pay37 (F := Ideal) K x y ka)) rk (ix3 0 r j) = rowBonus P (s r) j := by
  rw [pay51_at, sum_heads hM (fun i => R (ix2 r i) * k0_pay44 (F := Ideal) K (k0_pay31 (F := Ideal) x y) (k0_pay34 (F := Ideal) ka) (k0_pay37 (F := Ideal) K x y ka) (ix2 r i) * rk (ix2 0 i))]
  unfold rowBonus
  simp only [hR, hV, hrk, pay44_at, kd0_row P s hK hA hka, kd1_row P s hK hA hka]

end Rows

end Cert.Proj

end
-- ==== Proof.ProjTok.lean ====
/- The layer's row of one token: its mixed columns, and the weights that act on them. -/
module

public import proofs.«01_k».proof.Proof.ProjMix

@[expose] public section

noncomputable section

namespace Cert.Proj

open Idealize.ShloMosaic Idealize.ShloMosaic.TcCoe
open Cert.ProjectIdeal Cert.ProjectIdeal.Gen

/-- A token's neighbours, nothing past either end. -/
def prevOf (f : Fin 8192 → EReal) (t : Fin 8192) : EReal := if h : t.val < 1 then 0 else f ⟨t.val - 1, by omega⟩
def nextOf (f : Fin 8192 → EReal) (t : Fin 8192) : EReal := if h : t.val < 8191 then f ⟨1 + t.val, by omega⟩ else 0

/-- Column `n` of every token's projection. -/
def colU (x : S2x8192x1024.Idx → EReal) (g : Fin 1024 → EReal) (w : S1024x5632.Idx → EReal) (b : Fin 2) (n : Fin 2304) (t : Fin 8192) : EReal :=
  proj (fun k => x (ix3 b t k)) g (fun k => w (ix2 k ⟨n.val, by omega⟩))

def tokRow (x : S2x8192x1024.Idx → EReal) (g : Fin 1024 → EReal) (w : S1024x5632.Idx → EReal) (mu : Fin 2304 → EReal) (b : Fin 2) (t : Fin 8192) (n : Fin 2304) : EReal :=
  mix (colU x g w b n t) (prevOf (colU x g w b n) t) (nextOf (colU x g w b n) t) (mu n)

def parOf (w0 : (⟨2, ![2, 512]⟩ : Shape).Idx → EReal) (dup : (⟨3, ![2, 64, 512]⟩ : Shape).Idx → EReal) (a0 : (⟨2, ![2, 512]⟩ : Shape).Idx → EReal) (iup : (⟨3, ![2, 64, 512]⟩ : Shape).Idx → EReal)
    (kk ka : (⟨1, ![512]⟩ : Shape).Idx → EReal) (rk : (⟨2, ![8, 64]⟩ : Shape).Idx → EReal) : Par :=
  ⟨fun d j => w0 (ix2 d j), fun d r j => dup (ix3 d r j), fun d j => a0 (ix2 d j), fun d r j => iup (ix3 d r j), fun j => kk (ix1 j), fun j => ka (ix1 j), fun h i => rk (ix2 h i)⟩

/-- A result of every token, and one of every direction and token. -/
def lay3 (f : Fin 2 → Fin 8192 → Fin 512 → EReal) : (⟨3, ![2, 8192, 512]⟩ : Shape).Idx → EReal := fun i => f (i 0) (i 1) (i 2)
def lay4 (f : Fin 2 → Fin 2 → Fin 8192 → Fin 512 → EReal) : (⟨4, ![2, 2, 8192, 512]⟩ : Shape).Idx → EReal := fun i => f (i 0) (i 1) (i 2) (i 3)

end Cert.Proj

end
-- ==== Proof.ProjShift.lean ====
/- The rows around a tile: what the body keeps of them, and that its shifted columns are the tokens' neighbours. -/
module

public import proofs.«01_k».proof.Proof.ProjOut
public import proofs.«01_k».proof.Proof.ProjTok

@[expose] public section

set_option maxRecDepth 16384

noncomputable section

namespace Cert.Proj

open Idealize.ShloMosaic Idealize.ShloMosaic.TcCoe
open Cert.ProjectIdeal Cert.ProjectIdeal.Gen

theorem gt_of : ∀ a : Fin 32, Scalar.cmpi .sgt (BitVec.ofNat 32 a.val) 0#32 = if 1 ≤ a.val then 1#1 else 0#1 := by decide +kernel
theorem lt_of : ∀ a : Fin 32, Scalar.cmpi .slt (BitVec.ofNat 32 a.val) 31#32 = if a.val < 31 then 1#1 else 0#1 := by decide +kernel

theorem pay1_at (i : grid0.Coords) (a : Fin 32) (ha : (i 1).val = a.val) (X : FVec Ideal S1x16x1024 .f32) (g : FVec Ideal S1x1024 .f32) (k : Fin 1024) :
    k0_pay1 (F := Ideal) i X g (ix2 15 k) = if 1 ≤ a.val then nrm (fun l => X (ix3 0 15 l)) (fun l => g (ix2 0 l)) k else 0 := by
  unfold k0_pay1 nrm scale
  rw [ha]
  dsimp only
  rw [gt_of a]
  by_cases h : 1 ≤ a.val
  · rw [if_pos h, if_pos h]
    pointwise
  · rw [if_neg h, if_neg h]
    pointwise

theorem pay5_at (a : Fin 32) (X : FVec Ideal S1x16x1024 .f32) (g : FVec Ideal S1x1024 .f32) (k : Fin 1024) :
    k0_pay5 (F := Ideal) (BitVec.ofNat 32 a.val) X g (ix2 0 k) = if a.val < 31 then nrm (fun l => X (ix3 0 0 l)) (fun l => g (ix2 0 l)) k else 0 := by
  unfold k0_pay5 nrm scale
  dsimp only
  rw [lt_of a]
  by_cases h : a.val < 31
  · rw [if_pos h, if_pos h]
    pointwise
  · rw [if_neg h, if_neg h]
    pointwise

theorem pay6_at (H : FVec Ideal S288x1024 .bf16) (W : FVec Ideal S1024x2304 .bf16) (p : Fin 288) (n : Fin 2304) :
    k0_pay6 (F := Ideal) H W (ix2 p n) = (∑ k : Fin 1024, H (ix2 p k) * W (ix2 k n) : EReal) := by
  unfold k0_pay6
  pointwise

section Loads

variable {F : FTy → Type} [FloatOps F]

/-- What the newest piece holds, and a place it does not hold. -/
theorem canon_here {S : Shape} {e : EltTy} {L : List (View.Piece (Elt F) S e)} {off sz : Fin S.rank → ℕ}
    {inb : ∀ a, off a + sz a ≤ S.size a} {w : (Rect.unit (s := S) off sz inb).shape.Idx → Elt F e}
    (y : S.Idx) (x : (Rect.unit (s := S) off sz inb).shape.Idx) (h : ∀ a, (y a).val = off a + (x a).val) :
    View.canon (⟨Rect.unit (s := S) off sz inb, w⟩ :: L) y = w x := by
  have e1 : y = (Rect.unit (s := S) off sz inb).emb x := by
    funext a
    exact Fin.ext ((h a).trans (Rect.idx_unit_val _ _ inb x a).symm)
  rw [e1]
  exact View.canon_cons_emb (Val := Elt F) (e := e) (Rect.unit (s := S) off sz inb) w L x
theorem canon_skip {S : Shape} {e : EltTy} {L : List (View.Piece (Elt F) S e)} {off sz : Fin S.rank → ℕ}
    {inb : ∀ a, off a + sz a ≤ S.size a} {w : (Rect.unit (s := S) off sz inb).shape.Idx → Elt F e}
    (y : S.Idx) (h : ∃ a, (y a).val < off a ∨ off a + sz a ≤ (y a).val) :
    View.canon (⟨Rect.unit (s := S) off sz inb, w⟩ :: L) y = View.canon L y := by
  obtain ⟨a, h⟩ := h
  refine View.canon_cons_of_not_mem _ _ fun hm => ?_
  have h0 := (Rect.mem_set_unit (inb := inb)).1 hm a
  omega

/-- The rows of all three windows, last stored first. -/
def piecesH (Y : FVec F S16x1024 .bf16) (X : FVec F S256x1024 .bf16) (Z : FVec F S16x1024 .bf16) : List (View.Piece (Elt F) S288x1024 .bf16) :=
  [⟨Rect.unit (s := S288x1024) ![272, 0] S16x1024.size inb_S288x1024_S16x1024_272_0, Y⟩,
   ⟨Rect.unit (s := S288x1024) ![16, 0] S256x1024.size inb_S288x1024_S256x1024_16_0, X⟩,
   ⟨Rect.unit (s := S288x1024) ![0, 0] S16x1024.size inb_S288x1024_S16x1024_0_0, Z⟩]
def ldH (v : View sig .tc .vmem S288x1024 .bf16) (Y : FVec F S16x1024 .bf16) (X : FVec F S256x1024 .bf16) (Z : FVec F S16x1024 .bf16) : FVec F S288x1024 .bf16 :=
  v.readCov (piecesH Y X Z) (Rect.unit (s := S288x1024) ![0, 0] S288x1024.size inb_S288x1024_S288x1024_0_0).toLoadRect

theorem inbU (h n ro lo : ℕ) (hr : ro + h ≤ 288) (hl : lo + n ≤ 2304) : ∀ a, (![ro, lo] : Fin 2 → ℕ) a + (⟨2, ![h, n]⟩ : Shape).size a ≤ S288x2304.size a := fun a =>
  match a with
  | ⟨0, _⟩ => hr
  | ⟨1, _⟩ => hl
def piecesU (A : FVec F S288x2304 .f32) : List (View.Piece (Elt F) S288x2304 .f32) :=
  [⟨Rect.unit (s := S288x2304) ![0, 0] S288x2304.size inb_S288x2304_S288x2304_0_0, A⟩]
/-- Rows and columns of the product kept of them. -/
def ldU (h n ro lo : ℕ) (hr : ro + h ≤ 288) (hl : lo + n ≤ 2304) (v : View sig .tc .vmem S288x2304 .f32) (A : FVec F S288x2304 .f32) : FVec F (⟨2, ![h, n]⟩ : Shape) .f32 :=
  v.readCov (piecesU A) (Rect.unit (s := S288x2304) ![ro, lo] (⟨2, ![h, n]⟩ : Shape).size (inbU h n ro lo hr hl)).toLoadRect

theorem inbM (n lo : ℕ) (h : lo + n ≤ 2304) : ∀ a, (![0, lo] : Fin 2 → ℕ) a + (⟨2, ![1, n]⟩ : Shape).size a ≤ S1x2304.size a := fun a =>
  match a with
  | ⟨0, _⟩ => Nat.le_refl 1
  | ⟨1, _⟩ => h
def ldM (n lo : ℕ) (hl : lo + n ≤ 2304) (m : Memref sig .tc .vmem S1x2304 .f32) (h : m.IsWhole) (x : Vec F S1x2304 .f32) : FVec F (⟨2, ![1, n]⟩ : Shape) .f32 :=
  View.readAt (Elt F) m.view (Rect.unit (s := S1x2304) ![0, lo] (⟨2, ![1, n]⟩ : Shape).size (inbM n lo hl)).toLoadRect (h.unread x)

theorem ldU_at {h n ro lo : ℕ} {hr : ro + h ≤ 288} {hl : lo + n ≤ 2304} (v : View sig .tc .vmem S288x2304 .f32) (A : FVec F S288x2304 .f32) (r : Fin h) (q : Fin n) :
    ldU h n ro lo hr hl v A (ix2 r q) = A (ix2 ⟨ro + r.val, by omega⟩ ⟨lo + q.val, by omega⟩) := by
  unfold ldU
  rw [View.readCov_eq_canon' v (piecesU A)]
  refine canon_here (S := S288x2304) (off := ![0, 0]) (sz := S288x2304.size) (inb := inb_S288x2304_S288x2304_0_0) _ (ix2 (⟨ro + r.val, by omega⟩ : Fin 288) (⟨lo + q.val, by omega⟩ : Fin 2304)) fun a => ?_
  fin_cases a
  · show ro + 1 * r.val = 0 + (ro + r.val); omega
  · show lo + 1 * q.val = 0 + (lo + q.val); omega

theorem ldM_at {n lo : ℕ} {hl : lo + n ≤ 2304} (M : Memref sig .tc .vmem S1x2304 .f32) (h : M.IsWhole) (x : Vec F S1x2304 .f32) (q : Fin n) :
    ldM n lo hl M h x (ix2 0 q) = x (ix2 0 ⟨lo + q.val, by omega⟩) := by
  refine (Memref.IsWhole.readAt_unread h x _ _).trans (congrArg x ?_)
  funext a
  apply Fin.ext
  fin_cases a
  · show 0 + 1 * 0 = 0; omega
  · show lo + 1 * q.val = lo + q.val; omega

/-- A row of one of the three pieces, the later ones not holding it. -/
theorem ldH_mid (v : View sig .tc .vmem S288x1024 .bf16) (Y : FVec F S16x1024 .bf16) (X : FVec F S256x1024 .bf16) (Z : FVec F S16x1024 .bf16) (p : Fin 288) (r : Fin 256) (hp : p.val = 16 + r.val) (k : Fin 1024) :
    ldH v Y X Z (ix2 p k) = X (ix2 r k) := by
  unfold ldH
  rw [View.readCov_eq_canon' v (piecesH Y X Z)]
  refine (canon_skip (S := S288x1024) (off := ![272, 0]) (sz := S16x1024.size) (inb := inb_S288x1024_S16x1024_272_0) _ ⟨0, Or.inl (by show 0 + 1 * p.val < 272; omega)⟩).trans ?_
  refine canon_here (S := S288x1024) (off := ![16, 0]) (sz := S256x1024.size) (inb := inb_S288x1024_S256x1024_16_0) _ (ix2 r k) fun a => ?_
  fin_cases a
  · show 0 + 1 * p.val = 16 + r.val; omega
  · show 0 + 1 * k.val = 0 + k.val; omega
theorem ldH_last (v : View sig .tc .vmem S288x1024 .bf16) (Y : FVec F S16x1024 .bf16) (X : FVec F S256x1024 .bf16) (Z : FVec F S16x1024 .bf16) (p : Fin 288) (hp : p.val = 272) (k : Fin 1024) :
    ldH v Y X Z (ix2 p k) = Y (ix2 0 k) := by
  unfold ldH
  rw [View.readCov_eq_canon' v (piecesH Y X Z)]
  refine canon_here (S := S288x1024) (off := ![272, 0]) (sz := S16x1024.size) (inb := inb_S288x1024_S16x1024_272_0) _ (ix2 (0 : Fin 16) k) fun a => ?_
  fin_cases a
  · show 0 + 1 * p.val = 272 + 0; omega
  · show 0 + 1 * k.val = 0 + k.val; omega
theorem ldH_first (v : View sig .tc .vmem S288x1024 .bf16) (Y : FVec F S16x1024 .bf16) (X : FVec F S256x1024 .bf16) (Z : FVec F S16x1024 .bf16) (p : Fin 288) (hp : p.val = 15) (k : Fin 1024) :
    ldH v Y X Z (ix2 p k) = Z (ix2 15 k) := by
  unfold ldH
  rw [View.readCov_eq_canon' v (piecesH Y X Z)]
  refine (canon_skip (S := S288x1024) (off := ![272, 0]) (sz := S16x1024.size) (inb := inb_S288x1024_S16x1024_272_0) _ ⟨0, Or.inl (by show 0 + 1 * p.val < 272; omega)⟩).trans ?_
  refine (canon_skip (S := S288x1024) (off := ![16, 0]) (sz := S256x1024.size) (inb := inb_S288x1024_S256x1024_16_0) _ ⟨0, Or.inl (by show 0 + 1 * p.val < 16; omega)⟩).trans ?_
  refine canon_here (S := S288x1024) (off := ![0, 0]) (sz := S16x1024.size) (inb := inb_S288x1024_S16x1024_0_0) _ (ix2 (15 : Fin 16) k) fun a => ?_
  fin_cases a
  · show 0 + 1 * p.val = 0 + 15; omega
  · show 0 + 1 * k.val = 0 + k.val; omega

end Loads

/-- The product of the kept rows with the mixed columns' weights, row by row. -/
theorem kept_rows (v : View sig .tc .vmem S288x1024 .bf16) (Y Z : FVec Ideal S16x1024 .bf16) (X : FVec Ideal S256x1024 .bf16) (W : FVec Ideal S1024x2304 .bf16)
    (x : S2x8192x1024.Idx → EReal) (g : Fin 1024 → EReal) (w : S1024x5632.Idx → EReal) (b : Fin 2) (a : Fin 32) (n : Fin 2304)
    (hW : ∀ k, W (ix2 k n) = w (ix2 k ⟨n.val, by omega⟩))
    (hX : ∀ (r : Fin 256) k, X (ix2 r k) = nrm (fun l => x (ix3 b ⟨256 * a.val + r.val, by omega⟩ l)) g k)
    (hZ : ∀ k, Z (ix2 15 k) = if h : 1 ≤ a.val then nrm (fun l => x (ix3 b ⟨256 * a.val - 1, by omega⟩ l)) g k else 0)
    (hY : ∀ k, Y (ix2 0 k) = if h : a.val < 31 then nrm (fun l => x (ix3 b ⟨256 * a.val + 256, by omega⟩ l)) g k else 0)
    (r : Fin 256) (t : Fin 8192) (ht : t.val = 256 * a.val + r.val) :
    k0_pay6 (F := Ideal) (ldH v Y X Z) W (ix2 ⟨16 + r.val, by omega⟩ n) = colU x g w b n t
      ∧ k0_pay6 (F := Ideal) (ldH v Y X Z) W (ix2 ⟨15 + r.val, by omega⟩ n) = prevOf (colU x g w b n) t
      ∧ k0_pay6 (F := Ideal) (ldH v Y X Z) W (ix2 ⟨17 + r.val, by omega⟩ n) = nextOf (colU x g w b n) t := by
  have mid : ∀ (p : Fin 288) (r : Fin 256) (t : Fin 8192), p.val = 16 + r.val → t.val = 256 * a.val + r.val →
      k0_pay6 (F := Ideal) (ldH v Y X Z) W (ix2 p n) = colU x g w b n t := by
    intro p r t hp ht
    rw [pay6_at]
    have et : t = ⟨256 * a.val + r.val, by omega⟩ := Fin.ext ht
    rw [et]
    unfold colU proj
    refine Finset.sum_congr rfl fun k _ => ?_
    rw [ldH_mid v Y X Z p r hp k, hX, hW]
  refine ⟨mid _ r t rfl ht, ?_, ?_⟩
  · by_cases h : 1 ≤ r.val
    · have e := mid ⟨15 + r.val, by omega⟩ ⟨r.val - 1, by omega⟩ ⟨t.val - 1, by omega⟩ (by show 15 + r.val = 16 + (r.val - 1); omega) (by show t.val - 1 = 256 * a.val + (r.val - 1); omega)
      rw [e]
      unfold prevOf
      rw [dif_neg (by omega)]
    · rw [pay6_at]
      unfold prevOf
      by_cases ha : 1 ≤ a.val
      · rw [dif_neg (by omega)]
        have et : (⟨t.val - 1, by omega⟩ : Fin 8192) = ⟨256 * a.val - 1, by omega⟩ := Fin.ext (by show t.val - 1 = 256 * a.val - 1; omega)
        rw [et]
        unfold colU proj
        refine Finset.sum_congr rfl fun k _ => ?_
        rw [ldH_first v Y X Z _ (by show 15 + r.val = 15; omega) k, hZ, hW, dif_pos ha]
      · rw [dif_pos (by omega)]
        refine Finset.sum_eq_zero fun k _ => ?_
        rw [ldH_first v Y X Z _ (by show 15 + r.val = 15; omega) k, hZ, dif_neg ha]
        exact zero_mul (M₀ := EReal) _
  · by_cases h : r.val < 255
    · have e := mid ⟨17 + r.val, by omega⟩ ⟨r.val + 1, by omega⟩ ⟨1 + t.val, by omega⟩ (by show 17 + r.val = 16 + (r.val + 1); omega) (by show 1 + t.val = 256 * a.val + (r.val + 1); omega)
      rw [e]
      unfold nextOf
      rw [dif_pos (by omega)]
    · rw [pay6_at]
      unfold nextOf
      by_cases ha : a.val < 31
      · rw [dif_pos (by omega)]
        have et : (⟨1 + t.val, by omega⟩ : Fin 8192) = ⟨256 * a.val + 256, by omega⟩ := Fin.ext (by show 1 + t.val = 256 * a.val + 256; omega)
        rw [et]
        unfold colU proj
        refine Finset.sum_congr rfl fun k _ => ?_
        rw [ldH_last v Y X Z _ (by show 17 + r.val = 272; omega) k, hY, hW, dif_pos ha]
      · rw [dif_neg (by omega)]
        refine Finset.sum_eq_zero fun k _ => ?_
        rw [ldH_last v Y X Z _ (by show 17 + r.val = 272; omega) k, hY, dif_neg ha]
        exact zero_mul (M₀ := EReal) _

end Cert.Proj

end
-- ==== Proof.ProjStores.lean ====
/- What a point of the projection stores into its other outputs. -/
module

public import proofs.«01_k».proof.Proof.ProjShift

@[expose] public section

set_option maxRecDepth 16384

noncomputable section

namespace Cert.Proj

open Idealize.ShloMosaic Idealize.ShloMosaic.TcCoe
open Cert.ProjectIdeal Cert.ProjectIdeal.Gen

variable {F : FTy → Type} [FloatOps F]

/-- Small windows, whole. -/
def ldE (m : Memref sig .tc .vmem S1x16x1024 .f32) (h : m.IsWhole) (x : Vec F S1x16x1024 .f32) : FVec F S1x16x1024 .f32 :=
  View.readAt (Elt F) m.view (Rect.unit (s := S1x16x1024) ![0, 0, 0] S1x16x1024.size inb_S1x16x1024_S1x16x1024_0_0_0).toLoadRect (h.unread x)
def ldD (m : Memref sig .tc .vmem S128x1024 .bf16) (h : m.IsWhole) (x : Vec F S128x1024 .bf16) : FVec F S128x1024 .bf16 :=
  View.readAt (Elt F) m.view (Rect.unit (s := S128x1024) ![0, 0] S128x1024.size inb_S128x1024_S128x1024_0_0).toLoadRect (h.unread x)
def ldV (m : Memref sig .tc .vmem S1x512 .f32) (h : m.IsWhole) (x : Vec F S1x512 .f32) : FVec F S1x512 .f32 :=
  View.readAt (Elt F) m.view (Rect.unit (s := S1x512) ![0, 0] S1x512.size inb_S1x512_S1x512_0_0).toLoadRect (h.unread x)

def one3 (w : FVec F S1x256x512 .f32) : List (View.Piece (Elt F) S1x256x512 .f32) :=
  [⟨Rect.unit (s := S1x256x512) ![0, 0, 0] S1x256x512.size inb_S1x256x512_S1x256x512_0_0_0, w⟩]
/-- One piece for each direction. -/
def two4 (w0 w1 : FVec F S1x1x256x512 .f32) : List (View.Piece (Elt F) S2x1x256x512 .f32) :=
  [⟨Rect.unit (s := S2x1x256x512) ![1, 0, 0, 0] S1x1x256x512.size inb_S2x1x256x512_S1x1x256x512_1_0_0_0, w1⟩,
   ⟨Rect.unit (s := S2x1x256x512) ![0, 0, 0, 0] S1x1x256x512.size inb_S2x1x256x512_S1x1x256x512_0_0_0_0, w0⟩]

section Made

variable (v : View sig .tc .vmem S288x2304 .f32) (A : FVec F S288x2304 .f32) (m5 : Memref sig .tc .vmem S1x2304 .f32) (h5 : m5.IsWhole) (x5 : Vec F S1x2304 .f32)

/-- The mixed columns, part by part. -/
def mixR : FVec F S256x512 .f32 := k0_pay12 (ldU 256 512 16 0 (by decide) (by decide) v A) (ldU 288 512 0 0 (by decide) (by decide) v A) (ldM 512 0 (by decide) m5 h5 x5)
def mixK : FVec F S256x512 .f32 := k0_pay16 (ldU 256 512 16 512 (by decide) (by decide) v A) (k0_pay14 (ldU 288 512 0 512 (by decide) (by decide) v A)) (k0_pay15 (ldU 288 512 0 512 (by decide) (by decide) v A)) (ldM 512 512 (by decide) m5 h5 x5)
def mixV : FVec F S256x512 .f32 := k0_pay18 (ldU 256 512 16 1024 (by decide) (by decide) v A) (ldU 288 512 0 1024 (by decide) (by decide) v A) (ldM 512 1024 (by decide) m5 h5 x5)
def mixZ : FVec F S256x512 .f32 := k0_pay21 (ldU 256 512 16 1536 (by decide) (by decide) v A) (ldU 288 512 0 1536 (by decide) (by decide) v A) (ldM 512 1536 (by decide) m5 h5 x5)
def lowU : FVec F S256x256 .f32 := ldU 256 256 16 2048 (by decide) (by decide) v A
def lowM : FVec F S1x256 .f32 := k0_pay23 (ldM 256 2048 (by decide) m5 h5 x5)
def lowE : FVec F S256x256 .f32 := k0_pay24 (ldU 288 256 0 2048 (by decide) (by decide) v A)
def lwOf (w : FVec F S1x1024 .f32) (D : FVec F S128x1024 .bf16) : FVec F S256x1024 .f32 := k0_pay28 (lowU v A) (lowM m5 h5 x5) (lowE v A) k0_pay25 w D
def alOf (D : FVec F S128x1024 .bf16) : FVec F S256x1024 .f32 := k0_pay29 (lowU v A) (lowM m5 h5 x5) (lowE v A) k0_pay25 D

end Made

def headMat : FVec F S512x512 .bf16 := k0_pay11 k0_pay7 k0_pay8 k0_pay9 k0_pay10 0#32

variable (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S1x2304 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256x1280 .f32) (harg15 : arg15.IsWhole) (arg16 : Memref sig .tc .vmem S1x256x2048 .bf16) (harg16 : arg16.IsWhole) (arg17 : Memref sig .tc .vmem S1x256x512 .f32) (harg17 : arg17.IsWhole) (arg18 : Memref sig .tc .vmem S1x256x512 .f32) (harg18 : arg18.IsWhole) (arg19 : Memref sig .tc .vmem S1x256x512 .f32) (harg19 : arg19.IsWhole) (arg20 : Memref sig .tc .vmem S2x1x256x512 .f32) (harg20 : arg20.IsWhole) (arg21 : Memref sig .tc .vmem S2x1x256x512 .f32) (harg21 : arg21.IsWhole) (arg22 : Memref sig .tc .vmem S2x1x256x512 .f32) (harg22 : arg22.IsWhole) (arg23 : Memref sig .tc .vmem S1x256x512 .f32) (harg23 : arg23.IsWhole) (arg24 : Memref sig .tc .vmem S1x256x512 .f32) (harg24 : arg24.IsWhole) (arg25 : Memref sig .tc .vmem S288x1024 .bf16) (harg25 : arg25.IsWhole) (arg26 : Memref sig .tc .vmem S288x2304 .f32) (harg26 : arg26.IsWhole)
  (x0 : Vec F S1x256x1024 .f32) (x1 : Vec F S1x16x1024 .f32) (x2 : Vec F S1x16x1024 .f32) (x3 : Vec F S1x1024 .f32) (x4 : Vec F S1024x5632 .bf16) (x5 : Vec F S1x2304 .f32) (x6 : Vec F S1x1024 .f32) (x7 : Vec F S128x1024 .bf16) (x8 : Vec F S1x1024 .f32) (x9 : Vec F S128x1024 .bf16) (x10 : Vec F S1x512 .f32) (x11 : Vec F S1x512 .f32) (x12 : Vec F S1x512 .f32)

/-- The product of every kept row. -/
def keptOf (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole)
    (arg5 : Memref sig .tc .vmem S1x1024 .f32) (harg5 : arg5.IsWhole) (arg6 : Memref sig .tc .vmem S1024x5632 .bf16) (harg6 : arg6.IsWhole) (v : View sig .tc .vmem S288x1024 .bf16)
    (x0 : Vec F S1x256x1024 .f32) (x1 x2 : Vec F S1x16x1024 .f32) (x3 : Vec F S1x1024 .f32) (x4 : Vec F S1024x5632 .bf16) : FVec F S288x2304 .f32 :=
  k0_pay6 (ldH v (k0_pay5 (BitVec.ofNat 32 (i 1).val) (ldE arg4 harg4 x2) (ldG arg5 harg5 x3)) (hm arg2 harg2 x0 arg5 harg5 x3) (k0_pay1 i (ldE arg3 harg3 x1) (ldG arg5 harg5 x3))) (ldW 2304 0 (by decide) arg6 harg6 x4)

theorem stores15 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.1
    = one3 (k0_pay48 (mixR arg26.view (keptOf i arg2 harg2 arg3 harg3 arg4 harg4 arg5 harg5 arg6 harg6 arg25.view x0 x1 x2 x3 x4) arg7 harg7 x5)) := rfl

theorem stores16 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.1
    = one3 (k0_pay49 (mixV arg26.view (keptOf i arg2 harg2 arg3 harg3 arg4 harg4 arg5 harg5 arg6 harg6 arg25.view x0 x1 x2 x3 x4) arg7 harg7 x5)) := rfl

theorem stores17 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.1
    = one3 (k0_pay50 (k0_pay33 headMat (mixK arg26.view (keptOf i arg2 harg2 arg3 harg3 arg4 harg4 arg5 harg5 arg6 harg6 arg25.view x0 x1 x2 x3 x4) arg7 harg7 x5) (ldV arg12 harg12 x10))) := rfl

theorem stores18 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.1
    = two4 (k0_pay39 (k0_pay38 (lwOf arg26.view (keptOf i arg2 harg2 arg3 harg3 arg4 harg4 arg5 harg5 arg6 harg6 arg25.view x0 x1 x2 x3 x4) arg7 harg7 x5 (ldG arg8 harg8 x6) (ldD arg9 harg9 x7)))) (k0_pay45 (lwOf arg26.view (keptOf i arg2 harg2 arg3 harg3 arg4 harg4 arg5 harg5 arg6 harg6 arg25.view x0 x1 x2 x3 x4) arg7 harg7 x5 (ldG arg8 harg8 x6) (ldD arg9 harg9 x7))) := rfl

theorem stores19 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.2.1
    = two4 (k0_pay40 (k0_pay36 (mixK arg26.view (keptOf i arg2 harg2 arg3 harg3 arg4 harg4 arg5 harg5 arg6 harg6 arg25.view x0 x1 x2 x3 x4) arg7 harg7 x5) (alOf arg26.view (keptOf i arg2 harg2 arg3 harg3 arg4 harg4 arg5 harg5 arg6 harg6 arg25.view x0 x1 x2 x3 x4) arg7 harg7 x5 (ldD arg11 harg11 x9)) (k0_pay30 (ldG arg10 harg10 x8)) (ldV arg13 harg13 x11))) (k0_pay46 (mixK arg26.view (keptOf i arg2 harg2 arg3 harg3 arg4 harg4 arg5 harg5 arg6 harg6 arg25.view x0 x1 x2 x3 x4) arg7 harg7 x5) (k0_pay31 (alOf arg26.view (keptOf i arg2 harg2 arg3 harg3 arg4 harg4 arg5 harg5 arg6 harg6 arg25.view x0 x1 x2 x3 x4) arg7 harg7 x5 (ldD arg11 harg11 x9)) (k0_pay30 (ldG arg10 harg10 x8))) (k0_pay34 (ldV arg13 harg13 x11))) := rfl

theorem stores20 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.2.2.1
    = two4 (k0_pay41 (k0_pay33 headMat (mixK arg26.view (keptOf i arg2 harg2 arg3 harg3 arg4 harg4 arg5 harg5 arg6 harg6 arg25.view x0 x1 x2 x3 x4) arg7 harg7 x5) (ldV arg12 harg12 x10)) (k0_pay35 (alOf arg26.view (keptOf i arg2 harg2 arg3 harg3 arg4 harg4 arg5 harg5 arg6 harg6 arg25.view x0 x1 x2 x3 x4) arg7 harg7 x5 (ldD arg11 harg11 x9)) (k0_pay30 (ldG arg10 harg10 x8)))) (k0_pay47 (k0_pay31 (alOf arg26.view (keptOf i arg2 harg2 arg3 harg3 arg4 harg4 arg5 harg5 arg6 harg6 arg25.view x0 x1 x2 x3 x4) arg7 harg7 x5 (ldD arg11 harg11 x9)) (k0_pay30 (ldG arg10 harg10 x8))) (k0_pay33 headMat (mixK arg26.view (keptOf i arg2 harg2 arg3 harg3 arg4 harg4 arg5 harg5 arg6 harg6 arg25.view x0 x1 x2 x3 x4) arg7 harg7 x5) (ldV arg12 harg12 x10))) := rfl

theorem stores21 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.2.2.2.1
    = one3 (k0_pay51 headMat (mixR arg26.view (keptOf i arg2 harg2 arg3 harg3 arg4 harg4 arg5 harg5 arg6 harg6 arg25.view x0 x1 x2 x3 x4) arg7 harg7 x5) (mixV arg26.view (keptOf i arg2 harg2 arg3 harg3 arg4 harg4 arg5 harg5 arg6 harg6 arg25.view x0 x1 x2 x3 x4) arg7 harg7 x5) (k0_pay44 (mixK arg26.view (keptOf i arg2 harg2 arg3 harg3 arg4 harg4 arg5 harg5 arg6 harg6 arg25.view x0 x1 x2 x3 x4) arg7 harg7 x5) (k0_pay31 (alOf arg26.view (keptOf i arg2 harg2 arg3 harg3 arg4 harg4 arg5 harg5 arg6 harg6 arg25.view x0 x1 x2 x3 x4) arg7 harg7 x5 (ldD arg11 harg11 x9)) (k0_pay30 (ldG arg10 harg10 x8))) (k0_pay34 (ldV arg13 harg13 x11)) (k0_pay37 (mixK arg26.view (keptOf i arg2 harg2 arg3 harg3 arg4 harg4 arg5 harg5 arg6 harg6 arg25.view x0 x1 x2 x3 x4) arg7 harg7 x5) (alOf arg26.view (keptOf i arg2 harg2 arg3 harg3 arg4 harg4 arg5 harg5 arg6 harg6 arg25.view x0 x1 x2 x3 x4) arg7 harg7 x5 (ldD arg11 harg11 x9)) (k0_pay30 (ldG arg10 harg10 x8)) (ldV arg13 harg13 x11))) (ldV arg14 harg14 x12)) := rfl

theorem stores22 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.2.2.2.2.1
    = one3 (k0_pay52 (mixZ arg26.view (keptOf i arg2 harg2 arg3 harg3 arg4 harg4 arg5 harg5 arg6 harg6 arg25.view x0 x1 x2 x3 x4) arg7 harg7 x5)) := rfl

end Cert.Proj

end
-- ==== Proof.ProjMade.lean ====
/- The stored pieces of the projection's other outputs are the layer's results of the tile's rows. -/
module

public import proofs.«01_k».proof.Proof.ProjStores

@[expose] public section

set_option maxRecDepth 16384

noncomputable section

namespace Cert.Proj

open Idealize.ShloMosaic Idealize.ShloMosaic.TcCoe
open Cert.ProjectIdeal Cert.ProjectIdeal.Gen

/-- Every row of the tile, mixed with its neighbours. -/
def Mixed (A : S288x2304.Idx → EReal) (mu : Fin 2304 → EReal) (s : Fin 256 → Fin 2304 → EReal) : Prop :=
  ∀ (r : Fin 256) (n : Fin 2304), mix (A (ix2 ⟨16 + r.val, by omega⟩ n)) (A (ix2 ⟨15 + r.val, by omega⟩ n)) (A (ix2 ⟨17 + r.val, by omega⟩ n)) (mu n) = s r n

/-- The small windows hold the layer's weights. -/
structure Small (P : Par) (x6 : Vec Ideal S1x1024 .f32) (x7 : Vec Ideal S128x1024 .bf16) (x8 : Vec Ideal S1x1024 .f32) (x9 : Vec Ideal S128x1024 .bf16)
    (x10 x11 x12 : Vec Ideal S1x512 .f32) : Prop where
  w0 : ∀ (d : Fin 2) (j : Fin 512), x6 (ix2 0 ⟨512 * d.val + j.val, by omega⟩) = P.w0 d j
  dup : ∀ k n, x7 (ix2 k n) = diag P.dup k n
  a0 : ∀ (d : Fin 2) (j : Fin 512), x8 (ix2 0 ⟨512 * d.val + j.val, by omega⟩) = P.a0 d j
  iup : ∀ k n, x9 (ix2 k n) = diag P.iup k n
  kk : ∀ j, x10 (ix2 0 j) = P.kk j
  ka : ∀ j, x11 (ix2 0 j) = P.ka j
  rk : ∀ j : Fin 512, x12 (ix2 0 j) = P.rk ⟨j.val / 64, by omega⟩ ⟨j.val % 64, Nat.mod_lt _ (by decide)⟩

theorem ldE_at (M : Memref sig .tc .vmem S1x16x1024 .f32) (h : M.IsWhole) (x : Vec Ideal S1x16x1024 .f32) (r : Fin 16) (k : Fin 1024) :
    ldE M h x (ix3 0 r k) = x (ix3 0 r k) := by
  refine (Memref.IsWhole.readAt_unread h x _ _).trans (congrArg x ?_)
  funext a
  apply Fin.ext
  fin_cases a
  · show 0 + 1 * 0 = 0; omega
  · show 0 + 1 * r.val = r.val; omega
  · show 0 + 1 * k.val = k.val; omega
theorem ldD_at (M : Memref sig .tc .vmem S128x1024 .bf16) (h : M.IsWhole) (x : Vec Ideal S128x1024 .bf16) (r : Fin 128) (k : Fin 1024) :
    ldD M h x (ix2 r k) = x (ix2 r k) := by
  refine (Memref.IsWhole.readAt_unread h x _ _).trans (congrArg x ?_)
  funext a
  apply Fin.ext
  fin_cases a
  · show 0 + 1 * r.val = r.val; omega
  · show 0 + 1 * k.val = k.val; omega
theorem ldV_at (M : Memref sig .tc .vmem S1x512 .f32) (h : M.IsWhole) (x : Vec Ideal S1x512 .f32) (k : Fin 512) :
    ldV M h x (ix2 0 k) = x (ix2 0 k) := by
  refine (Memref.IsWhole.readAt_unread h x _ _).trans (congrArg x ?_)
  funext a
  apply Fin.ext
  fin_cases a
  · show 0 + 1 * 0 = 0; omega
  · show 0 + 1 * k.val = k.val; omega

section Made

variable (v : View sig .tc .vmem S288x2304 .f32) (A : FVec Ideal S288x2304 .f32) (m5 : Memref sig .tc .vmem S1x2304 .f32) (h5 : m5.IsWhole) (x5 : Vec Ideal S1x2304 .f32)
  {s : Fin 256 → Fin 2304 → EReal} (hA : Mixed A (fun n => x5 (ix2 0 n)) s)

include hA in
theorem mix_gen (n lo : ℕ) (hl : lo + n ≤ 2304) (r : Fin 256) (q : Fin n) :
    mix (ldU 256 n 16 lo (by decide) hl v A (ix2 r q)) (ldU 288 n 0 lo (by decide) hl v A (ix2 ⟨15 + r.val, by omega⟩ q)) (ldU 288 n 0 lo (by decide) hl v A (ix2 ⟨17 + r.val, by omega⟩ q)) (ldM n lo hl m5 h5 x5 (ix2 0 q))
      = col (s r) lo hl q := by
  rw [ldU_at, ldU_at, ldU_at, ldM_at]
  have e0 : (⟨0 + (15 + r.val), by omega⟩ : Fin 288) = ⟨15 + r.val, by omega⟩ := Fin.ext (Nat.zero_add _)
  have e1 : (⟨0 + (17 + r.val), by omega⟩ : Fin 288) = ⟨17 + r.val, by omega⟩ := Fin.ext (Nat.zero_add _)
  refine Eq.trans ?_ (hA r ⟨lo + q.val, by omega⟩)
  exact congrArg₂ (fun p p' => mix (A (ix2 ⟨16 + r.val, by omega⟩ ⟨lo + q.val, by omega⟩)) (A (ix2 p ⟨lo + q.val, by omega⟩)) (A (ix2 p' ⟨lo + q.val, by omega⟩)) (x5 (ix2 0 ⟨lo + q.val, by omega⟩))) e0 e1

include hA in
theorem mixR_at (r : Fin 256) (n : Fin 512) : mixR v A m5 h5 x5 (ix2 r n) = col (s r) 0 (by decide) n :=
  (pay12_at _ _ _ r n).trans (mix_gen v A m5 h5 x5 hA 512 0 (by decide) r n)
include hA in
theorem mixK_at (r : Fin 256) (n : Fin 512) : mixK v A m5 h5 x5 (ix2 r n) = col (s r) 512 (by decide) n :=
  (congrFun (pay16_eq _ _ _) _).trans <| (pay12_at _ _ _ r n).trans (mix_gen v A m5 h5 x5 hA 512 512 (by decide) r n)
include hA in
theorem mixV_at (r : Fin 256) (n : Fin 512) : mixV v A m5 h5 x5 (ix2 r n) = col (s r) 1024 (by decide) n :=
  (congrFun (pay18_eq _ _ _) _).trans <| (pay12_at _ _ _ r n).trans (mix_gen v A m5 h5 x5 hA 512 1024 (by decide) r n)
include hA in
theorem mixZ_at (r : Fin 256) (n : Fin 512) : mixZ v A m5 h5 x5 (ix2 r n) = col (s r) 1536 (by decide) n :=
  (congrFun (pay21_eq _ _ _) _).trans <| (pay12_at _ _ _ r n).trans (mix_gen v A m5 h5 x5 hA 512 1536 (by decide) r n)
include hA in
theorem low_at (r : Fin 256) (n : Fin 256) : k0_pay26 (F := Ideal) (lowU v A) (lowM m5 h5 x5) (lowE v A) (k0_pay25 (F := Ideal)) (ix2 r n) = col (s r) 2048 (by decide) n :=
  (pay26_at _ _ _ r n).trans (mix_gen v A m5 h5 x5 hA 256 2048 (by decide) r n)

variable {P : Par} {x6 : Vec Ideal S1x1024 .f32} {x7 : Vec Ideal S128x1024 .bf16} {x8 : Vec Ideal S1x1024 .f32} {x9 : Vec Ideal S128x1024 .bf16}
  {x10 x11 x12 : Vec Ideal S1x512 .f32} (hS : Small P x6 x7 x8 x9 x10 x11 x12)
  (arg8 : Memref sig .tc .vmem S1x1024 .f32) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S128x1024 .bf16) (harg11 : arg11.IsWhole)
  (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole)

include hA hS in
theorem lw_of (d : Fin 2) (r : Fin 256) (j : Fin 512) : (lwOf v A m5 h5 x5 (ldG arg8 harg8 x6) (ldD arg9 harg9 x7)) (ix2 r ⟨512 * d.val + j.val, by omega⟩) = rowLw P (s r) d j :=
  lw_row P s (low_at v A m5 h5 x5 hA) (fun d j => (ldG_at _ _ _ _).trans (hS.w0 d j)) (fun k n => (ldD_at _ _ _ _ _).trans (hS.dup k n)) d r j
include hA hS in
theorem a_of (d : Fin 2) (r : Fin 256) (j : Fin 512) : (k0_pay31 (F := Ideal) (alOf v A m5 h5 x5 (ldD arg11 harg11 x9)) (k0_pay30 (F := Ideal) (ldG arg10 harg10 x8))) (ix2 r ⟨512 * d.val + j.val, by omega⟩) = rowA P (s r) d j :=
  a_row P s (low_at v A m5 h5 x5 hA) (fun d j => (ldG_at _ _ _ _).trans (hS.a0 d j)) (fun k n => (ldD_at _ _ _ _ _).trans (hS.iup k n)) d r j
include hA hS in
theorem kk_of (r : Fin 256) (j : Fin 512) : (k0_pay33 (F := Ideal) (headMat (F := Ideal)) (mixK v A m5 h5 x5) (ldV arg12 harg12 x10)) (ix2 r j) = rowKk P (s r) j :=
  kk_row P s pay11_at (mixK_at v A m5 h5 x5 hA) (fun j => (ldV_at _ _ _ _).trans (hS.kk j)) r j
include hA hS in
theorem res15 (r : Fin 256) (n : Fin 512) : k0_pay48 (F := Ideal) (mixR v A m5 h5 x5) (ix3 0 r n) = col (s r) 0 (by decide) n := by
  rw [pay48_at, mixR_at v A m5 h5 x5 hA]
include hA hS in
theorem res16 (r : Fin 256) (n : Fin 512) : k0_pay49 (F := Ideal) (mixV v A m5 h5 x5) (ix3 0 r n) = col (s r) 1024 (by decide) n := by
  rw [pay49_at, mixV_at v A m5 h5 x5 hA]
include hA hS in
theorem res17 (r : Fin 256) (n : Fin 512) : k0_pay50 (F := Ideal) (k0_pay33 (F := Ideal) (headMat (F := Ideal)) (mixK v A m5 h5 x5) (ldV arg12 harg12 x10)) (ix3 0 r n) = -(rowKk P (s r) n) := by
  rw [pay50_at, kk_of v A m5 h5 x5 hA hS arg12 harg12]
include hA hS in
theorem res18_0 (r : Fin 256) (n : Fin 512) : k0_pay39 (F := Ideal) (k0_pay38 (F := Ideal) (lwOf v A m5 h5 x5 (ldG arg8 harg8 x6) (ldD arg9 harg9 x7))) (ix4 0 0 r n) = rowLw P (s r) 0 n := by
  refine (pay39_at _ r n).trans (Eq.trans ?_ (lw_of v A m5 h5 x5 hA hS arg8 harg8 arg9 harg9 0 r n))
  exact congrArg (fun q => (lwOf v A m5 h5 x5 (ldG arg8 harg8 x6) (ldD arg9 harg9 x7)) (ix2 r q)) (show (⟨n.val, by omega⟩ : Fin 1024) = ⟨512 * (0 : Fin 2).val + n.val, by omega⟩ from Fin.ext (by show n.val = 512 * 0 + n.val; omega))
include hA hS in
theorem res18_1 (r : Fin 256) (n : Fin 512) : k0_pay45 (F := Ideal) (lwOf v A m5 h5 x5 (ldG arg8 harg8 x6) (ldD arg9 harg9 x7)) (ix4 0 0 r n) = rowLw P (s r) 1 n := by
  refine (pay45_at _ r n).trans (Eq.trans ?_ (lw_of v A m5 h5 x5 hA hS arg8 harg8 arg9 harg9 1 r n))
  exact congrArg (fun q => (lwOf v A m5 h5 x5 (ldG arg8 harg8 x6) (ldD arg9 harg9 x7)) (ix2 r q)) (show (⟨512 + n.val, by omega⟩ : Fin 1024) = ⟨512 * (1 : Fin 2).val + n.val, by omega⟩ from Fin.ext (by show 512 + n.val = 512 * 1 + n.val; omega))
include hA hS in
theorem res19_0 (r : Fin 256) (n : Fin 512) : k0_pay40 (F := Ideal) (k0_pay36 (F := Ideal) (mixK v A m5 h5 x5) (alOf v A m5 h5 x5 (ldD arg11 harg11 x9)) (k0_pay30 (F := Ideal) (ldG arg10 harg10 x8)) (ldV arg13 harg13 x11)) (ix4 0 0 r n) = rowKd P (s r) 0 n := by
  exact (pay40_at _ r n).trans (kd0_row P s (mixK_at v A m5 h5 x5 hA) (a_of v A m5 h5 x5 hA hS arg10 harg10 arg11 harg11) (fun j => (ldV_at arg13 harg13 x11 j).trans (hS.ka j)) r n)
include hA hS in
theorem res19_1 (r : Fin 256) (n : Fin 512) : k0_pay46 (F := Ideal) (mixK v A m5 h5 x5) (k0_pay31 (F := Ideal) (alOf v A m5 h5 x5 (ldD arg11 harg11 x9)) (k0_pay30 (F := Ideal) (ldG arg10 harg10 x8))) (k0_pay34 (F := Ideal) (ldV arg13 harg13 x11)) (ix4 0 0 r n) = rowKd P (s r) 1 n := by
  exact (pay46_at _ _ _ r n).trans (kd1_row P s (mixK_at v A m5 h5 x5 hA) (a_of v A m5 h5 x5 hA hS arg10 harg10 arg11 harg11) (fun j => (ldV_at arg13 harg13 x11 j).trans (hS.ka j)) r n)
include hA hS in
theorem res20_0 (r : Fin 256) (n : Fin 512) : k0_pay41 (F := Ideal) (k0_pay33 (F := Ideal) (headMat (F := Ideal)) (mixK v A m5 h5 x5) (ldV arg12 harg12 x10)) (k0_pay35 (F := Ideal) (alOf v A m5 h5 x5 (ldD arg11 harg11 x9)) (k0_pay30 (F := Ideal) (ldG arg10 harg10 x8))) (ix4 0 0 r n) = rowBb P (s r) 0 n := by
  refine (pay41_at _ _ _ r n).trans (congrArg₂ (fun x y : EReal => x * y) (kk_of v A m5 h5 x5 hA hS arg12 harg12 r n) (Eq.trans ?_ (a_of v A m5 h5 x5 hA hS arg10 harg10 arg11 harg11 0 r n)))
  exact congrArg (fun q => (k0_pay31 (F := Ideal) (alOf v A m5 h5 x5 (ldD arg11 harg11 x9)) (k0_pay30 (F := Ideal) (ldG arg10 harg10 x8))) (ix2 r q)) (show (⟨n.val, by omega⟩ : Fin 1024) = ⟨512 * (0 : Fin 2).val + n.val, by omega⟩ from Fin.ext (by show n.val = 512 * 0 + n.val; omega))
include hA hS in
theorem res20_1 (r : Fin 256) (n : Fin 512) : k0_pay47 (F := Ideal) (k0_pay31 (F := Ideal) (alOf v A m5 h5 x5 (ldD arg11 harg11 x9)) (k0_pay30 (F := Ideal) (ldG arg10 harg10 x8))) (k0_pay33 (F := Ideal) (headMat (F := Ideal)) (mixK v A m5 h5 x5) (ldV arg12 harg12 x10)) (ix4 0 0 r n) = rowBb P (s r) 1 n := by
  refine (pay47_at _ _ r n).trans (congrArg₂ (fun x y : EReal => x * y) (kk_of v A m5 h5 x5 hA hS arg12 harg12 r n) (Eq.trans ?_ (a_of v A m5 h5 x5 hA hS arg10 harg10 arg11 harg11 1 r n)))
  exact congrArg (fun q => (k0_pay31 (F := Ideal) (alOf v A m5 h5 x5 (ldD arg11 harg11 x9)) (k0_pay30 (F := Ideal) (ldG arg10 harg10 x8))) (ix2 r q)) (show (⟨512 + n.val, by omega⟩ : Fin 1024) = ⟨512 * (1 : Fin 2).val + n.val, by omega⟩ from Fin.ext (by show 512 + n.val = 512 * 1 + n.val; omega))
include hA hS in
theorem res21 (r : Fin 256) (n : Fin 512) : k0_pay51 (F := Ideal) (headMat (F := Ideal)) (mixR v A m5 h5 x5) (mixV v A m5 h5 x5) (k0_pay44 (F := Ideal) (mixK v A m5 h5 x5) (k0_pay31 (F := Ideal) (alOf v A m5 h5 x5 (ldD arg11 harg11 x9)) (k0_pay30 (F := Ideal) (ldG arg10 harg10 x8))) (k0_pay34 (F := Ideal) (ldV arg13 harg13 x11)) (k0_pay37 (F := Ideal) (mixK v A m5 h5 x5) (alOf v A m5 h5 x5 (ldD arg11 harg11 x9)) (k0_pay30 (F := Ideal) (ldG arg10 harg10 x8)) (ldV arg13 harg13 x11))) (ldV arg14 harg14 x12) (ix3 0 r n) = rowBonus P (s r) n := by
  exact bonus_row P s pay11_at (mixK_at v A m5 h5 x5 hA) (a_of v A m5 h5 x5 hA hS arg10 harg10 arg11 harg11) (fun j => (ldV_at arg13 harg13 x11 j).trans (hS.ka j)) (mixR_at v A m5 h5 x5 hA) (mixV_at v A m5 h5 x5 hA) (fun j => (ldV_at arg14 harg14 x12 j).trans (hS.rk j)) r n
include hA hS in
theorem res22 (r : Fin 256) (n : Fin 512) : k0_pay52 (F := Ideal) (mixZ v A m5 h5 x5) (ix3 0 r n) = rowGz (s r) n := by
  rw [pay52_at, mixZ_at v A m5 h5 x5 hA]
  rfl

end Made

end Cert.Proj

end
-- ==== Proof.ProjPoint.lean ====
/- What each grid point of the projection stores of its other outputs. -/
module

public import proofs.«01_k».proof.Proof.ProjMade

@[expose] public section

set_option maxRecDepth 16384

noncomputable section

namespace Cert.Proj

open Idealize.ShloMosaic Idealize.ShloMosaic.TcCoe
open Cert.ProjectIdeal Cert.ProjectIdeal.Gen

theorem one3_at (w : FVec Ideal S1x256x512 .f32) (r : Fin 256) (q : Fin 512) : View.canon (one3 w) (ix3 0 r q) = w (ix3 0 r q) := by
  refine canon_here (S := S1x256x512) (off := ![0, 0, 0]) (sz := S1x256x512.size) (inb := inb_S1x256x512_S1x256x512_0_0_0) _ (ix3 (0 : Fin 1) r q) fun a => ?_
  fin_cases a
  · show 0 = 0 + 0; omega
  · show r.val = 0 + r.val; omega
  · show q.val = 0 + q.val; omega
theorem two4_at1 (w0 w1 : FVec Ideal S1x1x256x512 .f32) (r : Fin 256) (q : Fin 512) : View.canon (two4 w0 w1) (ix4 1 0 r q) = w1 (ix4 0 0 r q) := by
  refine canon_here (S := S2x1x256x512) (off := ![1, 0, 0, 0]) (sz := S1x1x256x512.size) (inb := inb_S2x1x256x512_S1x1x256x512_1_0_0_0) _ (ix4 (0 : Fin 1) (0 : Fin 1) r q) fun a => ?_
  fin_cases a
  · show 1 = 1 + 0; omega
  · show 0 = 0 + 0; omega
  · show r.val = 0 + r.val; omega
  · show q.val = 0 + q.val; omega
theorem two4_at0 (w0 w1 : FVec Ideal S1x1x256x512 .f32) (r : Fin 256) (q : Fin 512) : View.canon (two4 w0 w1) (ix4 0 0 r q) = w0 (ix4 0 0 r q) := by
  refine (canon_skip (S := S2x1x256x512) (off := ![1, 0, 0, 0]) (sz := S1x1x256x512.size) (inb := inb_S2x1x256x512_S1x1x256x512_1_0_0_0) _ ⟨0, Or.inl (by show 0 < 1; omega)⟩).trans ?_
  refine canon_here (S := S2x1x256x512) (off := ![0, 0, 0, 0]) (sz := S1x1x256x512.size) (inb := inb_S2x1x256x512_S1x1x256x512_0_0_0_0) _ (ix4 (0 : Fin 1) (0 : Fin 1) r q) fun a => ?_
  fin_cases a
  · show 0 = 0 + 0; omega
  · show 0 = 0 + 0; omega
  · show r.val = 0 + r.val; omega
  · show q.val = 0 + q.val; omega

section Point

variable (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S1x2304 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256x1280 .f32) (harg15 : arg15.IsWhole) (arg16 : Memref sig .tc .vmem S1x256x2048 .bf16) (harg16 : arg16.IsWhole) (arg17 : Memref sig .tc .vmem S1x256x512 .f32) (harg17 : arg17.IsWhole) (arg18 : Memref sig .tc .vmem S1x256x512 .f32) (harg18 : arg18.IsWhole) (arg19 : Memref sig .tc .vmem S1x256x512 .f32) (harg19 : arg19.IsWhole) (arg20 : Memref sig .tc .vmem S2x1x256x512 .f32) (harg20 : arg20.IsWhole) (arg21 : Memref sig .tc .vmem S2x1x256x512 .f32) (harg21 : arg21.IsWhole) (arg22 : Memref sig .tc .vmem S2x1x256x512 .f32) (harg22 : arg22.IsWhole) (arg23 : Memref sig .tc .vmem S1x256x512 .f32) (harg23 : arg23.IsWhole) (arg24 : Memref sig .tc .vmem S1x256x512 .f32) (harg24 : arg24.IsWhole) (arg25 : Memref sig .tc .vmem S288x1024 .bf16) (harg25 : arg25.IsWhole) (arg26 : Memref sig .tc .vmem S288x2304 .f32) (harg26 : arg26.IsWhole)
  (x0 : Vec Ideal S1x256x1024 .f32) (x1 : Vec Ideal S1x16x1024 .f32) (x2 : Vec Ideal S1x16x1024 .f32) (x3 : Vec Ideal S1x1024 .f32) (x4 : Vec Ideal S1024x5632 .bf16) (x5 : Vec Ideal S1x2304 .f32) (x6 : Vec Ideal S1x1024 .f32) (x7 : Vec Ideal S128x1024 .bf16) (x8 : Vec Ideal S1x1024 .f32) (x9 : Vec Ideal S128x1024 .bf16) (x10 : Vec Ideal S1x512 .f32) (x11 : Vec Ideal S1x512 .f32) (x12 : Vec Ideal S1x512 .f32)

/-- The windows' rows, mixed, are the layer's. -/
theorem mixed_pt (v : View sig .tc .vmem S288x1024 .bf16) (x : S2x8192x1024.Idx → EReal) (g : Fin 1024 → EReal) (w : S1024x5632.Idx → EReal) (b : Fin 2) (a : Fin 32)
    (ha : (i 1).val = a.val)
    (h0 : ∀ (r : Fin 256) k, x0 (ix3 0 r k) = x (ix3 b ⟨256 * a.val + r.val, by omega⟩ k))
    (h1 : ∀ (_ : 1 ≤ a.val) k, x1 (ix3 0 15 k) = x (ix3 b ⟨256 * a.val - 1, by omega⟩ k))
    (h2 : ∀ (_ : a.val < 31) k, x2 (ix3 0 0 k) = x (ix3 b ⟨256 * a.val + 256, by omega⟩ k))
    (h3 : ∀ k, x3 (ix2 0 k) = g k) (h4 : ∀ k n, x4 (ix2 k n) = w (ix2 k n)) :
    Mixed (keptOf i arg2 harg2 arg3 harg3 arg4 harg4 arg5 harg5 arg6 harg6 v x0 x1 x2 x3 x4) (fun n => x5 (ix2 0 n))
      (fun r => tokRow x g w (fun n => x5 (ix2 0 n)) b ⟨256 * a.val + r.val, by omega⟩) := by
  intro r n
  have hg : (fun l => ldG arg5 harg5 x3 (ix2 0 l)) = g := funext fun l => (ldG_at _ _ _ l).trans (h3 l)
  have hk := kept_rows v (k0_pay5 (BitVec.ofNat 32 (i 1).val) (ldE arg4 harg4 x2) (ldG arg5 harg5 x3)) (k0_pay1 i (ldE arg3 harg3 x1) (ldG arg5 harg5 x3))
    (hm arg2 harg2 x0 arg5 harg5 x3) (ldW 2304 0 (by decide) arg6 harg6 x4) x g w b a n ?_ ?_ ?_ ?_ r ⟨256 * a.val + r.val, by omega⟩ rfl
  · obtain ⟨k0, k1, k2⟩ := hk
    exact congrFun (congr (congrArg₂ mix k0 k1) k2) (x5 (ix2 0 n))
  · intro k
    refine (ldW_at _ _ _ _ _ _ k n).trans ((h4 k _).trans (congrArg (fun q => w (ix2 k q)) (Fin.ext (Nat.zero_add _))))
  · intro r k
    refine (hm_at _ _ r k).trans ?_
    rw [hg]
    exact congrArg (fun f => nrm f g k) (funext fun l => (ldX_at _ _ _ r l).trans (h0 r l))
  · intro k
    refine (pay1_at i a ha _ _ k).trans ?_
    rw [hg]
    by_cases h : 1 ≤ a.val
    · rw [if_pos h, dif_pos h]
      exact congrArg (fun f => nrm f g k) (funext fun l => (ldE_at _ _ _ 15 l).trans (h1 h l))
    · rw [if_neg h, dif_neg h]
  · intro k
    rw [ha]
    refine (pay5_at a _ _ k).trans ?_
    rw [hg]
    by_cases h : a.val < 31
    · rw [if_pos h, dif_pos h]
      exact congrArg (fun f => nrm f g k) (funext fun l => (ldE_at _ _ _ 0 l).trans (h2 h l))
    · rw [if_neg h, dif_neg h]

variable {s : Fin 256 → Fin 2304 → EReal} (hA : Mixed (keptOf i arg2 harg2 arg3 harg3 arg4 harg4 arg5 harg5 arg6 harg6 arg25.view x0 x1 x2 x3 x4) (fun n => x5 (ix2 0 n)) s)
  {P : Par} (hS : Small P x6 x7 x8 x9 x10 x11 x12)

include hA hS in
theorem out15 (r : Fin 256) (q : Fin 512) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix3 0 r q)
    = col (s r) 0 (by decide) q := by
  refine (congrFun (View.read_writes_junk_eq_canon VO0_15 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.1) _).trans ?_
  rw [stores15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  exact (one3_at _ r q).trans (res15 arg26.view _ arg7 harg7 x5 hA hS r q)

include hA hS in
theorem out16 (r : Fin 256) (q : Fin 512) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix3 0 r q)
    = col (s r) 1024 (by decide) q := by
  refine (congrFun (View.read_writes_junk_eq_canon VO0_16 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.1) _).trans ?_
  rw [stores16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  exact (one3_at _ r q).trans (res16 arg26.view _ arg7 harg7 x5 hA hS r q)

include hA hS in
theorem out17 (r : Fin 256) (q : Fin 512) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix3 0 r q)
    = -(rowKk P (s r) q) := by
  refine (congrFun (View.read_writes_junk_eq_canon VO0_17 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.1) _).trans ?_
  rw [stores17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  exact (one3_at _ r q).trans (res17 arg26.view _ arg7 harg7 x5 hA hS arg12 harg12 r q)

include hA hS in
theorem out18 (d : Fin 2) (r : Fin 256) (q : Fin 512) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix4 d 0 r q)
    = rowLw P (s r) d q := by
  refine (congrFun (View.read_writes_junk_eq_canon VO0_18 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.1) _).trans ?_
  rw [stores18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  match d with
  | ⟨0, _⟩ => exact (two4_at0 _ _ r q).trans (res18_0 arg26.view _ arg7 harg7 x5 hA hS arg8 harg8 arg9 harg9 r q)
  | ⟨1, _⟩ => exact (two4_at1 _ _ r q).trans (res18_1 arg26.view _ arg7 harg7 x5 hA hS arg8 harg8 arg9 harg9 r q)

include hA hS in
theorem out19 (d : Fin 2) (r : Fin 256) (q : Fin 512) : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix4 d 0 r q)
    = rowKd P (s r) d q := by
  refine (congrFun (View.read_writes_junk_eq_canon VO0_19 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.2.1) _).trans ?_
  rw [stores19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  match d with
  | ⟨0, _⟩ => exact (two4_at0 _ _ r q).trans (res19_0 arg26.view _ arg7 harg7 x5 hA hS arg10 harg10 arg11 harg11 arg13 harg13 r q)
  | ⟨1, _⟩ => exact (two4_at1 _ _ r q).trans (res19_1 arg26.view _ arg7 harg7 x5 hA hS arg10 harg10 arg11 harg11 arg13 harg13 r q)

include hA hS in
theorem out20 (d : Fin 2) (r : Fin 256) (q : Fin 512) : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix4 d 0 r q)
    = rowBb P (s r) d q := by
  refine (congrFun (View.read_writes_junk_eq_canon VO0_20 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.2.2.1) _).trans ?_
  rw [stores20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  match d with
  | ⟨0, _⟩ => exact (two4_at0 _ _ r q).trans (res20_0 arg26.view _ arg7 harg7 x5 hA hS arg10 harg10 arg11 harg11 arg12 harg12 r q)
  | ⟨1, _⟩ => exact (two4_at1 _ _ r q).trans (res20_1 arg26.view _ arg7 harg7 x5 hA hS arg10 harg10 arg11 harg11 arg12 harg12 r q)

include hA hS in
theorem out21 (r : Fin 256) (q : Fin 512) : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix3 0 r q)
    = rowBonus P (s r) q := by
  refine (congrFun (View.read_writes_junk_eq_canon VO0_21 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.2.2.2.1) _).trans ?_
  rw [stores21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  exact (one3_at _ r q).trans (res21 arg26.view _ arg7 harg7 x5 hA hS arg10 harg10 arg11 harg11 arg13 harg13 arg14 harg14 r q)

include hA hS in
theorem out22 (r : Fin 256) (q : Fin 512) : out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix3 0 r q)
    = rowGz (s r) q := by
  refine (congrFun (View.read_writes_junk_eq_canon VO0_22 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.2.2.2.2.2.2.2.2.1) _).trans ?_
  rw [stores22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  exact (one3_at _ r q).trans (res22 arg26.view _ arg7 harg7 x5 hA hS r q)

end Point

end Cert.Proj

end
-- ==== Proof.ProjWin.lean ====
/- The projection's input windows at a point, read off the argument arrays. -/
module

public import proofs.«01_k».proof.Proof.ProjSpec
public import proofs.«01_k».proof.Proof.Gen.ProjectIdeal.Frame.Runs
public import Idealize.ShloMosaic.Lib.Pipeline.ValueKit
public import Idealize.ShloMosaic.Lib.WholeRead

@[expose] public section

set_option maxRecDepth 16384

noncomputable section

namespace Cert.Proj

open Idealize.ShloMosaic Idealize.ShloMosaic.TcCoe
open Cert.ProjectIdeal Cert.ProjectIdeal.Gen

variable (m : (ℓ : Loc nD τ sig) → Buf (Elt Ideal) ℓ) (c : Dev nD)

theorem V_norm : V m c main_v28 = shapeCast S1x1024 (m ((c : Thread nD τ).loc main_arg1)) shapeCasts_S1024_S1x1024 := by
  unfold_abbrev_sides
  after_results
  rfl

theorem V_weight : V m c main_v29 = truncf (F := Ideal) .bf16 (m ((c : Thread nD τ).loc main_arg2)) bitsLt_bf16_f32 := by
  unfold_abbrev_sides
  after_results

/-- A point's batch and its tile of rows. -/
def pb (t : Fin cfg0.N) : Fin 2 := ⟨t.val / 32, by have := t.isLt; have e : cfg0.N = 64 := N_0; omega⟩
def pi (t : Fin cfg0.N) : Fin 32 := ⟨t.val % 32, Nat.mod_lt _ (by decide)⟩

/-- The token of row `r` of a tile. -/
def tok (i : Fin 32) (r : Fin 256) : Fin 8192 := ⟨256 * i.val + r.val, by omega⟩

theorem index_x : ∀ t : Fin cfg0.N, win0_0.index t = ![t.val / 32, t.val % 32, 0] :=
  (by decide +kernel : ∀ t : Fin grid0.N, _)
theorem index_g : ∀ t : Fin cfg0.N, win0_3.index t = ![0, 0] ∧ win0_4.index t = ![0, 0] :=
  (by decide +kernel : ∀ t : Fin grid0.N, _)
theorem index_o : ∀ t : Fin cfg0.N, win0_13.index t = ![t.val / 32, t.val % 32, 0] ∧ win0_14.index t = ![t.val / 32, t.val % 32, 0] :=
  (by decide +kernel : ∀ t : Fin grid0.N, _)

theorem iblk_x (t : Fin cfg0.N) (r : Fin 256) (k : Fin 1024) :
    iblk m c 0 t (ix3 0 r k) = m ((c : Thread nD τ).loc main_arg0) (ix3 (pb t) (tok (pi t) r) k) := by
  have h := index_x t
  refine Eq.trans (b := V m c main_arg0 (ix3 (pb t) (tok (pi t) r) k)) ?_ (congrFun (V_main_arg0 m c) _)
  blk_ext [iblk, h, pb, pi, tok]

theorem iblk_g (t : Fin cfg0.N) (k : Fin 1024) :
    iblk m c 3 t (ix2 0 k) = m ((c : Thread nD τ).loc main_arg1) (ix1 k) := by
  have h := (index_g t).1
  refine Eq.trans (b := V m c main_v28 (ix2 0 k)) ?_ ((congrFun (V_norm m c) _).trans ?_)
  · blk_ext [iblk, h]
  · pointwise

theorem iblk_w (t : Fin cfg0.N) (k : Fin 1024) (n : Fin 5632) :
    iblk m c 4 t (ix2 k n) = m ((c : Thread nD τ).loc main_arg2) (ix2 k n) := by
  have h := (index_g t).2
  refine Eq.trans (b := V m c main_v29 (ix2 k n)) ?_ ((congrFun (V_weight m c) _).trans ?_)
  · blk_ext [iblk, h]
  · pointwise

end Cert.Proj

end
-- ==== Proof.ProjWin2.lean ====
/- The projection's further input windows at a point: the rows before and after the tile, and the small weights. -/
module

public import proofs.«01_k».proof.Proof.ProjWin
public import proofs.«01_k».proof.Proof.ProjTok

@[expose] public section

set_option maxRecDepth 16384

noncomputable section

namespace Cert.Proj

open Idealize.ShloMosaic Idealize.ShloMosaic.TcCoe
open Cert.ProjectIdeal Cert.ProjectIdeal.Gen

variable (m : (ℓ : Loc nD τ sig) → Buf (Elt Ideal) ℓ) (c : Dev nD)

theorem V_mu : V m c main_v0 = shapeCast S1x2304 (m ((c : Thread nD τ).loc main_arg3)) shapeCasts_S2304_S1x2304 := by
  unfold_abbrev_sides
  after_results
  rfl
theorem V_w0 : V m c main_v1 = shapeCast S1x1024 (m ((c : Thread nD τ).loc main_arg4)) shapeCasts_S2x512_S1x1024 := by
  unfold_abbrev_sides
  after_results
  rfl
theorem V_a0 : V m c main_v13 = shapeCast S1x1024 (m ((c : Thread nD τ).loc main_arg6)) shapeCasts_S2x512_S1x1024 := by
  unfold_abbrev_sides
  after_results
  rfl
theorem V_kk : V m c main_v25 = shapeCast S1x512 (m ((c : Thread nD τ).loc main_arg8)) shapeCasts_S512_S1x512 := by
  unfold_abbrev_sides
  after_results
  rfl
theorem V_ka : V m c main_v26 = shapeCast S1x512 (m ((c : Thread nD τ).loc main_arg9)) shapeCasts_S512_S1x512 := by
  unfold_abbrev_sides
  after_results
  rfl
theorem V_rk : V m c main_v27 = shapeCast S1x512 (m ((c : Thread nD τ).loc main_arg10)) shapeCasts_S8x64_S1x512 := by
  unfold_abbrev_sides
  after_results
  rfl

/-- The two directions' weights side by side on a diagonal. -/
def blockDiag (D : FVec Ideal S2x64x512 .f32) : FVec Ideal S128x1024 .bf16 :=
  truncf .bf16 (concatenate S128x1024 0 [⟨S64x1024, concatenate S64x1024 1 [⟨S64x512, shapeCast S64x512 (extractStridedSlice S1x64x512 ![0, 0, 0] D slices_S2x64x512_S1x64x512_0_0_0) shapeCasts_S1x64x512_S64x512⟩, ⟨S64x512, broadcastInDim S64x512 ![] bcast_S_S64x512 (constant S_ .f32 0x00000000#32)⟩] concatenates_S64x512_S64x512_S64x1024_d1⟩,
    ⟨S64x1024, concatenate S64x1024 1 [⟨S64x512, broadcastInDim S64x512 ![] bcast_S_S64x512 (constant S_ .f32 0x00000000#32)⟩, ⟨S64x512, shapeCast S64x512 (extractStridedSlice S1x64x512 ![1, 0, 0] D slices_S2x64x512_S1x64x512_1_0_0) shapeCasts_S1x64x512_S64x512⟩] concatenates_S64x512_S64x512_S64x1024_d1⟩] concatenates_S64x1024_S64x1024_S128x1024_d0) bitsLt_bf16_f32

theorem V_dup : V m c main_v12 = blockDiag (m ((c : Thread nD τ).loc main_arg5)) := by
  unfold blockDiag
  unfold_abbrev_sides
  after_results
  rfl
theorem V_iup : V m c main_v24 = blockDiag (m ((c : Thread nD τ).loc main_arg7)) := by
  unfold blockDiag
  unfold_abbrev_sides
  after_results
  rfl

theorem blockDiag_at (D : FVec Ideal S2x64x512 .f32) (k : Fin 128) (n : Fin 1024) :
    blockDiag D (ix2 k n) = diag (fun d r j => D (ix3 d r j)) k n := by
  unfold blockDiag diag
  pointwise
  have hk := k.isLt
  have hn := n.isLt
  by_cases h : k.val < 64 <;> by_cases h' : n.val < 512
  · refine (dif_pos h).trans ((dif_pos h').trans (Eq.trans ?_ (if_pos (by omega)).symm))
    refine congrArg D (congr (congrArg₂ ix3 (Fin.ext ?_) (Fin.ext ?_)) (Fin.ext ?_))
    · show 0 = n.val / 512; omega
    · show k.val = k.val % 64; omega
    · show n.val = n.val % 512; omega
  · rw [dif_pos h, dif_neg h', if_neg (by omega)]
  · rw [dif_neg h, dif_pos h', if_neg (by omega)]
  · refine (dif_neg h).trans ((dif_neg h').trans (Eq.trans ?_ (if_pos (by omega)).symm))
    refine congrArg D (congr (congrArg₂ ix3 (Fin.ext ?_) (Fin.ext ?_)) (Fin.ext ?_))
    · show 1 = n.val / 512; omega
    · show k.val - 64 = k.val % 64; omega
    · show n.val - 512 = n.val % 512; omega

theorem cast_dirs (x : FVec Ideal S2x512 .f32) (n : Fin 1024) :
    shapeCast S1x1024 x shapeCasts_S2x512_S1x1024 (ix2 0 n) = x (ix2 ⟨n.val / 512, by omega⟩ ⟨n.val % 512, Nat.mod_lt _ (by decide)⟩) := by
  pointwise
theorem cast_dirs' (x : FVec Ideal S2x512 .f32) (d : Fin 2) (j : Fin 512) :
    shapeCast S1x1024 x shapeCasts_S2x512_S1x1024 (ix2 0 ⟨512 * d.val + j.val, by omega⟩) = x (ix2 d j) := by
  refine (cast_dirs x _).trans (congrArg x (congrArg₂ ix2 (Fin.ext ?_) (Fin.ext ?_)))
  · show (512 * d.val + j.val) / 512 = d.val; omega
  · show (512 * d.val + j.val) % 512 = j.val; omega
theorem cast_heads (x : FVec Ideal S8x64 .f32) (j : Fin 512) :
    shapeCast S1x512 x shapeCasts_S8x64_S1x512 (ix2 0 j) = x (ix2 ⟨j.val / 64, by omega⟩ ⟨j.val % 64, Nat.mod_lt _ (by decide)⟩) := by
  pointwise

theorem index_p : ∀ t : Fin cfg0.N, win0_1.index t = ![t.val / 32, 16 * (t.val % 32) - 1, 0] ∧ win0_2.index t = ![t.val / 32, min (16 * (t.val % 32 + 1)) 511, 0] :=
  (by decide +kernel : ∀ t : Fin grid0.N, _)
theorem index_s : ∀ t : Fin cfg0.N, win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)
theorem index_q : ∀ t : Fin cfg0.N, win0_15.index t = ![t.val / 32, t.val % 32, 0] ∧ win0_16.index t = ![t.val / 32, t.val % 32, 0] ∧ win0_17.index t = ![t.val / 32, t.val % 32, 0]
    ∧ win0_18.index t = ![0, t.val / 32, t.val % 32, 0] ∧ win0_19.index t = ![0, t.val / 32, t.val % 32, 0] ∧ win0_20.index t = ![0, t.val / 32, t.val % 32, 0]
    ∧ win0_21.index t = ![t.val / 32, t.val % 32, 0] ∧ win0_22.index t = ![t.val / 32, t.val % 32, 0] :=
  (by decide +kernel : ∀ t : Fin grid0.N, _)

/-- The row just before the tile. -/
theorem iblk_prev (t : Fin cfg0.N) (h0 : 1 ≤ t.val % 32) (k : Fin 1024) :
    iblk m c 1 t (ix3 0 15 k) = m ((c : Thread nD τ).loc main_arg0) (ix3 (pb t) ⟨256 * (t.val % 32) - 1, by omega⟩ k) := by
  have h := (index_p t).1
  refine Eq.trans (b := V m c main_arg0 (ix3 (pb t) ⟨256 * (t.val % 32) - 1, by omega⟩ k)) ?_ (congrFun (V_main_arg0 m c) _)
  blk_ext [iblk, h, pb]

/-- The row just after it. -/
theorem iblk_next (t : Fin cfg0.N) (h0 : t.val % 32 < 31) (k : Fin 1024) :
    iblk m c 2 t (ix3 0 0 k) = m ((c : Thread nD τ).loc main_arg0) (ix3 (pb t) ⟨256 * (t.val % 32) + 256, by omega⟩ k) := by
  have h := (index_p t).2
  refine Eq.trans (b := V m c main_arg0 (ix3 (pb t) ⟨256 * (t.val % 32) + 256, by omega⟩ k)) ?_ (congrFun (V_main_arg0 m c) _)
  blk_ext [iblk, h, pb]

theorem iblk_mu (t : Fin cfg0.N) (n : Fin 2304) : iblk m c 5 t (ix2 0 n) = m ((c : Thread nD τ).loc main_arg3) (ix1 n) := by
  have h := (index_s t).1
  refine Eq.trans (b := V m c main_v0 (ix2 0 n)) ?_ ((congrFun (V_mu m c) _).trans ?_)
  · blk_ext [iblk, h]
  · pointwise
theorem iblk_w0 (t : Fin cfg0.N) (d : Fin 2) (j : Fin 512) : iblk m c 6 t (ix2 0 ⟨512 * d.val + j.val, by omega⟩) = m ((c : Thread nD τ).loc main_arg4) (ix2 d j) := by
  have h := (index_s t).2.1
  refine Eq.trans (b := V m c main_v1 (ix2 0 ⟨512 * d.val + j.val, by omega⟩)) ?_ ((congrFun (V_w0 m c) _).trans ?_)
  · blk_ext [iblk, h]
  · exact cast_dirs' _ d j
theorem iblk_dup (t : Fin cfg0.N) (k : Fin 128) (n : Fin 1024) : iblk m c 7 t (ix2 k n) = diag (fun d r j => m ((c : Thread nD τ).loc main_arg5) (ix3 d r j)) k n := by
  have h := (index_s t).2.2.1
  refine Eq.trans (b := V m c main_v12 (ix2 k n)) ?_ ((congrFun (V_dup m c) _).trans (blockDiag_at _ k n))
  blk_ext [iblk, h]
theorem iblk_a0 (t : Fin cfg0.N) (d : Fin 2) (j : Fin 512) : iblk m c 8 t (ix2 0 ⟨512 * d.val + j.val, by omega⟩) = m ((c : Thread nD τ).loc main_arg6) (ix2 d j) := by
  have h := (index_s t).2.2.2.1
  refine Eq.trans (b := V m c main_v13 (ix2 0 ⟨512 * d.val + j.val, by omega⟩)) ?_ ((congrFun (V_a0 m c) _).trans ?_)
  · blk_ext [iblk, h]
  · exact cast_dirs' _ d j
theorem iblk_iup (t : Fin cfg0.N) (k : Fin 128) (n : Fin 1024) : iblk m c 9 t (ix2 k n) = diag (fun d r j => m ((c : Thread nD τ).loc main_arg7) (ix3 d r j)) k n := by
  have h := (index_s t).2.2.2.2.1
  refine Eq.trans (b := V m c main_v24 (ix2 k n)) ?_ ((congrFun (V_iup m c) _).trans (blockDiag_at _ k n))
  blk_ext [iblk, h]
theorem iblk_kk (t : Fin cfg0.N) (j : Fin 512) : iblk m c 10 t (ix2 0 j) = m ((c : Thread nD τ).loc main_arg8) (ix1 j) := by
  have h := (index_s t).2.2.2.2.2.1
  refine Eq.trans (b := V m c main_v25 (ix2 0 j)) ?_ ((congrFun (V_kk m c) _).trans ?_)
  · blk_ext [iblk, h]
  · pointwise
theorem iblk_ka (t : Fin cfg0.N) (j : Fin 512) : iblk m c 11 t (ix2 0 j) = m ((c : Thread nD τ).loc main_arg9) (ix1 j) := by
  have h := (index_s t).2.2.2.2.2.2.1
  refine Eq.trans (b := V m c main_v26 (ix2 0 j)) ?_ ((congrFun (V_ka m c) _).trans ?_)
  · blk_ext [iblk, h]
  · pointwise
theorem iblk_rk (t : Fin cfg0.N) (j : Fin 512) : iblk m c 12 t (ix2 0 j) = m ((c : Thread nD τ).loc main_arg10) (ix2 ⟨j.val / 64, by omega⟩ ⟨j.val % 64, Nat.mod_lt _ (by decide)⟩) := by
  have h := (index_s t).2.2.2.2.2.2.2
  refine Eq.trans (b := V m c main_v27 (ix2 0 j)) ?_ ((congrFun (V_rk m c) _).trans ?_)
  · blk_ext [iblk, h]
  · exact cast_heads _ j

end Cert.Proj

end
-- ==== Proof.ProjArrays.lean ====
/- The kernel's other results of the projection, over the whole arrays. -/
module

public import proofs.«01_k».proof.Proof.ProjPoint
public import proofs.«01_k».proof.Proof.ProjWin
public import proofs.«01_k».proof.Proof.ProjWin2
public import proofs.«01_k».proof.Proof.Gen.ProjectIdeal.Value

@[expose] public section

set_option maxRecDepth 16384

noncomputable section

namespace Cert.Proj

open Idealize.ShloMosaic Idealize.ShloMosaic.TcCoe Idealize.SL.Sem
open Cert.ProjectIdeal Cert.ProjectIdeal.Gen

variable (m : (ℓ : Loc nD τ sig) → Buf (Elt Ideal) ℓ) (c : Dev nD)

/-- The layer's row of each token, and its weights, of the arguments. -/
def rowOf (b : Fin 2) (t : Fin 8192) : Fin 2304 → EReal :=
  tokRow (m ((c : Thread nD τ).loc main_arg0)) (fun k => m ((c : Thread nD τ).loc main_arg1) (ix1 k)) (m ((c : Thread nD τ).loc main_arg2)) (fun n => m ((c : Thread nD τ).loc main_arg3) (ix1 n)) b t
def parsOf : Par :=
  parOf (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

def O15 : (⟨3, ![2, 8192, 512]⟩ : Shape).Idx → EReal := lay3 fun b t j => col (rowOf m c b t) 0 (by decide) j
def O16 : (⟨3, ![2, 8192, 512]⟩ : Shape).Idx → EReal := lay3 fun b t j => col (rowOf m c b t) 1024 (by decide) j
def O17 : (⟨3, ![2, 8192, 512]⟩ : Shape).Idx → EReal := lay3 fun b t j => -(rowKk (parsOf m c) (rowOf m c b t) j)
def O18 : (⟨4, ![2, 2, 8192, 512]⟩ : Shape).Idx → EReal := lay4 fun d b t j => rowLw (parsOf m c) (rowOf m c b t) d j
def O19 : (⟨4, ![2, 2, 8192, 512]⟩ : Shape).Idx → EReal := lay4 fun d b t j => rowKd (parsOf m c) (rowOf m c b t) d j
def O20 : (⟨4, ![2, 2, 8192, 512]⟩ : Shape).Idx → EReal := lay4 fun d b t j => rowBb (parsOf m c) (rowOf m c b t) d j
def O21 : (⟨3, ![2, 8192, 512]⟩ : Shape).Idx → EReal := lay3 fun b t j => rowBonus (parsOf m c) (rowOf m c b t) j
def O22 : (⟨3, ![2, 8192, 512]⟩ : Shape).Idx → EReal := lay3 fun b t j => rowGz (rowOf m c b t) j

theorem coord_i : ∀ t : Fin cfg0.N, (grid0.coords t 1).val = t.val % 32 :=
  (by decide +kernel : ∀ t : Fin grid0.N, _)

theorem mixed0 (t : Fin cfg0.N) : Mixed (keptOf (grid0.coords t) (ms0_0 t) (hs0_0 t) (ms0_1 t) (hs0_1 t) (ms0_2 t) (hs0_2 t) (ms0_3 t) (hs0_3 t) (ms0_4 t) (hs0_4 t) scM0_0.view (iblk m c 0 t) (iblk m c 1 t) (iblk m c 2 t) (iblk m c 3 t) (iblk m c 4 t))
    (fun n => iblk m c 5 t (ix2 0 n)) (fun r => rowOf m c (pb t) (tok (pi t) r)) := by
  have h := mixed_pt (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t) scM0_0.view
    (m ((c : Thread nD τ).loc main_arg0)) (fun k => m ((c : Thread nD τ).loc main_arg1) (ix1 k)) (m ((c : Thread nD τ).loc main_arg2)) (pb t) (pi t) (coord_i t)
    (fun r k => iblk_x m c t r k) (fun h k => iblk_prev m c t h k) (fun h k => iblk_next m c t h k) (fun k => iblk_g m c t k) (fun k n => iblk_w m c t k n)
  have e : (fun n => iblk m c 5 t (ix2 0 n)) = fun n => m ((c : Thread nD τ).loc main_arg3) (ix1 n) := funext fun n => iblk_mu m c t n
  intro r n
  refine (h r n).trans ?_
  exact congrArg (fun mu => tokRow (m ((c : Thread nD τ).loc main_arg0)) (fun k => m ((c : Thread nD τ).loc main_arg1) (ix1 k)) (m ((c : Thread nD τ).loc main_arg2)) mu (pb t) (tok (pi t) r) n) e

theorem small0 (t : Fin cfg0.N) : Small (parsOf m c) (iblk m c 6 t) (iblk m c 7 t) (iblk m c 8 t) (iblk m c 9 t) (iblk m c 10 t) (iblk m c 11 t) (iblk m c 12 t) :=
  ⟨iblk_w0 m c t, iblk_dup m c t, iblk_a0 m c t, iblk_iup m c t, iblk_kk m c t, iblk_ka m c t, iblk_rk m c t⟩

theorem at15 (t : Fin cfg0.N) (r : Fin 256) (q : Fin 512) :
    (outsAt0 m c t).2.2.1 (ix3 0 r q) = O15 m c (ix3 (pb t) (tok (pi t) r) q) := by
  have e : (outsAt0 m c t).2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (mixed0 m c t) (small0 m c t) r q
  exact (congrFun e _).trans e'

theorem arr15 : (dats m 0 c).arrAt 15 cfg0.N = O15 m c := by
  refine (dats m 0 c).arrAt_eq_of_covers 15 _ (by decide +kernel) fun t hf y => ?_
  blk_simp
  rw [after0_15]
  have e : y = ix3 (0 : Fin 1) (y 1) (y 2) := by
    funext a
    fin_cases a
    exacts [Subsingleton.elim (α := Fin 1) _ _, rfl, rfl]
  refine (congrArg _ e).trans ((at15 m c t (y 1) (y 2)).trans (congrArg (O15 m c) ?_))
  have h := (index_q t).1
  have h0 : (y 0).val < 1 := (y 0).isLt
  funext a
  apply Fin.ext
  fin_cases a
  · blk_simp [h]; rfl
  · blk_simp [h]; exact congrArg (· + (y 1).val) (Nat.mul_comm 256 (t.val % 32))
  · blk_simp [h]; rfl

theorem at16 (t : Fin cfg0.N) (r : Fin 256) (q : Fin 512) :
    (outsAt0 m c t).2.2.2.1 (ix3 0 r q) = O16 m c (ix3 (pb t) (tok (pi t) r) q) := by
  have e : (outsAt0 m c t).2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (mixed0 m c t) (small0 m c t) r q
  exact (congrFun e _).trans e'

theorem arr16 : (dats m 0 c).arrAt 16 cfg0.N = O16 m c := by
  refine (dats m 0 c).arrAt_eq_of_covers 16 _ (by decide +kernel) fun t hf y => ?_
  blk_simp
  rw [after0_16]
  have e : y = ix3 (0 : Fin 1) (y 1) (y 2) := by
    funext a
    fin_cases a
    exacts [Subsingleton.elim (α := Fin 1) _ _, rfl, rfl]
  refine (congrArg _ e).trans ((at16 m c t (y 1) (y 2)).trans (congrArg (O16 m c) ?_))
  have h := (index_q t).2.1
  have h0 : (y 0).val < 1 := (y 0).isLt
  funext a
  apply Fin.ext
  fin_cases a
  · blk_simp [h]; rfl
  · blk_simp [h]; exact congrArg (· + (y 1).val) (Nat.mul_comm 256 (t.val % 32))
  · blk_simp [h]; rfl

theorem at17 (t : Fin cfg0.N) (r : Fin 256) (q : Fin 512) :
    (outsAt0 m c t).2.2.2.2.1 (ix3 0 r q) = O17 m c (ix3 (pb t) (tok (pi t) r) q) := by
  have e : (outsAt0 m c t).2.2.2.2.1 = out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (mixed0 m c t) (small0 m c t) r q
  exact (congrFun e _).trans e'

theorem arr17 : (dats m 0 c).arrAt 17 cfg0.N = O17 m c := by
  refine (dats m 0 c).arrAt_eq_of_covers 17 _ (by decide +kernel) fun t hf y => ?_
  blk_simp
  rw [after0_17]
  have e : y = ix3 (0 : Fin 1) (y 1) (y 2) := by
    funext a
    fin_cases a
    exacts [Subsingleton.elim (α := Fin 1) _ _, rfl, rfl]
  refine (congrArg _ e).trans ((at17 m c t (y 1) (y 2)).trans (congrArg (O17 m c) ?_))
  have h := (index_q t).2.2.1
  have h0 : (y 0).val < 1 := (y 0).isLt
  funext a
  apply Fin.ext
  fin_cases a
  · blk_simp [h]; rfl
  · blk_simp [h]; exact congrArg (· + (y 1).val) (Nat.mul_comm 256 (t.val % 32))
  · blk_simp [h]; rfl

theorem at18 (t : Fin cfg0.N) (d : Fin 2) (r : Fin 256) (q : Fin 512) :
    (outsAt0 m c t).2.2.2.2.2.1 (ix4 d 0 r q) = O18 m c (ix4 d (pb t) (tok (pi t) r) q) := by
  have e : (outsAt0 m c t).2.2.2.2.2.1 = out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (mixed0 m c t) (small0 m c t) d r q
  exact (congrFun e _).trans e'

theorem arr18 : (dats m 0 c).arrAt 18 cfg0.N = O18 m c := by
  refine (dats m 0 c).arrAt_eq_of_covers 18 _ (by decide +kernel) fun t hf y => ?_
  blk_simp
  rw [after0_18]
  have e : y = ix4 (y 0) (0 : Fin 1) (y 2) (y 3) := by
    funext a
    fin_cases a
    exacts [rfl, Subsingleton.elim (α := Fin 1) _ _, rfl, rfl]
  refine (congrArg _ e).trans ((at18 m c t (y 0) (y 2) (y 3)).trans (congrArg (O18 m c) ?_))
  have h := (index_q t).2.2.2.1
  have h0 : (y 1).val < 1 := (y 1).isLt
  funext a
  apply Fin.ext
  fin_cases a
  · blk_simp [h]; rfl
  · blk_simp [h]; rfl
  · blk_simp [h]; exact congrArg (· + (y 2).val) (Nat.mul_comm 256 (t.val % 32))
  · blk_simp [h]; rfl

theorem at19 (t : Fin cfg0.N) (d : Fin 2) (r : Fin 256) (q : Fin 512) :
    (outsAt0 m c t).2.2.2.2.2.2.1 (ix4 d 0 r q) = O19 m c (ix4 d (pb t) (tok (pi t) r) q) := by
  have e : (outsAt0 m c t).2.2.2.2.2.2.1 = out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (mixed0 m c t) (small0 m c t) d r q
  exact (congrFun e _).trans e'

theorem arr19 : (dats m 0 c).arrAt 19 cfg0.N = O19 m c := by
  refine (dats m 0 c).arrAt_eq_of_covers 19 _ (by decide +kernel) fun t hf y => ?_
  blk_simp
  rw [after0_19]
  have e : y = ix4 (y 0) (0 : Fin 1) (y 2) (y 3) := by
    funext a
    fin_cases a
    exacts [rfl, Subsingleton.elim (α := Fin 1) _ _, rfl, rfl]
  refine (congrArg _ e).trans ((at19 m c t (y 0) (y 2) (y 3)).trans (congrArg (O19 m c) ?_))
  have h := (index_q t).2.2.2.2.1
  have h0 : (y 1).val < 1 := (y 1).isLt
  funext a
  apply Fin.ext
  fin_cases a
  · blk_simp [h]; rfl
  · blk_simp [h]; rfl
  · blk_simp [h]; exact congrArg (· + (y 2).val) (Nat.mul_comm 256 (t.val % 32))
  · blk_simp [h]; rfl

theorem at20 (t : Fin cfg0.N) (d : Fin 2) (r : Fin 256) (q : Fin 512) :
    (outsAt0 m c t).2.2.2.2.2.2.2.1 (ix4 d 0 r q) = O20 m c (ix4 d (pb t) (tok (pi t) r) q) := by
  have e : (outsAt0 m c t).2.2.2.2.2.2.2.1 = out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (mixed0 m c t) (small0 m c t) d r q
  exact (congrFun e _).trans e'

theorem arr20 : (dats m 0 c).arrAt 20 cfg0.N = O20 m c := by
  refine (dats m 0 c).arrAt_eq_of_covers 20 _ (by decide +kernel) fun t hf y => ?_
  blk_simp
  rw [after0_20]
  have e : y = ix4 (y 0) (0 : Fin 1) (y 2) (y 3) := by
    funext a
    fin_cases a
    exacts [rfl, Subsingleton.elim (α := Fin 1) _ _, rfl, rfl]
  refine (congrArg _ e).trans ((at20 m c t (y 0) (y 2) (y 3)).trans (congrArg (O20 m c) ?_))
  have h := (index_q t).2.2.2.2.2.1
  have h0 : (y 1).val < 1 := (y 1).isLt
  funext a
  apply Fin.ext
  fin_cases a
  · blk_simp [h]; rfl
  · blk_simp [h]; rfl
  · blk_simp [h]; exact congrArg (· + (y 2).val) (Nat.mul_comm 256 (t.val % 32))
  · blk_simp [h]; rfl

theorem at21 (t : Fin cfg0.N) (r : Fin 256) (q : Fin 512) :
    (outsAt0 m c t).2.2.2.2.2.2.2.2.1 (ix3 0 r q) = O21 m c (ix3 (pb t) (tok (pi t) r) q) := by
  have e : (outsAt0 m c t).2.2.2.2.2.2.2.2.1 = out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (mixed0 m c t) (small0 m c t) r q
  exact (congrFun e _).trans e'

theorem arr21 : (dats m 0 c).arrAt 21 cfg0.N = O21 m c := by
  refine (dats m 0 c).arrAt_eq_of_covers 21 _ (by decide +kernel) fun t hf y => ?_
  blk_simp
  rw [after0_21]
  have e : y = ix3 (0 : Fin 1) (y 1) (y 2) := by
    funext a
    fin_cases a
    exacts [Subsingleton.elim (α := Fin 1) _ _, rfl, rfl]
  refine (congrArg _ e).trans ((at21 m c t (y 1) (y 2)).trans (congrArg (O21 m c) ?_))
  have h := (index_q t).2.2.2.2.2.2.1
  have h0 : (y 0).val < 1 := (y 0).isLt
  funext a
  apply Fin.ext
  fin_cases a
  · blk_simp [h]; rfl
  · blk_simp [h]; exact congrArg (· + (y 1).val) (Nat.mul_comm 256 (t.val % 32))
  · blk_simp [h]; rfl

theorem at22 (t : Fin cfg0.N) (r : Fin 256) (q : Fin 512) :
    (outsAt0 m c t).2.2.2.2.2.2.2.2.2 (ix3 0 r q) = O22 m c (ix3 (pb t) (tok (pi t) r) q) := by
  have e : (outsAt0 m c t).2.2.2.2.2.2.2.2.2 = out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (mixed0 m c t) (small0 m c t) r q
  exact (congrFun e _).trans e'

theorem arr22 : (dats m 0 c).arrAt 22 cfg0.N = O22 m c := by
  refine (dats m 0 c).arrAt_eq_of_covers 22 _ (by decide +kernel) fun t hf y => ?_
  blk_simp
  rw [after0_22]
  have e : y = ix3 (0 : Fin 1) (y 1) (y 2) := by
    funext a
    fin_cases a
    exacts [Subsingleton.elim (α := Fin 1) _ _, rfl, rfl]
  refine (congrArg _ e).trans ((at22 m c t (y 1) (y 2)).trans (congrArg (O22 m c) ?_))
  have h := (index_q t).2.2.2.2.2.2.2
  have h0 : (y 0).val < 1 := (y 0).isLt
  funext a
  apply Fin.ext
  fin_cases a
  · blk_simp [h]; rfl
  · blk_simp [h]; exact congrArg (· + (y 1).val) (Nat.mul_comm 256 (t.val % 32))
  · blk_simp [h]; rfl

end Cert.Proj

end
-- ==== Proof.ProjRef.lean ====
/- The reference's two results are the projection. -/
module

public import proofs.«01_k».proof.Proof.ProjSpec
public import proofs.«01_k».proof.Proof.Gen.ProjectedIdeal.Run

@[expose] public section

noncomputable section

namespace Cert.Proj

open Idealize.ShloMosaic Idealize.ShloMosaic.TcCoe
open Cert.ProjectedIdeal Cert.ProjectedIdeal.Gen

/-- The sum of a row's squares. -/
theorem sq_at (x : FVec Ideal S2x8192x1024 .f32) (b : Fin 2) (t : Fin 8192) :
    Host.reduceAdd (mulf x x) (constant S_ .f32 0x00000000#32) reducesTo_S2x8192x1024_S2x8192_d2 h_S_ (ix2 b t)
      = (∑ l : Fin 1024, x (ix3 b t l) * x (ix3 b t l) : EReal) := by
  pointwise

/-- The scale off it. -/
theorem scale_at (s : FVec Ideal S2x8192 .f32) (b : Fin 2) (t : Fin 8192) :
    (Host.rsqrt (addf (Host.divf (broadcastInDim S2x8192x1 ![0, 1] bcast_S2x8192_S2x8192x1_0_1 s) (broadcastInDim S2x8192x1 ![] bcast_S_S2x8192x1 (constant S_ .f32 0x44800000#32))) (broadcastInDim S2x8192x1 ![] bcast_S_S2x8192x1 (constant S_ .f32 0x358637BD#32))) : FVec Ideal S2x8192x1 .f32) (ix3 b t 0)
      = scale (s (ix2 b t)) := by
  unfold scale
  pointwise

theorem nrm_at (x : FVec Ideal S2x8192x1024 .f32) (s : FVec Ideal S2x8192x1 .f32) (g : FVec Ideal S1024 .f32) (b : Fin 2) (t : Fin 8192) (k : Fin 1024) :
    (mulf (mulf x (broadcastInDim S2x8192x1024 ![0, 1, 2] bcast_S2x8192x1_S2x8192x1024_0_1_2 s)) (broadcastInDim S2x8192x1024 ![0, 1, 2] bcast_S1x1x1024_S2x8192x1024_0_1_2 (broadcastInDim S1x1x1024 ![2] bcast_S1024_S1x1x1024_2 g)) : FVec Ideal S2x8192x1024 .f32) (ix3 b t k)
      = (x (ix3 b t k) * s (ix3 b t 0) * g (ix1 k) : EReal) := by
  pointwise

theorem dot_at (h : FVec Ideal S2x8192x1024 .f32) (w : FVec Ideal S1024x5632 .f32) (b : Fin 2) (t : Fin 8192) (n : Fin 5632) :
    Host.dotGeneral dot_S2x8192x1024_S1024x5632_S2x8192x5632_2_0_01_1_n_n none h w (ix3 b t n)
      = (∑ k : Fin 1024, h (ix3 b t k) * w (ix2 k n) : EReal) := by
  pointwise

/-- The projection of every token, as the reference computes it. -/
def refU (x : FVec Ideal S2x8192x1024 .f32) (g : FVec Ideal S1024 .f32) (w : FVec Ideal S1024x5632 .f32) : FVec Ideal S2x8192x5632 .f32 :=
  Host.dotGeneral dot_S2x8192x1024_S1024x5632_S2x8192x5632_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) w

theorem refU_at (x : FVec Ideal S2x8192x1024 .f32) (g : FVec Ideal S1024 .f32) (w : FVec Ideal S1024x5632 .f32) (b : Fin 2) (t : Fin 8192) (n : Fin 5632) :
    refU x g w (ix3 b t n) = proj (fun k => x (ix3 b t k)) (fun k => g (ix1 k)) (fun k => w (ix2 k n)) := by
  refine (dot_at _ w b t n).trans (Finset.sum_congr rfl fun k _ => congrArg (· * w (ix2 k n)) ?_)
  refine (nrm_at x _ g b t k).trans ?_
  refine congrArg (fun s => x (ix3 b t k) * s * g (ix1 k)) ?_
  exact (scale_at _ b t).trans (congrArg scale (sq_at x b t))

theorem ref14 (x : FVec Ideal S2x8192x1024 .f32) (g : FVec Ideal S1024 .f32) (w : FVec Ideal S1024x5632 .f32) :
    extractStridedSlice S2x8192x1280 ![0, 0, 2304] (refU x g w) slices_S2x8192x5632_S2x8192x1280_0_0_2304
      = projA 1280 2304 (by decide) x (fun k => g (ix1 k)) w := by
  have e : ∀ (u : FVec Ideal S2x8192x5632 .f32) (b : Fin 2) (t : Fin 8192) (n : Fin 1280),
      extractStridedSlice S2x8192x1280 ![0, 0, 2304] u slices_S2x8192x5632_S2x8192x1280_0_0_2304 (ix3 b t n)
        = u (ix3 b t ⟨2304 + n.val, by omega⟩) := fun u b t n => by pointwise
  funext i
  rw [eq_ix3 i]
  exact (e _ _ _ _).trans (refU_at x g w _ _ _)

theorem ref16 (x : FVec Ideal S2x8192x1024 .f32) (g : FVec Ideal S1024 .f32) (w : FVec Ideal S1024x5632 .f32) :
    truncf .bf16 (extractStridedSlice S2x8192x2048 ![0, 0, 3584] (refU x g w) slices_S2x8192x5632_S2x8192x2048_0_0_3584) bitsLt_bf16_f32
      = projA 2048 3584 (by decide) x (fun k => g (ix1 k)) w := by
  have e : ∀ (u : FVec Ideal S2x8192x5632 .f32) (b : Fin 2) (t : Fin 8192) (n : Fin 2048),
      truncf .bf16 (extractStridedSlice S2x8192x2048 ![0, 0, 3584] u slices_S2x8192x5632_S2x8192x2048_0_0_3584) bitsLt_bf16_f32 (ix3 b t n)
        = u (ix3 b t ⟨3584 + n.val, by omega⟩) := fun u b t n => by pointwise
  funext i
  rw [eq_ix3 i]
  exact (e _ _ _ _).trans (refU_at x g w _ _ _)

end Cert.Proj

end
-- ==== Proof.ProjMixRef.lean ====
/- The reference's eight results made from the mixed columns. -/
module

public import proofs.«01_k».proof.Proof.ProjRef
public import proofs.«01_k».proof.Proof.ProjTok

@[expose] public section

set_option maxRecDepth 16384

noncomputable section

namespace Cert.Proj

open Idealize.ShloMosaic Idealize.ShloMosaic.TcCoe
open Cert.ProjectedIdeal Cert.ProjectedIdeal.Gen

/-- The columns that are mixed. -/
def refUA (u : FVec Ideal S2x8192x5632 .f32) : FVec Ideal S2x8192x2304 .f32 := extractStridedSlice S2x8192x2304 ![0, 0, 0] u slices_S2x8192x5632_S2x8192x2304_0_0_0

def refZero : FVec Ideal S2x1x2304 .f32 := broadcastInDim S2x1x2304 ![] bcast_S_S2x1x2304 (constant S_ .f32 0x00000000#32)

/-- Each of them mixed with the mean of its neighbours. -/
def refS (a : FVec Ideal S2x8192x2304 .f32) (mu : FVec Ideal S2304 .f32) : FVec Ideal S2x8192x2304 .f32 :=
  addf a (mulf (broadcastInDim S2x8192x2304 ![0, 1, 2] bcast_S1x1x2304_S2x8192x2304_0_1_2 (broadcastInDim S1x1x2304 ![2] bcast_S2304_S1x1x2304_2 mu)) (subf (mulf (broadcastInDim S2x8192x2304 ![] bcast_S_S2x8192x2304 (constant S_ .f32 0x3F000000#32)) (addf (concatenate S2x8192x2304 1 [⟨S2x1x2304, refZero⟩, ⟨S2x8191x2304, (extractStridedSlice S2x8191x2304 ![0, 0, 0] a slices_S2x8192x2304_S2x8191x2304_0_0_0)⟩] concatenates_S2x1x2304_S2x8191x2304_S2x8192x2304_d1) (concatenate S2x8192x2304 1 [⟨S2x8191x2304, (extractStridedSlice S2x8191x2304 ![0, 1, 0] a slices_S2x8192x2304_S2x8191x2304_0_1_0)⟩, ⟨S2x1x2304, refZero⟩] concatenates_S2x8191x2304_S2x1x2304_S2x8192x2304_d1))) a))

theorem refS_at (a : FVec Ideal S2x8192x2304 .f32) (mu : FVec Ideal S2304 .f32) (b : Fin 2) (t : Fin 8192) (n : Fin 2304) :
    refS a mu (ix3 b t n) = mix (a (ix3 b t n)) (prevOf (fun t => a (ix3 b t n)) t) (nextOf (fun t => a (ix3 b t n)) t) (mu (ix1 n)) := by
  unfold refS mix prevOf nextOf half refZero
  pointwise

/-- The four parts of 512 columns. -/
def refR (S : FVec Ideal S2x8192x2304 .f32) : FVec Ideal S2x8192x512 .f32 := extractStridedSlice S2x8192x512 ![0, 0, 0] S slices_S2x8192x2304_S2x8192x512_0_0_0
theorem refR_at (S : FVec Ideal S2x8192x2304 .f32) (b : Fin 2) (t : Fin 8192) (j : Fin 512) : refR S (ix3 b t j) = col (fun n => S (ix3 b t n)) 0 (by decide) j := by
  unfold refR col
  pointwise
def refK (S : FVec Ideal S2x8192x2304 .f32) : FVec Ideal S2x8192x512 .f32 := extractStridedSlice S2x8192x512 ![0, 0, 512] S slices_S2x8192x2304_S2x8192x512_0_0_512
theorem refK_at (S : FVec Ideal S2x8192x2304 .f32) (b : Fin 2) (t : Fin 8192) (j : Fin 512) : refK S (ix3 b t j) = col (fun n => S (ix3 b t n)) 512 (by decide) j := by
  unfold refK col
  pointwise
def refV (S : FVec Ideal S2x8192x2304 .f32) : FVec Ideal S2x8192x512 .f32 := extractStridedSlice S2x8192x512 ![0, 0, 1024] S slices_S2x8192x2304_S2x8192x512_0_0_1024
theorem refV_at (S : FVec Ideal S2x8192x2304 .f32) (b : Fin 2) (t : Fin 8192) (j : Fin 512) : refV S (ix3 b t j) = col (fun n => S (ix3 b t n)) 1024 (by decide) j := by
  unfold refV col
  pointwise
def refZ (S : FVec Ideal S2x8192x2304 .f32) : FVec Ideal S2x8192x512 .f32 := extractStridedSlice S2x8192x512 ![0, 0, 1536] S slices_S2x8192x2304_S2x8192x512_0_0_1536
theorem refZ_at (S : FVec Ideal S2x8192x2304 .f32) (b : Fin 2) (t : Fin 8192) (j : Fin 512) : refZ S (ix3 b t j) = col (fun n => S (ix3 b t n)) 1536 (by decide) j := by
  unfold refZ col
  pointwise

def refSig (x : FVec Ideal S2x2x8192x512 .f32) : FVec Ideal S2x2x8192x512 .f32 :=
  Host.divf (broadcastInDim S2x2x8192x512 ![] bcast_S_S2x2x8192x512 (constant S_ .f32 0x3F800000#32)) (addf (broadcastInDim S2x2x8192x512 ![] bcast_S_S2x2x8192x512 (constant S_ .f32 0x3F800000#32)) (Host.exp (Host.negf x)))

theorem refSig_at (x : FVec Ideal S2x2x8192x512 .f32) (d b : Fin 2) (t : Fin 8192) (j : Fin 512) : refSig x (ix4 d b t j) = sgm (x (ix4 d b t j)) := by
  unfold refSig sgm
  pointwise

def refUp (l : FVec Ideal S2x8192x2x64 .f32) (w0 : FVec Ideal S2x512 .f32) (D : FVec Ideal S2x64x512 .f32) : FVec Ideal S2x2x8192x512 .f32 :=
  addf (broadcastInDim S2x2x8192x512 ![0, 1, 2, 3] bcast_S2x1x1x512_S2x2x8192x512_0_1_2_3 (broadcastInDim S2x1x1x512 ![0, 3] bcast_S2x512_S2x1x1x512_0_3 w0)) (Host.dotGeneral dot_S2x8192x2x64_S2x64x512_S2x2x8192x512_3_1_01_2_2_0 none l D)

theorem refUp_at (l : FVec Ideal S2x8192x2x64 .f32) (w0 : FVec Ideal S2x512 .f32) (D : FVec Ideal S2x64x512 .f32) (d b : Fin 2) (t : Fin 8192) (j : Fin 512) :
    refUp l w0 D (ix4 d b t j) = (w0 (ix2 d j) + ∑ r : Fin 64, l (ix4 b t d r) * D (ix3 d r j) : EReal) := by
  unfold refUp
  pointwise

def refLow0 (S : FVec Ideal S2x8192x2304 .f32) : FVec Ideal S2x8192x2x64 .f32 := Host.tanh (shapeCast S2x8192x2x64 (extractStridedSlice S2x8192x128 ![0, 0, 2048] S slices_S2x8192x2304_S2x8192x128_0_0_2048) shapeCasts_S2x8192x128_S2x8192x2x64)
def refLow1 (S : FVec Ideal S2x8192x2304 .f32) : FVec Ideal S2x8192x2x64 .f32 := shapeCast S2x8192x2x64 (extractStridedSlice S2x8192x128 ![0, 0, 2176] S slices_S2x8192x2304_S2x8192x128_0_0_2176) shapeCasts_S2x8192x128_S2x8192x2x64

theorem refLow0_at (S : FVec Ideal S2x8192x2304 .f32) (b : Fin 2) (t : Fin 8192) (d : Fin 2) (r : Fin 64) :
    refLow0 S (ix4 b t d r) = Ideal.tanh (S (ix3 b t ⟨2048 + 64 * d.val + r.val, by omega⟩)) := by
  unfold refLow0
  pointwise
  exact congrArg (fun q => Ideal.tanh (S (ix3 b t q))) (Fin.ext (by show 2048 + (d.val * 64 + r.val) = 2048 + 64 * d.val + r.val; omega))
theorem refLow1_at (S : FVec Ideal S2x8192x2304 .f32) (b : Fin 2) (t : Fin 8192) (d : Fin 2) (r : Fin 64) :
    refLow1 S (ix4 b t d r) = S (ix3 b t ⟨2176 + 64 * d.val + r.val, by omega⟩) := by
  unfold refLow1
  pointwise
  exact congrArg (fun q => S (ix3 b t q)) (Fin.ext (by show 2176 + (d.val * 64 + r.val) = 2176 + 64 * d.val + r.val; omega))

def refKd (k : FVec Ideal S2x8192x512 .f32) (A : FVec Ideal S2x2x8192x512 .f32) (ka : FVec Ideal S512 .f32) : FVec Ideal S2x2x8192x512 .f32 :=
  mulf (broadcastInDim S2x2x8192x512 ![0, 1, 2, 3] bcast_S1x2x8192x512_S2x2x8192x512_0_1_2_3 (broadcastInDim S1x2x8192x512 ![1, 2, 3] bcast_S2x8192x512_S1x2x8192x512_1_2_3 k)) (addf (broadcastInDim S2x2x8192x512 ![] bcast_S_S2x2x8192x512 (constant S_ .f32 0x3F800000#32)) (mulf (subf A (broadcastInDim S2x2x8192x512 ![] bcast_S_S2x2x8192x512 (constant S_ .f32 0x3F800000#32))) (broadcastInDim S2x2x8192x512 ![0, 1, 2, 3] bcast_S1x1x1x512_S2x2x8192x512_0_1_2_3 (broadcastInDim S1x1x1x512 ![3] bcast_S512_S1x1x1x512_3 ka))))

theorem refKd_at (k : FVec Ideal S2x8192x512 .f32) (A : FVec Ideal S2x2x8192x512 .f32) (ka : FVec Ideal S512 .f32) (d b : Fin 2) (t : Fin 8192) (j : Fin 512) :
    refKd k A ka (ix4 d b t j) = (k (ix3 b t j) * (1 + (A (ix4 d b t j) - 1) * ka (ix1 j)) : EReal) := by
  unfold refKd
  pointwise

/-- A part's heads. -/
def refHeads (k : FVec Ideal S2x8192x512 .f32) : FVec Ideal S2x8192x8x64 .f32 := shapeCast S2x8192x8x64 k shapeCasts_S2x8192x512_S2x8192x8x64

theorem refHeads_at (k : FVec Ideal S2x8192x512 .f32) (b : Fin 2) (t : Fin 8192) (h : Fin 8) (i : Fin 64) :
    refHeads k (ix4 b t h i) = k (ix3 b t ⟨64 * h.val + i.val, by omega⟩) := by
  unfold refHeads
  pointwise
  exact congrArg (fun q => k (ix3 b t q)) (Fin.ext (by show h.val * 64 + i.val = 64 * h.val + i.val; omega))

def refK0 (k : FVec Ideal S2x8192x512 .f32) (kk : FVec Ideal S512 .f32) : FVec Ideal S2x8192x512 .f32 :=
  mulf k (broadcastInDim S2x8192x512 ![0, 1, 2] bcast_S1x1x512_S2x8192x512_0_1_2 (broadcastInDim S1x1x512 ![2] bcast_S512_S1x1x512_2 kk))

theorem refK0_at (k : FVec Ideal S2x8192x512 .f32) (kk : FVec Ideal S512 .f32) (b : Fin 2) (t : Fin 8192) (j : Fin 512) :
    refK0 k kk (ix3 b t j) = (k (ix3 b t j) * kk (ix1 j) : EReal) := by
  unfold refK0
  pointwise

def refSum (x : FVec Ideal S2x8192x8x64 .f32) : FVec Ideal S2x8192x8x1 .f32 :=
  broadcastInDim S2x8192x8x1 ![0, 1, 2] bcast_S2x8192x8_S2x8192x8x1_0_1_2 (Host.reduceAdd x (constant S_ .f32 0x00000000#32) reducesTo_S2x8192x8x64_S2x8192x8_d3 h_S_)

theorem refSum_at (x : FVec Ideal S2x8192x8x64 .f32) (b : Fin 2) (t : Fin 8192) (h : Fin 8) :
    refSum x (ix4 b t h 0) = (∑ i : Fin 64, x (ix4 b t h i) : EReal) := by
  unfold refSum
  pointwise

/-- Heads normalised. -/
def refNorm (x : FVec Ideal S2x8192x8x64 .f32) (s : FVec Ideal S2x8192x8x1 .f32) : FVec Ideal S2x8192x512 .f32 :=
  shapeCast S2x8192x512 (mulf x (broadcastInDim S2x8192x8x64 ![0, 1, 2, 3] bcast_S2x8192x8x1_S2x8192x8x64_0_1_2_3 (Host.rsqrt (maximumf s (broadcastInDim S2x8192x8x1 ![] bcast_S_S2x8192x8x1 (constant S_ .f32 0x179ABE15#32)))))) shapeCasts_S2x8192x8x64_S2x8192x512

theorem refNorm_at (x : FVec Ideal S2x8192x8x64 .f32) (s : FVec Ideal S2x8192x8x1 .f32) (b : Fin 2) (t : Fin 8192) (j : Fin 512) :
    refNorm x s (ix3 b t j) = (x (ix4 b t ⟨j.val / 64, by omega⟩ ⟨j.val % 64, Nat.mod_lt _ (by decide)⟩) * Ideal.rsqrt (max (s (ix4 b t ⟨j.val / 64, by omega⟩ 0)) floor) : EReal) := by
  unfold refNorm floor
  pointwise

def refNeg (x : FVec Ideal S2x8192x512 .f32) : FVec Ideal S2x8192x512 .f32 := Host.negf x
theorem refNeg_at (x : FVec Ideal S2x8192x512 .f32) (b : Fin 2) (t : Fin 8192) (j : Fin 512) : refNeg x (ix3 b t j) = (-(x (ix3 b t j)) : EReal) := by
  unfold refNeg
  pointwise

def refBb (k : FVec Ideal S2x8192x512 .f32) (A : FVec Ideal S2x2x8192x512 .f32) : FVec Ideal S2x2x8192x512 .f32 :=
  mulf (broadcastInDim S2x2x8192x512 ![0, 1, 2, 3] bcast_S1x2x8192x512_S2x2x8192x512_0_1_2_3 (broadcastInDim S1x2x8192x512 ![1, 2, 3] bcast_S2x8192x512_S1x2x8192x512_1_2_3 k)) A
theorem refBb_at (k : FVec Ideal S2x8192x512 .f32) (A : FVec Ideal S2x2x8192x512 .f32) (d b : Fin 2) (t : Fin 8192) (j : Fin 512) :
    refBb k A (ix4 d b t j) = (k (ix3 b t j) * A (ix4 d b t j) : EReal) := by
  unfold refBb
  pointwise

def refLw (x : FVec Ideal S2x2x8192x512 .f32) : FVec Ideal S2x2x8192x512 .f32 := mulf (broadcastInDim S2x2x8192x512 ![] bcast_S_S2x2x8192x512 (constant S_ .f32 0xBF1B4598#32)) x
theorem refLw_at (x : FVec Ideal S2x2x8192x512 .f32) (d b : Fin 2) (t : Fin 8192) (j : Fin 512) : refLw x (ix4 d b t j) = (dec * x (ix4 d b t j) : EReal) := by
  unfold refLw dec
  pointwise

def refKs (x : FVec Ideal S2x2x8192x512 .f32) : FVec Ideal S2x8192x512 .f32 := Host.reduceAdd x (constant S_ .f32 0x00000000#32) reducesTo_S2x2x8192x512_S2x8192x512_d0 h_S_
theorem refKs_at (x : FVec Ideal S2x2x8192x512 .f32) (b : Fin 2) (t : Fin 8192) (j : Fin 512) : refKs x (ix3 b t j) = (x (ix4 0 b t j) + x (ix4 1 b t j) : EReal) := by
  unfold refKs
  refine Eq.trans (b := (∑ d : Fin 2, x (ix4 d b t j) : EReal)) ?_ (Fin.sum_univ_two _)
  pointwise

def refRk (x y : FVec Ideal S2x8192x8x64 .f32) (rk : FVec Ideal S8x64 .f32) : FVec Ideal S2x8192x8x64 .f32 :=
  mulf (mulf x y) (broadcastInDim S2x8192x8x64 ![0, 1, 2, 3] bcast_S1x1x8x64_S2x8192x8x64_0_1_2_3 (broadcastInDim S1x1x8x64 ![2, 3] bcast_S8x64_S1x1x8x64_2_3 rk))
theorem refRk_at (x y : FVec Ideal S2x8192x8x64 .f32) (rk : FVec Ideal S8x64 .f32) (b : Fin 2) (t : Fin 8192) (h : Fin 8) (i : Fin 64) :
    refRk x y rk (ix4 b t h i) = (x (ix4 b t h i) * y (ix4 b t h i) * rk (ix2 h i) : EReal) := by
  unfold refRk
  pointwise

def refBo (s : FVec Ideal S2x8192x8x1 .f32) (v : FVec Ideal S2x8192x8x64 .f32) : FVec Ideal S2x8192x512 .f32 :=
  shapeCast S2x8192x512 (mulf (broadcastInDim S2x8192x8x64 ![0, 1, 2, 3] bcast_S2x8192x8x1_S2x8192x8x64_0_1_2_3 s) v) shapeCasts_S2x8192x8x64_S2x8192x512
theorem refBo_at (s : FVec Ideal S2x8192x8x1 .f32) (v : FVec Ideal S2x8192x8x64 .f32) (b : Fin 2) (t : Fin 8192) (j : Fin 512) :
    refBo s v (ix3 b t j) = (s (ix4 b t ⟨j.val / 64, by omega⟩ 0) * v (ix4 b t ⟨j.val / 64, by omega⟩ ⟨j.val % 64, Nat.mod_lt _ (by decide)⟩) : EReal) := by
  unfold refBo
  pointwise

def refGz (z : FVec Ideal S2x8192x512 .f32) : FVec Ideal S2x8192x512 .f32 :=
  mulf z (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf z))))
theorem refGz_at (z : FVec Ideal S2x8192x512 .f32) (b : Fin 2) (t : Fin 8192) (j : Fin 512) : refGz z (ix3 b t j) = (z (ix3 b t j) * sgm (z (ix3 b t j)) : EReal) := by
  unfold refGz sgm
  pointwise

theorem refUA_at (u : FVec Ideal S2x8192x5632 .f32) (b : Fin 2) (t : Fin 8192) (n : Fin 2304) : refUA u (ix3 b t n) = u (ix3 b t ⟨n.val, by omega⟩) := by
  unfold refUA
  pointwise

/-- The mixed columns of the reference are the token's row. -/
theorem mixed_at (x : FVec Ideal S2x8192x1024 .f32) (g : FVec Ideal S1024 .f32) (w : FVec Ideal S1024x5632 .f32) (mu : FVec Ideal S2304 .f32) (b : Fin 2) (t : Fin 8192) :
    (fun n => refS (refUA (refU x g w)) mu (ix3 b t n)) = tokRow x (fun k => g (ix1 k)) w (fun n => mu (ix1 n)) b t := by
  funext n
  have e : (fun t => refUA (refU x g w) (ix3 b t n)) = colU x (fun k => g (ix1 k)) w b n := funext fun t => (refUA_at _ b t n).trans (refU_at x g w b t _)
  rw [refS_at, e, show refUA (refU x g w) (ix3 b t n) = colU x (fun k => g (ix1 k)) w b n t from congrFun e t]
  rfl

section Rows

variable (S : FVec Ideal S2x8192x2304 .f32) (w0 : FVec Ideal S2x512 .f32) (dup : FVec Ideal S2x64x512 .f32) (a0 : FVec Ideal S2x512 .f32) (iup : FVec Ideal S2x64x512 .f32)
  (kk ka : FVec Ideal S512 .f32) (rk : FVec Ideal S8x64 .f32) (b : Fin 2) (t : Fin 8192)

theorem lw_at (d : Fin 2) (j : Fin 512) : refLw (refSig (refUp (refLow0 S) w0 dup)) (ix4 d b t j)
    = rowLw (parOf w0 dup a0 iup kk ka rk) (fun n => S (ix3 b t n)) d j := by
  rw [refLw_at, refSig_at, refUp_at]
  simp only [refLow0_at]
  rfl

theorem a_at (d : Fin 2) (j : Fin 512) : refSig (refUp (refLow1 S) a0 iup) (ix4 d b t j)
    = rowA (parOf w0 dup a0 iup kk ka rk) (fun n => S (ix3 b t n)) d j := by
  rw [refSig_at, refUp_at]
  simp only [refLow1_at]
  rfl

theorem kd_at (d : Fin 2) (j : Fin 512) : refKd (refK S) (refSig (refUp (refLow1 S) a0 iup)) ka (ix4 d b t j)
    = rowKd (parOf w0 dup a0 iup kk ka rk) (fun n => S (ix3 b t n)) d j := by
  rw [refKd_at, a_at S w0 dup a0 iup kk ka rk, refK_at]
  rfl

theorem k0_at (j : Fin 512) : refK0 (refK S) kk (ix3 b t j)
    = rowK0 (parOf w0 dup a0 iup kk ka rk) (fun n => S (ix3 b t n)) j := by
  rw [refK0_at, refK_at]
  rfl

/-- Heads and columns. -/
theorem head_col (j : Fin 512) (k : FVec Ideal S2x8192x512 .f32) :
    refHeads k (ix4 b t ⟨j.val / 64, by omega⟩ ⟨j.val % 64, Nat.mod_lt _ (by decide)⟩) = k (ix3 b t j) := by
  rw [refHeads_at]
  exact congrArg (fun q => k (ix3 b t q)) (Fin.ext (by show 64 * (j.val / 64) + j.val % 64 = j.val; omega))

def refKk (k : FVec Ideal S2x8192x512 .f32) : FVec Ideal S2x8192x512 .f32 := refNorm (refHeads k) (refSum (mulf (refHeads k) (refHeads k)))

theorem mulf_at4 (x y : FVec Ideal S2x8192x8x64 .f32) (h : Fin 8) (i : Fin 64) : mulf x y (ix4 b t h i) = (x (ix4 b t h i) * y (ix4 b t h i) : EReal) := by
  pointwise

theorem kk_at (j : Fin 512) : refKk (refK0 (refK S) kk) (ix3 b t j)
    = rowKk (parOf w0 dup a0 iup kk ka rk) (fun n => S (ix3 b t n)) j := by
  unfold refKk
  rw [refNorm_at, head_col, refSum_at]
  simp only [mulf_at4, refHeads_at, k0_at S w0 dup a0 iup kk ka rk]
  rfl

theorem an_at (j : Fin 512) : refNeg (refKk (refK0 (refK S) kk)) (ix3 b t j)
    = -(rowKk (parOf w0 dup a0 iup kk ka rk) (fun n => S (ix3 b t n)) j) := by
  rw [refNeg_at, kk_at S w0 dup a0 iup kk ka rk]

theorem bb_at (d : Fin 2) (j : Fin 512) : refBb (refKk (refK0 (refK S) kk)) (refSig (refUp (refLow1 S) a0 iup)) (ix4 d b t j)
    = rowBb (parOf w0 dup a0 iup kk ka rk) (fun n => S (ix3 b t n)) d j := by
  rw [refBb_at, kk_at S w0 dup a0 iup kk ka rk, a_at S w0 dup a0 iup kk ka rk]
  rfl

def refBonus (r v : FVec Ideal S2x8192x512 .f32) (kd : FVec Ideal S2x2x8192x512 .f32) (rk : FVec Ideal S8x64 .f32) : FVec Ideal S2x8192x512 .f32 :=
  refBo (refSum (refRk (refHeads r) (refHeads (refKs kd)) rk)) (refHeads v)

theorem bonus_at (j : Fin 512) : refBonus (refR S) (refV S) (refKd (refK S) (refSig (refUp (refLow1 S) a0 iup)) ka) rk (ix3 b t j)
    = rowBonus (parOf w0 dup a0 iup kk ka rk) (fun n => S (ix3 b t n)) j := by
  unfold refBonus
  rw [refBo_at, head_col, refSum_at, refV_at]
  simp only [refRk_at, refHeads_at, refKs_at, refR_at, kd_at S w0 dup a0 iup kk ka rk]
  unfold rowBonus headSum
  refine congrArg (· * col (fun n => S (ix3 b t n)) 1024 (by decide) j) (Finset.sum_congr rfl fun i _ => congrArg (fun z : EReal => col (fun n => S (ix3 b t n)) 0 (by decide) ⟨64 * (j.val / 64) + i.val, by omega⟩ * (rowKd (parOf w0 dup a0 iup kk ka rk) (fun n => S (ix3 b t n)) 0 ⟨64 * (j.val / 64) + i.val, by omega⟩ + rowKd (parOf w0 dup a0 iup kk ka rk) (fun n => S (ix3 b t n)) 1 ⟨64 * (j.val / 64) + i.val, by omega⟩) * z) ?_)
  refine congrArg₂ (fun h i => rk (ix2 h i)) (Fin.ext ?_) (Fin.ext ?_)
  · show j.val / 64 = (64 * (j.val / 64) + i.val) / 64
    omega
  · show i.val = (64 * (j.val / 64) + i.val) % 64
    omega

theorem gz_at (j : Fin 512) : refGz (refZ S) (ix3 b t j) = rowGz (fun n => S (ix3 b t n)) j := by
  rw [refGz_at, refZ_at]
  rfl

end Rows

section Res

variable (m : (ℓ : Loc nD τ sig) → Buf (Elt Ideal) ℓ) (c : Dev nD)

def mS : FVec Ideal S2x8192x2304 .f32 := refS (refUA (refU (m ((c.tc : Thread nD τ).loc main_arg0)) (m ((c.tc : Thread nD τ).loc main_arg1)) (m ((c.tc : Thread nD τ).loc main_arg2)))) (m ((c.tc : Thread nD τ).loc main_arg3))
def mA : FVec Ideal S2x2x8192x512 .f32 := refSig (refUp (refLow1 (mS m c)) (m ((c.tc : Thread nD τ).loc main_arg6)) (m ((c.tc : Thread nD τ).loc main_arg7)))
def mKd : FVec Ideal S2x2x8192x512 .f32 := refKd (refK (mS m c)) (mA m c) (m ((c.tc : Thread nD τ).loc main_arg9))
def mKk : FVec Ideal S2x8192x512 .f32 := refKk (refK0 (refK (mS m c)) (m ((c.tc : Thread nD τ).loc main_arg8)))

theorem res_r : Value.res_main_v29 m c = refR (mS m c) := rfl
theorem res_v : Value.res_main_v31 m c = refV (mS m c) := rfl
theorem res_an : Value.res_main_v99 m c = refNeg (mKk m c) := rfl
theorem res_lw : Value.res_main_v49 m c = refLw (refSig (refUp (refLow0 (mS m c)) (m ((c.tc : Thread nD τ).loc main_arg4)) (m ((c.tc : Thread nD τ).loc main_arg5)))) := rfl
theorem res_kd : Value.res_main_v82 m c = mKd m c := rfl
theorem res_bb : Value.res_main_v102 m c = refBb (mKk m c) (mA m c) := rfl
theorem res_bonus : Value.res_main_v95 m c = refBonus (refR (mS m c)) (refV (mS m c)) (mKd m c) (m ((c.tc : Thread nD τ).loc main_arg10)) := rfl
theorem res_gz : Value.res_main_v109 m c = refGz (refZ (mS m c)) := rfl

end Res

end Cert.Proj

end
-- ==== Proof.Projection.lean ====
/- The kernel's first two results of the projection, and that all ten are the reference's. -/
module

public import proofs.«01_k».proof.Proof.ProjOut
public import proofs.«01_k».proof.Proof.ProjArrays
public import proofs.«01_k».proof.Proof.ProjMixRef
public import proofs.«01_k».proof.Proof.ProjWin
public import proofs.«01_k».proof.Proof.ProjRef
public import proofs.«01_k».proof.Proof.Gen.ProjectIdeal.Value
public import proofs.«01_k».proof.Defs

@[expose] public section

set_option maxRecDepth 16384

noncomputable section

namespace Cert.Proj

open Idealize.ShloMosaic Idealize.ShloMosaic.TcCoe Idealize.SL.Sem

section Kernel

open Cert.ProjectIdeal Cert.ProjectIdeal.Gen

section Point

variable (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S1x2304 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256x1280 .f32) (harg15 : arg15.IsWhole) (arg16 : Memref sig .tc .vmem S1x256x2048 .bf16) (harg16 : arg16.IsWhole) (arg17 : Memref sig .tc .vmem S1x256x512 .f32) (harg17 : arg17.IsWhole) (arg18 : Memref sig .tc .vmem S1x256x512 .f32) (harg18 : arg18.IsWhole) (arg19 : Memref sig .tc .vmem S1x256x512 .f32) (harg19 : arg19.IsWhole) (arg20 : Memref sig .tc .vmem S2x1x256x512 .f32) (harg20 : arg20.IsWhole) (arg21 : Memref sig .tc .vmem S2x1x256x512 .f32) (harg21 : arg21.IsWhole) (arg22 : Memref sig .tc .vmem S2x1x256x512 .f32) (harg22 : arg22.IsWhole) (arg23 : Memref sig .tc .vmem S1x256x512 .f32) (harg23 : arg23.IsWhole) (arg24 : Memref sig .tc .vmem S1x256x512 .f32) (harg24 : arg24.IsWhole) (arg25 : Memref sig .tc .vmem S288x1024 .bf16) (harg25 : arg25.IsWhole) (arg26 : Memref sig .tc .vmem S288x2304 .f32) (harg26 : arg26.IsWhole)
  (x0 : Vec Ideal S1x256x1024 .f32) (x1 : Vec Ideal S1x16x1024 .f32) (x2 : Vec Ideal S1x16x1024 .f32) (x3 : Vec Ideal S1x1024 .f32) (x4 : Vec Ideal S1024x5632 .bf16) (x5 : Vec Ideal S1x2304 .f32) (x6 : Vec Ideal S1x1024 .f32) (x7 : Vec Ideal S128x1024 .bf16) (x8 : Vec Ideal S1x1024 .f32) (x9 : Vec Ideal S128x1024 .bf16) (x10 : Vec Ideal S1x512 .f32) (x11 : Vec Ideal S1x512 .f32) (x12 : Vec Ideal S1x512 .f32)

theorem out13 (r : Fin 256) (q : Fin 1280) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix3 0 r q)
    = proj (fun k => x0 (ix3 0 r k)) (fun k => x3 (ix2 0 k)) (fun k => x4 (ix2 k ⟨2304 + q.val, by omega⟩)) := by
  refine (congrFun (View.read_writes_junk_eq_canon VO0_13 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).1) _).trans ?_
  rw [stores13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  exact (canon13 _ arg6 harg6 x4 r q).trans (cell_eq arg2 harg2 x0 arg5 harg5 x3 x4 r _)

theorem out14 (r : Fin 256) (q : Fin 2048) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 (ix3 0 r q)
    = proj (fun k => x0 (ix3 0 r k)) (fun k => x3 (ix2 0 k)) (fun k => x4 (ix2 k ⟨3584 + q.val, by omega⟩)) := by
  refine (congrFun (View.read_writes_junk_eq_canon VO0_14 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12).2.1) _).trans ?_
  rw [stores14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12]
  exact (canon14 _ arg6 harg6 x4 r q).trans (cell_eq arg2 harg2 x0 arg5 harg5 x3 x4 r _)

end Point

variable (m : (ℓ : Loc nD τ sig) → Buf (Elt Ideal) ℓ) (c : Dev nD)

/-- The projection's columns of the arguments. -/
def UB : S2x8192x1280.Idx → EReal :=
  projA 1280 2304 (by decide) (m ((c : Thread nD τ).loc main_arg0)) (fun k => m ((c : Thread nD τ).loc main_arg1) (ix1 k)) (m ((c : Thread nD τ).loc main_arg2))
def UG : S2x8192x2048.Idx → EReal :=
  projA 2048 3584 (by decide) (m ((c : Thread nD τ).loc main_arg0)) (fun k => m ((c : Thread nD τ).loc main_arg1) (ix1 k)) (m ((c : Thread nD τ).loc main_arg2))

theorem at13 (t : Fin cfg0.N) (r : Fin 256) (q : Fin 1280) :
    (outsAt0 m c t).1 (ix3 0 r q) = UB m c (ix3 (pb t) (tok (pi t) r) q) := by
  have e : (outsAt0 m c t).1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r q
  refine (congrFun e _).trans (e'.trans ?_)
  rw [funext fun k => iblk_x m c t r k, funext fun k => iblk_g m c t k, funext fun k => iblk_w m c t k _]
  rfl

theorem at14 (t : Fin cfg0.N) (r : Fin 256) (q : Fin 2048) :
    (outsAt0 m c t).2.1 (ix3 0 r q) = UG m c (ix3 (pb t) (tok (pi t) r) q) := by
  have e : (outsAt0 m c t).2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  have e' := out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r q
  refine (congrFun e _).trans (e'.trans ?_)
  rw [funext fun k => iblk_x m c t r k, funext fun k => iblk_g m c t k, funext fun k => iblk_w m c t k _]
  rfl

theorem arr13 : (dats m 0 c).arrAt 13 cfg0.N = UB m c := by
  refine (dats m 0 c).arrAt_eq_of_covers 13 _ (by decide +kernel) fun t hf y => ?_
  blk_simp
  rw [after0_13]
  have e : y = ix3 (0 : Fin 1) (y 1) (y 2) := by
    funext a
    fin_cases a
    exacts [Subsingleton.elim (α := Fin 1) _ _, rfl, rfl]
  refine (congrArg _ e).trans ((at13 m c t (y 1) (y 2)).trans (congrArg (UB m c) ?_))
  have h := (index_o t).1
  have h0 : (y 0).val < 1 := (y 0).isLt
  funext a
  apply Fin.ext
  fin_cases a
  · blk_simp [h]; rfl
  · blk_simp [h]; exact congrArg (· + (y 1).val) (Nat.mul_comm 256 (t.val % 32))
  · blk_simp [h]; rfl

theorem arr14 : (dats m 0 c).arrAt 14 cfg0.N = UG m c := by
  refine (dats m 0 c).arrAt_eq_of_covers 14 _ (by decide +kernel) fun t hf y => ?_
  blk_simp
  rw [after0_14]
  have e : y = ix3 (0 : Fin 1) (y 1) (y 2) := by
    funext a
    fin_cases a
    exacts [Subsingleton.elim (α := Fin 1) _ _, rfl, rfl]
  refine (congrArg _ e).trans ((at14 m c t (y 1) (y 2)).trans (congrArg (UG m c) ?_))
  have h := (index_o t).2
  have h0 : (y 0).val < 1 := (y 0).isLt
  funext a
  apply Fin.ext
  fin_cases a
  · blk_simp [h]; rfl
  · blk_simp [h]; exact congrArg (· + (y 1).val) (Nat.mul_comm 256 (t.val % 32))
  · blk_simp [h]; rfl

end Kernel

section Reference

open Cert.ProjectedIdeal

variable (m : (ℓ : Loc Cert.ProjectIdeal.nD Cert.ProjectIdeal.τ Cert.ProjectIdeal.sig) → Buf (Elt Ideal) ℓ) (m' : (ℓ : Loc nD τ sig) → Buf (Elt Ideal) ℓ) (c : Dev nD)
  (e0 : m' ((c.tc : Thread nD τ).loc main_arg0) = m ((c.tc : Thread Cert.ProjectIdeal.nD Cert.ProjectIdeal.τ).loc Cert.ProjectIdeal.main_arg0))
  (e1 : m' ((c.tc : Thread nD τ).loc main_arg1) = m ((c.tc : Thread Cert.ProjectIdeal.nD Cert.ProjectIdeal.τ).loc Cert.ProjectIdeal.main_arg1))
  (e2 : m' ((c.tc : Thread nD τ).loc main_arg2) = m ((c.tc : Thread Cert.ProjectIdeal.nD Cert.ProjectIdeal.τ).loc Cert.ProjectIdeal.main_arg2))
  (e3 : m' ((c.tc : Thread nD τ).loc main_arg3) = m ((c.tc : Thread Cert.ProjectIdeal.nD Cert.ProjectIdeal.τ).loc Cert.ProjectIdeal.main_arg3))
  (e4 : m' ((c.tc : Thread nD τ).loc main_arg4) = m ((c.tc : Thread Cert.ProjectIdeal.nD Cert.ProjectIdeal.τ).loc Cert.ProjectIdeal.main_arg4))
  (e5 : m' ((c.tc : Thread nD τ).loc main_arg5) = m ((c.tc : Thread Cert.ProjectIdeal.nD Cert.ProjectIdeal.τ).loc Cert.ProjectIdeal.main_arg5))
  (e6 : m' ((c.tc : Thread nD τ).loc main_arg6) = m ((c.tc : Thread Cert.ProjectIdeal.nD Cert.ProjectIdeal.τ).loc Cert.ProjectIdeal.main_arg6))
  (e7 : m' ((c.tc : Thread nD τ).loc main_arg7) = m ((c.tc : Thread Cert.ProjectIdeal.nD Cert.ProjectIdeal.τ).loc Cert.ProjectIdeal.main_arg7))
  (e8 : m' ((c.tc : Thread nD τ).loc main_arg8) = m ((c.tc : Thread Cert.ProjectIdeal.nD Cert.ProjectIdeal.τ).loc Cert.ProjectIdeal.main_arg8))
  (e9 : m' ((c.tc : Thread nD τ).loc main_arg9) = m ((c.tc : Thread Cert.ProjectIdeal.nD Cert.ProjectIdeal.τ).loc Cert.ProjectIdeal.main_arg9))
  (e10 : m' ((c.tc : Thread nD τ).loc main_arg10) = m ((c.tc : Thread Cert.ProjectIdeal.nD Cert.ProjectIdeal.τ).loc Cert.ProjectIdeal.main_arg10))

include e0 e1 e2 e3 in
theorem rows_eq (b : Fin 2) (t : Fin 8192) : (fun n => mS m' c (ix3 b t n)) = rowOf m c b t := by
  refine (mixed_at _ _ _ _ b t).trans ?_
  rw [e0, e1, e2, e3]
  rfl

include e4 e5 e6 e7 e8 e9 e10 in
theorem pars_eq : parOf (m' ((c.tc : Thread nD τ).loc main_arg4)) (m' ((c.tc : Thread nD τ).loc main_arg5)) (m' ((c.tc : Thread nD τ).loc main_arg6)) (m' ((c.tc : Thread nD τ).loc main_arg7))
    (m' ((c.tc : Thread nD τ).loc main_arg8)) (m' ((c.tc : Thread nD τ).loc main_arg9)) (m' ((c.tc : Thread nD τ).loc main_arg10)) = parsOf m c := by
  rw [e4, e5, e6, e7, e8, e9, e10]
  rfl

variable (hrow : ∀ b t, (fun n => mS m' c (ix3 b t n)) = rowOf m c b t)
  (hpar : parOf (m' ((c.tc : Thread nD τ).loc main_arg4)) (m' ((c.tc : Thread nD τ).loc main_arg5)) (m' ((c.tc : Thread nD τ).loc main_arg6)) (m' ((c.tc : Thread nD τ).loc main_arg7))
    (m' ((c.tc : Thread nD τ).loc main_arg8)) (m' ((c.tc : Thread nD τ).loc main_arg9)) (m' ((c.tc : Thread nD τ).loc main_arg10)) = parsOf m c)

include hrow hpar in
theorem ref_15 : Value.res_main_v29 m' c = O15 m c := by
  funext i
  have e : i = ix3 (i 0) (i 1) (i 2) := eq_ix3 i
  refine (congrFun (res_r m' c) i).trans ((congrArg _ e).trans ?_)
  refine (refR_at (mS m' c) (i 0) (i 1) (i 2)).trans ?_
  exact congrArg (fun (s : Fin 2304 → EReal) => col (n := 512) s 0 (by decide) (i 2)) (hrow (i 0) (i 1))

include hrow hpar in
theorem ref_16 : Value.res_main_v31 m' c = O16 m c := by
  funext i
  have e : i = ix3 (i 0) (i 1) (i 2) := eq_ix3 i
  refine (congrFun (res_v m' c) i).trans ((congrArg _ e).trans ?_)
  refine (refV_at (mS m' c) (i 0) (i 1) (i 2)).trans ?_
  exact congrArg (fun (s : Fin 2304 → EReal) => col (n := 512) s 1024 (by decide) (i 2)) (hrow (i 0) (i 1))

include hrow hpar in
theorem ref_17 : Value.res_main_v99 m' c = O17 m c := by
  funext i
  have e : i = ix3 (i 0) (i 1) (i 2) := eq_ix3 i
  refine (congrFun (res_an m' c) i).trans ((congrArg _ e).trans ?_)
  refine (an_at (mS m' c) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (i 0) (i 1)  (i 2)).trans ?_
  exact congrArg₂ (fun (p : Par) (s : Fin 2304 → EReal) => -(rowKk p s (i 2))) hpar (hrow (i 0) (i 1))

include hrow hpar in
theorem ref_18 : Value.res_main_v49 m' c = O18 m c := by
  funext i
  have e : i = ix4 (i 0) (i 1) (i 2) (i 3) := eq_ix4 i
  refine (congrFun (res_lw m' c) i).trans ((congrArg _ e).trans ?_)
  refine (lw_at (mS m' c) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (i 1) (i 2) (i 0) (i 3)).trans ?_
  exact congrArg₂ (fun (p : Par) (s : Fin 2304 → EReal) => rowLw p s (i 0) (i 3)) hpar (hrow (i 1) (i 2))

include hrow hpar in
theorem ref_19 : Value.res_main_v82 m' c = O19 m c := by
  funext i
  have e : i = ix4 (i 0) (i 1) (i 2) (i 3) := eq_ix4 i
  refine (congrFun (res_kd m' c) i).trans ((congrArg _ e).trans ?_)
  refine (kd_at (mS m' c) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (i 1) (i 2) (i 0) (i 3)).trans ?_
  exact congrArg₂ (fun (p : Par) (s : Fin 2304 → EReal) => rowKd p s (i 0) (i 3)) hpar (hrow (i 1) (i 2))

include hrow hpar in
theorem ref_20 : Value.res_main_v102 m' c = O20 m c := by
  funext i
  have e : i = ix4 (i 0) (i 1) (i 2) (i 3) := eq_ix4 i
  refine (congrFun (res_bb m' c) i).trans ((congrArg _ e).trans ?_)
  refine (bb_at (mS m' c) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (i 1) (i 2) (i 0) (i 3)).trans ?_
  exact congrArg₂ (fun (p : Par) (s : Fin 2304 → EReal) => rowBb p s (i 0) (i 3)) hpar (hrow (i 1) (i 2))

include hrow hpar in
theorem ref_21 : Value.res_main_v95 m' c = O21 m c := by
  funext i
  have e : i = ix3 (i 0) (i 1) (i 2) := eq_ix3 i
  refine (congrFun (res_bonus m' c) i).trans ((congrArg _ e).trans ?_)
  refine (bonus_at (mS m' c) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (i 0) (i 1)  (i 2)).trans ?_
  exact congrArg₂ (fun (p : Par) (s : Fin 2304 → EReal) => rowBonus p s (i 2)) hpar (hrow (i 0) (i 1))

include hrow hpar in
theorem ref_22 : Value.res_main_v109 m' c = O22 m c := by
  funext i
  have e : i = ix3 (i 0) (i 1) (i 2) := eq_ix3 i
  refine (congrFun (res_gz m' c) i).trans ((congrArg _ e).trans ?_)
  refine (gz_at (mS m' c) (i 0) (i 1) (i 2)).trans ?_
  exact congrArg (fun (s : Fin 2304 → EReal) => rowGz s (i 2)) (hrow (i 0) (i 1))

end Reference

theorem algebraic : Cert.algebraic_ProjectIdeal_ProjectedIdeal (hProjectIdeal := Cert.ProjectIdeal.Gen.facts)
    (hProjectedIdeal := Cert.ProjectedIdeal.Gen.facts) := by
  intro m g m' g' hpre harg
  refine ⟨fun c => UB m c, fun c => UG m c, fun c => O15 m c, fun c => O16 m c, fun c => O17 m c, fun c => O18 m c, fun c => O19 m c, fun c => O20 m c, fun c => O21 m c, fun c => O22 m c, ?_, ?_⟩
  · refine (θ_run Cert.ProjectIdeal.defs _ _).mono (fun r h c => ?_) (Cert.ProjectIdeal.Value.run_blocks (F := Ideal) m g)
    obtain ⟨h0, h1, h2, h3, h4, h5, h6, h7, h8, h9, h⟩ := h c
    exact ⟨h0.trans (arr13 m c), h1.trans (arr14 m c), h2.trans (arr15 m c), h3.trans (arr16 m c), h4.trans (arr17 m c), h5.trans (arr18 m c), h6.trans (arr19 m c), h7.trans (arr20 m c),
      h8.trans (arr21 m c), h9.trans (arr22 m c), h⟩
  · refine (θ_run Cert.ProjectedIdeal.defs _ _).mono (fun r h c => ?_) (Cert.ProjectedIdeal.Value.run (F := Ideal) m' g')
    obtain ⟨h0, h1, h2, h3, h4, h5, h6, h7, h8, h9, h⟩ := h c
    obtain ⟨e0, e1, e2, e3, e4, e5, e6, e7, e8, e9, e10⟩ := harg c
    have hrow := rows_eq m m' c e0 e1 e2 e3
    have hpar := pars_eq m m' c e4 e5 e6 e7 e8 e9 e10
    refine ⟨h0.trans ((ref14 _ _ _).trans ?_), h1.trans ((ref16 _ _ _).trans ?_), h2.trans (ref_15 m m' c hrow hpar), h3.trans (ref_16 m m' c hrow hpar), h4.trans (ref_17 m m' c hrow hpar),
      h5.trans (ref_18 m m' c hrow hpar), h6.trans (ref_19 m m' c hrow hpar), h7.trans (ref_20 m m' c hrow hpar), h8.trans (ref_21 m m' c hrow hpar), h9.trans (ref_22 m m' c hrow hpar), h⟩
    · rw [e0, e1, e2]; rfl
    · rw [e0, e1, e2]; rfl

end Cert.Proj

end
-- ==== Proof.MergeSpec.lean ====
/- The merge of the two branches as mathematics, one token at a time. -/
module

public import proofs.«01_k».proof.Proof.ProjMix

@[expose] public section

noncomputable section

namespace Cert.Mrg

open Idealize.ShloMosaic Idealize.ShloMosaic.TcCoe
open Cert.Proj (sgm headSum nrm)

/-- One over the size of a head. -/
def c64 : EReal := Ideal.ofBits FTy.f32 0x3C800000#32
/-- What the head norm adds to the variance. -/
def eps : EReal := Ideal.ofBits FTy.f32 0x3A27C5AC#32

/-- The layer's weights. -/
structure Wts where
  lnw : Fin 512 → EReal
  lnb : Fin 512 → EReal
  pa : Fin 512 → Fin 1024 → EReal
  pb : Fin 512 → Fin 1024 → EReal
  wo : Fin 1024 → Fin 1024 → EReal
  pg : Fin 1024 → EReal
  gw : Fin 1024 → Fin 1024 → EReal
  pp : Fin 256 → Fin 1024 → EReal

/-- What the merge takes of one token. -/
structure Tok where
  x : Fin 1024 → EReal
  yf : Fin 512 → EReal
  yb : Fin 512 → EReal
  bonus : Fin 512 → EReal
  gz : Fin 512 → EReal
  ob : Fin 512 → EReal
  ug : Fin 2048 → EReal
  p : Fin 256 → EReal

/-- A centred row over the root of its head's mean square. -/
def overRoot (c : Fin 512 → EReal) (j : Fin 512) : EReal := c j * Ideal.rsqrt (headSum (fun i => c i * c i) j * c64 + eps)
/-- A row less its head's mean. -/
def centred (y : Fin 512 → EReal) (j : Fin 512) : EReal := y j - headSum y j * c64
/-- The same with the mean's sum taken of a rounded row and of what rounding left. -/
def centredSplit (y : Fin 512 → EReal) (j : Fin 512) : EReal := y j - (headSum y j + headSum (fun i => y i - y i) j) * c64

variable (W : Wts) (T : Tok)

def oA (j : Fin 512) : EReal := (overRoot (centred fun i => T.yf i + T.yb i) j * W.lnw j + W.lnb j + T.bonus j) * T.gz j
/-- The two branches, each through its projection and its gate. -/
def both (o : Fin 512 → EReal) (k : Fin 1024) : EReal :=
  sgm (T.ug ⟨k.val, by omega⟩) * (∑ i : Fin 512, o i * W.pa i k) + sgm (T.ug ⟨1024 + k.val, by omega⟩) * ∑ i : Fin 512, T.ob i * W.pb i k
/-- The residual. -/
def res (o : Fin 512 → EReal) (n : Fin 1024) : EReal := T.x n + ∑ k : Fin 1024, both W T o k * W.wo k n
/-- The gated embedding on top. -/
def top (x1 : Fin 1024 → EReal) (n : Fin 1024) : EReal :=
  x1 n + sgm (∑ k : Fin 1024, nrm x1 W.pg k * W.gw k n) * ∑ k : Fin 256, T.p k * W.pp k n
def out (n : Fin 1024) : EReal := top W T (res W T (oA W T)) n

omit W T

theorem c64_pos : 0 < c64 := by
  have : c64 = ((1 / 64 : ℝ) : EReal) := by
    unfold c64
    simp [Ideal.ofBits, Ideal.ieee]
    rw [← EReal.coe_mul]
    norm_num
  rw [this]
  exact_mod_cast (by norm_num : (0 : ℝ) < 1 / 64)

theorem eps_ne : eps ≠ ⊥ := by
  unfold eps
  simp [Ideal.ofBits, Ideal.ieee]
  exact EReal.coe_ne_bot _

theorem mul_self_nonneg' (a : EReal) : 0 ≤ a * a := by
  rcases le_total 0 a with h | h
  · exact EReal.mul_nonneg h h
  · exact EReal.mul_nonneg_iff.mpr (Or.inr ⟨h, h⟩)

/-- Where an entry of the head is infinite, the head norm is zero. -/
theorem overRoot_inf (c : Fin 512 → EReal) (j : Fin 512) (i : Fin 64)
    (h : c ⟨64 * (j.val / 64) + i.val, by omega⟩ = ⊤ ∨ c ⟨64 * (j.val / 64) + i.val, by omega⟩ = ⊥) : overRoot c j = 0 := by
  have hs : headSum (fun i => c i * c i) j = ⊤ := by
    refine top_le_iff.mp ?_
    refine le_trans (le_of_eq ?_) (Finset.single_le_sum (f := fun i : Fin 64 => c ⟨64 * (j.val / 64) + i.val, by omega⟩ * c ⟨64 * (j.val / 64) + i.val, by omega⟩) (fun i _ => mul_self_nonneg' _) (Finset.mem_univ i))
    rcases h with h | h
    · simp only [h]; rfl
    · simp only [h]; rfl
  unfold overRoot
  rw [hs, EReal.top_mul_of_pos c64_pos, EReal.top_add_of_ne_bot eps_ne]
  show c j * (0 : EReal) = 0
  exact mul_zero _

theorem inf_sub {a : EReal} (h : a = ⊤ ∨ a = ⊥) (b : EReal) : a - b = ⊤ ∨ a - b = ⊥ := by
  rcases h with h | h
  · subst h
    induction b with
    | bot => exact Or.inl rfl
    | top => exact Or.inr rfl
    | coe x => exact Or.inl rfl
  · subst h
    exact Or.inr (by rw [sub_eq_add_neg, EReal.bot_add])

theorem headSum_same (f : Fin 512 → EReal) (j : Fin 512) (i : Fin 64) : headSum f ⟨64 * (j.val / 64) + i.val, by omega⟩ = headSum f j := by
  unfold headSum
  refine Finset.sum_congr rfl fun l _ => congrArg f (Fin.ext ?_)
  show 64 * ((64 * (j.val / 64) + i.val) / 64) + l.val = 64 * (j.val / 64) + l.val
  omega

/-- What rounding left sums to nothing, or the head norm is zero either way. -/
theorem split_eq (y : Fin 512 → EReal) (j : Fin 512) : overRoot (centredSplit y) j = overRoot (centred y) j := by
  by_cases h : ∃ i : Fin 64, y ⟨64 * (j.val / 64) + i.val, by omega⟩ = ⊤ ∨ y ⟨64 * (j.val / 64) + i.val, by omega⟩ = ⊥
  · obtain ⟨i, hi⟩ := h
    exact (overRoot_inf _ j i (inf_sub hi _)).trans (overRoot_inf _ j i (inf_sub hi _)).symm
  · have hz : headSum (fun i => y i - y i) j = 0 := by
      refine Finset.sum_eq_zero fun i _ => ?_
      have hi : ¬ (y ⟨64 * (j.val / 64) + i.val, by omega⟩ = ⊤ ∨ y ⟨64 * (j.val / 64) + i.val, by omega⟩ = ⊥) := fun e => h ⟨i, e⟩
      exact EReal.sub_self (fun e => hi (Or.inl e)) (fun e => hi (Or.inr e))
    have hc : ∀ i : Fin 64, centredSplit y ⟨64 * (j.val / 64) + i.val, by omega⟩ = centred y ⟨64 * (j.val / 64) + i.val, by omega⟩ := fun i => by
      unfold centredSplit centred
      rw [headSum_same, headSum_same, hz, add_zero]
    have hj : centredSplit y j = centred y j := by
      unfold centredSplit centred
      rw [hz, add_zero]
    have hs : headSum (fun i => centredSplit y i * centredSplit y i) j = headSum (fun i => centred y i * centred y i) j :=
      Finset.sum_congr rfl fun i _ => congrArg₂ (· * ·) (hc i) (hc i)
    unfold overRoot
    rw [hj, hs]

end Cert.Mrg

end
-- ==== Proof.MergePay.lean ====
/- The merge's body, read at an entry of its tile. -/
module

public import proofs.«01_k».proof.Proof.MergeSpec
public import proofs.«01_k».proof.Proof.Gen.MergeIdeal.Skeleton

@[expose] public section

set_option maxRecDepth 16384

noncomputable section

namespace Cert.Mrg

open Idealize.ShloMosaic Idealize.ShloMosaic.TcCoe
open Cert.Proj (sgm headSum nrm scale sum_block head_of cmp_of)
open Cert.MergeIdeal Cert.MergeIdeal.Gen

/-- The matrix of the heads. -/
def heads (v24 v27 : IVec S512x512 32) (v41 v45 : IVec S512x512 1) : FVec Ideal S512x512 .bf16 :=
  truncf .bf16 (sitofp .f32 (extui 32 (cmpi .eq v24 (select (andi v41 v45) (subi v27 (broadcast S512x512 1#32)) v27)) natLt_1_32)) bitsLt_bf16_f32

theorem row_head (a b : Fin 512) : k0_pay2 (ix2 a b) = BitVec.ofNat 32 (a.val / 64) := by
  unfold k0_pay2
  pointwise
  revert a
  decide +kernel

theorem heads_at (a b : Fin 512) : heads k0_pay2 k0_pay3 k0_pay4 k0_pay5 (ix2 a b) = if a.val / 64 = b.val / 64 then (1 : EReal) else 0 := by
  unfold heads k0_pay3 k0_pay4 k0_pay5
  pointwise
  rw [row_head, head_of]
  refine (congrArg _ (cmp_of ⟨a.val / 64, by omega⟩ ⟨b.val / 64, by omega⟩)).trans ?_
  show FloatOps.sitofp FTy.f32 (if a.val / 64 = b.val / 64 then 1#32 else 0#32) = _
  split
  · show (((1#32 : BitVec 32).toInt : ℝ) : EReal) = 1
    norm_num
  · show (((0#32 : BitVec 32).toInt : ℝ) : EReal) = 0
    norm_num

/-- A sum against that matrix is a head's sum. -/
theorem sum_heads {M : FVec Ideal S512x512 .bf16} (hM : ∀ a b : Fin 512, M (ix2 a b) = if a.val / 64 = b.val / 64 then (1 : EReal) else 0)
    (f : Fin 512 → EReal) (j : Fin 512) : (∑ k : Fin 512, f k * M (ix2 k j) : EReal) = headSum f j := by
  refine (sum_block (N := 8) (n := 64) (by decide) (fun k => f k * M (ix2 k j)) ⟨j.val / 64, by omega⟩ (fun k hk => ?_) (fun i => by show 64 * (j.val / 64) + i.val < 8 * 64; omega)).trans ?_
  · show f k * M (ix2 k j) = 0
    rw [hM]
    exact (congrArg (f k * ·) (if_neg hk)).trans (mul_zero _)
  · refine Finset.sum_congr rfl fun i _ => ?_
    show f ⟨64 * (j.val / 64) + i.val, _⟩ * M (ix2 ⟨64 * (j.val / 64) + i.val, _⟩ j) = _
    rw [hM]
    exact (congrArg (f _ * ·) (if_pos (by show (64 * (j.val / 64) + i.val) / 64 = j.val / 64; omega))).trans (mul_one _)

/-- A row less its head's mean, as the body takes it. -/
def kCent (M : FVec Ideal S512x512 .bf16) (Y : FVec Ideal S512x512 .f32) : FVec Ideal S512x512 .f32 :=
  subf Y (mulf (addf (matmul dot_S512x512_S512x512_S512x512_1_0_0_1_n_n none (truncf .bf16 Y bitsLt_bf16_f32) M (constant S512x512 .f32 0x00000000#32))
    (matmul dot_S512x512_S512x512_S512x512_1_0_0_1_n_n none (truncf .bf16 (subf Y (extf .f32 (truncf .bf16 Y bitsLt_bf16_f32) bitsLt_bf16_f32)) bitsLt_bf16_f32) M (constant S512x512 .f32 0x00000000#32)))
    (broadcast S512x512 (Scalar.ofBits .f32 0x3C800000#32)))
theorem kCent_raw (M : FVec Ideal S512x512 .bf16) (Y : FVec Ideal S512x512 .f32) (r j : Fin 512) :
    kCent M Y (ix2 r j) = (Y (ix2 r j) - ((∑ k : Fin 512, Y (ix2 r k) * M (ix2 k j)) + ∑ k : Fin 512, (Y (ix2 r k) - Y (ix2 r k)) * M (ix2 k j)) * c64 : EReal) := by
  unfold kCent c64
  pointwise

def kRoot (M : FVec Ideal S512x512 .bf16) (C : FVec Ideal S512x512 .f32) : FVec Ideal S512x512 .f32 :=
  mulf C (rsqrt (addf (mulf (matmul dot_S512x512_S512x512_S512x512_1_0_0_1_n_n none (truncf .bf16 (mulf C C) bitsLt_bf16_f32) M (constant S512x512 .f32 0x00000000#32)) (broadcast S512x512 (Scalar.ofBits .f32 0x3C800000#32)))
    (broadcast S512x512 (Scalar.ofBits .f32 0x3A27C5AC#32))))
theorem kRoot_raw (M : FVec Ideal S512x512 .bf16) (C : FVec Ideal S512x512 .f32) (r j : Fin 512) :
    kRoot M C (ix2 r j) = (C (ix2 r j) * Ideal.rsqrt ((∑ k : Fin 512, C (ix2 r k) * C (ix2 r k) * M (ix2 k j)) * c64 + eps) : EReal) := by
  unfold kRoot c64 eps
  pointwise

def kAff (N : FVec Ideal S512x512 .f32) (w b : FVec Ideal S1x512 .f32) (bn : FVec Ideal S512x512 .f32) : FVec Ideal S512x512 .f32 :=
  addf (addf (mulf N (broadcastTo S512x512 (shapeCast S1x512 w shapeCasts_S1x512_S1x512) broadcasts_S1x512_S512x512)) (broadcastTo S512x512 (shapeCast S1x512 b shapeCasts_S1x512_S1x512) broadcasts_S1x512_S512x512)) bn
theorem kAff_at (N : FVec Ideal S512x512 .f32) (w b : FVec Ideal S1x512 .f32) (bn : FVec Ideal S512x512 .f32) (r j : Fin 512) :
    kAff N w b bn (ix2 r j) = (N (ix2 r j) * w (ix2 0 j) + b (ix2 0 j) + bn (ix2 r j) : EReal) := by
  unfold kAff
  pointwise

theorem pay6_eq (v24 v27 : IVec S512x512 32) (v41 v45 : IVec S512x512 1) (a b : FVec Ideal S512x512 .f32) (lw lb : FVec Ideal S1x512 .f32) (bn : FVec Ideal S512x512 .f32) :
    k0_pay6 (F := Ideal) v24 v27 v41 v45 a b lw lb bn = kAff (kRoot (heads v24 v27 v41 v45) (kCent (heads v24 v27 v41 v45) (addf a b))) lw lb bn := rfl

theorem kNorm_at {M : FVec Ideal S512x512 .bf16} (hM : ∀ a b : Fin 512, M (ix2 a b) = if a.val / 64 = b.val / 64 then (1 : EReal) else 0) (Y : FVec Ideal S512x512 .f32) (r j : Fin 512) :
    kRoot M (kCent M Y) (ix2 r j) = overRoot (centred fun i => Y (ix2 r i)) j := by
  have hc : ∀ j, kCent M Y (ix2 r j) = centredSplit (fun i => Y (ix2 r i)) j := fun j => by
    rw [kCent_raw, sum_heads hM (fun k => Y (ix2 r k)), sum_heads hM (fun k => Y (ix2 r k) - Y (ix2 r k))]
    rfl
  rw [kRoot_raw, sum_heads hM (fun k => kCent M Y (ix2 r k) * kCent M Y (ix2 r k))]
  refine Eq.trans ?_ (split_eq _ j)
  unfold overRoot
  rw [hc j, funext fun k => congrArg₂ (· * ·) (hc k) (hc k)]

/-- The first branch's row, normalised and with its bonus. -/
theorem pay6_at (a b : FVec Ideal S512x512 .f32) (lw lb : FVec Ideal S1x512 .f32) (bn : FVec Ideal S512x512 .f32) (r j : Fin 512) :
    k0_pay6 (F := Ideal) k0_pay2 k0_pay3 k0_pay4 k0_pay5 a b lw lb bn (ix2 r j)
      = (overRoot (centred fun i => a (ix2 r i) + b (ix2 r i)) j * lw (ix2 0 j) + lb (ix2 0 j) + bn (ix2 r j) : EReal) := by
  rw [pay6_eq, kAff_at, kNorm_at heads_at]
  rfl

def kSig (u : FVec Ideal S512x1024 .f32) : FVec Ideal S512x1024 .f32 :=
  divf (broadcast S512x1024 (Scalar.ofBits .f32 0x3F800000#32)) (addf (broadcast S512x1024 (Scalar.ofBits .f32 0x3F800000#32)) (exp (subf (broadcast S512x1024 (Scalar.ofBits .f32 0x00000000#32)) u)))
theorem kSig_at (u : FVec Ideal S512x1024 .f32) (r : Fin 512) (n : Fin 1024) : kSig u (ix2 r n) = sgm (u (ix2 r n)) := by
  unfold kSig sgm
  rw [← zero_sub]
  pointwise

def kDot (o : FVec Ideal S512x512 .bf16) (w : FVec Ideal S512x1024 .bf16) : FVec Ideal S512x1024 .f32 :=
  matmul dot_S512x512_S512x1024_S512x1024_1_0_0_1_n_n none o (shapeCast S512x1024 w shapeCasts_S512x1024_S512x1024) (constant S512x1024 .f32 0x00000000#32)
theorem kDot_at (o : FVec Ideal S512x512 .bf16) (w : FVec Ideal S512x1024 .bf16) (r : Fin 512) (n : Fin 1024) :
    kDot o w (ix2 r n) = (∑ k : Fin 512, o (ix2 r k) * w (ix2 k n) : EReal) := by
  unfold kDot
  pointwise

def kFull (o : FVec Ideal S512x1024 .f32) (w : FVec Ideal S1024x1024 .bf16) : FVec Ideal S512x1024 .f32 :=
  matmul dot_S512x1024_S1024x1024_S512x1024_1_0_0_1_n_n none (truncf .bf16 o bitsLt_bf16_f32) (shapeCast S1024x1024 w shapeCasts_S1024x1024_S1024x1024) (constant S512x1024 .f32 0x00000000#32)
theorem kFull_at (o : FVec Ideal S512x1024 .f32) (w : FVec Ideal S1024x1024 .bf16) (r : Fin 512) (n : Fin 1024) :
    kFull o w (ix2 r n) = (∑ k : Fin 1024, o (ix2 r k) * w (ix2 k n) : EReal) := by
  unfold kFull
  pointwise

def kGated (g h : FVec Ideal S512x1024 .f32) (a b : FVec Ideal S512x1024 .f32) : FVec Ideal S512x1024 .f32 := addf (mulf (kSig g) a) (mulf (kSig h) b)

theorem pay7_eq (O : FVec Ideal S512x512 .f32) (gz : FVec Ideal S512x512 .f32) (pa : FVec Ideal S512x1024 .bf16) (ob : FVec Ideal S512x512 .bf16) (pb : FVec Ideal S512x1024 .bf16) (u v : FVec Ideal S512x1024 .bf16) (x : FVec Ideal S512x1024 .f32) (wo : FVec Ideal S1024x1024 .bf16) :
    k0_pay7 (F := Ideal) O gz pa ob pb u v x wo
      = addf x (kFull (kGated (extf .f32 u bitsLt_bf16_f32) (extf .f32 v bitsLt_bf16_f32) (kDot (truncf .bf16 (mulf O gz) bitsLt_bf16_f32) pa) (kDot ob pb)) wo) := rfl

theorem kGated_at (g h a b : FVec Ideal S512x1024 .f32) (r : Fin 512) (n : Fin 1024) :
    kGated g h a b (ix2 r n) = (sgm (g (ix2 r n)) * a (ix2 r n) + sgm (h (ix2 r n)) * b (ix2 r n) : EReal) := by
  have e : kGated g h a b (ix2 r n) = (kSig g (ix2 r n) * a (ix2 r n) + kSig h (ix2 r n) * b (ix2 r n) : EReal) := rfl
  rw [e, kSig_at, kSig_at]

theorem pay7_at (O : FVec Ideal S512x512 .f32) (gz : FVec Ideal S512x512 .f32) (pa : FVec Ideal S512x1024 .bf16) (ob : FVec Ideal S512x512 .bf16) (pb : FVec Ideal S512x1024 .bf16) (u v : FVec Ideal S512x1024 .bf16) (x : FVec Ideal S512x1024 .f32) (wo : FVec Ideal S1024x1024 .bf16) (r : Fin 512) (n : Fin 1024) :
    k0_pay7 (F := Ideal) O gz pa ob pb u v x wo (ix2 r n)
      = (x (ix2 r n) + ∑ k : Fin 1024, (sgm (u (ix2 r k)) * (∑ i : Fin 512, O (ix2 r i) * gz (ix2 r i) * pa (ix2 i k)) + sgm (v (ix2 r k)) * ∑ i : Fin 512, ob (ix2 r i) * pb (ix2 i k)) * wo (ix2 k n) : EReal) := by
  rw [pay7_eq]
  refine congrArg (x (ix2 r n) + ·) ((kFull_at _ wo r n).trans (Finset.sum_congr rfl fun k _ => congrArg (· * wo (ix2 k n)) ?_))
  rw [kGated_at, kDot_at, kDot_at]
  rfl

def kNrm (X : FVec Ideal S512x1024 .f32) (g : FVec Ideal S1x1024 .f32) : FVec Ideal S512x1024 .f32 :=
  mulf (mulf X (broadcastTo S512x1024 (rsqrt (addf (divf (shapeCast S512x1 (multiReduction .add [1] S512 (mulf X X) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)
theorem kNrm_at (X : FVec Ideal S512x1024 .f32) (g : FVec Ideal S1x1024 .f32) (r : Fin 512) (k : Fin 1024) :
    kNrm X g (ix2 r k) = nrm (fun l => X (ix2 r l)) (fun l => g (ix2 0 l)) k := by
  unfold kNrm nrm scale
  pointwise

def kEmb (p : FVec Ideal S1x512x256 .f32) (w : FVec Ideal S256x1024 .bf16) : FVec Ideal S512x1024 .f32 :=
  matmul dot_S512x256_S256x1024_S512x1024_1_0_0_1_n_n none (truncf .bf16 (shapeCast S512x256 p shapeCasts_S1x512x256_S512x256) bitsLt_bf16_f32) (shapeCast S256x1024 w shapeCasts_S256x1024_S256x1024) (constant S512x1024 .f32 0x00000000#32)
theorem kEmb_at (p : FVec Ideal S1x512x256 .f32) (w : FVec Ideal S256x1024 .bf16) (r : Fin 512) (n : Fin 1024) :
    kEmb p w (ix2 r n) = (∑ k : Fin 256, p (ix3 0 r k) * w (ix2 k n) : EReal) := by
  unfold kEmb
  pointwise

theorem pay1_eq (X : FVec Ideal S512x1024 .f32) (p : FVec Ideal S1x512x256 .f32) (pp : FVec Ideal S256x1024 .bf16) (g : FVec Ideal S1x1024 .f32) (gw : FVec Ideal S1024x1024 .bf16) :
    k0_pay1 (F := Ideal) X p pp g gw = addf X (mulf (kSig (kFull (kNrm X g) gw)) (kEmb p pp)) := rfl

theorem pay1_at (X : FVec Ideal S512x1024 .f32) (p : FVec Ideal S1x512x256 .f32) (pp : FVec Ideal S256x1024 .bf16) (g : FVec Ideal S1x1024 .f32) (gw : FVec Ideal S1024x1024 .bf16) (r : Fin 512) (n : Fin 1024) :
    k0_pay1 (F := Ideal) X p pp g gw (ix2 r n)
      = (X (ix2 r n) + sgm (∑ k : Fin 1024, nrm (fun l => X (ix2 r l)) (fun l => g (ix2 0 l)) k * gw (ix2 k n)) * ∑ k : Fin 256, p (ix3 0 r k) * pp (ix2 k n) : EReal) := by
  rw [pay1_eq]
  refine congrArg (X (ix2 r n) + ·) (congrArg₂ (· * ·) ((kSig_at _ r n).trans (congrArg sgm ((kFull_at _ gw r n).trans ?_))) (kEmb_at p pp r n))
  exact Finset.sum_congr rfl fun k _ => congrArg (· * gw (ix2 k n)) (kNrm_at X g r k)

end Cert.Mrg

end
-- ==== Proof.MergeWin.lean ====
/- The merge's input windows at a point, read off the argument arrays. -/
module

public import proofs.«01_k».proof.Proof.Gen.MergeIdeal.Frame
public import Idealize.ShloMosaic.Lib.Pointwise
public import Idealize.ShloMosaic.Lib.Pipeline.ValueKit
public import Idealize.ShloMosaic.Lib.WholeRead

@[expose] public section

set_option maxRecDepth 16384

noncomputable section

namespace Cert.Mrg

open Idealize.ShloMosaic Idealize.ShloMosaic.TcCoe
open Cert.MergeIdeal Cert.MergeIdeal.Gen

variable (m : (ℓ : Loc nD τ sig) → Buf (Elt Ideal) ℓ) (c : Dev nD)

/-- The token of row `r` of a point's tile. -/
def tok (t : Fin cfg0.N) (r : Fin 512) : Fin 16384 := ⟨512 * t.val + r.val, by have := t.isLt; have e : cfg0.N = 32 := N_0; omega⟩

theorem index_t : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_16.index t = ![t.val, 0] ∧ win0_7.index t = ![1, t.val, 0] :=
  (by decide +kernel : ∀ t : Fin grid0.N, _)
theorem index_w : ∀ t : Fin cfg0.N, win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

theorem iblk_0 (t : Fin cfg0.N) (r : Fin 512) (k : Fin 1024) : iblk m c 0 t (ix2 r k) = m ((c : Thread nD τ).loc main_arg0) (ix2 (tok t r) k) := by
  have h := (index_t t).1
  refine Eq.trans (b := V m c main_arg0 (ix2 (tok t r) k)) ?_ (congrFun (V_main_arg0 m c) _)
  blk_ext [iblk, h, tok]
theorem iblk_1 (t : Fin cfg0.N) (r : Fin 512) (k : Fin 512) : iblk m c 1 t (ix2 r k) = m ((c : Thread nD τ).loc main_arg1) (ix2 (tok t r) k) := by
  have h := (index_t t).2.1
  refine Eq.trans (b := V m c main_arg1 (ix2 (tok t r) k)) ?_ (congrFun (V_main_arg1 m c) _)
  blk_ext [iblk, h, tok]
theorem iblk_2 (t : Fin cfg0.N) (r : Fin 512) (k : Fin 512) : iblk m c 2 t (ix2 r k) = m ((c : Thread nD τ).loc main_arg2) (ix2 (tok t r) k) := by
  have h := (index_t t).2.2.1
  refine Eq.trans (b := V m c main_arg2 (ix2 (tok t r) k)) ?_ (congrFun (V_main_arg2 m c) _)
  blk_ext [iblk, h, tok]
theorem iblk_3 (t : Fin cfg0.N) (r : Fin 512) (k : Fin 512) : iblk m c 3 t (ix2 r k) = m ((c : Thread nD τ).loc main_arg3) (ix2 (tok t r) k) := by
  have h := (index_t t).2.2.2.1
  refine Eq.trans (b := V m c main_arg3 (ix2 (tok t r) k)) ?_ (congrFun (V_main_arg3 m c) _)
  blk_ext [iblk, h, tok]
theorem iblk_4 (t : Fin cfg0.N) (r : Fin 512) (k : Fin 512) : iblk m c 4 t (ix2 r k) = m ((c : Thread nD τ).loc main_arg4) (ix2 (tok t r) k) := by
  have h := (index_t t).2.2.2.2.1
  refine Eq.trans (b := V m c main_arg4 (ix2 (tok t r) k)) ?_ (congrFun (V_main_arg4 m c) _)
  blk_ext [iblk, h, tok]
theorem iblk_5 (t : Fin cfg0.N) (r : Fin 512) (k : Fin 512) : iblk m c 5 t (ix2 r k) = m ((c : Thread nD τ).loc main_arg5) (ix2 (tok t r) k) := by
  have h := (index_t t).2.2.2.2.2.1
  refine Eq.trans (b := V m c main_arg5 (ix2 (tok t r) k)) ?_ (congrFun (V_main_arg5 m c) _)
  blk_ext [iblk, h, tok]
theorem iblk_6 (t : Fin cfg0.N) (r : Fin 512) (k : Fin 2048) : iblk m c 6 t (ix2 r k) = m ((c : Thread nD τ).loc main_arg6) (ix2 (tok t r) k) := by
  have h := (index_t t).2.2.2.2.2.2.1
  refine Eq.trans (b := V m c main_arg6 (ix2 (tok t r) k)) ?_ (congrFun (V_main_arg6 m c) _)
  blk_ext [iblk, h, tok]
theorem iblk_7 (t : Fin cfg0.N) (r : Fin 512) (k : Fin 256) : iblk m c 7 t (ix3 0 r k) = m ((c : Thread nD τ).loc main_arg7) (ix3 1 (tok t r) k) := by
  have h := (index_t t).2.2.2.2.2.2.2.2
  refine Eq.trans (b := V m c main_arg7 (ix3 1 (tok t r) k)) ?_ (congrFun (V_main_arg7 m c) _)
  blk_ext [iblk, h, tok]
theorem V_8 : V m c main_v0 = shapeCast S1x512 (m ((c : Thread nD τ).loc main_arg8)) shapeCasts_S512_S1x512 := by
  unfold_abbrev_sides
  after_results
  rfl
theorem iblk_8 (t : Fin cfg0.N) (k : Fin 512) : iblk m c 8 t (ix2 0 k) = m ((c : Thread nD τ).loc main_arg8) (ix1 k) := by
  have h := (index_w t).1
  refine Eq.trans (b := V m c main_v0 (ix2 0 k)) ?_ ((congrFun (V_8 m c) _).trans ?_)
  · blk_ext [iblk, h]
  · pointwise
theorem V_9 : V m c main_v1 = shapeCast S1x512 (m ((c : Thread nD τ).loc main_arg9)) shapeCasts_S512_S1x512 := by
  unfold_abbrev_sides
  after_results
  rfl
theorem iblk_9 (t : Fin cfg0.N) (k : Fin 512) : iblk m c 9 t (ix2 0 k) = m ((c : Thread nD τ).loc main_arg9) (ix1 k) := by
  have h := (index_w t).2.1
  refine Eq.trans (b := V m c main_v1 (ix2 0 k)) ?_ ((congrFun (V_9 m c) _).trans ?_)
  · blk_ext [iblk, h]
  · pointwise
theorem V_13 : V m c main_v5 = shapeCast S1x1024 (m ((c : Thread nD τ).loc main_arg13)) shapeCasts_S1024_S1x1024 := by
  unfold_abbrev_sides
  after_results
  rfl
theorem iblk_13 (t : Fin cfg0.N) (k : Fin 1024) : iblk m c 13 t (ix2 0 k) = m ((c : Thread nD τ).loc main_arg13) (ix1 k) := by
  have h := (index_w t).2.2.2.2.2.1
  refine Eq.trans (b := V m c main_v5 (ix2 0 k)) ?_ ((congrFun (V_13 m c) _).trans ?_)
  · blk_ext [iblk, h]
  · pointwise
theorem V_10 : V m c main_v2 = truncf (F := Ideal) .bf16 (m ((c : Thread nD τ).loc main_arg10)) bitsLt_bf16_f32 := by
  unfold_abbrev_sides
  after_results
theorem iblk_10 (t : Fin cfg0.N) (k : Fin 512) (n : Fin 1024) : iblk m c 10 t (ix2 k n) = m ((c : Thread nD τ).loc main_arg10) (ix2 k n) := by
  have h := (index_w t).2.2.1
  refine Eq.trans (b := V m c main_v2 (ix2 k n)) ?_ ((congrFun (V_10 m c) _).trans ?_)
  · blk_ext [iblk, h]
  · pointwise
theorem V_11 : V m c main_v3 = truncf (F := Ideal) .bf16 (m ((c : Thread nD τ).loc main_arg11)) bitsLt_bf16_f32 := by
  unfold_abbrev_sides
  after_results
theorem iblk_11 (t : Fin cfg0.N) (k : Fin 512) (n : Fin 1024) : iblk m c 11 t (ix2 k n) = m ((c : Thread nD τ).loc main_arg11) (ix2 k n) := by
  have h := (index_w t).2.2.2.1
  refine Eq.trans (b := V m c main_v3 (ix2 k n)) ?_ ((congrFun (V_11 m c) _).trans ?_)
  · blk_ext [iblk, h]
  · pointwise
theorem V_12 : V m c main_v4 = truncf (F := Ideal) .bf16 (m ((c : Thread nD τ).loc main_arg12)) bitsLt_bf16_f32 := by
  unfold_abbrev_sides
  after_results
theorem iblk_12 (t : Fin cfg0.N) (k : Fin 1024) (n : Fin 1024) : iblk m c 12 t (ix2 k n) = m ((c : Thread nD τ).loc main_arg12) (ix2 k n) := by
  have h := (index_w t).2.2.2.2.1
  refine Eq.trans (b := V m c main_v4 (ix2 k n)) ?_ ((congrFun (V_12 m c) _).trans ?_)
  · blk_ext [iblk, h]
  · pointwise
theorem V_14 : V m c main_v6 = truncf (F := Ideal) .bf16 (m ((c : Thread nD τ).loc main_arg14)) bitsLt_bf16_f32 := by
  unfold_abbrev_sides
  after_results
theorem iblk_14 (t : Fin cfg0.N) (k : Fin 1024) (n : Fin 1024) : iblk m c 14 t (ix2 k n) = m ((c : Thread nD τ).loc main_arg14) (ix2 k n) := by
  have h := (index_w t).2.2.2.2.2.2.1
  refine Eq.trans (b := V m c main_v6 (ix2 k n)) ?_ ((congrFun (V_14 m c) _).trans ?_)
  · blk_ext [iblk, h]
  · pointwise
theorem V_15 : V m c main_v7 = truncf (F := Ideal) .bf16 (m ((c : Thread nD τ).loc main_arg15)) bitsLt_bf16_f32 := by
  unfold_abbrev_sides
  after_results
theorem iblk_15 (t : Fin cfg0.N) (k : Fin 256) (n : Fin 1024) : iblk m c 15 t (ix2 k n) = m ((c : Thread nD τ).loc main_arg15) (ix2 k n) := by
  have h := (index_w t).2.2.2.2.2.2.2
  refine Eq.trans (b := V m c main_v7 (ix2 k n)) ?_ ((congrFun (V_15 m c) _).trans ?_)
  · blk_ext [iblk, h]
  · pointwise

end Cert.Mrg

end
-- ==== Proof.MergeRef.lean ====
/- The merge's reference, read at an entry. -/
module

public import proofs.«01_k».proof.Proof.MergeSpec
public import proofs.«01_k».proof.Proof.Gen.MergedIdeal.Run

@[expose] public section

set_option maxRecDepth 16384

noncomputable section

namespace Cert.Mrg

open Idealize.ShloMosaic Idealize.ShloMosaic.TcCoe
open Cert.Proj (sgm headSum nrm scale)

/-- The weights, of their arrays. -/
def wtsOf (lnw lnb : (⟨1, ![512]⟩ : Shape).Idx → EReal) (pa pb : (⟨2, ![512, 1024]⟩ : Shape).Idx → EReal) (wo : (⟨2, ![1024, 1024]⟩ : Shape).Idx → EReal)
    (pg : (⟨1, ![1024]⟩ : Shape).Idx → EReal) (gw : (⟨2, ![1024, 1024]⟩ : Shape).Idx → EReal) (pp : (⟨2, ![256, 1024]⟩ : Shape).Idx → EReal) : Wts :=
  ⟨fun j => lnw (ix1 j), fun j => lnb (ix1 j), fun i k => pa (ix2 i k), fun i k => pb (ix2 i k), fun i k => wo (ix2 i k), fun k => pg (ix1 k), fun i k => gw (ix2 i k), fun i k => pp (ix2 i k)⟩

/-- One token's rows, of the arrays. -/
def tokOf (x : (⟨2, ![16384, 1024]⟩ : Shape).Idx → EReal) (yf yb bonus gz ob : (⟨2, ![16384, 512]⟩ : Shape).Idx → EReal) (ug : (⟨2, ![16384, 2048]⟩ : Shape).Idx → EReal)
    (p : (⟨3, ![2, 16384, 256]⟩ : Shape).Idx → EReal) (t : Fin 16384) : Tok :=
  ⟨fun k => x (ix2 t k), fun k => yf (ix2 t k), fun k => yb (ix2 t k), fun k => bonus (ix2 t k), fun k => gz (ix2 t k), fun k => ob (ix2 t k), fun k => ug (ix2 t k), fun k => p (ix3 1 t k)⟩

open Cert.MergedIdeal Cert.MergedIdeal.Gen

def rHeads (y : FVec Ideal S16384x512 .f32) : FVec Ideal S16384x8x64 .f32 := shapeCast _ y shapeCasts_S16384x512_S16384x8x64
theorem rHeads_at (y : FVec Ideal S16384x512 .f32) (t : Fin 16384) (h : Fin 8) (i : Fin 64) : rHeads y (ix3 t h i) = y (ix2 t ⟨64 * h.val + i.val, by omega⟩) := by
  unfold rHeads
  pointwise
  exact congrArg (fun q => y (ix2 t q)) (Fin.ext (by show h.val * 64 + i.val = 64 * h.val + i.val; omega))

def rMean (x : FVec Ideal S16384x8x64 .f32) : FVec Ideal S16384x8x1 .f32 :=
  mulf (broadcastInDim S16384x8x1 ![0, 1] bcast_S16384x8_S16384x8x1_0_1 (Host.reduceAdd x (constant S_ .f32 0x00000000#32) reducesTo_S16384x8x64_S16384x8_d2 h_S_)) (broadcastInDim S16384x8x1 ![] bcast_S_S16384x8x1 (constant S_ .f32 0x3C800000#32))
theorem rMean_at (x : FVec Ideal S16384x8x64 .f32) (t : Fin 16384) (h : Fin 8) : rMean x (ix3 t h 0) = ((∑ i : Fin 64, x (ix3 t h i)) * c64 : EReal) := by
  unfold rMean c64
  pointwise

def rCent (x : FVec Ideal S16384x8x64 .f32) (μ : FVec Ideal S16384x8x1 .f32) : FVec Ideal S16384x8x64 .f32 := subf x (broadcastInDim S16384x8x64 ![0, 1, 2] bcast_S16384x8x1_S16384x8x64_0_1_2 μ)
theorem rCent_at (x : FVec Ideal S16384x8x64 .f32) (μ : FVec Ideal S16384x8x1 .f32) (t : Fin 16384) (h : Fin 8) (i : Fin 64) : rCent x μ (ix3 t h i) = (x (ix3 t h i) - μ (ix3 t h 0) : EReal) := by
  unfold rCent
  pointwise

def rRoot (x : FVec Ideal S16384x8x64 .f32) (v : FVec Ideal S16384x8x1 .f32) : FVec Ideal S16384x512 .f32 :=
  shapeCast _ (mulf x (broadcastInDim S16384x8x64 ![0, 1, 2] bcast_S16384x8x1_S16384x8x64_0_1_2 (Host.rsqrt (addf v (broadcastInDim S16384x8x1 ![] bcast_S_S16384x8x1 (constant S_ .f32 0x3A27C5AC#32)))))) shapeCasts_S16384x8x64_S16384x512
theorem rRoot_at (x : FVec Ideal S16384x8x64 .f32) (v : FVec Ideal S16384x8x1 .f32) (t : Fin 16384) (j : Fin 512) :
    rRoot x v (ix2 t j) = (x (ix3 t ⟨j.val / 64, by omega⟩ ⟨j.val % 64, Nat.mod_lt _ (by decide)⟩) * Ideal.rsqrt (v (ix3 t ⟨j.val / 64, by omega⟩ 0) + eps) : EReal) := by
  unfold rRoot eps
  pointwise

def rNorm (y : FVec Ideal S16384x512 .f32) : FVec Ideal S16384x512 .f32 :=
  rRoot (rCent (rHeads y) (rMean (rHeads y))) (rMean (mulf (rCent (rHeads y) (rMean (rHeads y))) (rCent (rHeads y) (rMean (rHeads y)))))

theorem rCentred_at (y : FVec Ideal S16384x512 .f32) (t : Fin 16384) (h : Fin 8) (i : Fin 64) :
    rCent (rHeads y) (rMean (rHeads y)) (ix3 t h i) = centred (fun k => y (ix2 t k)) ⟨64 * h.val + i.val, by omega⟩ := by
  rw [rCent_at, rMean_at, rHeads_at]
  refine congrArg (fun s => y (ix2 t ⟨64 * h.val + i.val, by omega⟩) - s * c64) (Finset.sum_congr rfl fun l _ => (rHeads_at y t h l).trans (congrArg (fun q => y (ix2 t q)) (Fin.ext ?_)))
  show 64 * h.val + l.val = 64 * ((64 * h.val + i.val) / 64) + l.val
  omega

theorem rNorm_at (y : FVec Ideal S16384x512 .f32) (t : Fin 16384) (j : Fin 512) : rNorm y (ix2 t j) = overRoot (centred fun k => y (ix2 t k)) j := by
  unfold rNorm
  rw [rRoot_at, rMean_at, rCentred_at]
  unfold overRoot
  refine congrArg₂ (fun a s => a * Ideal.rsqrt (s * c64 + eps)) (congrArg _ (Fin.ext ?_)) (Finset.sum_congr rfl fun i _ => ?_)
  · show 64 * (j.val / 64) + j.val % 64 = j.val
    omega
  · exact congrArg₂ (· * ·) (rCentred_at y t _ i) (rCentred_at y t _ i)

def rO (N : FVec Ideal S16384x512 .f32) (w b : FVec Ideal S512 .f32) (bn gz : FVec Ideal S16384x512 .f32) : FVec Ideal S16384x512 .f32 :=
  mulf (addf (addf (mulf N (broadcastInDim S16384x512 ![0, 1] bcast_S1x512_S16384x512_0_1 (broadcastInDim S1x512 ![1] bcast_S512_S1x512_1 w))) (broadcastInDim S16384x512 ![0, 1] bcast_S1x512_S16384x512_0_1 (broadcastInDim S1x512 ![1] bcast_S512_S1x512_1 b))) bn) gz
theorem rO_at (N : FVec Ideal S16384x512 .f32) (w b : FVec Ideal S512 .f32) (bn gz : FVec Ideal S16384x512 .f32) (t : Fin 16384) (j : Fin 512) :
    rO N w b bn gz (ix2 t j) = ((N (ix2 t j) * w (ix1 j) + b (ix1 j) + bn (ix2 t j)) * gz (ix2 t j) : EReal) := by
  unfold rO
  pointwise

def rSig (u : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf u)))
theorem rSig_at (u : FVec Ideal S16384x1024 .f32) (t : Fin 16384) (n : Fin 1024) : rSig u (ix2 t n) = sgm (u (ix2 t n)) := by
  unfold rSig sgm
  pointwise

def rLo (u : FVec Ideal S16384x2048 .bf16) : FVec Ideal S16384x1024 .f32 := extf .f32 (extractStridedSlice S16384x1024 ![0, 0] u slices_S16384x2048_S16384x1024_0_0) bitsLt_bf16_f32
theorem rLo_at (u : FVec Ideal S16384x2048 .bf16) (t : Fin 16384) (n : Fin 1024) : rLo u (ix2 t n) = u (ix2 t ⟨n.val, by omega⟩) := by
  unfold rLo
  pointwise
def rHi (u : FVec Ideal S16384x2048 .bf16) : FVec Ideal S16384x1024 .f32 := extf .f32 (extractStridedSlice S16384x1024 ![0, 1024] u slices_S16384x2048_S16384x1024_0_1024) bitsLt_bf16_f32
theorem rHi_at (u : FVec Ideal S16384x2048 .bf16) (t : Fin 16384) (n : Fin 1024) : rHi u (ix2 t n) = u (ix2 t ⟨1024 + n.val, by omega⟩) := by
  unfold rHi
  pointwise

theorem rDot_at (o : FVec Ideal S16384x512 .f32) (w : FVec Ideal S512x1024 .f32) (t : Fin 16384) (n : Fin 1024) :
    Host.dotGeneral dot_S16384x512_S512x1024_S16384x1024_1_0_0_1_n_n none o w (ix2 t n) = (∑ k : Fin 512, o (ix2 t k) * w (ix2 k n) : EReal) := by
  pointwise
theorem rFull_at (o : FVec Ideal S16384x1024 .f32) (w : FVec Ideal S1024x1024 .f32) (t : Fin 16384) (n : Fin 1024) :
    Host.dotGeneral dot_S16384x1024_S1024x1024_S16384x1024_1_0_0_1_n_n none o w (ix2 t n) = (∑ k : Fin 1024, o (ix2 t k) * w (ix2 k n) : EReal) := by
  pointwise

def rBoth (g h a b : FVec Ideal S16384x1024 .f32) : FVec Ideal S16384x1024 .f32 := addf (mulf (rSig g) a) (mulf (rSig h) b)
theorem rBoth_at (g h a b : FVec Ideal S16384x1024 .f32) (t : Fin 16384) (n : Fin 1024) :
    rBoth g h a b (ix2 t n) = (sgm (g (ix2 t n)) * a (ix2 t n) + sgm (h (ix2 t n)) * b (ix2 t n) : EReal) := by
  have e : rBoth g h a b (ix2 t n) = (rSig g (ix2 t n) * a (ix2 t n) + rSig h (ix2 t n) * b (ix2 t n) : EReal) := rfl
  rw [e, rSig_at, rSig_at]

def rSq (x : FVec Ideal S16384x1024 .f32) : FVec Ideal S16384 .f32 := Host.reduceAdd (mulf x x) (constant S_ .f32 0x00000000#32) reducesTo_S16384x1024_S16384_d1 h_S_
theorem rSq_at (x : FVec Ideal S16384x1024 .f32) (t : Fin 16384) : rSq x (ix1 t) = (∑ l : Fin 1024, x (ix2 t l) * x (ix2 t l) : EReal) := by
  unfold rSq
  pointwise
def rNrm (x : FVec Ideal S16384x1024 .f32) (s : FVec Ideal S16384 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 s) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))
theorem rNrm_raw (x : FVec Ideal S16384x1024 .f32) (s : FVec Ideal S16384 .f32) (g : FVec Ideal S1024 .f32) (t : Fin 16384) (k : Fin 1024) :
    rNrm x s g (ix2 t k) = (x (ix2 t k) * scale (s (ix1 t)) * g (ix1 k) : EReal) := by
  unfold rNrm scale
  pointwise
theorem rNrm_at (x : FVec Ideal S16384x1024 .f32) (g : FVec Ideal S1024 .f32) (t : Fin 16384) (k : Fin 1024) :
    rNrm x (rSq x) g (ix2 t k) = nrm (fun l => x (ix2 t l)) (fun l => g (ix1 l)) k := by
  rw [rNrm_raw, rSq_at]
  rfl

def rEmb (p : FVec Ideal S2x16384x256 .f32) (w : FVec Ideal S256x1024 .f32) : FVec Ideal S16384x1024 .f32 :=
  Host.dotGeneral dot_S16384x256_S256x1024_S16384x1024_1_0_0_1_n_n none (shapeCast _ (extractStridedSlice S1x16384x256 ![1, 0, 0] p slices_S2x16384x256_S1x16384x256_1_0_0) shapeCasts_S1x16384x256_S16384x256) w
theorem rEmb_at (p : FVec Ideal S2x16384x256 .f32) (w : FVec Ideal S256x1024 .f32) (t : Fin 16384) (n : Fin 1024) :
    rEmb p w (ix2 t n) = (∑ k : Fin 256, p (ix3 1 t k) * w (ix2 k n) : EReal) := by
  unfold rEmb
  pointwise

section Whole

variable (x : FVec Ideal S16384x1024 .f32) (yf yb bonus gz : FVec Ideal S16384x512 .f32) (ob : FVec Ideal S16384x512 .bf16) (ug : FVec Ideal S16384x2048 .bf16)
  (p : FVec Ideal S2x16384x256 .f32) (lnw lnb : FVec Ideal S512 .f32) (pa pb : FVec Ideal S512x1024 .f32) (wo : FVec Ideal S1024x1024 .f32)
  (pg : FVec Ideal S1024 .f32) (gw : FVec Ideal S1024x1024 .f32) (pp : FVec Ideal S256x1024 .f32)

def rX1 : FVec Ideal S16384x1024 .f32 :=
  addf x (Host.dotGeneral dot_S16384x1024_S1024x1024_S16384x1024_1_0_0_1_n_n none
    (rBoth (rLo ug) (rHi ug) (Host.dotGeneral dot_S16384x512_S512x1024_S16384x1024_1_0_0_1_n_n none (rO (rNorm (addf yf yb)) lnw lnb bonus gz) pa)
      (Host.dotGeneral dot_S16384x512_S512x1024_S16384x1024_1_0_0_1_n_n none (extf .f32 ob bitsLt_bf16_f32) pb)) wo)

def rTop (x1 : FVec Ideal S16384x1024 .f32) : FVec Ideal S16384x1024 .f32 :=
  addf x1 (mulf (rSig (Host.dotGeneral dot_S16384x1024_S1024x1024_S16384x1024_1_0_0_1_n_n none (rNrm x1 (rSq x1) pg) gw)) (rEmb p pp))

theorem rX1_at (t : Fin 16384) (n : Fin 1024) :
    rX1 x yf yb bonus gz ob ug lnw lnb pa pb wo (ix2 t n)
      = res (wtsOf lnw lnb pa pb wo pg gw pp) (tokOf x yf yb bonus gz ob ug p t) (oA (wtsOf lnw lnb pa pb wo pg gw pp) (tokOf x yf yb bonus gz ob ug p t)) n := by
  refine congrArg (x (ix2 t n) + ·) ((rFull_at _ wo t n).trans (Finset.sum_congr rfl fun k _ => congrArg (· * wo (ix2 k n)) ?_))
  rw [rBoth_at, rDot_at, rDot_at, rLo_at, rHi_at]
  refine congrArg₂ (fun a b => sgm (ug (ix2 t ⟨k.val, by omega⟩)) * a + sgm (ug (ix2 t ⟨1024 + k.val, by omega⟩)) * b) (Finset.sum_congr rfl fun i _ => congrArg (· * pa (ix2 i k)) ?_) rfl
  rw [rO_at, rNorm_at]
  rfl

theorem ref_at (t : Fin 16384) (n : Fin 1024) :
    rTop p pg gw pp (rX1 x yf yb bonus gz ob ug lnw lnb pa pb wo) (ix2 t n) = out (wtsOf lnw lnb pa pb wo pg gw pp) (tokOf x yf yb bonus gz ob ug p t) n := by
  have hx := rX1_at x yf yb bonus gz ob ug p lnw lnb pa pb wo pg gw pp t
  generalize rX1 x yf yb bonus gz ob ug lnw lnb pa pb wo = X at hx
  have e : rTop p pg gw pp X (ix2 t n) = top (wtsOf lnw lnb pa pb wo pg gw pp) (tokOf x yf yb bonus gz ob ug p t) (fun k => X (ix2 t k)) n := by
    refine congrArg (X (ix2 t n) + ·) (congrArg₂ (· * ·) ((rSig_at _ t n).trans (congrArg sgm ((rFull_at _ gw t n).trans ?_))) (rEmb_at p pp t n))
    exact Finset.sum_congr rfl fun k _ => congrArg (· * gw (ix2 k n)) (rNrm_at X pg t k)
  rw [e, funext hx]
  rfl

end Whole

theorem res_eq (m : (ℓ : Loc nD τ sig) → Buf (Elt Ideal) ℓ) (c : Dev nD) :
    Cert.MergedIdeal.Value.res_main_v75 (F := Ideal) m c
      = rTop (m ((c.tc : Thread nD τ).loc main_arg7)) (m ((c.tc : Thread nD τ).loc main_arg13)) (m ((c.tc : Thread nD τ).loc main_arg14)) (m ((c.tc : Thread nD τ).loc main_arg15))
        (rX1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12))) := rfl

end Cert.Mrg

end
-- ==== Proof.Merging.lean ====
/- The kernel's merge over the whole array, and that it is the reference's. -/
module

public import proofs.«01_k».proof.Proof.MergePay
public import proofs.«01_k».proof.Proof.MergeWin
public import proofs.«01_k».proof.Proof.MergeRef
public import proofs.«01_k».proof.Proof.ProjShift
public import proofs.«01_k».proof.Proof.Gen.MergeIdeal.Value
public import proofs.«01_k».proof.Defs

@[expose] public section

set_option maxRecDepth 16384

noncomputable section

namespace Cert.Mrg

open Idealize.ShloMosaic Idealize.ShloMosaic.TcCoe Idealize.SL.Sem
open Cert.Proj (sgm headSum nrm canon_here)

section Kernel

open Cert.MergeIdeal Cert.MergeIdeal.Gen

/-- What a load of a part of a buffer reads at an index. -/
theorem ld_here {S : Shape} {e : EltTy} (X : S.Idx → Elt Ideal e) {off sz : Fin S.rank → ℕ} {inb : ∀ a, off a + sz a ≤ S.size a}
    (x : (Rect.unit (s := S) off sz inb).shape.Idx) (y : S.Idx) (h : ∀ a, (y a).val = off a + (x a).val) :
    View.ld (Val := Elt Ideal) X (Rect.unit (s := S) off sz inb) x = X y :=
  congrArg X (funext fun a => Fin.ext ((Rect.idx_unit_val _ _ inb x a).trans (h a).symm))

theorem ld_2 {A B : ℕ} {e : EltTy} (X : (⟨2, ![A, B]⟩ : Shape).Idx → Elt Ideal e) {inb : ∀ a, (![0, 0] : Fin 2 → ℕ) a + (⟨2, ![A, B]⟩ : Shape).size a ≤ (⟨2, ![A, B]⟩ : Shape).size a} (a : Fin A) (b : Fin B) :
    View.ld (Val := Elt Ideal) X (Rect.unit (s := (⟨2, ![A, B]⟩ : Shape)) ![0, 0] (⟨2, ![A, B]⟩ : Shape).size inb) (ix2 a b) = X (ix2 a b) := by
  refine ld_here X _ _ fun i => ?_
  fin_cases i
  · exact (Nat.zero_add _).symm
  · exact (Nat.zero_add _).symm

theorem ld_lo (X : S512x2048.Idx → Elt Ideal .bf16) (a : Fin 512) (b : Fin 1024) : View.ld (Val := Elt Ideal) X r0_3 (ix2 a b) = X (ix2 a ⟨b.val, by omega⟩) := by
  refine ld_here X _ _ fun i => ?_
  fin_cases i
  · exact (Nat.zero_add _).symm
  · exact (Nat.zero_add _).symm
theorem ld_hi (X : S512x2048.Idx → Elt Ideal .bf16) (a : Fin 512) (b : Fin 1024) : View.ld (Val := Elt Ideal) X r0_4 (ix2 a b) = X (ix2 a ⟨1024 + b.val, by omega⟩) := by
  refine ld_here X _ _ fun i => ?_
  fin_cases i
  · exact (Nat.zero_add _).symm
  · rfl
theorem ld_p (X : S1x512x256.Idx → Elt Ideal .f32) (a : Fin 512) (b : Fin 256) : View.ld (Val := Elt Ideal) X r0_6 (ix3 0 a b) = X (ix3 0 a b) := by
  refine ld_here X _ _ fun i => ?_
  fin_cases i
  · rfl
  · exact (Nat.zero_add _).symm
  · exact (Nat.zero_add _).symm

section Point

variable (x0 : Vec Ideal S512x1024 .f32) (x1 x2 x3 x4 : Vec Ideal S512x512 .f32) (x5 : Vec Ideal S512x512 .bf16) (x6 : Vec Ideal S512x2048 .bf16) (x7 : Vec Ideal S1x512x256 .f32) (x8 x9 : Vec Ideal S1x512 .f32)
  (x10 x11 : Vec Ideal S512x1024 .bf16) (x12 : Vec Ideal S1024x1024 .bf16) (x13 : Vec Ideal S1x1024 .f32) (x14 : Vec Ideal S1024x1024 .bf16) (x15 : Vec Ideal S256x1024 .bf16)
  (W : Wts) (T : Tok) (r : Fin 512)

/-- A tile's row is the merge of what the blocks hold of it. -/
theorem out16 (h0 : ∀ k, x0 (ix2 r k) = T.x k) (h1 : ∀ k, x1 (ix2 r k) = T.yf k) (h2 : ∀ k, x2 (ix2 r k) = T.yb k) (h3 : ∀ k, x3 (ix2 r k) = T.bonus k) (h4 : ∀ k, x4 (ix2 r k) = T.gz k)
    (h5 : ∀ k, x5 (ix2 r k) = T.ob k) (h6 : ∀ k, x6 (ix2 r k) = T.ug k) (h7 : ∀ k, x7 (ix3 0 r k) = T.p k) (h8 : ∀ k, x8 (ix2 0 k) = W.lnw k) (h9 : ∀ k, x9 (ix2 0 k) = W.lnb k)
    (h10 : ∀ i k, x10 (ix2 i k) = W.pa i k) (h11 : ∀ i k, x11 (ix2 i k) = W.pb i k) (h12 : ∀ i k, x12 (ix2 i k) = W.wo i k) (h13 : ∀ k, x13 (ix2 0 k) = W.pg k) (h14 : ∀ i k, x14 (ix2 i k) = W.gw i k)
    (h15 : ∀ i k, x15 (ix2 i k) = W.pp i k) (n : Fin 1024) :
    out0_16 (F := Ideal) x0 x1 x2 x3 x4 x5 x6 x7 x8 x9 x10 x11 x12 x13 x14 x15 (ix2 r n) = out W T n := by
  unfold out0_16
  refine (canon_here (S := S512x1024) (off := ![0, 0]) (sz := S512x1024.size) (inb := inb_S512x1024_S512x1024_0_0) (ix2 r n) (ix2 r n) fun a => ?_).trans ?_
  · fin_cases a
    · exact (Nat.zero_add _).symm
    · exact (Nat.zero_add _).symm
  have hO : ∀ j : Fin 512, k0_pay6 (F := Ideal) k0_pay2 k0_pay3 k0_pay4 k0_pay5 (View.ld x1 r0_0) (View.ld x2 r0_0) (View.ld x8 r0_1) (View.ld x9 r0_1) (View.ld x3 r0_0) (ix2 r j)
      = (overRoot (centred fun i => T.yf i + T.yb i) j * W.lnw j + W.lnb j + T.bonus j : EReal) := fun j => by
    refine (pay6_at _ _ _ _ _ r j).trans ?_
    have e : (fun i => (View.ld (Val := Elt Ideal) (e' := .f32) x1 r0_0 (ix2 r i) + View.ld (Val := Elt Ideal) (e' := .f32) x2 r0_0 (ix2 r i) : EReal)) = fun i => T.yf i + T.yb i :=
      funext fun i => congrArg₂ (fun a b : EReal => a + b) ((ld_2 x1 r i).trans (h1 i)) ((ld_2 x2 r i).trans (h2 i))
    refine congrArg₂ (fun a b : EReal => a + b) (congrArg₂ (fun a b : EReal => a + b) (congrArg₂ (fun a b : EReal => a * b) (congrArg (fun f => overRoot (centred f) j) e) ((ld_2 x8 0 j).trans (h8 j))) ((ld_2 x9 0 j).trans (h9 j))) ((ld_2 x3 r j).trans (h3 j))
  generalize k0_pay6 (F := Ideal) k0_pay2 k0_pay3 k0_pay4 k0_pay5 (View.ld x1 r0_0) (View.ld x2 r0_0) (View.ld x8 r0_1) (View.ld x9 r0_1) (View.ld x3 r0_0) = O at hO
  have hX : ∀ n : Fin 1024, k0_pay7 (F := Ideal) O (View.ld x4 r0_0) (View.ld x10 r0_2) (View.ld x5 r0_0) (View.ld x11 r0_2) (View.ld x6 r0_3) (View.ld x6 r0_4) (View.ld x0 r0_2) (View.ld x12 r0_5) (ix2 r n)
      = res W T (oA W T) n := fun n => by
    refine (pay7_at _ _ _ _ _ _ _ _ _ r n).trans ?_
    refine congrArg₂ (fun a b : EReal => a + b) ((ld_2 x0 r n).trans (h0 n)) (Finset.sum_congr rfl fun k _ => congrArg₂ (fun a b : EReal => a * b) ?_ ((ld_2 x12 k n).trans (h12 k n)))
    refine congrArg₂ (fun a b : EReal => a + b)
      (congrArg₂ (fun a b : EReal => a * b) (congrArg sgm ((ld_lo x6 r k).trans (h6 _))) (Finset.sum_congr rfl fun i _ => congrArg₂ (fun a b : EReal => a * b) (congrArg₂ (fun a b : EReal => a * b) (hO i) ((ld_2 x4 r i).trans (h4 i))) ((ld_2 x10 i k).trans (h10 i k))))
      (congrArg₂ (fun a b : EReal => a * b) (congrArg sgm ((ld_hi x6 r k).trans (h6 _))) (Finset.sum_congr rfl fun i _ => congrArg₂ (fun a b : EReal => a * b) ((ld_2 x5 r i).trans (h5 i)) ((ld_2 x11 i k).trans (h11 i k))))
  generalize k0_pay7 (F := Ideal) O (View.ld x4 r0_0) (View.ld x10 r0_2) (View.ld x5 r0_0) (View.ld x11 r0_2) (View.ld x6 r0_3) (View.ld x6 r0_4) (View.ld x0 r0_2) (View.ld x12 r0_5) = X at hX
  refine (pay1_at X _ _ _ _ r n).trans ?_
  have eX : (fun l => X (ix2 r l)) = res W T (oA W T) := funext hX
  have eG : (fun l => View.ld (Val := Elt Ideal) (e' := .f32) x13 r0_8 (ix2 0 l)) = W.pg := funext fun l => (ld_2 x13 0 l).trans (h13 l)
  refine congrArg₂ (fun a b : EReal => a + b) (hX n) (congrArg₂ (fun a b : EReal => a * b) (congrArg sgm (Finset.sum_congr rfl fun k _ => congrArg₂ (fun a b : EReal => a * b) (congrArg₂ (fun f g => nrm f g k) eX eG) ((ld_2 x14 k n).trans (h14 k n))))
    (Finset.sum_congr rfl fun k _ => congrArg₂ (fun a b : EReal => a * b) ((ld_p x7 r k).trans (h7 k)) ((ld_2 x15 k n).trans (h15 k n))))

end Point

variable (m : (ℓ : Loc nD τ sig) → Buf (Elt Ideal) ℓ) (c : Dev nD)

def wts : Wts :=
  wtsOf (m ((c : Thread nD τ).loc main_arg8)) (m ((c : Thread nD τ).loc main_arg9)) (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
def row (t : Fin 16384) : Tok :=
  tokOf (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) t

/-- The merge of the arguments. -/
def O : S16384x1024.Idx → EReal := fun i => out (wts m c) (row m c (i 0)) (i 1)

theorem at16 (t : Fin cfg0.N) (r : Fin 512) (n : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r n)
      = O m c (ix2 (tok t r) n) :=
  out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (wts m c) (row m c (tok t r)) r (iblk_0 m c t r) (iblk_1 m c t r) (iblk_2 m c t r) (iblk_3 m c t r) (iblk_4 m c t r) (iblk_5 m c t r) (iblk_6 m c t r) (iblk_7 m c t r) (iblk_8 m c t) (iblk_9 m c t)
    (iblk_10 m c t) (iblk_11 m c t) (iblk_12 m c t) (iblk_13 m c t) (iblk_14 m c t) (iblk_15 m c t) n

theorem arr16 : (dats m 0 c).arrAt 16 cfg0.N = O m c := by
  refine (dats m 0 c).arrAt_eq_of_covers 16 _ (by decide +kernel) fun t hf y => ?_
  blk_simp
  rw [after0_16]
  have e : y = ix2 (y 0) (y 1) := eq_ix2 y
  refine (congrArg _ e).trans ((at16 m c t (y 0) (y 1)).trans (congrArg (O m c) ?_))
  have h := (index_t t).2.2.2.2.2.2.2.1
  funext a
  apply Fin.ext
  fin_cases a
  · blk_simp [h]; exact congrArg (· + (y 0).val) (Nat.mul_comm 512 t.val)
  · blk_simp [h]; rfl

end Kernel

theorem algebraic : Cert.algebraic_MergeIdeal_MergedIdeal (hMergeIdeal := Cert.MergeIdeal.Gen.facts) (hMergedIdeal := Cert.MergedIdeal.Gen.facts) := by
  intro m g m' g' hpre harg
  refine ⟨fun c => O m c, ?_, ?_⟩
  · refine (θ_run Cert.MergeIdeal.defs _ _).mono (fun r h c => ?_) (Cert.MergeIdeal.Value.run_blocks (F := Ideal) m g)
    exact ⟨(h c).1.trans (arr16 m c), (h c).2⟩
  · refine (θ_run Cert.MergedIdeal.defs _ _).mono (fun r h c => ?_) (Cert.MergedIdeal.Value.run (F := Ideal) m' g')
    refine ⟨(h c).1.trans ((res_eq m' c).trans ?_), (h c).2⟩
    obtain ⟨e0, e1, e2, e3, e4, e5, e6, e7, e8, e9, e10, e11, e12, e13, e14, e15⟩ := harg c
    rw [e0, e1, e2, e3, e4, e5, e6, e7, e8, e9, e10, e11, e12, e13, e14, e15]
    funext i
    rw [eq_ix2 i]
    exact ref_at _ _ _ _ _ _ _ _ _ _ _ _ _ _ _ _ _ _

end Cert.Mrg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectedIdeal
public import proofs.«01_k».proof.Proof.Gen.ProjectedIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergedIdeal
public import proofs.«01_k».proof.Proof.Gen.MergedIdeal.Run
public import proofs.«01_k».proof.Proof.Value
public import proofs.«01_k».proof.Proof.Projection
public import proofs.«01_k».proof.Proof.Merging
public import Idealize.ShloMosaic.Adequacy
public import Idealize.ShloMosaic.Init

@[expose] public section

noncomputable section

namespace Cert.Proof

open Idealize.ShloMosaic Idealize.SL.Sem Cert.Kernel

/-- The precondition's broadcasts of one scalar to each argument's shape. -/
theorem preFacts : Cert.Pre_finite.Facts := by
  constructor <;> decide +kernel

/-- The reference's run ends with its arguments unchanged; it declares no semaphore. -/
theorem frameReference : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run (F := Ideal) m ρ)

/-- The projection's reference ends with its arguments unchanged, too. -/
theorem frameProjected : Cert.quiescent_ProjectedIdeal (hProjectedIdeal := Cert.ProjectedIdeal.Gen.facts) := fun m ρ _ =>
  (θ_run Cert.ProjectedIdeal.defs _ _).mono
    (fun r h => ⟨fun c => (h c).2.2.2.2.2.2.2.2.2.2, sem_eq_zero_of_no_sems (by decide) r.2⟩) (Cert.ProjectedIdeal.Value.run (F := Ideal) m ρ)

/-- So does the merge's. -/
theorem frameMerged : Cert.quiescent_MergedIdeal (hMergedIdeal := Cert.MergedIdeal.Gen.facts) := fun m ρ _ =>
  (θ_run Cert.MergedIdeal.defs _ _).mono
    (fun r h => ⟨fun c => (h c).2, sem_eq_zero_of_no_sems (by decide) r.2⟩) (Cert.MergedIdeal.Value.run (F := Ideal) m ρ)

theorem claim : Cert.Claim := ⟨Cert.Kernel.Gen.facts, Cert.KernelIdeal.Gen.facts, Cert.ReferenceIdeal.Gen.facts,
  Cert.Project.Gen.facts, Cert.ProjectIdeal.Gen.facts, Cert.ProjectedIdeal.Gen.facts,
  Cert.Merge.Gen.facts, Cert.MergeIdeal.Gen.facts, Cert.MergedIdeal.Gen.facts, preFacts,
  fun m ρ _ => Cert.Kernel.Gen.frame m ρ,
  fun m ρ _ => Cert.KernelIdeal.Gen.frame m ρ,
  fun m ρ _ => Cert.KernelIdeal.Gen.frame m ρ,
  frameReference,
  fun m ρ _ => frameReference m ρ trivial,
  fun m ρ _ => Cert.Project.Gen.frame m ρ,
  fun m ρ _ => Cert.ProjectIdeal.Gen.frame m ρ,
  frameProjected,
  fun m ρ _ => Cert.Merge.Gen.frame m ρ,
  fun m ρ _ => Cert.MergeIdeal.Gen.frame m ρ,
  frameMerged,
  IdealRules.named_const.statement Cert.KernelIdeal.κ "mask" .f32 0xF149F2CA#32 ⊥ rfl,
  Cert.Value.algebraic preFacts,
  trivial,
  Cert.Proj.algebraic,
  trivial,
  Cert.Mrg.algebraic⟩

end Cert.Proof

end
